-- ==== Defs.lean ====
def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Routed [hPre_routable : Cert.Pre_routable.Facts] (m : (ℓ : Loc Cert.Routed.nD Cert.Routed.τ Cert.Routed.sig) → Buf (Elt Bits) ℓ) : Prop :=
  ∀ c : Dev Cert.Routed.nD,
    (Cert.Pre_routable.fn (F := Bits) (m ((c.tc : Thread Cert.Routed.nD Cert.Routed.τ).loc Cert.Routed.main_arg0)) (m ((c.tc : Thread Cert.Routed.nD Cert.Routed.τ).loc Cert.Routed.main_arg1)) (m ((c.tc : Thread Cert.Routed.nD Cert.Routed.τ).loc Cert.Routed.main_arg2)) (m ((c.tc : Thread Cert.Routed.nD Cert.Routed.τ).loc Cert.Routed.main_arg3)) (m ((c.tc : Thread Cert.Routed.nD Cert.Routed.τ).loc Cert.Routed.main_arg4)) (m ((c.tc : Thread Cert.Routed.nD Cert.Routed.τ).loc Cert.Routed.main_arg5)) (m ((c.tc : Thread Cert.Routed.nD Cert.Routed.τ).loc Cert.Routed.main_arg6))).1 = (fun _ => 1#1)
    ∧ (Cert.Pre_routable.fn (F := Bits) (m ((c.tc : Thread Cert.Routed.nD Cert.Routed.τ).loc Cert.Routed.main_arg0)) (m ((c.tc : Thread Cert.Routed.nD Cert.Routed.τ).loc Cert.Routed.main_arg1)) (m ((c.tc : Thread Cert.Routed.nD Cert.Routed.τ).loc Cert.Routed.main_arg2)) (m ((c.tc : Thread Cert.Routed.nD Cert.Routed.τ).loc Cert.Routed.main_arg3)) (m ((c.tc : Thread Cert.Routed.nD Cert.Routed.τ).loc Cert.Routed.main_arg4)) (m ((c.tc : Thread Cert.Routed.nD Cert.Routed.τ).loc Cert.Routed.main_arg5)) (m ((c.tc : Thread Cert.Routed.nD Cert.Routed.τ).loc Cert.Routed.main_arg6))).2.1 = (fun _ => 1#1)
    ∧ (Cert.Pre_routable.fn (F := Bits) (m ((c.tc : Thread Cert.Routed.nD Cert.Routed.τ).loc Cert.Routed.main_arg0)) (m ((c.tc : Thread Cert.Routed.nD Cert.Routed.τ).loc Cert.Routed.main_arg1)) (m ((c.tc : Thread Cert.Routed.nD Cert.Routed.τ).loc Cert.Routed.main_arg2)) (m ((c.tc : Thread Cert.Routed.nD Cert.Routed.τ).loc Cert.Routed.main_arg3)) (m ((c.tc : Thread Cert.Routed.nD Cert.Routed.τ).loc Cert.Routed.main_arg4)) (m ((c.tc : Thread Cert.Routed.nD Cert.Routed.τ).loc Cert.Routed.main_arg5)) (m ((c.tc : Thread Cert.Routed.nD Cert.Routed.τ).loc Cert.Routed.main_arg6))).2.2 = (fun _ => 1#1)

def Pre_Routed_none (m : (ℓ : Loc Cert.Routed.nD Cert.Routed.τ Cert.Routed.sig) → Buf (Elt Bits) ℓ) : Prop :=
  True

def Pre_RoutedIdeal [hPre_routable : Cert.Pre_routable.Facts] (m : (ℓ : Loc Cert.RoutedIdeal.nD Cert.RoutedIdeal.τ Cert.RoutedIdeal.sig) → Buf (Elt Ideal) ℓ) : Prop :=
  ∀ c : Dev Cert.RoutedIdeal.nD,
    (Cert.Pre_routable.fn (F := Ideal) (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (m ((c.tc : Thread Cert.RoutedIdeal.nD Cert.RoutedIdeal.τ).loc Cert.RoutedIdeal.main_arg3)) (m ((c.tc : Thread Cert.RoutedIdeal.nD Cert.RoutedIdeal.τ).loc Cert.RoutedIdeal.main_arg4)) (m ((c.tc : Thread Cert.RoutedIdeal.nD Cert.RoutedIdeal.τ).loc Cert.RoutedIdeal.main_arg5)) (m ((c.tc : Thread Cert.RoutedIdeal.nD Cert.RoutedIdeal.τ).loc Cert.RoutedIdeal.main_arg6))).1 = (fun _ => 1#1)
    ∧ (Cert.Pre_routable.fn (F := Ideal) (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (m ((c.tc : Thread Cert.RoutedIdeal.nD Cert.RoutedIdeal.τ).loc Cert.RoutedIdeal.main_arg3)) (m ((c.tc : Thread Cert.RoutedIdeal.nD Cert.RoutedIdeal.τ).loc Cert.RoutedIdeal.main_arg4)) (m ((c.tc : Thread Cert.RoutedIdeal.nD Cert.RoutedIdeal.τ).loc Cert.RoutedIdeal.main_arg5)) (m ((c.tc : Thread Cert.RoutedIdeal.nD Cert.RoutedIdeal.τ).loc Cert.RoutedIdeal.main_arg6))).2.1 = (fun _ => 1#1)
    ∧ (Cert.Pre_routable.fn (F := Ideal) (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (m ((c.tc : Thread Cert.RoutedIdeal.nD Cert.RoutedIdeal.τ).loc Cert.RoutedIdeal.main_arg3)) (m ((c.tc : Thread Cert.RoutedIdeal.nD Cert.RoutedIdeal.τ).loc Cert.RoutedIdeal.main_arg4)) (m ((c.tc : Thread Cert.RoutedIdeal.nD Cert.RoutedIdeal.τ).loc Cert.RoutedIdeal.main_arg5)) (m ((c.tc : Thread Cert.RoutedIdeal.nD Cert.RoutedIdeal.τ).loc Cert.RoutedIdeal.main_arg6))).2.2 = (fun _ => 1#1)

def Pre_RoutedIdeal_none (m : (ℓ : Loc Cert.RoutedIdeal.nD Cert.RoutedIdeal.τ Cert.RoutedIdeal.sig) → Buf (Elt Ideal) ℓ) : Prop :=
  True

def Pre_RoutedRefIdeal [hPre_routable : Cert.Pre_routable.Facts] (m : (ℓ : Loc Cert.RoutedRefIdeal.nD Cert.RoutedRefIdeal.τ Cert.RoutedRefIdeal.sig) → Buf (Elt Ideal) ℓ) : Prop :=
  ∀ c : Dev Cert.RoutedRefIdeal.nD,
    (Cert.Pre_routable.fn (F := Ideal) (m ((c.tc : Thread Cert.RoutedRefIdeal.nD Cert.RoutedRefIdeal.τ).loc Cert.RoutedRefIdeal.main_arg0)) (m ((c.tc : Thread Cert.RoutedRefIdeal.nD Cert.RoutedRefIdeal.τ).loc Cert.RoutedRefIdeal.main_arg1)) (m ((c.tc : Thread Cert.RoutedRefIdeal.nD Cert.RoutedRefIdeal.τ).loc Cert.RoutedRefIdeal.main_arg2)) (m ((c.tc : Thread Cert.RoutedRefIdeal.nD Cert.RoutedRefIdeal.τ).loc Cert.RoutedRefIdeal.main_arg3)) (m ((c.tc : Thread Cert.RoutedRefIdeal.nD Cert.RoutedRefIdeal.τ).loc Cert.RoutedRefIdeal.main_arg4)) (m ((c.tc : Thread Cert.RoutedRefIdeal.nD Cert.RoutedRefIdeal.τ).loc Cert.RoutedRefIdeal.main_arg5)) (m ((c.tc : Thread Cert.RoutedRefIdeal.nD Cert.RoutedRefIdeal.τ).loc Cert.RoutedRefIdeal.main_arg6))).1 = (fun _ => 1#1)
    ∧ (Cert.Pre_routable.fn (F := Ideal) (m ((c.tc : Thread Cert.RoutedRefIdeal.nD Cert.RoutedRefIdeal.τ).loc Cert.RoutedRefIdeal.main_arg0)) (m ((c.tc : Thread Cert.RoutedRefIdeal.nD Cert.RoutedRefIdeal.τ).loc Cert.RoutedRefIdeal.main_arg1)) (m ((c.tc : Thread Cert.RoutedRefIdeal.nD Cert.RoutedRefIdeal.τ).loc Cert.RoutedRefIdeal.main_arg2)) (m ((c.tc : Thread Cert.RoutedRefIdeal.nD Cert.RoutedRefIdeal.τ).loc Cert.RoutedRefIdeal.main_arg3)) (m ((c.tc : Thread Cert.RoutedRefIdeal.nD Cert.RoutedRefIdeal.τ).loc Cert.RoutedRefIdeal.main_arg4)) (m ((c.tc : Thread Cert.RoutedRefIdeal.nD Cert.RoutedRefIdeal.τ).loc Cert.RoutedRefIdeal.main_arg5)) (m ((c.tc : Thread Cert.RoutedRefIdeal.nD Cert.RoutedRefIdeal.τ).loc Cert.RoutedRefIdeal.main_arg6))).2.1 = (fun _ => 1#1)
    ∧ (Cert.Pre_routable.fn (F := Ideal) (m ((c.tc : Thread Cert.RoutedRefIdeal.nD Cert.RoutedRefIdeal.τ).loc Cert.RoutedRefIdeal.main_arg0)) (m ((c.tc : Thread Cert.RoutedRefIdeal.nD Cert.RoutedRefIdeal.τ).loc Cert.RoutedRefIdeal.main_arg1)) (m ((c.tc : Thread Cert.RoutedRefIdeal.nD Cert.RoutedRefIdeal.τ).loc Cert.RoutedRefIdeal.main_arg2)) (m ((c.tc : Thread Cert.RoutedRefIdeal.nD Cert.RoutedRefIdeal.τ).loc Cert.RoutedRefIdeal.main_arg3)) (m ((c.tc : Thread Cert.RoutedRefIdeal.nD Cert.RoutedRefIdeal.τ).loc Cert.RoutedRefIdeal.main_arg4)) (m ((c.tc : Thread Cert.RoutedRefIdeal.nD Cert.RoutedRefIdeal.τ).loc Cert.RoutedRefIdeal.main_arg5)) (m ((c.tc : Thread Cert.RoutedRefIdeal.nD Cert.RoutedRefIdeal.τ).loc Cert.RoutedRefIdeal.main_arg6))).2.2 = (fun _ => 1#1)

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_Ada [hPre_conditioned : Cert.Pre_conditioned.Facts] (m : (ℓ : Loc Cert.Ada.nD Cert.Ada.τ Cert.Ada.sig) → Buf (Elt Bits) ℓ) : Prop :=
  ∀ c : Dev Cert.Ada.nD,
    (Cert.Pre_conditioned.fn (F := Bits) (m ((c.tc : Thread Cert.Ada.nD Cert.Ada.τ).loc Cert.Ada.main_arg0)) (m ((c.tc : Thread Cert.Ada.nD Cert.Ada.τ).loc Cert.Ada.main_arg1)) (m ((c.tc : Thread Cert.Ada.nD Cert.Ada.τ).loc Cert.Ada.main_arg2)) (m ((c.tc : Thread Cert.Ada.nD Cert.Ada.τ).loc Cert.Ada.main_arg3))).1 = (fun _ => 1#1)
    ∧ (Cert.Pre_conditioned.fn (F := Bits) (m ((c.tc : Thread Cert.Ada.nD Cert.Ada.τ).loc Cert.Ada.main_arg0)) (m ((c.tc : Thread Cert.Ada.nD Cert.Ada.τ).loc Cert.Ada.main_arg1)) (m ((c.tc : Thread Cert.Ada.nD Cert.Ada.τ).loc Cert.Ada.main_arg2)) (m ((c.tc : Thread Cert.Ada.nD Cert.Ada.τ).loc Cert.Ada.main_arg3))).2.1 = (fun _ => 1#1)
    ∧ (Cert.Pre_conditioned.fn (F := Bits) (m ((c.tc : Thread Cert.Ada.nD Cert.Ada.τ).loc Cert.Ada.main_arg0)) (m ((c.tc : Thread Cert.Ada.nD Cert.Ada.τ).loc Cert.Ada.main_arg1)) (m ((c.tc : Thread Cert.Ada.nD Cert.Ada.τ).loc Cert.Ada.main_arg2)) (m ((c.tc : Thread Cert.Ada.nD Cert.Ada.τ).loc Cert.Ada.main_arg3))).2.2 = (fun _ => 1#1)

def Pre_Ada_none (m : (ℓ : Loc Cert.Ada.nD Cert.Ada.τ Cert.Ada.sig) → Buf (Elt Bits) ℓ) : Prop :=
  True

def Pre_AdaIdeal [hPre_conditioned : Cert.Pre_conditioned.Facts] (m : (ℓ : Loc Cert.AdaIdeal.nD Cert.AdaIdeal.τ Cert.AdaIdeal.sig) → Buf (Elt Ideal) ℓ) : Prop :=
  ∀ c : Dev Cert.AdaIdeal.nD,
    (Cert.Pre_conditioned.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3))).1 = (fun _ => 1#1)
    ∧ (Cert.Pre_conditioned.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3))).2.1 = (fun _ => 1#1)
    ∧ (Cert.Pre_conditioned.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3))).2.2 = (fun _ => 1#1)

def Pre_AdaIdeal_none (m : (ℓ : Loc Cert.AdaIdeal.nD Cert.AdaIdeal.τ Cert.AdaIdeal.sig) → Buf (Elt Ideal) ℓ) : Prop :=
  True

def Pre_AdaRefIdeal [hPre_conditioned : Cert.Pre_conditioned.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_conditioned.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2)) (m ((c.tc : Thread Cert.AdaRefIdeal.nD Cert.AdaRefIdeal.τ).loc Cert.AdaRefIdeal.main_arg3))).1 = (fun _ => 1#1)
    ∧ (Cert.Pre_conditioned.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2)) (m ((c.tc : Thread Cert.AdaRefIdeal.nD Cert.AdaRefIdeal.τ).loc Cert.AdaRefIdeal.main_arg3))).2.1 = (fun _ => 1#1)
    ∧ (Cert.Pre_conditioned.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2)) (m ((c.tc : Thread Cert.AdaRefIdeal.nD Cert.AdaRefIdeal.τ).loc Cert.AdaRefIdeal.main_arg3))).2.2 = (fun _ => 1#1)

def Pre_ProjOut [hPre_scanned : Cert.Pre_scanned.Facts] (m : (ℓ : Loc Cert.ProjOut.nD Cert.ProjOut.τ Cert.ProjOut.sig) → Buf (Elt Bits) ℓ) : Prop :=
  ∀ c : Dev Cert.ProjOut.nD,
    (Cert.Pre_scanned.fn (F := Bits) (m ((c.tc : Thread Cert.ProjOut.nD Cert.ProjOut.τ).loc Cert.ProjOut.main_arg0)) (m ((c.tc : Thread Cert.ProjOut.nD Cert.ProjOut.τ).loc Cert.ProjOut.main_arg1)) (m ((c.tc : Thread Cert.ProjOut.nD Cert.ProjOut.τ).loc Cert.ProjOut.main_arg2)) (m ((c.tc : Thread Cert.ProjOut.nD Cert.ProjOut.τ).loc Cert.ProjOut.main_arg3)) (m ((c.tc : Thread Cert.ProjOut.nD Cert.ProjOut.τ).loc Cert.ProjOut.main_arg4)) (m ((c.tc : Thread Cert.ProjOut.nD Cert.ProjOut.τ).loc Cert.ProjOut.main_arg5)) (m ((c.tc : Thread Cert.ProjOut.nD Cert.ProjOut.τ).loc Cert.ProjOut.main_arg6)) (m ((c.tc : Thread Cert.ProjOut.nD Cert.ProjOut.τ).loc Cert.ProjOut.main_arg7)) (m ((c.tc : Thread Cert.ProjOut.nD Cert.ProjOut.τ).loc Cert.ProjOut.main_arg8))) = (fun _ => 1#1)

def Pre_ProjOut_none (m : (ℓ : Loc Cert.ProjOut.nD Cert.ProjOut.τ Cert.ProjOut.sig) → Buf (Elt Bits) ℓ) : Prop :=
  True

def Pre_ProjOutIdeal [hPre_scanned : Cert.Pre_scanned.Facts] (m : (ℓ : Loc Cert.ProjOutIdeal.nD Cert.ProjOutIdeal.τ Cert.ProjOutIdeal.sig) → Buf (Elt Ideal) ℓ) : Prop :=
  ∀ c : Dev Cert.ProjOutIdeal.nD,
    (Cert.Pre_scanned.fn (F := Ideal) (m ((c.tc : Thread Cert.ProjOutIdeal.nD Cert.ProjOutIdeal.τ).loc Cert.ProjOutIdeal.main_arg0)) (m ((c.tc : Thread Cert.ProjOutIdeal.nD Cert.ProjOutIdeal.τ).loc Cert.ProjOutIdeal.main_arg1)) (m ((c.tc : Thread Cert.ProjOutIdeal.nD Cert.ProjOutIdeal.τ).loc Cert.ProjOutIdeal.main_arg2)) (m ((c.tc : Thread Cert.ProjOutIdeal.nD Cert.ProjOutIdeal.τ).loc Cert.ProjOutIdeal.main_arg3)) (m ((c.tc : Thread Cert.ProjOutIdeal.nD Cert.ProjOutIdeal.τ).loc Cert.ProjOutIdeal.main_arg4)) (m ((c.tc : Thread Cert.ProjOutIdeal.nD Cert.ProjOutIdeal.τ).loc Cert.ProjOutIdeal.main_arg5)) (m ((c.tc : Thread Cert.ProjOutIdeal.nD Cert.ProjOutIdeal.τ).loc Cert.ProjOutIdeal.main_arg6)) (m ((c.tc : Thread Cert.ProjOutIdeal.nD Cert.ProjOutIdeal.τ).loc Cert.ProjOutIdeal.main_arg7)) (m ((c.tc : Thread Cert.ProjOutIdeal.nD Cert.ProjOutIdeal.τ).loc Cert.ProjOutIdeal.main_arg8))) = (fun _ => 1#1)

def Pre_ProjOutIdeal_none (m : (ℓ : Loc Cert.ProjOutIdeal.nD Cert.ProjOutIdeal.τ Cert.ProjOutIdeal.sig) → Buf (Elt Ideal) ℓ) : Prop :=
  True

def Pre_ProjOutRefIdeal [hPre_scanned : Cert.Pre_scanned.Facts] (m : (ℓ : Loc Cert.ProjOutRefIdeal.nD Cert.ProjOutRefIdeal.τ Cert.ProjOutRefIdeal.sig) → Buf (Elt Ideal) ℓ) : Prop :=
  ∀ c : Dev Cert.ProjOutRefIdeal.nD,
    (Cert.Pre_scanned.fn (F := Ideal) (m ((c.tc : Thread Cert.ProjOutRefIdeal.nD Cert.ProjOutRefIdeal.τ).loc Cert.ProjOutRefIdeal.main_arg0)) (m ((c.tc : Thread Cert.ProjOutRefIdeal.nD Cert.ProjOutRefIdeal.τ).loc Cert.ProjOutRefIdeal.main_arg1)) (m ((c.tc : Thread Cert.ProjOutRefIdeal.nD Cert.ProjOutRefIdeal.τ).loc Cert.ProjOutRefIdeal.main_arg2)) (m ((c.tc : Thread Cert.ProjOutRefIdeal.nD Cert.ProjOutRefIdeal.τ).loc Cert.ProjOutRefIdeal.main_arg3)) (m ((c.tc : Thread Cert.ProjOutRefIdeal.nD Cert.ProjOutRefIdeal.τ).loc Cert.ProjOutRefIdeal.main_arg4)) (m ((c.tc : Thread Cert.ProjOutRefIdeal.nD Cert.ProjOutRefIdeal.τ).loc Cert.ProjOutRefIdeal.main_arg5)) (m ((c.tc : Thread Cert.ProjOutRefIdeal.nD Cert.ProjOutRefIdeal.τ).loc Cert.ProjOutRefIdeal.main_arg6)) (m ((c.tc : Thread Cert.ProjOutRefIdeal.nD Cert.ProjOutRefIdeal.τ).loc Cert.ProjOutRefIdeal.main_arg7)) (m ((c.tc : Thread Cert.ProjOutRefIdeal.nD Cert.ProjOutRefIdeal.τ).loc Cert.ProjOutRefIdeal.main_arg8))) = (fun _ => 1#1)

def Pre_Time [hPre_recurrent : Cert.Pre_recurrent.Facts] (m : (ℓ : Loc Cert.Time.nD Cert.Time.τ Cert.Time.sig) → Buf (Elt Bits) ℓ) : Prop :=
  ∀ c : Dev Cert.Time.nD,
    (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.2.1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.2.2.1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.2.2.2.1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.2.2.2.2.1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.2.2.2.2.2.1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.2.2.2.2.2.2.1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.2.2.2.2.2.2.2.1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.2.2.2.2.2.2.2.2.1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.2.2.2.2.2.2.2.2.2.1 = (fun _ => 1#1)
    ∧ (Cert.Pre_recurrent.fn (F := Bits) (m ((c.tc : Thread Cert.Time.nD Cert.Time.τ).loc Cert.Time.main_arg0)) (m ((c.tc : Thread Cert.Time.nD Cert.Time.τ).loc Cert.Time.main_arg1)) (m ((c.tc : Thread Cert.Time.nD Cert.Time.τ).loc Cert.Time.main_arg2)) (m ((c.tc : Thread Cert.Time.nD Cert.Time.τ).loc Cert.Time.main_arg3)) (m ((c.tc : Thread Cert.Time.nD Cert.Time.τ).loc Cert.Time.main_arg4)) (m ((c.tc : Thread Cert.Time.nD Cert.Time.τ).loc Cert.Time.main_arg5)) (m ((c.tc : Thread Cert.Time.nD Cert.Time.τ).loc Cert.Time.main_arg6)) (m ((c.tc : Thread Cert.Time.nD Cert.Time.τ).loc Cert.Time.main_arg7)) (m ((c.tc : Thread Cert.Time.nD Cert.Time.τ).loc Cert.Time.main_arg8)) (m ((c.tc : Thread Cert.Time.nD Cert.Time.τ).loc Cert.Time.main_arg9)) (m ((c.tc : Thread Cert.Time.nD Cert.Time.τ).loc Cert.Time.main_arg10))).2.2.2.2.2.2.2.2.2.2.2 = (fun _ => 1#1)

def Pre_Time_none (m : (ℓ : Loc Cert.Time.nD Cert.Time.τ Cert.Time.sig) → Buf (Elt Bits) ℓ) : Prop :=
  True

def Pre_TimeIdeal [hPre_recurrent : Cert.Pre_recurrent.Facts] (m : (ℓ : Loc Cert.TimeIdeal.nD Cert.TimeIdeal.τ Cert.TimeIdeal.sig) → Buf (Elt Ideal) ℓ) : Prop :=
  ∀ c : Dev Cert.TimeIdeal.nD,
    (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.2.1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.2.2.1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.2.2.2.1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.2.2.2.2.1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.2.2.2.2.2.1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.2.2.2.2.2.2.1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.2.2.2.2.2.2.2.1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.2.2.2.2.2.2.2.2.1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.2.2.2.2.2.2.2.2.2.1 = (fun _ => 1#1)
    ∧ (Cert.Pre_recurrent.fn (F := Ideal) (m ((c.tc : Thread Cert.TimeIdeal.nD Cert.TimeIdeal.τ).loc Cert.TimeIdeal.main_arg0)) (m ((c.tc : Thread Cert.TimeIdeal.nD Cert.TimeIdeal.τ).loc Cert.TimeIdeal.main_arg1)) (m ((c.tc : Thread Cert.TimeIdeal.nD Cert.TimeIdeal.τ).loc Cert.TimeIdeal.main_arg2)) (m ((c.tc : Thread Cert.TimeIdeal.nD Cert.TimeIdeal.τ).loc Cert.TimeIdeal.main_arg3)) (m ((c.tc : Thread Cert.TimeIdeal.nD Cert.TimeIdeal.τ).loc Cert.TimeIdeal.main_arg4)) (m ((c.tc : Thread Cert.TimeIdeal.nD Cert.TimeIdeal.τ).loc Cert.TimeIdeal.main_arg5)) (m ((c.tc : Thread Cert.TimeIdeal.nD Cert.TimeIdeal.τ).loc Cert.TimeIdeal.main_arg6)) (m ((c.tc : Thread Cert.TimeIdeal.nD Cert.TimeIdeal.τ).loc Cert.TimeIdeal.main_arg7)) (m ((c.tc : Thread Cert.TimeIdeal.nD Cert.TimeIdeal.τ).loc Cert.TimeIdeal.main_arg8)) (m ((c.tc : Thread Cert.TimeIdeal.nD Cert.TimeIdeal.τ).loc Cert.TimeIdeal.main_arg9)) (m ((c.tc : Thread Cert.TimeIdeal.nD Cert.TimeIdeal.τ).loc Cert.TimeIdeal.main_arg10))).2.2.2.2.2.2.2.2.2.2.2 = (fun _ => 1#1)

def Pre_TimeIdeal_none (m : (ℓ : Loc Cert.TimeIdeal.nD Cert.TimeIdeal.τ Cert.TimeIdeal.sig) → Buf (Elt Ideal) ℓ) : Prop :=
  True

def Pre_TimeRefIdeal [hPre_recurrent : Cert.Pre_recurrent.Facts] (m : (ℓ : Loc Cert.TimeRefIdeal.nD Cert.TimeRefIdeal.τ Cert.TimeRefIdeal.sig) → Buf (Elt Ideal) ℓ) : Prop :=
  ∀ c : Dev Cert.TimeRefIdeal.nD,
    (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.2.1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.2.2.1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.2.2.2.1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.2.2.2.2.1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.2.2.2.2.2.1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.2.2.2.2.2.2.1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.2.2.2.2.2.2.2.1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.2.2.2.2.2.2.2.2.1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.2.2.2.2.2.2.2.2.2.1 = (fun _ => 1#1)
    ∧ (Cert.Pre_recurrent.fn (F := Ideal) (m ((c.tc : Thread Cert.TimeRefIdeal.nD Cert.TimeRefIdeal.τ).loc Cert.TimeRefIdeal.main_arg0)) (m ((c.tc : Thread Cert.TimeRefIdeal.nD Cert.TimeRefIdeal.τ).loc Cert.TimeRefIdeal.main_arg1)) (m ((c.tc : Thread Cert.TimeRefIdeal.nD Cert.TimeRefIdeal.τ).loc Cert.TimeRefIdeal.main_arg2)) (m ((c.tc : Thread Cert.TimeRefIdeal.nD Cert.TimeRefIdeal.τ).loc Cert.TimeRefIdeal.main_arg3)) (m ((c.tc : Thread Cert.TimeRefIdeal.nD Cert.TimeRefIdeal.τ).loc Cert.TimeRefIdeal.main_arg4)) (m ((c.tc : Thread Cert.TimeRefIdeal.nD Cert.TimeRefIdeal.τ).loc Cert.TimeRefIdeal.main_arg5)) (m ((c.tc : Thread Cert.TimeRefIdeal.nD Cert.TimeRefIdeal.τ).loc Cert.TimeRefIdeal.main_arg6)) (m ((c.tc : Thread Cert.TimeRefIdeal.nD Cert.TimeRefIdeal.τ).loc Cert.TimeRefIdeal.main_arg7)) (m ((c.tc : Thread Cert.TimeRefIdeal.nD Cert.TimeRefIdeal.τ).loc Cert.TimeRefIdeal.main_arg8)) (m ((c.tc : Thread Cert.TimeRefIdeal.nD Cert.TimeRefIdeal.τ).loc Cert.TimeRefIdeal.main_arg9)) (m ((c.tc : Thread Cert.TimeRefIdeal.nD Cert.TimeRefIdeal.τ).loc Cert.TimeRefIdeal.main_arg10))).2.2.2.2.2.2.2.2.2.2.2 = (fun _ => 1#1)

def Pre_Prep [hPre_projected : Cert.Pre_projected.Facts] (m : (ℓ : Loc Cert.Prep.nD Cert.Prep.τ Cert.Prep.sig) → Buf (Elt Bits) ℓ) : Prop :=
  ∀ c : Dev Cert.Prep.nD,
    (Cert.Pre_projected.fn (F := Bits) (m ((c.tc : Thread Cert.Prep.nD Cert.Prep.τ).loc Cert.Prep.main_arg0)) (m ((c.tc : Thread Cert.Prep.nD Cert.Prep.τ).loc Cert.Prep.main_arg1)) (m ((c.tc : Thread Cert.Prep.nD Cert.Prep.τ).loc Cert.Prep.main_arg2)) (m ((c.tc : Thread Cert.Prep.nD Cert.Prep.τ).loc Cert.Prep.main_arg3))) = (fun _ => 1#1)

def Pre_Prep_none (m : (ℓ : Loc Cert.Prep.nD Cert.Prep.τ Cert.Prep.sig) → Buf (Elt Bits) ℓ) : Prop :=
  True

def Pre_PrepIdeal [hPre_projected : Cert.Pre_projected.Facts] (m : (ℓ : Loc Cert.PrepIdeal.nD Cert.PrepIdeal.τ Cert.PrepIdeal.sig) → Buf (Elt Ideal) ℓ) : Prop :=
  ∀ c : Dev Cert.PrepIdeal.nD,
    (Cert.Pre_projected.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) = (fun _ => 1#1)

def Pre_PrepIdeal_none (m : (ℓ : Loc Cert.PrepIdeal.nD Cert.PrepIdeal.τ Cert.PrepIdeal.sig) → Buf (Elt Ideal) ℓ) : Prop :=
  True

def Pre_PrepRefIdeal [hPre_projected : Cert.Pre_projected.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_projected.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3))) = (fun _ => 1#1)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5))
      ∧ r.2.sem = fun _ => 0)

def quiescent_Routed [hRouted : Cert.Routed.Facts] [hPre_routable : Cert.Pre_routable.Facts] : Prop :=
  ∀ (m : (ℓ : Loc Cert.Routed.nD Cert.Routed.τ Cert.Routed.sig) → Buf (Elt Bits) ℓ) (g : Dev Cert.Routed.nD → PrngReg), Pre_Routed m →
    θ_run (Cert.Routed.defs (F := Bits)) (onTc (τ := Cert.Routed.τ) (Cert.Routed.main (F := Bits))) ⟨m, fun _ => 0, g⟩ (fun r => (∀ c : Dev Cert.Routed.nD,
      r.2.mem ((c.tc : Thread Cert.Routed.nD Cert.Routed.τ).loc Cert.Routed.main_arg0) = m ((c.tc : Thread Cert.Routed.nD Cert.Routed.τ).loc Cert.Routed.main_arg0)
      ∧ r.2.mem ((c.tc : Thread Cert.Routed.nD Cert.Routed.τ).loc Cert.Routed.main_arg1) = m ((c.tc : Thread Cert.Routed.nD Cert.Routed.τ).loc Cert.Routed.main_arg1)
      ∧ r.2.mem ((c.tc : Thread Cert.Routed.nD Cert.Routed.τ).loc Cert.Routed.main_arg2) = m ((c.tc : Thread Cert.Routed.nD Cert.Routed.τ).loc Cert.Routed.main_arg2)
      ∧ r.2.mem ((c.tc : Thread Cert.Routed.nD Cert.Routed.τ).loc Cert.Routed.main_arg3) = m ((c.tc : Thread Cert.Routed.nD Cert.Routed.τ).loc Cert.Routed.main_arg3)
      ∧ r.2.mem ((c.tc : Thread Cert.Routed.nD Cert.Routed.τ).loc Cert.Routed.main_arg4) = m ((c.tc : Thread Cert.Routed.nD Cert.Routed.τ).loc Cert.Routed.main_arg4)
      ∧ r.2.mem ((c.tc : Thread Cert.Routed.nD Cert.Routed.τ).loc Cert.Routed.main_arg5) = m ((c.tc : Thread Cert.Routed.nD Cert.Routed.τ).loc Cert.Routed.main_arg5)
      ∧ r.2.mem ((c.tc : Thread Cert.Routed.nD Cert.Routed.τ).loc Cert.Routed.main_arg6) = m ((c.tc : Thread Cert.Routed.nD Cert.Routed.τ).loc Cert.Routed.main_arg6))
      ∧ r.2.sem = fun _ => 0)

def quiescent_Routed_pre_none [hRouted : Cert.Routed.Facts] : Prop :=
  ∀ (m : (ℓ : Loc Cert.Routed.nD Cert.Routed.τ Cert.Routed.sig) → Buf (Elt Bits) ℓ) (g : Dev Cert.Routed.nD → PrngReg), Pre_Routed_none m →
    θ_run (Cert.Routed.defs (F := Bits)) (onTc (τ := Cert.Routed.τ) (Cert.Routed.main (F := Bits))) ⟨m, fun _ => 0, g⟩ (fun r => (∀ c : Dev Cert.Routed.nD,
      r.2.mem ((c.tc : Thread Cert.Routed.nD Cert.Routed.τ).loc Cert.Routed.main_arg0) = m ((c.tc : Thread Cert.Routed.nD Cert.Routed.τ).loc Cert.Routed.main_arg0)
      ∧ r.2.mem ((c.tc : Thread Cert.Routed.nD Cert.Routed.τ).loc Cert.Routed.main_arg1) = m ((c.tc : Thread Cert.Routed.nD Cert.Routed.τ).loc Cert.Routed.main_arg1)
      ∧ r.2.mem ((c.tc : Thread Cert.Routed.nD Cert.Routed.τ).loc Cert.Routed.main_arg2) = m ((c.tc : Thread Cert.Routed.nD Cert.Routed.τ).loc Cert.Routed.main_arg2)
      ∧ r.2.mem ((c.tc : Thread Cert.Routed.nD Cert.Routed.τ).loc Cert.Routed.main_arg3) = m ((c.tc : Thread Cert.Routed.nD Cert.Routed.τ).loc Cert.Routed.main_arg3)
      ∧ r.2.mem ((c.tc : Thread Cert.Routed.nD Cert.Routed.τ).loc Cert.Routed.main_arg4) = m ((c.tc : Thread Cert.Routed.nD Cert.Routed.τ).loc Cert.Routed.main_arg4)
      ∧ r.2.mem ((c.tc : Thread Cert.Routed.nD Cert.Routed.τ).loc Cert.Routed.main_arg5) = m ((c.tc : Thread Cert.Routed.nD Cert.Routed.τ).loc Cert.Routed.main_arg5)
      ∧ r.2.mem ((c.tc : Thread Cert.Routed.nD Cert.Routed.τ).loc Cert.Routed.main_arg6) = m ((c.tc : Thread Cert.Routed.nD Cert.Routed.τ).loc Cert.Routed.main_arg6))
      ∧ r.2.sem = fun _ => 0)

def quiescent_RoutedIdeal [hRoutedIdeal : Cert.RoutedIdeal.Facts] [hPre_routable : Cert.Pre_routable.Facts] : Prop :=
  ∀ (m : (ℓ : Loc Cert.RoutedIdeal.nD Cert.RoutedIdeal.τ Cert.RoutedIdeal.sig) → Buf (Elt Ideal) ℓ) (g : Dev Cert.RoutedIdeal.nD → PrngReg), Pre_RoutedIdeal m →
    θ_run (Cert.RoutedIdeal.defs (F := Ideal)) (onTc (τ := Cert.RoutedIdeal.τ) (Cert.RoutedIdeal.main (F := Ideal))) ⟨m, fun _ => 0, g⟩ (fun r => (∀ c : Dev Cert.RoutedIdeal.nD,
      r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0)
      ∧ r.2.mem ((c.tc : Thread Cert.RoutedIdeal.nD Cert.RoutedIdeal.τ).loc Cert.RoutedIdeal.main_arg1) = m ((c.tc : Thread Cert.RoutedIdeal.nD Cert.RoutedIdeal.τ).loc Cert.RoutedIdeal.main_arg1)
      ∧ r.2.mem ((c.tc : Thread Cert.RoutedIdeal.nD Cert.RoutedIdeal.τ).loc Cert.RoutedIdeal.main_arg2) = m ((c.tc : Thread Cert.RoutedIdeal.nD Cert.RoutedIdeal.τ).loc Cert.RoutedIdeal.main_arg2)
      ∧ r.2.mem ((c.tc : Thread Cert.RoutedIdeal.nD Cert.RoutedIdeal.τ).loc Cert.RoutedIdeal.main_arg3) = m ((c.tc : Thread Cert.RoutedIdeal.nD Cert.RoutedIdeal.τ).loc Cert.RoutedIdeal.main_arg3)
      ∧ r.2.mem ((c.tc : Thread Cert.RoutedIdeal.nD Cert.RoutedIdeal.τ).loc Cert.RoutedIdeal.main_arg4) = m ((c.tc : Thread Cert.RoutedIdeal.nD Cert.RoutedIdeal.τ).loc Cert.RoutedIdeal.main_arg4)
      ∧ r.2.mem ((c.tc : Thread Cert.RoutedIdeal.nD Cert.RoutedIdeal.τ).loc Cert.RoutedIdeal.main_arg5) = m ((c.tc : Thread Cert.RoutedIdeal.nD Cert.RoutedIdeal.τ).loc Cert.RoutedIdeal.main_arg5)
      ∧ r.2.mem ((c.tc : Thread Cert.RoutedIdeal.nD Cert.RoutedIdeal.τ).loc Cert.RoutedIdeal.main_arg6) = m ((c.tc : Thread Cert.RoutedIdeal.nD Cert.RoutedIdeal.τ).loc Cert.RoutedIdeal.main_arg6))
      ∧ r.2.sem = fun _ => 0)

def quiescent_RoutedIdeal_pre_none [hRoutedIdeal : Cert.RoutedIdeal.Facts] : Prop :=
  ∀ (m : (ℓ : Loc Cert.RoutedIdeal.nD Cert.RoutedIdeal.τ Cert.RoutedIdeal.sig) → Buf (Elt Ideal) ℓ) (g : Dev Cert.RoutedIdeal.nD → PrngReg), Pre_RoutedIdeal_none m →
    θ_run (Cert.RoutedIdeal.defs (F := Ideal)) (onTc (τ := Cert.RoutedIdeal.τ) (Cert.RoutedIdeal.main (F := Ideal))) ⟨m, fun _ => 0, g⟩ (fun r => (∀ c : Dev Cert.RoutedIdeal.nD,
      r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0)
      ∧ r.2.mem ((c.tc : Thread Cert.RoutedIdeal.nD Cert.RoutedIdeal.τ).loc Cert.RoutedIdeal.main_arg1) = m ((c.tc : Thread Cert.RoutedIdeal.nD Cert.RoutedIdeal.τ).loc Cert.RoutedIdeal.main_arg1)
      ∧ r.2.mem ((c.tc : Thread Cert.RoutedIdeal.nD Cert.RoutedIdeal.τ).loc Cert.RoutedIdeal.main_arg2) = m ((c.tc : Thread Cert.RoutedIdeal.nD Cert.RoutedIdeal.τ).loc Cert.RoutedIdeal.main_arg2)
      ∧ r.2.mem ((c.tc : Thread Cert.RoutedIdeal.nD Cert.RoutedIdeal.τ).loc Cert.RoutedIdeal.main_arg3) = m ((c.tc : Thread Cert.RoutedIdeal.nD Cert.RoutedIdeal.τ).loc Cert.RoutedIdeal.main_arg3)
      ∧ r.2.mem ((c.tc : Thread Cert.RoutedIdeal.nD Cert.RoutedIdeal.τ).loc Cert.RoutedIdeal.main_arg4) = m ((c.tc : Thread Cert.RoutedIdeal.nD Cert.RoutedIdeal.τ).loc Cert.RoutedIdeal.main_arg4)
      ∧ r.2.mem ((c.tc : Thread Cert.RoutedIdeal.nD Cert.RoutedIdeal.τ).loc Cert.RoutedIdeal.main_arg5) = m ((c.tc : Thread Cert.RoutedIdeal.nD Cert.RoutedIdeal.τ).loc Cert.RoutedIdeal.main_arg5)
      ∧ r.2.mem ((c.tc : Thread Cert.RoutedIdeal.nD Cert.RoutedIdeal.τ).loc Cert.RoutedIdeal.main_arg6) = m ((c.tc : Thread Cert.RoutedIdeal.nD Cert.RoutedIdeal.τ).loc Cert.RoutedIdeal.main_arg6))
      ∧ r.2.sem = fun _ => 0)

def quiescent_RoutedRefIdeal [hRoutedRefIdeal : Cert.RoutedRefIdeal.Facts] [hPre_routable : Cert.Pre_routable.Facts] : Prop :=
  ∀ (m : (ℓ : Loc Cert.RoutedRefIdeal.nD Cert.RoutedRefIdeal.τ Cert.RoutedRefIdeal.sig) → Buf (Elt Ideal) ℓ) (g : Dev Cert.RoutedRefIdeal.nD → PrngReg), Pre_RoutedRefIdeal m →
    θ_run (Cert.RoutedRefIdeal.defs (F := Ideal)) (onTc (τ := Cert.RoutedRefIdeal.τ) (Cert.RoutedRefIdeal.main (F := Ideal))) ⟨m, fun _ => 0, g⟩ (fun r => (∀ c : Dev Cert.RoutedRefIdeal.nD,
      r.2.mem ((c.tc : Thread Cert.RoutedRefIdeal.nD Cert.RoutedRefIdeal.τ).loc Cert.RoutedRefIdeal.main_arg0) = m ((c.tc : Thread Cert.RoutedRefIdeal.nD Cert.RoutedRefIdeal.τ).loc Cert.RoutedRefIdeal.main_arg0)
      ∧ r.2.mem ((c.tc : Thread Cert.RoutedRefIdeal.nD Cert.RoutedRefIdeal.τ).loc Cert.RoutedRefIdeal.main_arg1) = m ((c.tc : Thread Cert.RoutedRefIdeal.nD Cert.RoutedRefIdeal.τ).loc Cert.RoutedRefIdeal.main_arg1)
      ∧ r.2.mem ((c.tc : Thread Cert.RoutedRefIdeal.nD Cert.RoutedRefIdeal.τ).loc Cert.RoutedRefIdeal.main_arg2) = m ((c.tc : Thread Cert.RoutedRefIdeal.nD Cert.RoutedRefIdeal.τ).loc Cert.RoutedRefIdeal.main_arg2)
      ∧ r.2.mem ((c.tc : Thread Cert.RoutedRefIdeal.nD Cert.RoutedRefIdeal.τ).loc Cert.RoutedRefIdeal.main_arg3) = m ((c.tc : Thread Cert.RoutedRefIdeal.nD Cert.RoutedRefIdeal.τ).loc Cert.RoutedRefIdeal.main_arg3)
      ∧ r.2.mem ((c.tc : Thread Cert.RoutedRefIdeal.nD Cert.RoutedRefIdeal.τ).loc Cert.RoutedRefIdeal.main_arg4) = m ((c.tc : Thread Cert.RoutedRefIdeal.nD Cert.RoutedRefIdeal.τ).loc Cert.RoutedRefIdeal.main_arg4)
      ∧ r.2.mem ((c.tc : Thread Cert.RoutedRefIdeal.nD Cert.RoutedRefIdeal.τ).loc Cert.RoutedRefIdeal.main_arg5) = m ((c.tc : Thread Cert.RoutedRefIdeal.nD Cert.RoutedRefIdeal.τ).loc Cert.RoutedRefIdeal.main_arg5)
      ∧ r.2.mem ((c.tc : Thread Cert.RoutedRefIdeal.nD Cert.RoutedRefIdeal.τ).loc Cert.RoutedRefIdeal.main_arg6) = m ((c.tc : Thread Cert.RoutedRefIdeal.nD Cert.RoutedRefIdeal.τ).loc Cert.RoutedRefIdeal.main_arg6))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3))
      ∧ r.2.sem = fun _ => 0)

def quiescent_Ada [hAda : Cert.Ada.Facts] [hPre_conditioned : Cert.Pre_conditioned.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_Ada_pre_none [hAda : Cert.Ada.Facts] : Prop :=
  ∀ (m : (ℓ : Loc Cert.Ada.nD Cert.Ada.τ Cert.Ada.sig) → Buf (Elt Bits) ℓ) (g : Dev Cert.Ada.nD → PrngReg), Pre_Ada_none m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] [hPre_conditioned : Cert.Pre_conditioned.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaIdeal_pre_none [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_none m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] [hPre_conditioned : Cert.Pre_conditioned.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_ProjOut [hProjOut : Cert.ProjOut.Facts] [hPre_scanned : Cert.Pre_scanned.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4)
      ∧ r.2.mem ((c.tc : Thread Cert.ProjOut.nD Cert.ProjOut.τ).loc Cert.ProjOut.main_arg5) = m ((c.tc : Thread Cert.ProjOut.nD Cert.ProjOut.τ).loc Cert.ProjOut.main_arg5)
      ∧ r.2.mem ((c.tc : Thread Cert.ProjOut.nD Cert.ProjOut.τ).loc Cert.ProjOut.main_arg6) = m ((c.tc : Thread Cert.ProjOut.nD Cert.ProjOut.τ).loc Cert.ProjOut.main_arg6)
      ∧ r.2.mem ((c.tc : Thread Cert.ProjOut.nD Cert.ProjOut.τ).loc Cert.ProjOut.main_arg7) = m ((c.tc : Thread Cert.ProjOut.nD Cert.ProjOut.τ).loc Cert.ProjOut.main_arg7)
      ∧ r.2.mem ((c.tc : Thread Cert.ProjOut.nD Cert.ProjOut.τ).loc Cert.ProjOut.main_arg8) = m ((c.tc : Thread Cert.ProjOut.nD Cert.ProjOut.τ).loc Cert.ProjOut.main_arg8))
      ∧ r.2.sem = fun _ => 0)

def quiescent_ProjOut_pre_none [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut_none m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4)
      ∧ r.2.mem ((c.tc : Thread Cert.ProjOut.nD Cert.ProjOut.τ).loc Cert.ProjOut.main_arg5) = m ((c.tc : Thread Cert.ProjOut.nD Cert.ProjOut.τ).loc Cert.ProjOut.main_arg5)
      ∧ r.2.mem ((c.tc : Thread Cert.ProjOut.nD Cert.ProjOut.τ).loc Cert.ProjOut.main_arg6) = m ((c.tc : Thread Cert.ProjOut.nD Cert.ProjOut.τ).loc Cert.ProjOut.main_arg6)
      ∧ r.2.mem ((c.tc : Thread Cert.ProjOut.nD Cert.ProjOut.τ).loc Cert.ProjOut.main_arg7) = m ((c.tc : Thread Cert.ProjOut.nD Cert.ProjOut.τ).loc Cert.ProjOut.main_arg7)
      ∧ r.2.mem ((c.tc : Thread Cert.ProjOut.nD Cert.ProjOut.τ).loc Cert.ProjOut.main_arg8) = m ((c.tc : Thread Cert.ProjOut.nD Cert.ProjOut.τ).loc Cert.ProjOut.main_arg8))
      ∧ r.2.sem = fun _ => 0)

def quiescent_ProjOutIdeal [hProjOutIdeal : Cert.ProjOutIdeal.Facts] [hPre_scanned : Cert.Pre_scanned.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
      ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
      ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7)
      ∧ r.2.mem ((c.tc : Thread Cert.ProjOutIdeal.nD Cert.ProjOutIdeal.τ).loc Cert.ProjOutIdeal.main_arg8) = m ((c.tc : Thread Cert.ProjOutIdeal.nD Cert.ProjOutIdeal.τ).loc Cert.ProjOutIdeal.main_arg8))
      ∧ r.2.sem = fun _ => 0)

def quiescent_ProjOutIdeal_pre_none [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal_none m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
      ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
      ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7)
      ∧ r.2.mem ((c.tc : Thread Cert.ProjOutIdeal.nD Cert.ProjOutIdeal.τ).loc Cert.ProjOutIdeal.main_arg8) = m ((c.tc : Thread Cert.ProjOutIdeal.nD Cert.ProjOutIdeal.τ).loc Cert.ProjOutIdeal.main_arg8))
      ∧ r.2.sem = fun _ => 0)

def quiescent_ProjOutRefIdeal [hProjOutRefIdeal : Cert.ProjOutRefIdeal.Facts] [hPre_scanned : Cert.Pre_scanned.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3)
      ∧ r.2.mem ((c.tc : Thread Cert.ProjOutRefIdeal.nD Cert.ProjOutRefIdeal.τ).loc Cert.ProjOutRefIdeal.main_arg4) = m ((c.tc : Thread Cert.ProjOutRefIdeal.nD Cert.ProjOutRefIdeal.τ).loc Cert.ProjOutRefIdeal.main_arg4)
      ∧ r.2.mem ((c.tc : Thread Cert.ProjOutRefIdeal.nD Cert.ProjOutRefIdeal.τ).loc Cert.ProjOutRefIdeal.main_arg5) = m ((c.tc : Thread Cert.ProjOutRefIdeal.nD Cert.ProjOutRefIdeal.τ).loc Cert.ProjOutRefIdeal.main_arg5)
      ∧ r.2.mem ((c.tc : Thread Cert.ProjOutRefIdeal.nD Cert.ProjOutRefIdeal.τ).loc Cert.ProjOutRefIdeal.main_arg6) = m ((c.tc : Thread Cert.ProjOutRefIdeal.nD Cert.ProjOutRefIdeal.τ).loc Cert.ProjOutRefIdeal.main_arg6)
      ∧ r.2.mem ((c.tc : Thread Cert.ProjOutRefIdeal.nD Cert.ProjOutRefIdeal.τ).loc Cert.ProjOutRefIdeal.main_arg7) = m ((c.tc : Thread Cert.ProjOutRefIdeal.nD Cert.ProjOutRefIdeal.τ).loc Cert.ProjOutRefIdeal.main_arg7)
      ∧ r.2.mem ((c.tc : Thread Cert.ProjOutRefIdeal.nD Cert.ProjOutRefIdeal.τ).loc Cert.ProjOutRefIdeal.main_arg8) = m ((c.tc : Thread Cert.ProjOutRefIdeal.nD Cert.ProjOutRefIdeal.τ).loc Cert.ProjOutRefIdeal.main_arg8))
      ∧ r.2.sem = fun _ => 0)

def quiescent_Time [hTime : Cert.Time.Facts] [hPre_recurrent : Cert.Pre_recurrent.Facts] : Prop :=
  ∀ (m : (ℓ : Loc Cert.Time.nD Cert.Time.τ Cert.Time.sig) → Buf (Elt Bits) ℓ) (g : Dev Cert.Time.nD → PrngReg), Pre_Time m →
    θ_run (Cert.Time.defs (F := Bits)) (onTc (τ := Cert.Time.τ) (Cert.Time.main (F := Bits))) ⟨m, fun _ => 0, g⟩ (fun r => (∀ c : Dev Cert.Time.nD,
      r.2.mem ((c.tc : Thread Cert.Time.nD Cert.Time.τ).loc Cert.Time.main_arg0) = m ((c.tc : Thread Cert.Time.nD Cert.Time.τ).loc Cert.Time.main_arg0)
      ∧ r.2.mem ((c.tc : Thread Cert.Time.nD Cert.Time.τ).loc Cert.Time.main_arg1) = m ((c.tc : Thread Cert.Time.nD Cert.Time.τ).loc Cert.Time.main_arg1)
      ∧ r.2.mem ((c.tc : Thread Cert.Time.nD Cert.Time.τ).loc Cert.Time.main_arg2) = m ((c.tc : Thread Cert.Time.nD Cert.Time.τ).loc Cert.Time.main_arg2)
      ∧ r.2.mem ((c.tc : Thread Cert.Time.nD Cert.Time.τ).loc Cert.Time.main_arg3) = m ((c.tc : Thread Cert.Time.nD Cert.Time.τ).loc Cert.Time.main_arg3)
      ∧ r.2.mem ((c.tc : Thread Cert.Time.nD Cert.Time.τ).loc Cert.Time.main_arg4) = m ((c.tc : Thread Cert.Time.nD Cert.Time.τ).loc Cert.Time.main_arg4)
      ∧ r.2.mem ((c.tc : Thread Cert.Time.nD Cert.Time.τ).loc Cert.Time.main_arg5) = m ((c.tc : Thread Cert.Time.nD Cert.Time.τ).loc Cert.Time.main_arg5)
      ∧ r.2.mem ((c.tc : Thread Cert.Time.nD Cert.Time.τ).loc Cert.Time.main_arg6) = m ((c.tc : Thread Cert.Time.nD Cert.Time.τ).loc Cert.Time.main_arg6)
      ∧ r.2.mem ((c.tc : Thread Cert.Time.nD Cert.Time.τ).loc Cert.Time.main_arg7) = m ((c.tc : Thread Cert.Time.nD Cert.Time.τ).loc Cert.Time.main_arg7)
      ∧ r.2.mem ((c.tc : Thread Cert.Time.nD Cert.Time.τ).loc Cert.Time.main_arg8) = m ((c.tc : Thread Cert.Time.nD Cert.Time.τ).loc Cert.Time.main_arg8)
      ∧ r.2.mem ((c.tc : Thread Cert.Time.nD Cert.Time.τ).loc Cert.Time.main_arg9) = m ((c.tc : Thread Cert.Time.nD Cert.Time.τ).loc Cert.Time.main_arg9)
      ∧ r.2.mem ((c.tc : Thread Cert.Time.nD Cert.Time.τ).loc Cert.Time.main_arg10) = m ((c.tc : Thread Cert.Time.nD Cert.Time.τ).loc Cert.Time.main_arg10))
      ∧ r.2.sem = fun _ => 0)

def quiescent_Time_pre_none [hTime : Cert.Time.Facts] : Prop :=
  ∀ (m : (ℓ : Loc Cert.Time.nD Cert.Time.τ Cert.Time.sig) → Buf (Elt Bits) ℓ) (g : Dev Cert.Time.nD → PrngReg), Pre_Time_none m →
    θ_run (Cert.Time.defs (F := Bits)) (onTc (τ := Cert.Time.τ) (Cert.Time.main (F := Bits))) ⟨m, fun _ => 0, g⟩ (fun r => (∀ c : Dev Cert.Time.nD,
      r.2.mem ((c.tc : Thread Cert.Time.nD Cert.Time.τ).loc Cert.Time.main_arg0) = m ((c.tc : Thread Cert.Time.nD Cert.Time.τ).loc Cert.Time.main_arg0)
      ∧ r.2.mem ((c.tc : Thread Cert.Time.nD Cert.Time.τ).loc Cert.Time.main_arg1) = m ((c.tc : Thread Cert.Time.nD Cert.Time.τ).loc Cert.Time.main_arg1)
      ∧ r.2.mem ((c.tc : Thread Cert.Time.nD Cert.Time.τ).loc Cert.Time.main_arg2) = m ((c.tc : Thread Cert.Time.nD Cert.Time.τ).loc Cert.Time.main_arg2)
      ∧ r.2.mem ((c.tc : Thread Cert.Time.nD Cert.Time.τ).loc Cert.Time.main_arg3) = m ((c.tc : Thread Cert.Time.nD Cert.Time.τ).loc Cert.Time.main_arg3)
      ∧ r.2.mem ((c.tc : Thread Cert.Time.nD Cert.Time.τ).loc Cert.Time.main_arg4) = m ((c.tc : Thread Cert.Time.nD Cert.Time.τ).loc Cert.Time.main_arg4)
      ∧ r.2.mem ((c.tc : Thread Cert.Time.nD Cert.Time.τ).loc Cert.Time.main_arg5) = m ((c.tc : Thread Cert.Time.nD Cert.Time.τ).loc Cert.Time.main_arg5)
      ∧ r.2.mem ((c.tc : Thread Cert.Time.nD Cert.Time.τ).loc Cert.Time.main_arg6) = m ((c.tc : Thread Cert.Time.nD Cert.Time.τ).loc Cert.Time.main_arg6)
      ∧ r.2.mem ((c.tc : Thread Cert.Time.nD Cert.Time.τ).loc Cert.Time.main_arg7) = m ((c.tc : Thread Cert.Time.nD Cert.Time.τ).loc Cert.Time.main_arg7)
      ∧ r.2.mem ((c.tc : Thread Cert.Time.nD Cert.Time.τ).loc Cert.Time.main_arg8) = m ((c.tc : Thread Cert.Time.nD Cert.Time.τ).loc Cert.Time.main_arg8)
      ∧ r.2.mem ((c.tc : Thread Cert.Time.nD Cert.Time.τ).loc Cert.Time.main_arg9) = m ((c.tc : Thread Cert.Time.nD Cert.Time.τ).loc Cert.Time.main_arg9)
      ∧ r.2.mem ((c.tc : Thread Cert.Time.nD Cert.Time.τ).loc Cert.Time.main_arg10) = m ((c.tc : Thread Cert.Time.nD Cert.Time.τ).loc Cert.Time.main_arg10))
      ∧ r.2.sem = fun _ => 0)

def quiescent_TimeIdeal [hTimeIdeal : Cert.TimeIdeal.Facts] [hPre_recurrent : Cert.Pre_recurrent.Facts] : Prop :=
  ∀ (m : (ℓ : Loc Cert.TimeIdeal.nD Cert.TimeIdeal.τ Cert.TimeIdeal.sig) → Buf (Elt Ideal) ℓ) (g : Dev Cert.TimeIdeal.nD → PrngReg), Pre_TimeIdeal m →
    θ_run (Cert.TimeIdeal.defs (F := Ideal)) (onTc (τ := Cert.TimeIdeal.τ) (Cert.TimeIdeal.main (F := Ideal))) ⟨m, fun _ => 0, g⟩ (fun r => (∀ c : Dev Cert.TimeIdeal.nD,
      r.2.mem ((c.tc : Thread Cert.TimeIdeal.nD Cert.TimeIdeal.τ).loc Cert.TimeIdeal.main_arg0) = m ((c.tc : Thread Cert.TimeIdeal.nD Cert.TimeIdeal.τ).loc Cert.TimeIdeal.main_arg0)
      ∧ r.2.mem ((c.tc : Thread Cert.TimeIdeal.nD Cert.TimeIdeal.τ).loc Cert.TimeIdeal.main_arg1) = m ((c.tc : Thread Cert.TimeIdeal.nD Cert.TimeIdeal.τ).loc Cert.TimeIdeal.main_arg1)
      ∧ r.2.mem ((c.tc : Thread Cert.TimeIdeal.nD Cert.TimeIdeal.τ).loc Cert.TimeIdeal.main_arg2) = m ((c.tc : Thread Cert.TimeIdeal.nD Cert.TimeIdeal.τ).loc Cert.TimeIdeal.main_arg2)
      ∧ r.2.mem ((c.tc : Thread Cert.TimeIdeal.nD Cert.TimeIdeal.τ).loc Cert.TimeIdeal.main_arg3) = m ((c.tc : Thread Cert.TimeIdeal.nD Cert.TimeIdeal.τ).loc Cert.TimeIdeal.main_arg3)
      ∧ r.2.mem ((c.tc : Thread Cert.TimeIdeal.nD Cert.TimeIdeal.τ).loc Cert.TimeIdeal.main_arg4) = m ((c.tc : Thread Cert.TimeIdeal.nD Cert.TimeIdeal.τ).loc Cert.TimeIdeal.main_arg4)
      ∧ r.2.mem ((c.tc : Thread Cert.TimeIdeal.nD Cert.TimeIdeal.τ).loc Cert.TimeIdeal.main_arg5) = m ((c.tc : Thread Cert.TimeIdeal.nD Cert.TimeIdeal.τ).loc Cert.TimeIdeal.main_arg5)
      ∧ r.2.mem ((c.tc : Thread Cert.TimeIdeal.nD Cert.TimeIdeal.τ).loc Cert.TimeIdeal.main_arg6) = m ((c.tc : Thread Cert.TimeIdeal.nD Cert.TimeIdeal.τ).loc Cert.TimeIdeal.main_arg6)
      ∧ r.2.mem ((c.tc : Thread Cert.TimeIdeal.nD Cert.TimeIdeal.τ).loc Cert.TimeIdeal.main_arg7) = m ((c.tc : Thread Cert.TimeIdeal.nD Cert.TimeIdeal.τ).loc Cert.TimeIdeal.main_arg7)
      ∧ r.2.mem ((c.tc : Thread Cert.TimeIdeal.nD Cert.TimeIdeal.τ).loc Cert.TimeIdeal.main_arg8) = m ((c.tc : Thread Cert.TimeIdeal.nD Cert.TimeIdeal.τ).loc Cert.TimeIdeal.main_arg8)
      ∧ r.2.mem ((c.tc : Thread Cert.TimeIdeal.nD Cert.TimeIdeal.τ).loc Cert.TimeIdeal.main_arg9) = m ((c.tc : Thread Cert.TimeIdeal.nD Cert.TimeIdeal.τ).loc Cert.TimeIdeal.main_arg9)
      ∧ r.2.mem ((c.tc : Thread Cert.TimeIdeal.nD Cert.TimeIdeal.τ).loc Cert.TimeIdeal.main_arg10) = m ((c.tc : Thread Cert.TimeIdeal.nD Cert.TimeIdeal.τ).loc Cert.TimeIdeal.main_arg10))
      ∧ r.2.sem = fun _ => 0)

def quiescent_TimeIdeal_pre_none [hTimeIdeal : Cert.TimeIdeal.Facts] : Prop :=
  ∀ (m : (ℓ : Loc Cert.TimeIdeal.nD Cert.TimeIdeal.τ Cert.TimeIdeal.sig) → Buf (Elt Ideal) ℓ) (g : Dev Cert.TimeIdeal.nD → PrngReg), Pre_TimeIdeal_none m →
    θ_run (Cert.TimeIdeal.defs (F := Ideal)) (onTc (τ := Cert.TimeIdeal.τ) (Cert.TimeIdeal.main (F := Ideal))) ⟨m, fun _ => 0, g⟩ (fun r => (∀ c : Dev Cert.TimeIdeal.nD,
      r.2.mem ((c.tc : Thread Cert.TimeIdeal.nD Cert.TimeIdeal.τ).loc Cert.TimeIdeal.main_arg0) = m ((c.tc : Thread Cert.TimeIdeal.nD Cert.TimeIdeal.τ).loc Cert.TimeIdeal.main_arg0)
      ∧ r.2.mem ((c.tc : Thread Cert.TimeIdeal.nD Cert.TimeIdeal.τ).loc Cert.TimeIdeal.main_arg1) = m ((c.tc : Thread Cert.TimeIdeal.nD Cert.TimeIdeal.τ).loc Cert.TimeIdeal.main_arg1)
      ∧ r.2.mem ((c.tc : Thread Cert.TimeIdeal.nD Cert.TimeIdeal.τ).loc Cert.TimeIdeal.main_arg2) = m ((c.tc : Thread Cert.TimeIdeal.nD Cert.TimeIdeal.τ).loc Cert.TimeIdeal.main_arg2)
      ∧ r.2.mem ((c.tc : Thread Cert.TimeIdeal.nD Cert.TimeIdeal.τ).loc Cert.TimeIdeal.main_arg3) = m ((c.tc : Thread Cert.TimeIdeal.nD Cert.TimeIdeal.τ).loc Cert.TimeIdeal.main_arg3)
      ∧ r.2.mem ((c.tc : Thread Cert.TimeIdeal.nD Cert.TimeIdeal.τ).loc Cert.TimeIdeal.main_arg4) = m ((c.tc : Thread Cert.TimeIdeal.nD Cert.TimeIdeal.τ).loc Cert.TimeIdeal.main_arg4)
      ∧ r.2.mem ((c.tc : Thread Cert.TimeIdeal.nD Cert.TimeIdeal.τ).loc Cert.TimeIdeal.main_arg5) = m ((c.tc : Thread Cert.TimeIdeal.nD Cert.TimeIdeal.τ).loc Cert.TimeIdeal.main_arg5)
      ∧ r.2.mem ((c.tc : Thread Cert.TimeIdeal.nD Cert.TimeIdeal.τ).loc Cert.TimeIdeal.main_arg6) = m ((c.tc : Thread Cert.TimeIdeal.nD Cert.TimeIdeal.τ).loc Cert.TimeIdeal.main_arg6)
      ∧ r.2.mem ((c.tc : Thread Cert.TimeIdeal.nD Cert.TimeIdeal.τ).loc Cert.TimeIdeal.main_arg7) = m ((c.tc : Thread Cert.TimeIdeal.nD Cert.TimeIdeal.τ).loc Cert.TimeIdeal.main_arg7)
      ∧ r.2.mem ((c.tc : Thread Cert.TimeIdeal.nD Cert.TimeIdeal.τ).loc Cert.TimeIdeal.main_arg8) = m ((c.tc : Thread Cert.TimeIdeal.nD Cert.TimeIdeal.τ).loc Cert.TimeIdeal.main_arg8)
      ∧ r.2.mem ((c.tc : Thread Cert.TimeIdeal.nD Cert.TimeIdeal.τ).loc Cert.TimeIdeal.main_arg9) = m ((c.tc : Thread Cert.TimeIdeal.nD Cert.TimeIdeal.τ).loc Cert.TimeIdeal.main_arg9)
      ∧ r.2.mem ((c.tc : Thread Cert.TimeIdeal.nD Cert.TimeIdeal.τ).loc Cert.TimeIdeal.main_arg10) = m ((c.tc : Thread Cert.TimeIdeal.nD Cert.TimeIdeal.τ).loc Cert.TimeIdeal.main_arg10))
      ∧ r.2.sem = fun _ => 0)

def quiescent_TimeRefIdeal [hTimeRefIdeal : Cert.TimeRefIdeal.Facts] [hPre_recurrent : Cert.Pre_recurrent.Facts] : Prop :=
  ∀ (m : (ℓ : Loc Cert.TimeRefIdeal.nD Cert.TimeRefIdeal.τ Cert.TimeRefIdeal.sig) → Buf (Elt Ideal) ℓ) (g : Dev Cert.TimeRefIdeal.nD → PrngReg), Pre_TimeRefIdeal m →
    θ_run (Cert.TimeRefIdeal.defs (F := Ideal)) (onTc (τ := Cert.TimeRefIdeal.τ) (Cert.TimeRefIdeal.main (F := Ideal))) ⟨m, fun _ => 0, g⟩ (fun r => (∀ c : Dev Cert.TimeRefIdeal.nD,
      r.2.mem ((c.tc : Thread Cert.TimeRefIdeal.nD Cert.TimeRefIdeal.τ).loc Cert.TimeRefIdeal.main_arg0) = m ((c.tc : Thread Cert.TimeRefIdeal.nD Cert.TimeRefIdeal.τ).loc Cert.TimeRefIdeal.main_arg0)
      ∧ r.2.mem ((c.tc : Thread Cert.TimeRefIdeal.nD Cert.TimeRefIdeal.τ).loc Cert.TimeRefIdeal.main_arg1) = m ((c.tc : Thread Cert.TimeRefIdeal.nD Cert.TimeRefIdeal.τ).loc Cert.TimeRefIdeal.main_arg1)
      ∧ r.2.mem ((c.tc : Thread Cert.TimeRefIdeal.nD Cert.TimeRefIdeal.τ).loc Cert.TimeRefIdeal.main_arg2) = m ((c.tc : Thread Cert.TimeRefIdeal.nD Cert.TimeRefIdeal.τ).loc Cert.TimeRefIdeal.main_arg2)
      ∧ r.2.mem ((c.tc : Thread Cert.TimeRefIdeal.nD Cert.TimeRefIdeal.τ).loc Cert.TimeRefIdeal.main_arg3) = m ((c.tc : Thread Cert.TimeRefIdeal.nD Cert.TimeRefIdeal.τ).loc Cert.TimeRefIdeal.main_arg3)
      ∧ r.2.mem ((c.tc : Thread Cert.TimeRefIdeal.nD Cert.TimeRefIdeal.τ).loc Cert.TimeRefIdeal.main_arg4) = m ((c.tc : Thread Cert.TimeRefIdeal.nD Cert.TimeRefIdeal.τ).loc Cert.TimeRefIdeal.main_arg4)
      ∧ r.2.mem ((c.tc : Thread Cert.TimeRefIdeal.nD Cert.TimeRefIdeal.τ).loc Cert.TimeRefIdeal.main_arg5) = m ((c.tc : Thread Cert.TimeRefIdeal.nD Cert.TimeRefIdeal.τ).loc Cert.TimeRefIdeal.main_arg5)
      ∧ r.2.mem ((c.tc : Thread Cert.TimeRefIdeal.nD Cert.TimeRefIdeal.τ).loc Cert.TimeRefIdeal.main_arg6) = m ((c.tc : Thread Cert.TimeRefIdeal.nD Cert.TimeRefIdeal.τ).loc Cert.TimeRefIdeal.main_arg6)
      ∧ r.2.mem ((c.tc : Thread Cert.TimeRefIdeal.nD Cert.TimeRefIdeal.τ).loc Cert.TimeRefIdeal.main_arg7) = m ((c.tc : Thread Cert.TimeRefIdeal.nD Cert.TimeRefIdeal.τ).loc Cert.TimeRefIdeal.main_arg7)
      ∧ r.2.mem ((c.tc : Thread Cert.TimeRefIdeal.nD Cert.TimeRefIdeal.τ).loc Cert.TimeRefIdeal.main_arg8) = m ((c.tc : Thread Cert.TimeRefIdeal.nD Cert.TimeRefIdeal.τ).loc Cert.TimeRefIdeal.main_arg8)
      ∧ r.2.mem ((c.tc : Thread Cert.TimeRefIdeal.nD Cert.TimeRefIdeal.τ).loc Cert.TimeRefIdeal.main_arg9) = m ((c.tc : Thread Cert.TimeRefIdeal.nD Cert.TimeRefIdeal.τ).loc Cert.TimeRefIdeal.main_arg9)
      ∧ r.2.mem ((c.tc : Thread Cert.TimeRefIdeal.nD Cert.TimeRefIdeal.τ).loc Cert.TimeRefIdeal.main_arg10) = m ((c.tc : Thread Cert.TimeRefIdeal.nD Cert.TimeRefIdeal.τ).loc Cert.TimeRefIdeal.main_arg10))
      ∧ r.2.sem = fun _ => 0)

def quiescent_Prep [hPrep : Cert.Prep.Facts] [hPre_projected : Cert.Pre_projected.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_Prep_pre_none [hPrep : Cert.Prep.Facts] : Prop :=
  ∀ (m : (ℓ : Loc Cert.Prep.nD Cert.Prep.τ Cert.Prep.sig) → Buf (Elt Bits) ℓ) (g : Dev Cert.Prep.nD → PrngReg), Pre_Prep_none m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] [hPre_projected : Cert.Pre_projected.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepIdeal_pre_none [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_none m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] [hPre_projected : Cert.Pre_projected.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v20)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v20) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v32) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5))

def preserves_Routed_RoutedIdeal : Prop :=
  True

def algebraic_RoutedIdeal_RoutedRefIdeal [hRoutedIdeal : Cert.RoutedIdeal.Facts] [hRoutedRefIdeal : Cert.RoutedRefIdeal.Facts] [hPre_routable : Cert.Pre_routable.Facts] : Prop :=
  ∀ (m : (ℓ : Loc Cert.RoutedIdeal.nD Cert.RoutedIdeal.τ Cert.RoutedIdeal.sig) → Buf (Elt Ideal) ℓ) (g : Dev Cert.RoutedIdeal.nD → PrngReg)
    (m' : (ℓ : Loc Cert.RoutedRefIdeal.nD Cert.RoutedRefIdeal.τ Cert.RoutedRefIdeal.sig) → Buf (Elt Ideal) ℓ) (g' : Dev Cert.RoutedRefIdeal.nD → PrngReg), Pre_RoutedIdeal m →
    (∀ c : Dev Cert.RoutedIdeal.nD,
      m' ((c.tc : Thread Cert.RoutedRefIdeal.nD Cert.RoutedRefIdeal.τ).loc Cert.RoutedRefIdeal.main_arg0) = m ((c.tc : Thread Cert.RoutedIdeal.nD Cert.RoutedIdeal.τ).loc Cert.RoutedIdeal.main_arg0)
      ∧ m' ((c.tc : Thread Cert.RoutedRefIdeal.nD Cert.RoutedRefIdeal.τ).loc Cert.RoutedRefIdeal.main_arg1) = m ((c.tc : Thread Cert.RoutedIdeal.nD Cert.RoutedIdeal.τ).loc Cert.RoutedIdeal.main_arg1)
      ∧ m' ((c.tc : Thread Cert.RoutedRefIdeal.nD Cert.RoutedRefIdeal.τ).loc Cert.RoutedRefIdeal.main_arg2) = m ((c.tc : Thread Cert.RoutedIdeal.nD Cert.RoutedIdeal.τ).loc Cert.RoutedIdeal.main_arg2)
      ∧ m' ((c.tc : Thread Cert.RoutedRefIdeal.nD Cert.RoutedRefIdeal.τ).loc Cert.RoutedRefIdeal.main_arg3) = m ((c.tc : Thread Cert.RoutedIdeal.nD Cert.RoutedIdeal.τ).loc Cert.RoutedIdeal.main_arg3)
      ∧ m' ((c.tc : Thread Cert.RoutedRefIdeal.nD Cert.RoutedRefIdeal.τ).loc Cert.RoutedRefIdeal.main_arg4) = m ((c.tc : Thread Cert.RoutedIdeal.nD Cert.RoutedIdeal.τ).loc Cert.RoutedIdeal.main_arg4)
      ∧ m' ((c.tc : Thread Cert.RoutedRefIdeal.nD Cert.RoutedRefIdeal.τ).loc Cert.RoutedRefIdeal.main_arg5) = m ((c.tc : Thread Cert.RoutedIdeal.nD Cert.RoutedIdeal.τ).loc Cert.RoutedIdeal.main_arg5)
      ∧ m' ((c.tc : Thread Cert.RoutedRefIdeal.nD Cert.RoutedRefIdeal.τ).loc Cert.RoutedRefIdeal.main_arg6) = m ((c.tc : Thread Cert.RoutedIdeal.nD Cert.RoutedIdeal.τ).loc Cert.RoutedIdeal.main_arg6)) →
    ∃ (v0 : (c : Dev Cert.RoutedIdeal.nD) → Buf (Elt Ideal) ((c.tc : Thread Cert.RoutedIdeal.nD Cert.RoutedIdeal.τ).loc Cert.RoutedIdeal.main_v5)),
      θ_run (Cert.RoutedIdeal.defs (F := Ideal)) (onTc (τ := Cert.RoutedIdeal.τ) (Cert.RoutedIdeal.main (F := Ideal))) ⟨m, fun _ => 0, g⟩ (fun r => ∀ c : Dev Cert.RoutedIdeal.nD,
          r.2.mem ((c.tc : Thread Cert.RoutedIdeal.nD Cert.RoutedIdeal.τ).loc Cert.RoutedIdeal.main_v5) = v0 c
          ∧ r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0)
          ∧ r.2.mem ((c.tc : Thread Cert.RoutedIdeal.nD Cert.RoutedIdeal.τ).loc Cert.RoutedIdeal.main_arg1) = m ((c.tc : Thread Cert.RoutedIdeal.nD Cert.RoutedIdeal.τ).loc Cert.RoutedIdeal.main_arg1)
          ∧ r.2.mem ((c.tc : Thread Cert.RoutedIdeal.nD Cert.RoutedIdeal.τ).loc Cert.RoutedIdeal.main_arg2) = m ((c.tc : Thread Cert.RoutedIdeal.nD Cert.RoutedIdeal.τ).loc Cert.RoutedIdeal.main_arg2)
          ∧ r.2.mem ((c.tc : Thread Cert.RoutedIdeal.nD Cert.RoutedIdeal.τ).loc Cert.RoutedIdeal.main_arg3) = m ((c.tc : Thread Cert.RoutedIdeal.nD Cert.RoutedIdeal.τ).loc Cert.RoutedIdeal.main_arg3)
          ∧ r.2.mem ((c.tc : Thread Cert.RoutedIdeal.nD Cert.RoutedIdeal.τ).loc Cert.RoutedIdeal.main_arg4) = m ((c.tc : Thread Cert.RoutedIdeal.nD Cert.RoutedIdeal.τ).loc Cert.RoutedIdeal.main_arg4)
          ∧ r.2.mem ((c.tc : Thread Cert.RoutedIdeal.nD Cert.RoutedIdeal.τ).loc Cert.RoutedIdeal.main_arg5) = m ((c.tc : Thread Cert.RoutedIdeal.nD Cert.RoutedIdeal.τ).loc Cert.RoutedIdeal.main_arg5)
          ∧ r.2.mem ((c.tc : Thread Cert.RoutedIdeal.nD Cert.RoutedIdeal.τ).loc Cert.RoutedIdeal.main_arg6) = m ((c.tc : Thread Cert.RoutedIdeal.nD Cert.RoutedIdeal.τ).loc Cert.RoutedIdeal.main_arg6))
      ∧ θ_run (Cert.RoutedRefIdeal.defs (F := Ideal)) (onTc (τ := Cert.RoutedRefIdeal.τ) (Cert.RoutedRefIdeal.main (F := Ideal))) ⟨m', fun _ => 0, g'⟩ (fun r => ∀ c : Dev Cert.RoutedRefIdeal.nD,
          r.2.mem ((c.tc : Thread Cert.RoutedRefIdeal.nD Cert.RoutedRefIdeal.τ).loc Cert.RoutedRefIdeal.main_v167) = v0 c
          ∧ r.2.mem ((c.tc : Thread Cert.RoutedRefIdeal.nD Cert.RoutedRefIdeal.τ).loc Cert.RoutedRefIdeal.main_arg0) = m' ((c.tc : Thread Cert.RoutedRefIdeal.nD Cert.RoutedRefIdeal.τ).loc Cert.RoutedRefIdeal.main_arg0)
          ∧ r.2.mem ((c.tc : Thread Cert.RoutedRefIdeal.nD Cert.RoutedRefIdeal.τ).loc Cert.RoutedRefIdeal.main_arg1) = m' ((c.tc : Thread Cert.RoutedRefIdeal.nD Cert.RoutedRefIdeal.τ).loc Cert.RoutedRefIdeal.main_arg1)
          ∧ r.2.mem ((c.tc : Thread Cert.RoutedRefIdeal.nD Cert.RoutedRefIdeal.τ).loc Cert.RoutedRefIdeal.main_arg2) = m' ((c.tc : Thread Cert.RoutedRefIdeal.nD Cert.RoutedRefIdeal.τ).loc Cert.RoutedRefIdeal.main_arg2)
          ∧ r.2.mem ((c.tc : Thread Cert.RoutedRefIdeal.nD Cert.RoutedRefIdeal.τ).loc Cert.RoutedRefIdeal.main_arg3) = m' ((c.tc : Thread Cert.RoutedRefIdeal.nD Cert.RoutedRefIdeal.τ).loc Cert.RoutedRefIdeal.main_arg3)
          ∧ r.2.mem ((c.tc : Thread Cert.RoutedRefIdeal.nD Cert.RoutedRefIdeal.τ).loc Cert.RoutedRefIdeal.main_arg4) = m' ((c.tc : Thread Cert.RoutedRefIdeal.nD Cert.RoutedRefIdeal.τ).loc Cert.RoutedRefIdeal.main_arg4)
          ∧ r.2.mem ((c.tc : Thread Cert.RoutedRefIdeal.nD Cert.RoutedRefIdeal.τ).loc Cert.RoutedRefIdeal.main_arg5) = m' ((c.tc : Thread Cert.RoutedRefIdeal.nD Cert.RoutedRefIdeal.τ).loc Cert.RoutedRefIdeal.main_arg5)
          ∧ r.2.mem ((c.tc : Thread Cert.RoutedRefIdeal.nD Cert.RoutedRefIdeal.τ).loc Cert.RoutedRefIdeal.main_arg6) = m' ((c.tc : Thread Cert.RoutedRefIdeal.nD Cert.RoutedRefIdeal.τ).loc Cert.RoutedRefIdeal.main_arg6))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)) →
    ∃ (v0 : (c : Dev Cert.ProjInIdeal.nD) → Buf (Elt Ideal) ((c.tc : Thread Cert.ProjInIdeal.nD Cert.ProjInIdeal.τ).loc Cert.ProjInIdeal.main_v3_0)) (v1 : (c : Dev Cert.ProjInIdeal.nD) → Buf (Elt Ideal) ((c.tc : Thread Cert.ProjInIdeal.nD Cert.ProjInIdeal.τ).loc Cert.ProjInIdeal.main_v3_1)) (v2 : (c : Dev Cert.ProjInIdeal.nD) → Buf (Elt Ideal) ((c.tc : Thread Cert.ProjInIdeal.nD Cert.ProjInIdeal.τ).loc Cert.ProjInIdeal.main_v3_2)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v3_0) = v0 c
          ∧ r.2.mem ((c.tc : Thread Cert.ProjInIdeal.nD Cert.ProjInIdeal.τ).loc Cert.ProjInIdeal.main_v3_1) = v1 c
          ∧ r.2.mem ((c.tc : Thread Cert.ProjInIdeal.nD Cert.ProjInIdeal.τ).loc Cert.ProjInIdeal.main_v3_2) = v2 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v26) = v0 c
          ∧ r.2.mem ((c.tc : Thread Cert.ProjInRefIdeal.nD Cert.ProjInRefIdeal.τ).loc Cert.ProjInRefIdeal.main_v27) = v1 c
          ∧ r.2.mem ((c.tc : Thread Cert.ProjInRefIdeal.nD Cert.ProjInRefIdeal.τ).loc Cert.ProjInRefIdeal.main_v29) = v2 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2)
          ∧ r.2.mem ((c.tc : Thread Cert.ProjInRefIdeal.nD Cert.ProjInRefIdeal.τ).loc Cert.ProjInRefIdeal.main_arg3) = m' ((c.tc : Thread Cert.ProjInRefIdeal.nD Cert.ProjInRefIdeal.τ).loc Cert.ProjInRefIdeal.main_arg3))

def preserves_Ada_AdaIdeal : Prop :=
  True

def algebraic_AdaIdeal_AdaRefIdeal [hAdaIdeal : Cert.AdaIdeal.Facts] [hAdaRefIdeal : Cert.AdaRefIdeal.Facts] [hPre_conditioned : Cert.Pre_conditioned.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v7) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_ProjOut_ProjOutIdeal : Prop :=
  True

def algebraic_ProjOutIdeal_ProjOutRefIdeal [hProjOutIdeal : Cert.ProjOutIdeal.Facts] [hProjOutRefIdeal : Cert.ProjOutRefIdeal.Facts] [hPre_scanned : Cert.Pre_scanned.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)
      ∧ m' ((c.tc : Thread Cert.ProjOutRefIdeal.nD Cert.ProjOutRefIdeal.τ).loc Cert.ProjOutRefIdeal.main_arg4) = m ((c.tc : Thread Cert.ProjOutIdeal.nD Cert.ProjOutIdeal.τ).loc Cert.ProjOutIdeal.main_arg4)
      ∧ m' ((c.tc : Thread Cert.ProjOutRefIdeal.nD Cert.ProjOutRefIdeal.τ).loc Cert.ProjOutRefIdeal.main_arg5) = m ((c.tc : Thread Cert.ProjOutIdeal.nD Cert.ProjOutIdeal.τ).loc Cert.ProjOutIdeal.main_arg5)
      ∧ m' ((c.tc : Thread Cert.ProjOutRefIdeal.nD Cert.ProjOutRefIdeal.τ).loc Cert.ProjOutRefIdeal.main_arg6) = m ((c.tc : Thread Cert.ProjOutIdeal.nD Cert.ProjOutIdeal.τ).loc Cert.ProjOutIdeal.main_arg6)
      ∧ m' ((c.tc : Thread Cert.ProjOutRefIdeal.nD Cert.ProjOutRefIdeal.τ).loc Cert.ProjOutRefIdeal.main_arg7) = m ((c.tc : Thread Cert.ProjOutIdeal.nD Cert.ProjOutIdeal.τ).loc Cert.ProjOutIdeal.main_arg7)
      ∧ m' ((c.tc : Thread Cert.ProjOutRefIdeal.nD Cert.ProjOutRefIdeal.τ).loc Cert.ProjOutRefIdeal.main_arg8) = m ((c.tc : Thread Cert.ProjOutIdeal.nD Cert.ProjOutIdeal.τ).loc Cert.ProjOutIdeal.main_arg8)) →
    ∃ (v0 : (c : Dev Cert.ProjOutIdeal.nD) → Buf (Elt Ideal) ((c.tc : Thread Cert.ProjOutIdeal.nD Cert.ProjOutIdeal.τ).loc Cert.ProjOutIdeal.main_v4)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v4) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
          ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
          ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
          ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
          ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7)
          ∧ r.2.mem ((c.tc : Thread Cert.ProjOutIdeal.nD Cert.ProjOutIdeal.τ).loc Cert.ProjOutIdeal.main_arg8) = m ((c.tc : Thread Cert.ProjOutIdeal.nD Cert.ProjOutIdeal.τ).loc Cert.ProjOutIdeal.main_arg8))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v38) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3)
          ∧ r.2.mem ((c.tc : Thread Cert.ProjOutRefIdeal.nD Cert.ProjOutRefIdeal.τ).loc Cert.ProjOutRefIdeal.main_arg4) = m' ((c.tc : Thread Cert.ProjOutRefIdeal.nD Cert.ProjOutRefIdeal.τ).loc Cert.ProjOutRefIdeal.main_arg4)
          ∧ r.2.mem ((c.tc : Thread Cert.ProjOutRefIdeal.nD Cert.ProjOutRefIdeal.τ).loc Cert.ProjOutRefIdeal.main_arg5) = m' ((c.tc : Thread Cert.ProjOutRefIdeal.nD Cert.ProjOutRefIdeal.τ).loc Cert.ProjOutRefIdeal.main_arg5)
          ∧ r.2.mem ((c.tc : Thread Cert.ProjOutRefIdeal.nD Cert.ProjOutRefIdeal.τ).loc Cert.ProjOutRefIdeal.main_arg6) = m' ((c.tc : Thread Cert.ProjOutRefIdeal.nD Cert.ProjOutRefIdeal.τ).loc Cert.ProjOutRefIdeal.main_arg6)
          ∧ r.2.mem ((c.tc : Thread Cert.ProjOutRefIdeal.nD Cert.ProjOutRefIdeal.τ).loc Cert.ProjOutRefIdeal.main_arg7) = m' ((c.tc : Thread Cert.ProjOutRefIdeal.nD Cert.ProjOutRefIdeal.τ).loc Cert.ProjOutRefIdeal.main_arg7)
          ∧ r.2.mem ((c.tc : Thread Cert.ProjOutRefIdeal.nD Cert.ProjOutRefIdeal.τ).loc Cert.ProjOutRefIdeal.main_arg8) = m' ((c.tc : Thread Cert.ProjOutRefIdeal.nD Cert.ProjOutRefIdeal.τ).loc Cert.ProjOutRefIdeal.main_arg8))

def preserves_Time_TimeIdeal : Prop :=
  True

def algebraic_TimeIdeal_TimeRefIdeal [hTimeIdeal : Cert.TimeIdeal.Facts] [hTimeRefIdeal : Cert.TimeRefIdeal.Facts] [hPre_recurrent : Cert.Pre_recurrent.Facts] : Prop :=
  ∀ (m : (ℓ : Loc Cert.TimeIdeal.nD Cert.TimeIdeal.τ Cert.TimeIdeal.sig) → Buf (Elt Ideal) ℓ) (g : Dev Cert.TimeIdeal.nD → PrngReg)
    (m' : (ℓ : Loc Cert.TimeRefIdeal.nD Cert.TimeRefIdeal.τ Cert.TimeRefIdeal.sig) → Buf (Elt Ideal) ℓ) (g' : Dev Cert.TimeRefIdeal.nD → PrngReg), Pre_TimeIdeal m →
    (∀ c : Dev Cert.TimeIdeal.nD,
      m' ((c.tc : Thread Cert.TimeRefIdeal.nD Cert.TimeRefIdeal.τ).loc Cert.TimeRefIdeal.main_arg0) = m ((c.tc : Thread Cert.TimeIdeal.nD Cert.TimeIdeal.τ).loc Cert.TimeIdeal.main_arg0)
      ∧ m' ((c.tc : Thread Cert.TimeRefIdeal.nD Cert.TimeRefIdeal.τ).loc Cert.TimeRefIdeal.main_arg1) = m ((c.tc : Thread Cert.TimeIdeal.nD Cert.TimeIdeal.τ).loc Cert.TimeIdeal.main_arg1)
      ∧ m' ((c.tc : Thread Cert.TimeRefIdeal.nD Cert.TimeRefIdeal.τ).loc Cert.TimeRefIdeal.main_arg2) = m ((c.tc : Thread Cert.TimeIdeal.nD Cert.TimeIdeal.τ).loc Cert.TimeIdeal.main_arg2)
      ∧ m' ((c.tc : Thread Cert.TimeRefIdeal.nD Cert.TimeRefIdeal.τ).loc Cert.TimeRefIdeal.main_arg3) = m ((c.tc : Thread Cert.TimeIdeal.nD Cert.TimeIdeal.τ).loc Cert.TimeIdeal.main_arg3)
      ∧ m' ((c.tc : Thread Cert.TimeRefIdeal.nD Cert.TimeRefIdeal.τ).loc Cert.TimeRefIdeal.main_arg4) = m ((c.tc : Thread Cert.TimeIdeal.nD Cert.TimeIdeal.τ).loc Cert.TimeIdeal.main_arg4)
      ∧ m' ((c.tc : Thread Cert.TimeRefIdeal.nD Cert.TimeRefIdeal.τ).loc Cert.TimeRefIdeal.main_arg5) = m ((c.tc : Thread Cert.TimeIdeal.nD Cert.TimeIdeal.τ).loc Cert.TimeIdeal.main_arg5)
      ∧ m' ((c.tc : Thread Cert.TimeRefIdeal.nD Cert.TimeRefIdeal.τ).loc Cert.TimeRefIdeal.main_arg6) = m ((c.tc : Thread Cert.TimeIdeal.nD Cert.TimeIdeal.τ).loc Cert.TimeIdeal.main_arg6)
      ∧ m' ((c.tc : Thread Cert.TimeRefIdeal.nD Cert.TimeRefIdeal.τ).loc Cert.TimeRefIdeal.main_arg7) = m ((c.tc : Thread Cert.TimeIdeal.nD Cert.TimeIdeal.τ).loc Cert.TimeIdeal.main_arg7)
      ∧ m' ((c.tc : Thread Cert.TimeRefIdeal.nD Cert.TimeRefIdeal.τ).loc Cert.TimeRefIdeal.main_arg8) = m ((c.tc : Thread Cert.TimeIdeal.nD Cert.TimeIdeal.τ).loc Cert.TimeIdeal.main_arg8)
      ∧ m' ((c.tc : Thread Cert.TimeRefIdeal.nD Cert.TimeRefIdeal.τ).loc Cert.TimeRefIdeal.main_arg9) = m ((c.tc : Thread Cert.TimeIdeal.nD Cert.TimeIdeal.τ).loc Cert.TimeIdeal.main_arg9)
      ∧ m' ((c.tc : Thread Cert.TimeRefIdeal.nD Cert.TimeRefIdeal.τ).loc Cert.TimeRefIdeal.main_arg10) = m ((c.tc : Thread Cert.TimeIdeal.nD Cert.TimeIdeal.τ).loc Cert.TimeIdeal.main_arg10)) →
    ∃ (v0 : (c : Dev Cert.TimeIdeal.nD) → Buf (Elt Ideal) ((c.tc : Thread Cert.TimeIdeal.nD Cert.TimeIdeal.τ).loc Cert.TimeIdeal.main_v19_0)) (v1 : (c : Dev Cert.TimeIdeal.nD) → Buf (Elt Ideal) ((c.tc : Thread Cert.TimeIdeal.nD Cert.TimeIdeal.τ).loc Cert.TimeIdeal.main_v19_1)) (v2 : (c : Dev Cert.TimeIdeal.nD) → Buf (Elt Ideal) ((c.tc : Thread Cert.TimeIdeal.nD Cert.TimeIdeal.τ).loc Cert.TimeIdeal.main_v19_2)) (v3 : (c : Dev Cert.TimeIdeal.nD) → Buf (Elt Ideal) ((c.tc : Thread Cert.TimeIdeal.nD Cert.TimeIdeal.τ).loc Cert.TimeIdeal.main_v19_3)) (v4 : (c : Dev Cert.TimeIdeal.nD) → Buf (Elt Ideal) ((c.tc : Thread Cert.TimeIdeal.nD Cert.TimeIdeal.τ).loc Cert.TimeIdeal.main_v19_4)) (v5 : (c : Dev Cert.TimeIdeal.nD) → Buf (Elt Ideal) ((c.tc : Thread Cert.TimeIdeal.nD Cert.TimeIdeal.τ).loc Cert.TimeIdeal.main_v19_5)) (v6 : (c : Dev Cert.TimeIdeal.nD) → Buf (Elt Ideal) ((c.tc : Thread Cert.TimeIdeal.nD Cert.TimeIdeal.τ).loc Cert.TimeIdeal.main_v19_6)) (v7 : (c : Dev Cert.TimeIdeal.nD) → Buf (Elt Ideal) ((c.tc : Thread Cert.TimeIdeal.nD Cert.TimeIdeal.τ).loc Cert.TimeIdeal.main_v19_7)),
      θ_run (Cert.TimeIdeal.defs (F := Ideal)) (onTc (τ := Cert.TimeIdeal.τ) (Cert.TimeIdeal.main (F := Ideal))) ⟨m, fun _ => 0, g⟩ (fun r => ∀ c : Dev Cert.TimeIdeal.nD,
          r.2.mem ((c.tc : Thread Cert.TimeIdeal.nD Cert.TimeIdeal.τ).loc Cert.TimeIdeal.main_v19_0) = v0 c
          ∧ r.2.mem ((c.tc : Thread Cert.TimeIdeal.nD Cert.TimeIdeal.τ).loc Cert.TimeIdeal.main_v19_1) = v1 c
          ∧ r.2.mem ((c.tc : Thread Cert.TimeIdeal.nD Cert.TimeIdeal.τ).loc Cert.TimeIdeal.main_v19_2) = v2 c
          ∧ r.2.mem ((c.tc : Thread Cert.TimeIdeal.nD Cert.TimeIdeal.τ).loc Cert.TimeIdeal.main_v19_3) = v3 c
          ∧ r.2.mem ((c.tc : Thread Cert.TimeIdeal.nD Cert.TimeIdeal.τ).loc Cert.TimeIdeal.main_v19_4) = v4 c
          ∧ r.2.mem ((c.tc : Thread Cert.TimeIdeal.nD Cert.TimeIdeal.τ).loc Cert.TimeIdeal.main_v19_5) = v5 c
          ∧ r.2.mem ((c.tc : Thread Cert.TimeIdeal.nD Cert.TimeIdeal.τ).loc Cert.TimeIdeal.main_v19_6) = v6 c
          ∧ r.2.mem ((c.tc : Thread Cert.TimeIdeal.nD Cert.TimeIdeal.τ).loc Cert.TimeIdeal.main_v19_7) = v7 c
          ∧ r.2.mem ((c.tc : Thread Cert.TimeIdeal.nD Cert.TimeIdeal.τ).loc Cert.TimeIdeal.main_arg0) = m ((c.tc : Thread Cert.TimeIdeal.nD Cert.TimeIdeal.τ).loc Cert.TimeIdeal.main_arg0)
          ∧ r.2.mem ((c.tc : Thread Cert.TimeIdeal.nD Cert.TimeIdeal.τ).loc Cert.TimeIdeal.main_arg1) = m ((c.tc : Thread Cert.TimeIdeal.nD Cert.TimeIdeal.τ).loc Cert.TimeIdeal.main_arg1)
          ∧ r.2.mem ((c.tc : Thread Cert.TimeIdeal.nD Cert.TimeIdeal.τ).loc Cert.TimeIdeal.main_arg2) = m ((c.tc : Thread Cert.TimeIdeal.nD Cert.TimeIdeal.τ).loc Cert.TimeIdeal.main_arg2)
          ∧ r.2.mem ((c.tc : Thread Cert.TimeIdeal.nD Cert.TimeIdeal.τ).loc Cert.TimeIdeal.main_arg3) = m ((c.tc : Thread Cert.TimeIdeal.nD Cert.TimeIdeal.τ).loc Cert.TimeIdeal.main_arg3)
          ∧ r.2.mem ((c.tc : Thread Cert.TimeIdeal.nD Cert.TimeIdeal.τ).loc Cert.TimeIdeal.main_arg4) = m ((c.tc : Thread Cert.TimeIdeal.nD Cert.TimeIdeal.τ).loc Cert.TimeIdeal.main_arg4)
          ∧ r.2.mem ((c.tc : Thread Cert.TimeIdeal.nD Cert.TimeIdeal.τ).loc Cert.TimeIdeal.main_arg5) = m ((c.tc : Thread Cert.TimeIdeal.nD Cert.TimeIdeal.τ).loc Cert.TimeIdeal.main_arg5)
          ∧ r.2.mem ((c.tc : Thread Cert.TimeIdeal.nD Cert.TimeIdeal.τ).loc Cert.TimeIdeal.main_arg6) = m ((c.tc : Thread Cert.TimeIdeal.nD Cert.TimeIdeal.τ).loc Cert.TimeIdeal.main_arg6)
          ∧ r.2.mem ((c.tc : Thread Cert.TimeIdeal.nD Cert.TimeIdeal.τ).loc Cert.TimeIdeal.main_arg7) = m ((c.tc : Thread Cert.TimeIdeal.nD Cert.TimeIdeal.τ).loc Cert.TimeIdeal.main_arg7)
          ∧ r.2.mem ((c.tc : Thread Cert.TimeIdeal.nD Cert.TimeIdeal.τ).loc Cert.TimeIdeal.main_arg8) = m ((c.tc : Thread Cert.TimeIdeal.nD Cert.TimeIdeal.τ).loc Cert.TimeIdeal.main_arg8)
          ∧ r.2.mem ((c.tc : Thread Cert.TimeIdeal.nD Cert.TimeIdeal.τ).loc Cert.TimeIdeal.main_arg9) = m ((c.tc : Thread Cert.TimeIdeal.nD Cert.TimeIdeal.τ).loc Cert.TimeIdeal.main_arg9)
          ∧ r.2.mem ((c.tc : Thread Cert.TimeIdeal.nD Cert.TimeIdeal.τ).loc Cert.TimeIdeal.main_arg10) = m ((c.tc : Thread Cert.TimeIdeal.nD Cert.TimeIdeal.τ).loc Cert.TimeIdeal.main_arg10))
      ∧ θ_run (Cert.TimeRefIdeal.defs (F := Ideal)) (onTc (τ := Cert.TimeRefIdeal.τ) (Cert.TimeRefIdeal.main (F := Ideal))) ⟨m', fun _ => 0, g'⟩ (fun r => ∀ c : Dev Cert.TimeRefIdeal.nD,
          r.2.mem ((c.tc : Thread Cert.TimeRefIdeal.nD Cert.TimeRefIdeal.τ).loc Cert.TimeRefIdeal.main_v7) = v0 c
          ∧ r.2.mem ((c.tc : Thread Cert.TimeRefIdeal.nD Cert.TimeRefIdeal.τ).loc Cert.TimeRefIdeal.main_v25) = v1 c
          ∧ r.2.mem ((c.tc : Thread Cert.TimeRefIdeal.nD Cert.TimeRefIdeal.τ).loc Cert.TimeRefIdeal.main_v62) = v2 c
          ∧ r.2.mem ((c.tc : Thread Cert.TimeRefIdeal.nD Cert.TimeRefIdeal.τ).loc Cert.TimeRefIdeal.main_v9) = v3 c
          ∧ r.2.mem ((c.tc : Thread Cert.TimeRefIdeal.nD Cert.TimeRefIdeal.τ).loc Cert.TimeRefIdeal.main_v74) = v4 c
          ∧ r.2.mem ((c.tc : Thread Cert.TimeRefIdeal.nD Cert.TimeRefIdeal.τ).loc Cert.TimeRefIdeal.main_v77) = v5 c
          ∧ r.2.mem ((c.tc : Thread Cert.TimeRefIdeal.nD Cert.TimeRefIdeal.τ).loc Cert.TimeRefIdeal.main_v42) = v6 c
          ∧ r.2.mem ((c.tc : Thread Cert.TimeRefIdeal.nD Cert.TimeRefIdeal.τ).loc Cert.TimeRefIdeal.main_v78) = v7 c
          ∧ r.2.mem ((c.tc : Thread Cert.TimeRefIdeal.nD Cert.TimeRefIdeal.τ).loc Cert.TimeRefIdeal.main_arg0) = m' ((c.tc : Thread Cert.TimeRefIdeal.nD Cert.TimeRefIdeal.τ).loc Cert.TimeRefIdeal.main_arg0)
          ∧ r.2.mem ((c.tc : Thread Cert.TimeRefIdeal.nD Cert.TimeRefIdeal.τ).loc Cert.TimeRefIdeal.main_arg1) = m' ((c.tc : Thread Cert.TimeRefIdeal.nD Cert.TimeRefIdeal.τ).loc Cert.TimeRefIdeal.main_arg1)
          ∧ r.2.mem ((c.tc : Thread Cert.TimeRefIdeal.nD Cert.TimeRefIdeal.τ).loc Cert.TimeRefIdeal.main_arg2) = m' ((c.tc : Thread Cert.TimeRefIdeal.nD Cert.TimeRefIdeal.τ).loc Cert.TimeRefIdeal.main_arg2)
          ∧ r.2.mem ((c.tc : Thread Cert.TimeRefIdeal.nD Cert.TimeRefIdeal.τ).loc Cert.TimeRefIdeal.main_arg3) = m' ((c.tc : Thread Cert.TimeRefIdeal.nD Cert.TimeRefIdeal.τ).loc Cert.TimeRefIdeal.main_arg3)
          ∧ r.2.mem ((c.tc : Thread Cert.TimeRefIdeal.nD Cert.TimeRefIdeal.τ).loc Cert.TimeRefIdeal.main_arg4) = m' ((c.tc : Thread Cert.TimeRefIdeal.nD Cert.TimeRefIdeal.τ).loc Cert.TimeRefIdeal.main_arg4)
          ∧ r.2.mem ((c.tc : Thread Cert.TimeRefIdeal.nD Cert.TimeRefIdeal.τ).loc Cert.TimeRefIdeal.main_arg5) = m' ((c.tc : Thread Cert.TimeRefIdeal.nD Cert.TimeRefIdeal.τ).loc Cert.TimeRefIdeal.main_arg5)
          ∧ r.2.mem ((c.tc : Thread Cert.TimeRefIdeal.nD Cert.TimeRefIdeal.τ).loc Cert.TimeRefIdeal.main_arg6) = m' ((c.tc : Thread Cert.TimeRefIdeal.nD Cert.TimeRefIdeal.τ).loc Cert.TimeRefIdeal.main_arg6)
          ∧ r.2.mem ((c.tc : Thread Cert.TimeRefIdeal.nD Cert.TimeRefIdeal.τ).loc Cert.TimeRefIdeal.main_arg7) = m' ((c.tc : Thread Cert.TimeRefIdeal.nD Cert.TimeRefIdeal.τ).loc Cert.TimeRefIdeal.main_arg7)
          ∧ r.2.mem ((c.tc : Thread Cert.TimeRefIdeal.nD Cert.TimeRefIdeal.τ).loc Cert.TimeRefIdeal.main_arg8) = m' ((c.tc : Thread Cert.TimeRefIdeal.nD Cert.TimeRefIdeal.τ).loc Cert.TimeRefIdeal.main_arg8)
          ∧ r.2.mem ((c.tc : Thread Cert.TimeRefIdeal.nD Cert.TimeRefIdeal.τ).loc Cert.TimeRefIdeal.main_arg9) = m' ((c.tc : Thread Cert.TimeRefIdeal.nD Cert.TimeRefIdeal.τ).loc Cert.TimeRefIdeal.main_arg9)
          ∧ r.2.mem ((c.tc : Thread Cert.TimeRefIdeal.nD Cert.TimeRefIdeal.τ).loc Cert.TimeRefIdeal.main_arg10) = m' ((c.tc : Thread Cert.TimeRefIdeal.nD Cert.TimeRefIdeal.τ).loc Cert.TimeRefIdeal.main_arg10))

def preserves_Prep_PrepIdeal : Prop :=
  True

def algebraic_PrepIdeal_PrepRefIdeal [hPrepIdeal : Cert.PrepIdeal.Facts] [hPrepRefIdeal : Cert.PrepRefIdeal.Facts] [hPre_projected : Cert.Pre_projected.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v118_0)) (v1 : (c : Dev Cert.PrepIdeal.nD) → Buf (Elt Ideal) ((c.tc : Thread Cert.PrepIdeal.nD Cert.PrepIdeal.τ).loc Cert.PrepIdeal.main_v118_1)) (v2 : (c : Dev Cert.PrepIdeal.nD) → Buf (Elt Ideal) ((c.tc : Thread Cert.PrepIdeal.nD Cert.PrepIdeal.τ).loc Cert.PrepIdeal.main_v118_2)) (v3 : (c : Dev Cert.PrepIdeal.nD) → Buf (Elt Ideal) ((c.tc : Thread Cert.PrepIdeal.nD Cert.PrepIdeal.τ).loc Cert.PrepIdeal.main_v118_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v118_0) = v0 c
          ∧ r.2.mem ((c.tc : Thread Cert.PrepIdeal.nD Cert.PrepIdeal.τ).loc Cert.PrepIdeal.main_v118_1) = v1 c
          ∧ r.2.mem ((c.tc : Thread Cert.PrepIdeal.nD Cert.PrepIdeal.τ).loc Cert.PrepIdeal.main_v118_2) = v2 c
          ∧ r.2.mem ((c.tc : Thread Cert.PrepIdeal.nD Cert.PrepIdeal.τ).loc Cert.PrepIdeal.main_v118_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v156) = v0 c
          ∧ r.2.mem ((c.tc : Thread Cert.PrepRefIdeal.nD Cert.PrepRefIdeal.τ).loc Cert.PrepRefIdeal.main_v157) = v1 c
          ∧ r.2.mem ((c.tc : Thread Cert.PrepRefIdeal.nD Cert.PrepRefIdeal.τ).loc Cert.PrepRefIdeal.main_v158) = v2 c
          ∧ r.2.mem ((c.tc : Thread Cert.PrepRefIdeal.nD Cert.PrepRefIdeal.τ).loc Cert.PrepRefIdeal.main_v160) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def Claim : Prop :=
  ∃ (hDense : Cert.Dense.Facts) (hDenseIdeal : Cert.DenseIdeal.Facts) (hDenseRefIdeal : Cert.DenseRefIdeal.Facts) (hRouted : Cert.Routed.Facts) (hRoutedIdeal : Cert.RoutedIdeal.Facts) (hRoutedRefIdeal : Cert.RoutedRefIdeal.Facts) (hProjIn : Cert.ProjIn.Facts) (hProjInIdeal : Cert.ProjInIdeal.Facts) (hProjInRefIdeal : Cert.ProjInRefIdeal.Facts) (hAda : Cert.Ada.Facts) (hAdaIdeal : Cert.AdaIdeal.Facts) (hAdaRefIdeal : Cert.AdaRefIdeal.Facts) (hProjOut : Cert.ProjOut.Facts) (hProjOutIdeal : Cert.ProjOutIdeal.Facts) (hProjOutRefIdeal : Cert.ProjOutRefIdeal.Facts) (hTime : Cert.Time.Facts) (hTimeIdeal : Cert.TimeIdeal.Facts) (hTimeRefIdeal : Cert.TimeRefIdeal.Facts) (hPrep : Cert.Prep.Facts) (hPrepIdeal : Cert.PrepIdeal.Facts) (hPrepRefIdeal : Cert.PrepRefIdeal.Facts) (hPre_routable : Cert.Pre_routable.Facts) (hPre_conditioned : Cert.Pre_conditioned.Facts) (hPre_scanned : Cert.Pre_scanned.Facts) (hPre_recurrent : Cert.Pre_recurrent.Facts) (hPre_projected : Cert.Pre_projected.Facts),
    quiescent_Dense (hDense := hDense)
    ∧ quiescent_DenseIdeal (hDenseIdeal := hDenseIdeal)
    ∧ quiescent_DenseRefIdeal (hDenseRefIdeal := hDenseRefIdeal)
    ∧ quiescent_Routed (hRouted := hRouted) (hPre_routable := hPre_routable)
    ∧ quiescent_Routed_pre_none (hRouted := hRouted)
    ∧ quiescent_RoutedIdeal (hRoutedIdeal := hRoutedIdeal) (hPre_routable := hPre_routable)
    ∧ quiescent_RoutedIdeal_pre_none (hRoutedIdeal := hRoutedIdeal)
    ∧ quiescent_RoutedRefIdeal (hRoutedRefIdeal := hRoutedRefIdeal) (hPre_routable := hPre_routable)
    ∧ quiescent_ProjIn (hProjIn := hProjIn)
    ∧ quiescent_ProjInIdeal (hProjInIdeal := hProjInIdeal)
    ∧ quiescent_ProjInRefIdeal (hProjInRefIdeal := hProjInRefIdeal)
    ∧ quiescent_Ada (hAda := hAda) (hPre_conditioned := hPre_conditioned)
    ∧ quiescent_Ada_pre_none (hAda := hAda)
    ∧ quiescent_AdaIdeal (hAdaIdeal := hAdaIdeal) (hPre_conditioned := hPre_conditioned)
    ∧ quiescent_AdaIdeal_pre_none (hAdaIdeal := hAdaIdeal)
    ∧ quiescent_AdaRefIdeal (hAdaRefIdeal := hAdaRefIdeal) (hPre_conditioned := hPre_conditioned)
    ∧ quiescent_ProjOut (hProjOut := hProjOut) (hPre_scanned := hPre_scanned)
    ∧ quiescent_ProjOut_pre_none (hProjOut := hProjOut)
    ∧ quiescent_ProjOutIdeal (hProjOutIdeal := hProjOutIdeal) (hPre_scanned := hPre_scanned)
    ∧ quiescent_ProjOutIdeal_pre_none (hProjOutIdeal := hProjOutIdeal)
    ∧ quiescent_ProjOutRefIdeal (hProjOutRefIdeal := hProjOutRefIdeal) (hPre_scanned := hPre_scanned)
    ∧ quiescent_Time (hTime := hTime) (hPre_recurrent := hPre_recurrent)
    ∧ quiescent_Time_pre_none (hTime := hTime)
    ∧ quiescent_TimeIdeal (hTimeIdeal := hTimeIdeal) (hPre_recurrent := hPre_recurrent)
    ∧ quiescent_TimeIdeal_pre_none (hTimeIdeal := hTimeIdeal)
    ∧ quiescent_TimeRefIdeal (hTimeRefIdeal := hTimeRefIdeal) (hPre_recurrent := hPre_recurrent)
    ∧ quiescent_Prep (hPrep := hPrep) (hPre_projected := hPre_projected)
    ∧ quiescent_Prep_pre_none (hPrep := hPrep)
    ∧ quiescent_PrepIdeal (hPrepIdeal := hPrepIdeal) (hPre_projected := hPre_projected)
    ∧ quiescent_PrepIdeal_pre_none (hPrepIdeal := hPrepIdeal)
    ∧ quiescent_PrepRefIdeal (hPrepRefIdeal := hPrepRefIdeal) (hPre_projected := hPre_projected)
    ∧ preserves_Dense_DenseIdeal
    ∧ algebraic_DenseIdeal_DenseRefIdeal (hDenseIdeal := hDenseIdeal) (hDenseRefIdeal := hDenseRefIdeal)
    ∧ preserves_Routed_RoutedIdeal
    ∧ algebraic_RoutedIdeal_RoutedRefIdeal (hRoutedIdeal := hRoutedIdeal) (hRoutedRefIdeal := hRoutedRefIdeal) (hPre_routable := hPre_routable)
    ∧ preserves_ProjIn_ProjInIdeal
    ∧ algebraic_ProjInIdeal_ProjInRefIdeal (hProjInIdeal := hProjInIdeal) (hProjInRefIdeal := hProjInRefIdeal)
    ∧ preserves_Ada_AdaIdeal
    ∧ algebraic_AdaIdeal_AdaRefIdeal (hAdaIdeal := hAdaIdeal) (hAdaRefIdeal := hAdaRefIdeal) (hPre_conditioned := hPre_conditioned)
    ∧ preserves_ProjOut_ProjOutIdeal
    ∧ algebraic_ProjOutIdeal_ProjOutRefIdeal (hProjOutIdeal := hProjOutIdeal) (hProjOutRefIdeal := hProjOutRefIdeal) (hPre_scanned := hPre_scanned)
    ∧ preserves_Time_TimeIdeal
    ∧ algebraic_TimeIdeal_TimeRefIdeal (hTimeIdeal := hTimeIdeal) (hTimeRefIdeal := hTimeRefIdeal) (hPre_recurrent := hPre_recurrent)
    ∧ preserves_Prep_PrepIdeal
    ∧ algebraic_PrepIdeal_PrepRefIdeal (hPrepIdeal := hPrepIdeal) (hPrepRefIdeal := hPrepRefIdeal) (hPre_projected := hPre_projected)
-- ==== Pre_conditioned.lean ====
abbrev S2x1024 : Shape := ⟨2, ![2, 1024]⟩
abbrev S128x1024 : Shape := ⟨2, ![128, 1024]⟩
abbrev S4x1024x6144 : Shape := ⟨3, ![4, 1024, 6144]⟩
abbrev S4x6144 : Shape := ⟨2, ![4, 6144]⟩
abbrev S_ : Shape := ⟨0, ![]⟩

class Facts : Prop where
  bcast_S_S2x1024 : S_.BroadcastsInDim S2x1024 (![] : Fin 0 → Fin S2x1024.rank)
  bcast_S_S128x1024 : S_.BroadcastsInDim S128x1024 (![] : Fin 0 → Fin S128x1024.rank)
  bcast_S_S4x1024x6144 : S_.BroadcastsInDim S4x1024x6144 (![] : Fin 0 → Fin S4x1024x6144.rank)

variable [Facts]

def fn {F : FTy → Type} [FloatOps F] (main_arg0 : FVec F S2x1024 .f32) (main_arg1 : FVec F S128x1024 .f32) (main_arg2 : FVec F S4x1024x6144 .f32) (main_arg3 : FVec F S4x6144 .f32) : IVec S2x1024 1 × IVec S128x1024 1 × IVec S4x1024x6144 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S128x1024 .f32 := Host.absf main_arg1
  let main_cst_0 : FVec F S_ .f32 := constant S_ .f32 0x7F800000#32
  let main_v4 : FVec F S128x1024 .f32 := broadcastInDim S128x1024 ![] bcast_S_S128x1024 main_cst_0
  let main_v5 : IVec S128x1024 1 := cmpf .olt main_v3 main_v4
  let main_v6 : FVec F S4x1024x6144 .f32 := Host.absf main_arg2
  let main_cst_1 : FVec F S_ .f32 := constant S_ .f32 0x7F800000#32
  let main_v7 : FVec F S4x1024x6144 .f32 := broadcastInDim S4x1024x6144 ![] bcast_S_S4x1024x6144 main_cst_1
  let main_v8 : IVec S4x1024x6144 1 := cmpf .olt main_v6 main_v7
  (main_v2, main_v5, main_v8)
-- ==== Pre_projected.lean ====
abbrev S2x8192x1536 : Shape := ⟨3, ![2, 8192, 1536]⟩
abbrev S2x8192x384 : Shape := ⟨3, ![2, 8192, 384]⟩
abbrev S64 : Shape := ⟨1, ![64]⟩
abbrev S2x8192x1024 : Shape := ⟨3, ![2, 8192, 1024]⟩
abbrev S_ : Shape := ⟨0, ![]⟩

class Facts : Prop where
  slices_S2x8192x1536_S2x8192x1024_0_0_0 : S2x8192x1536.Slices ![0, 0, 0] S2x8192x1024
  bcast_S_S2x8192x1024 : S_.BroadcastsInDim S2x8192x1024 (![] : Fin 0 → Fin S2x8192x1024.rank)

variable [Facts]

def fn {F : FTy → Type} [FloatOps F] (main_arg0 : FVec F S2x8192x1536 .f32) (main_arg1 : FVec F S2x8192x384 .f32) (main_arg2 : FVec F S64 .f32) (main_arg3 : FVec F S64 .f32) : IVec S2x8192x1024 1 :=
  let main_v0 : FVec F S2x8192x1024 .f32 := (extractStridedSlice S2x8192x1024 ![0, 0, 0] · slices_S2x8192x1536_S2x8192x1024_0_0_0) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  main_v3
-- ==== Pre_recurrent.lean ====
abbrev S2x8192x1792 : Shape := ⟨3, ![2, 8192, 1792]⟩
abbrev S2x1x1792 : Shape := ⟨3, ![2, 1, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S2x8192x1024 : Shape := ⟨3, ![2, 8192, 1024]⟩
abbrev S_ : Shape := ⟨0, ![]⟩
abbrev S2x8192x64 : Shape := ⟨3, ![2, 8192, 64]⟩
abbrev S2x1x1024 : Shape := ⟨3, ![2, 1, 1024]⟩
abbrev S2x1x64 : Shape := ⟨3, ![2, 1, 64]⟩
abbrev S1024 : Shape := ⟨1, ![1024]⟩
abbrev S64 : Shape := ⟨1, ![64]⟩

class Facts : Prop where
  slices_S2x8192x1792_S2x8192x1024_0_0_0 : S2x8192x1792.Slices ![0, 0, 0] S2x8192x1024
  bcast_S_S2x8192x1024 : S_.BroadcastsInDim S2x8192x1024 (![] : Fin 0 → Fin S2x8192x1024.rank)
  slices_S2x8192x1792_S2x8192x64_0_0_1600 : S2x8192x1792.Slices ![0, 0, 1600] S2x8192x64
  bcast_S_S2x8192x64 : S_.BroadcastsInDim S2x8192x64 (![] : Fin 0 → Fin S2x8192x64.rank)
  slices_S2x1x1792_S2x1x1024_0_0_0 : S2x1x1792.Slices ![0, 0, 0] S2x1x1024
  bcast_S_S2x1x1024 : S_.BroadcastsInDim S2x1x1024 (![] : Fin 0 → Fin S2x1x1024.rank)
  slices_S2x1x1792_S2x1x64_0_0_1600 : S2x1x1792.Slices ![0, 0, 1600] S2x1x64
  bcast_S_S2x1x64 : S_.BroadcastsInDim S2x1x64 (![] : Fin 0 → Fin S2x1x64.rank)
  slices_S1792_S1024_0 : S1792.Slices ![0] S1024
  bcast_S_S1024 : S_.BroadcastsInDim S1024 (![] : Fin 0 → Fin S1024.rank)
  slices_S1792_S64_1600 : S1792.Slices ![1600] S64
  bcast_S_S64 : S_.BroadcastsInDim S64 (![] : Fin 0 → Fin S64.rank)
  bcast_S_S64x512 : S_.BroadcastsInDim S64x512 (![] : Fin 0 → Fin S64x512.rank)
  bcast_S_S128x512 : S_.BroadcastsInDim S128x512 (![] : Fin 0 → Fin S128x512.rank)
  bcast_S_S512 : S_.BroadcastsInDim S512 (![] : Fin 0 → Fin S512.rank)
  bcast_S_S8x64 : S_.BroadcastsInDim S8x64 (![] : Fin 0 → Fin S8x64.rank)

variable [Facts]

def fn_part2 {F : FTy → Type} [FloatOps F] (main_arg10 : FVec F S8x64 .f32) (main_v3 : IVec S2x8192x1024 1) (main_v7 : IVec S2x8192x64 1) (main_v11 : IVec S2x1x1024 1) (main_v15 : IVec S2x1x64 1) (main_v19 : IVec S1024 1) (main_v23 : IVec S64 1) (main_v26 : IVec S64x512 1) (main_v29 : IVec S64x512 1) (main_v32 : IVec S128x512 1) (main_v35 : IVec S512 1) (main_v36 : FVec F S512 .f32) (main_cst_9 : FVec F S_ .f32) : IVec S2x8192x1024 1 × IVec S2x8192x64 1 × IVec S2x1x1024 1 × IVec S2x1x64 1 × IVec S1024 1 × IVec S64 1 × IVec S64x512 1 × IVec S64x512 1 × IVec S128x512 1 × IVec S512 1 × IVec S512 1 × IVec S8x64 1 :=
  let main_v37 : FVec F S512 .f32 := broadcastInDim S512 ![] bcast_S_S512 main_cst_9
  let main_v38 : IVec S512 1 := cmpf .olt main_v36 main_v37
  let main_v39 : FVec F S8x64 .f32 := Host.absf main_arg10
  let main_cst_10 : FVec F S_ .f32 := constant S_ .f32 0x7F800000#32
  let main_v40 : FVec F S8x64 .f32 := broadcastInDim S8x64 ![] bcast_S_S8x64 main_cst_10
  let main_v41 : IVec S8x64 1 := cmpf .olt main_v39 main_v40
  (main_v3, main_v7, main_v11, main_v15, main_v19, main_v23, main_v26, main_v29, main_v32, main_v35, main_v38, main_v41)

def fn_part1 {F : FTy → Type} [FloatOps F] (main_arg2 : FVec F S1792 .f32) (main_arg4 : FVec F S64x512 .f32) (main_arg6 : FVec F S64x512 .f32) (main_arg7 : FVec F S128x512 .f32) (main_arg8 : FVec F S512 .f32) (main_arg9 : FVec F S512 .f32) (main_arg10 : FVec F S8x64 .f32) (main_v3 : IVec S2x8192x1024 1) (main_v7 : IVec S2x8192x64 1) (main_v11 : IVec S2x1x1024 1) (main_v15 : IVec S2x1x64 1) (main_v17 : FVec F S1024 .f32) (main_v18 : FVec F S1024 .f32) : IVec S2x8192x1024 1 × IVec S2x8192x64 1 × IVec S2x1x1024 1 × IVec S2x1x64 1 × IVec S1024 1 × IVec S64 1 × IVec S64x512 1 × IVec S64x512 1 × IVec S128x512 1 × IVec S512 1 × IVec S512 1 × IVec S8x64 1 :=
  let main_v19 : IVec S1024 1 := cmpf .olt main_v17 main_v18
  let main_v20 : FVec F S64 .f32 := (extractStridedSlice S64 ![1600] · slices_S1792_S64_1600) main_arg2
  let main_v21 : FVec F S64 .f32 := Host.absf main_v20
  let main_cst_4 : FVec F S_ .f32 := constant S_ .f32 0x7F800000#32
  let main_v22 : FVec F S64 .f32 := broadcastInDim S64 ![] bcast_S_S64 main_cst_4
  let main_v23 : IVec S64 1 := cmpf .olt main_v21 main_v22
  let main_v24 : FVec F S64x512 .f32 := Host.absf main_arg4
  let main_cst_5 : FVec F S_ .f32 := constant S_ .f32 0x7F800000#32
  let main_v25 : FVec F S64x512 .f32 := broadcastInDim S64x512 ![] bcast_S_S64x512 main_cst_5
  let main_v26 : IVec S64x512 1 := cmpf .olt main_v24 main_v25
  let main_v27 : FVec F S64x512 .f32 := Host.absf main_arg6
  let main_cst_6 : FVec F S_ .f32 := constant S_ .f32 0x7F800000#32
  let main_v28 : FVec F S64x512 .f32 := broadcastInDim S64x512 ![] bcast_S_S64x512 main_cst_6
  let main_v29 : IVec S64x512 1 := cmpf .olt main_v27 main_v28
  let main_v30 : FVec F S128x512 .f32 := Host.absf main_arg7
  let main_cst_7 : FVec F S_ .f32 := constant S_ .f32 0x7F800000#32
  let main_v31 : FVec F S128x512 .f32 := broadcastInDim S128x512 ![] bcast_S_S128x512 main_cst_7
  let main_v32 : IVec S128x512 1 := cmpf .olt main_v30 main_v31
  let main_v33 : FVec F S512 .f32 := Host.absf main_arg8
  let main_cst_8 : FVec F S_ .f32 := constant S_ .f32 0x7F800000#32
  let main_v34 : FVec F S512 .f32 := broadcastInDim S512 ![] bcast_S_S512 main_cst_8
  let main_v35 : IVec S512 1 := cmpf .olt main_v33 main_v34
  let main_v36 : FVec F S512 .f32 := Host.absf main_arg9
  let main_cst_9 : FVec F S_ .f32 := constant S_ .f32 0x7F800000#32
  fn_part2 (F := F) main_arg10 main_v3 main_v7 main_v11 main_v15 main_v19 main_v23 main_v26 main_v29 main_v32 main_v35 main_v36 main_cst_9

def fn {F : FTy → Type} [FloatOps F] (main_arg0 : FVec F S2x8192x1792 .f32) (main_arg1 : FVec F S2x1x1792 .f32) (main_arg2 : FVec F S1792 .f32) (main_arg3 : FVec F S512 .f32) (main_arg4 : FVec F S64x512 .f32) (main_arg5 : FVec F S512 .f32) (main_arg6 : FVec F S64x512 .f32) (main_arg7 : FVec F S128x512 .f32) (main_arg8 : FVec F S512 .f32) (main_arg9 : FVec F S512 .f32) (main_arg10 : FVec F S8x64 .f32) : IVec S2x8192x1024 1 × IVec S2x8192x64 1 × IVec S2x1x1024 1 × IVec S2x1x64 1 × IVec S1024 1 × IVec S64 1 × IVec S64x512 1 × IVec S64x512 1 × IVec S128x512 1 × IVec S512 1 × IVec S512 1 × IVec S8x64 1 :=
  let main_v0 : FVec F S2x8192x1024 .f32 := (extractStridedSlice S2x8192x1024 ![0, 0, 0] · slices_S2x8192x1792_S2x8192x1024_0_0_0) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_v4 : FVec F S2x8192x64 .f32 := (extractStridedSlice S2x8192x64 ![0, 0, 1600] · slices_S2x8192x1792_S2x8192x64_0_0_1600) main_arg0
  let main_v5 : FVec F S2x8192x64 .f32 := Host.absf main_v4
  let main_cst_0 : FVec F S_ .f32 := constant S_ .f32 0x7F800000#32
  let main_v6 : FVec F S2x8192x64 .f32 := broadcastInDim S2x8192x64 ![] bcast_S_S2x8192x64 main_cst_0
  let main_v7 : IVec S2x8192x64 1 := cmpf .olt main_v5 main_v6
  let main_v8 : FVec F S2x1x1024 .f32 := (extractStridedSlice S2x1x1024 ![0, 0, 0] · slices_S2x1x1792_S2x1x1024_0_0_0) main_arg1
  let main_v9 : FVec F S2x1x1024 .f32 := Host.absf main_v8
  let main_cst_1 : FVec F S_ .f32 := constant S_ .f32 0x7F800000#32
  let main_v10 : FVec F S2x1x1024 .f32 := broadcastInDim S2x1x1024 ![] bcast_S_S2x1x1024 main_cst_1
  let main_v11 : IVec S2x1x1024 1 := cmpf .olt main_v9 main_v10
  let main_v12 : FVec F S2x1x64 .f32 := (extractStridedSlice S2x1x64 ![0, 0, 1600] · slices_S2x1x1792_S2x1x64_0_0_1600) main_arg1
  let main_v13 : FVec F S2x1x64 .f32 := Host.absf main_v12
  let main_cst_2 : FVec F S_ .f32 := constant S_ .f32 0x7F800000#32
  let main_v14 : FVec F S2x1x64 .f32 := broadcastInDim S2x1x64 ![] bcast_S_S2x1x64 main_cst_2
  let main_v15 : IVec S2x1x64 1 := cmpf .olt main_v13 main_v14
  let main_v16 : FVec F S1024 .f32 := (extractStridedSlice S1024 ![0] · slices_S1792_S1024_0) main_arg2
  let main_v17 : FVec F S1024 .f32 := Host.absf main_v16
  let main_cst_3 : FVec F S_ .f32 := constant S_ .f32 0x7F800000#32
  let main_v18 : FVec F S1024 .f32 := broadcastInDim S1024 ![] bcast_S_S1024 main_cst_3
  fn_part1 (F := F) main_arg2 main_arg4 main_arg6 main_arg7 main_arg8 main_arg9 main_arg10 main_v3 main_v7 main_v11 main_v15 main_v17 main_v18
-- ==== Pre_routable.lean ====
abbrev S2x8192x1024 : Shape := ⟨3, ![2, 8192, 1024]⟩
abbrev S1024 : Shape := ⟨1, ![1024]⟩
abbrev S2x1x6144 : Shape := ⟨3, ![2, 1, 6144]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩
abbrev S2x1x2048 : Shape := ⟨3, ![2, 1, 2048]⟩

class Facts : Prop where
  bcast_S_S1024 : S_.BroadcastsInDim S1024 (![] : Fin 0 → Fin S1024.rank)
  slices_S2x1x6144_S2x1x2048_0_0_3072 : S2x1x6144.Slices ![0, 0, 3072] S2x1x2048
  bcast_S_S2x1x2048 : S_.BroadcastsInDim S2x1x2048 (![] : Fin 0 → Fin S2x1x2048.rank)
  bcast_S_S1024x8 : S_.BroadcastsInDim S1024x8 (![] : Fin 0 → Fin S1024x8.rank)

variable [Facts]

def fn {F : FTy → Type} [FloatOps F] (main_arg0 : FVec F S2x8192x1024 .f32) (main_arg1 : FVec F S1024 .f32) (main_arg2 : FVec F S2x1x6144 .f32) (main_arg3 : FVec F S1024x8 .f32) (main_arg4 : FVec F S8x1024x1408 .f32) (main_arg5 : FVec F S8x1024x1408 .f32) (main_arg6 : FVec F S8x1408x1024 .f32) : IVec S1024 1 × IVec S2x1x2048 1 × IVec S1024x8 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S2x1x2048 .f32 := (extractStridedSlice S2x1x2048 ![0, 0, 3072] · slices_S2x1x6144_S2x1x2048_0_0_3072) main_arg2
  let main_v4 : FVec F S2x1x2048 .f32 := Host.absf main_v3
  let main_cst_0 : FVec F S_ .f32 := constant S_ .f32 0x7F800000#32
  let main_v5 : FVec F S2x1x2048 .f32 := broadcastInDim S2x1x2048 ![] bcast_S_S2x1x2048 main_cst_0
  let main_v6 : IVec S2x1x2048 1 := cmpf .olt main_v4 main_v5
  let main_v7 : FVec F S1024x8 .f32 := Host.absf main_arg3
  let main_cst_1 : FVec F S_ .f32 := constant S_ .f32 0x7F800000#32
  let main_v8 : FVec F S1024x8 .f32 := broadcastInDim S1024x8 ![] bcast_S_S1024x8 main_cst_1
  let main_v9 : IVec S1024x8 1 := cmpf .olt main_v7 main_v8
  (main_v2, main_v6, main_v9)
-- ==== Pre_scanned.lean ====
abbrev S2x8192x1024 : Shape := ⟨3, ![2, 8192, 1024]⟩
abbrev S2x8192x512 : Shape := ⟨3, ![2, 8192, 512]⟩
abbrev S512 : Shape := ⟨1, ![512]⟩
abbrev S2x1x6144 : Shape := ⟨3, ![2, 1, 6144]⟩
abbrev S1024x1024 : Shape := ⟨2, ![1024, 1024]⟩
abbrev S_ : Shape := ⟨0, ![]⟩

class Facts : Prop where
  bcast_S_S2x8192x512 : S_.BroadcastsInDim S2x8192x512 (![] : Fin 0 → Fin S2x8192x512.rank)

variable [Facts]

def fn {F : FTy → Type} [FloatOps F] (main_arg0 : FVec F S2x8192x1024 .f32) (main_arg1 : FVec F S2x8192x512 .f32) (main_arg2 : FVec F S2x8192x512 .f32) (main_arg3 : FVec F S2x8192x512 .f32) (main_arg4 : FVec F S2x8192x512 .f32) (main_arg5 : FVec F S512 .f32) (main_arg6 : FVec F S512 .f32) (main_arg7 : FVec F S2x1x6144 .f32) (main_arg8 : FVec F S1024x1024 .f32) : IVec S2x8192x512 1 :=
  let main_v0 : FVec F S2x8192x512 .f32 := Host.absf main_arg1
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  main_v2
-- ==== Dense.lean ====
abbrev S2x8192x1024 : Shape := ⟨3, ![2, 8192, 1024]⟩
abbrev S1024 : Shape := ⟨1, ![1024]⟩
abbrev S2x1x6144 : Shape := ⟨3, ![2, 1, 6144]⟩
abbrev S1024x2816 : Shape := ⟨2, ![1024, 2816]⟩
abbrev S2816x1024 : Shape := ⟨2, ![2816, 1024]⟩
abbrev S1024x1408 : Shape := ⟨2, ![1024, 1408]⟩
abbrev S1x1024x1408 : Shape := ⟨3, ![1, 1024, 1408]⟩
abbrev S2x1024x1408 : Shape := ⟨3, ![2, 1024, 1408]⟩
abbrev S1408x1024 : Shape := ⟨2, ![1408, 1024]⟩
abbrev S1x1408x1024 : Shape := ⟨3, ![1, 1408, 1024]⟩
abbrev S2x1408x1024 : Shape := ⟨3, ![2, 1408, 1024]⟩
abbrev S_ : Shape := ⟨0, ![]⟩
abbrev S8x128 : Shape := ⟨2, ![8, 128]⟩
abbrev S1x1024 : Shape := ⟨2, ![1, 1024]⟩
abbrev S1x512x1024 : Shape := ⟨3, ![1, 512, 1024]⟩
abbrev S1x1x6144 : Shape := ⟨3, ![1, 1, 6144]⟩
abbrev S512x1024 : Shape := ⟨2, ![512, 1024]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S512x1408 : Shape := ⟨2, ![512, 1408]⟩

abbrev nBuf : Space → Nat
  | .hbm => 28
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x1408, .f32⟩
  | .hbm, ⟨7, _⟩ => ⟨S1024x1408, .f32⟩
  | .hbm, ⟨8, _⟩ => ⟨S1x1024x1408, .f32⟩
  | .hbm, ⟨9, _⟩ => ⟨S1x1024x1408, .f32⟩
  | .hbm, ⟨10, _⟩ => ⟨S2x1024x1408, .f32⟩
  | .hbm, ⟨11, _⟩ => ⟨S2x1024x1408, .bf16⟩
  | .hbm, ⟨12, _⟩ => ⟨S1024x1408, .f32⟩
  | .hbm, ⟨13, _⟩ => ⟨S1024x1408, .f32⟩
  | .hbm, ⟨14, _⟩ => ⟨S1x1024x1408, .f32⟩
  | .hbm, ⟨15, _⟩ => ⟨S1x1024x1408, .f32⟩
  | .hbm, ⟨16, _⟩ => ⟨S2x1024x1408, .f32⟩
  | .hbm, ⟨17, _⟩ => ⟨S2x1024x1408, .bf16⟩
  | .hbm, ⟨18, _⟩ => ⟨S1408x1024, .f32⟩
  | .hbm, ⟨19, _⟩ => ⟨S1408x1024, .f32⟩
  | .hbm, ⟨20, _⟩ => ⟨S1x1408x1024, .f32⟩
  | .hbm, ⟨21, _⟩ => ⟨S1x1408x1024, .f32⟩
  | .hbm, ⟨22, _⟩ => ⟨S2x1408x1024, .f32⟩
  | .hbm, ⟨23, _⟩ => ⟨S2x1408x1024, .bf16⟩
  | .hbm, ⟨24, _⟩ => ⟨S_, .f32⟩
  | .hbm, ⟨25, _⟩ => ⟨S8x128, .f32⟩
  | .hbm, ⟨26, _⟩ => ⟨S1x1024, .f32⟩
  | .hbm, ⟨27, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x6144, .f32⟩
  | .local _ .vmem, ⟨4, _⟩ => ⟨S1x1x6144, .f32⟩
  | .local _ .vmem, ⟨5, _⟩ => ⟨S8x128, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .f32⟩
  | .local _ .vmem, ⟨16, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 2], ![false, false, false]⟩

def k0_cond2 (i : grid0.Coords) : BitVec 1 :=
  let arg2 : BitVec 32 := BitVec.ofNat 32 (i 2).val
  let c1_i32 : BitVec 32 := 1#32
  let v22 : BitVec 1 := Scalar.cmpi .eq arg2 c1_i32
  let v23 : BitVec 32 := Scalar.extui v22
  let c0_i32_17 : BitVec 32 := 0#32
  let v24 : BitVec 1 := Scalar.cmpi .ne v23 c0_i32_17
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DenseRefIdeal.lean ====
abbrev S2x8192x1024 : Shape := ⟨3, ![2, 8192, 1024]⟩
abbrev S1024 : Shape := ⟨1, ![1024]⟩
abbrev S2x1x6144 : Shape := ⟨3, ![2, 1, 6144]⟩
abbrev S1024x2816 : Shape := ⟨2, ![1024, 2816]⟩
abbrev S2816x1024 : Shape := ⟨2, ![2816, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S_, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Routed.lean ====
abbrev S2x8192x1024 : Shape := ⟨3, ![2, 8192, 1024]⟩
abbrev S1024 : Shape := ⟨1, ![1024]⟩
abbrev S2x1x6144 : Shape := ⟨3, ![2, 1, 6144]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩
abbrev S1024x128 : Shape := ⟨2, ![1024, 128]⟩
abbrev S1x1024 : Shape := ⟨2, ![1, 1024]⟩
abbrev S1x512x1024 : Shape := ⟨3, ![1, 512, 1024]⟩
abbrev S1x1x6144 : Shape := ⟨3, ![1, 1, 6144]⟩
abbrev S1x1024x1408 : Shape := ⟨3, ![1, 1024, 1408]⟩
abbrev S1x1408x1024 : Shape := ⟨3, ![1, 1408, 1024]⟩
abbrev S512x1024 : Shape := ⟨2, ![512, 1024]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 15
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x6144, .f32⟩
  | .hbm, ⟨3, _⟩ => ⟨S1024x8, .f32⟩
  | .hbm, ⟨4, _⟩ => ⟨S8x1024x1408, .f32⟩
  | .hbm, ⟨5, _⟩ => ⟨S8x1024x1408, .f32⟩
  | .hbm, ⟨6, _⟩ => ⟨S8x1408x1024, .f32⟩
  | .hbm, ⟨7, _⟩ => ⟨S8x1024x1408, .bf16⟩
  | .hbm, ⟨8, _⟩ => ⟨S8x1024x1408, .bf16⟩
  | .hbm, ⟨9, _⟩ => ⟨S8x1408x1024, .bf16⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1x1024, .f32⟩
  | .hbm, ⟨14, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x6144, .f32⟩
  | .local _ .vmem, ⟨4, _⟩ => ⟨S1x1x6144, .f32⟩
  | .local _ .vmem, ⟨5, _⟩ => ⟨S1024x128, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .f32⟩
  | .local _ .vmem, ⟨16, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 8], ![false, false, false]⟩

def k0_cond2 (i : grid0.Coords) : BitVec 1 :=
  let arg2 : BitVec 32 := BitVec.ofNat 32 (i 2).val
  let c7_i32 : BitVec 32 := 7#32
  let v32 : BitVec 1 := Scalar.cmpi .eq arg2 c7_i32
  let v33 : BitVec 32 := Scalar.extui v32
  let c0_i32_21 : BitVec 32 := 0#32
  let v34 : BitVec 1 := Scalar.cmpi .ne v33 c0_i32_21
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== RoutedRefIdeal.lean ====
abbrev S2x8192x1024 : Shape := ⟨3, ![2, 8192, 1024]⟩
abbrev S1024 : Shape := ⟨1, ![1024]⟩
abbrev S2x1x6144 : Shape := ⟨3, ![2, 1, 6144]⟩
abbrev S1024x8 : Shape := ⟨2, ![1024, 8]⟩
abbrev S8x1024x1408 : Shape := ⟨3, ![8, 1024, 1408]⟩
abbrev S8x1408x1024 : Shape := ⟨3, ![8, 1408, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩
abbrev S16384x8 : Shape := ⟨2, ![16384, 8]⟩
abbrev S16384x2 : Shape := ⟨2, ![16384, 2]⟩
abbrev S16384 : Shape := ⟨1, ![16384]⟩
abbrev S16384x1 : Shape := ⟨2, ![16384, 1]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S16384x1408 : Shape := ⟨2, ![16384, 1408]⟩

abbrev nBuf : Space → Nat
  | .hbm => 255
  | .vmem => 0
  | .smem => 0
  | _ => 0

abbrev hbmTy0_0 (i : Nat) : BufTy := match i % 128 with
  | 0 => ⟨S2x8192x1024, .f32⟩
  | 1 => ⟨S1024, .f32⟩
  | 2 => ⟨S2x1x6144, .f32⟩
  | 3 => ⟨S1024x8, .f32⟩
  | 4 => ⟨S8x1024x1408, .f32⟩
  | 5 => ⟨S8x1024x1408, .f32⟩
  | 6 => ⟨S8x1408x1024, .f32⟩
  | 7 => ⟨S2x1x1024, .f32⟩
  | 8 => ⟨S2x1x1024, .f32⟩
  | 9 => ⟨S2x1x1024, .f32⟩
  | 10 => ⟨S2x1x1024, .f32⟩
  | 11 => ⟨S2x1x1024, .f32⟩
  | 12 => ⟨S2x1x1024, .f32⟩
  | 13 => ⟨S2x8192x1024, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S_, .f32⟩
  | 21 => ⟨S2x8192x1, .f32⟩
  | 22 => ⟨S2x8192x1, .f32⟩
  | 23 => ⟨S2x8192x1, .f32⟩
  | 24 => ⟨S2x8192x1024, .f32⟩
  | 25 => ⟨S2x8192x1024, .f32⟩
  | 26 => ⟨S1x1x1024, .f32⟩
  | 27 => ⟨S2x8192x1024, .f32⟩
  | 28 => ⟨S2x8192x1024, .f32⟩
  | 29 => ⟨S_, .f32⟩
  | 30 => ⟨S2x1x1024, .f32⟩
  | 31 => ⟨S2x1x1024, .f32⟩
  | 32 => ⟨S2x8192x1024, .f32⟩
  | 33 => ⟨S2x8192x1024, .f32⟩
  | 34 => ⟨S2x8192x1024, .f32⟩
  | 35 => ⟨S2x8192x1024, .f32⟩
  | 36 => ⟨S16384x1024, .f32⟩
  | 37 => ⟨S16384x8, .f32⟩
  | 38 => ⟨S16384x2, .f32⟩
  | 39 => ⟨S16384x2, .i32⟩
  | 40 => ⟨S_, .f32⟩
  | 41 => ⟨S16384, .f32⟩
  | 42 => ⟨S_, .f32⟩
  | 43 => ⟨S16384, .f32⟩
  | 44 => ⟨S16384, .f32⟩
  | 45 => ⟨S16384x1, .f32⟩
  | 46 => ⟨S16384x2, .f32⟩
  | 47 => ⟨S16384x2, .f32⟩
  | 48 => ⟨S16384x2, .f32⟩
  | 49 => ⟨S_, .f32⟩
  | 50 => ⟨S16384, .f32⟩
  | 51 => ⟨S16384x1, .f32⟩
  | 52 => ⟨S16384x2, .f32⟩
  | 53 => ⟨S16384x2, .f32⟩
  | 54 => ⟨S16384x2x1, .i32⟩
  | 55 => ⟨S1x1x8, .i32⟩
  | 56 => ⟨S16384x2x8, .i32⟩
  | 57 => ⟨S16384x2x8, .i32⟩
  | 58 => ⟨S16384x2x8, .i1⟩
  | 59 => ⟨S16384x2x8, .f32⟩
  | 60 => ⟨S16384x2x1, .f32⟩
  | 61 => ⟨S16384x2x8, .f32⟩
  | 62 => ⟨S16384x2x8, .f32⟩
  | 63 => ⟨S_, .f32⟩
  | 64 => ⟨S16384x8, .f32⟩
  | 65 => ⟨S_, .f32⟩
  | 66 => ⟨S16384x1024, .f32⟩
  | 67 => ⟨S16384x1, .f32⟩
  | 68 => ⟨S1x1024x1408, .f32⟩
  | 69 => ⟨S1024x1408, .f32⟩
  | 70 => ⟨S1x1024x1408, .f32⟩
  | 71 => ⟨S1024x1408, .f32⟩
  | 72 => ⟨S1x1408x1024, .f32⟩
  | 73 => ⟨S1408x1024, .f32⟩
  | 74 => ⟨S16384x1408, .f32⟩
  | 75 => ⟨S16384x1408, .f32⟩
  | 76 => ⟨S16384x1408, .f32⟩
  | 77 => ⟨S_, .f32⟩
  | 78 => ⟨S16384x1408, .f32⟩
  | 79 => ⟨S16384x1408, .f32⟩
  | 80 => ⟨S_, .f32⟩
  | 81 => ⟨S16384x1408, .f32⟩
  | 82 => ⟨S16384x1408, .f32⟩
  | 83 => ⟨S16384x1408, .f32⟩
  | 84 => ⟨S16384x1408, .f32⟩
  | 85 => ⟨S16384x1408, .f32⟩
  | 86 => ⟨S16384x1024, .f32⟩
  | 87 => ⟨S16384x1024, .f32⟩
  | 88 => ⟨S16384x1024, .f32⟩
  | 89 => ⟨S16384x1024, .f32⟩
  | 90 => ⟨S16384x1, .f32⟩
  | 91 => ⟨S1x1024x1408, .f32⟩
  | 92 => ⟨S1024x1408, .f32⟩
  | 93 => ⟨S1x1024x1408, .f32⟩
  | 94 => ⟨S1024x1408, .f32⟩
  | 95 => ⟨S1x1408x1024, .f32⟩
  | 96 => ⟨S1408x1024, .f32⟩
  | 97 => ⟨S16384x1408, .f32⟩
  | 98 => ⟨S16384x1408, .f32⟩
  | 99 => ⟨S16384x1408, .f32⟩
  | 100 => ⟨S_, .f32⟩
  | 101 => ⟨S16384x1408, .f32⟩
  | 102 => ⟨S16384x1408, .f32⟩
  | 103 => ⟨S_, .f32⟩
  | 104 => ⟨S16384x1408, .f32⟩
  | 105 => ⟨S16384x1408, .f32⟩
  | 106 => ⟨S16384x1408, .f32⟩
  | 107 => ⟨S16384x1408, .f32⟩
  | 108 => ⟨S16384x1408, .f32⟩
  | 109 => ⟨S16384x1024, .f32⟩
  | 110 => ⟨S16384x1024, .f32⟩
  | 111 => ⟨S16384x1024, .f32⟩
  | 112 => ⟨S16384x1024, .f32⟩
  | 113 => ⟨S16384x1, .f32⟩
  | 114 => ⟨S1x1024x1408, .f32⟩
  | 115 => ⟨S1024x1408, .f32⟩
  | 116 => ⟨S1x1024x1408, .f32⟩
  | 117 => ⟨S1024x1408, .f32⟩
  | 118 => ⟨S1x1408x1024, .f32⟩
  | 119 => ⟨S1408x1024, .f32⟩
  | 120 => ⟨S16384x1408, .f32⟩
  | 121 => ⟨S16384x1408, .f32⟩
  | 122 => ⟨S16384x1408, .f32⟩
  | 123 => ⟨S_, .f32⟩
  | 124 => ⟨S16384x1408, .f32⟩
  | 125 => ⟨S16384x1408, .f32⟩
  | 126 => ⟨S_, .f32⟩
  | 127 => ⟨S16384x1408, .f32⟩
  | _ => ⟨S2x8192x1024, .f32⟩

abbrev hbmTy0_1 (i : Nat) : BufTy := match i % 128 with
  | 0 => ⟨S16384x1408, .f32⟩
  | 1 => ⟨S16384x1408, .f32⟩
  | 2 => ⟨S16384x1408, .f32⟩
  | 3 => ⟨S16384x1408, .f32⟩
  | 4 => ⟨S16384x1024, .f32⟩
  | 5 => ⟨S16384x1024, .f32⟩
  | 6 => ⟨S16384x1024, .f32⟩
  | 7 => ⟨S16384x1024, .f32⟩
  | 8 => ⟨S16384x1, .f32⟩
  | 9 => ⟨S1x1024x1408, .f32⟩
  | 10 => ⟨S1024x1408, .f32⟩
  | 11 => ⟨S1x1024x1408, .f32⟩
  | 12 => ⟨S1024x1408, .f32⟩
  | 13 => ⟨S1x1408x1024, .f32⟩
  | 14 => ⟨S1408x1024, .f32⟩
  | 15 => ⟨S16384x1408, .f32⟩
  | 16 => ⟨S16384x1408, .f32⟩
  | 17 => ⟨S16384x1408, .f32⟩
  | 18 => ⟨S_, .f32⟩
  | 19 => ⟨S16384x1408, .f32⟩
  | 20 => ⟨S16384x1408, .f32⟩
  | 21 => ⟨S_, .f32⟩
  | 22 => ⟨S16384x1408, .f32⟩
  | 23 => ⟨S16384x1408, .f32⟩
  | 24 => ⟨S16384x1408, .f32⟩
  | 25 => ⟨S16384x1408, .f32⟩
  | 26 => ⟨S16384x1408, .f32⟩
  | 27 => ⟨S16384x1024, .f32⟩
  | 28 => ⟨S16384x1024, .f32⟩
  | 29 => ⟨S16384x1024, .f32⟩
  | 30 => ⟨S16384x1024, .f32⟩
  | 31 => ⟨S16384x1, .f32⟩
  | 32 => ⟨S1x1024x1408, .f32⟩
  | 33 => ⟨S1024x1408, .f32⟩
  | 34 => ⟨S1x1024x1408, .f32⟩
  | 35 => ⟨S1024x1408, .f32⟩
  | 36 => ⟨S1x1408x1024, .f32⟩
  | 37 => ⟨S1408x1024, .f32⟩
  | 38 => ⟨S16384x1408, .f32⟩
  | 39 => ⟨S16384x1408, .f32⟩
  | 40 => ⟨S16384x1408, .f32⟩
  | 41 => ⟨S_, .f32⟩
  | 42 => ⟨S16384x1408, .f32⟩
  | 43 => ⟨S16384x1408, .f32⟩
  | 44 => ⟨S_, .f32⟩
  | 45 => ⟨S16384x1408, .f32⟩
  | 46 => ⟨S16384x1408, .f32⟩
  | 47 => ⟨S16384x1408, .f32⟩
  | 48 => ⟨S16384x1408, .f32⟩
  | 49 => ⟨S16384x1408, .f32⟩
  | 50 => ⟨S16384x1024, .f32⟩
  | 51 => ⟨S16384x1024, .f32⟩
  | 52 => ⟨S16384x1024, .f32⟩
  | 53 => ⟨S16384x1024, .f32⟩
  | 54 => ⟨S16384x1, .f32⟩
  | 55 => ⟨S1x1024x1408, .f32⟩
  | 56 => ⟨S1024x1408, .f32⟩
  | 57 => ⟨S1x1024x1408, .f32⟩
  | 58 => ⟨S1024x1408, .f32⟩
  | 59 => ⟨S1x1408x1024, .f32⟩
  | 60 => ⟨S1408x1024, .f32⟩
  | 61 => ⟨S16384x1408, .f32⟩
  | 62 => ⟨S16384x1408, .f32⟩
  | 63 => ⟨S16384x1408, .f32⟩
  | 64 => ⟨S_, .f32⟩
  | 65 => ⟨S16384x1408, .f32⟩
  | 66 => ⟨S16384x1408, .f32⟩
  | 67 => ⟨S_, .f32⟩
  | 68 => ⟨S16384x1408, .f32⟩
  | 69 => ⟨S16384x1408, .f32⟩
  | 70 => ⟨S16384x1408, .f32⟩
  | 71 => ⟨S16384x1408, .f32⟩
  | 72 => ⟨S16384x1408, .f32⟩
  | 73 => ⟨S16384x1024, .f32⟩
  | 74 => ⟨S16384x1024, .f32⟩
  | 75 => ⟨S16384x1024, .f32⟩
  | 76 => ⟨S16384x1024, .f32⟩
  | 77 => ⟨S16384x1, .f32⟩
  | 78 => ⟨S1x1024x1408, .f32⟩
  | 79 => ⟨S1024x1408, .f32⟩
  | 80 => ⟨S1x1024x1408, .f32⟩
  | 81 => ⟨S1024x1408, .f32⟩
  | 82 => ⟨S1x1408x1024, .f32⟩
  | 83 => ⟨S1408x1024, .f32⟩
  | 84 => ⟨S16384x1408, .f32⟩
  | 85 => ⟨S16384x1408, .f32⟩
  | 86 => ⟨S16384x1408, .f32⟩
  | 87 => ⟨S_, .f32⟩
  | 88 => ⟨S16384x1408, .f32⟩
  | 89 => ⟨S16384x1408, .f32⟩
  | 90 => ⟨S_, .f32⟩
  | 91 => ⟨S16384x1408, .f32⟩
  | 92 => ⟨S16384x1408, .f32⟩
  | 93 => ⟨S16384x1408, .f32⟩
  | 94 => ⟨S16384x1408, .f32⟩
  | 95 => ⟨S16384x1408, .f32⟩
  | 96 => ⟨S16384x1024, .f32⟩
  | 97 => ⟨S16384x1024, .f32⟩
  | 98 => ⟨S16384x1024, .f32⟩
  | 99 => ⟨S16384x1024, .f32⟩
  | 100 => ⟨S16384x1, .f32⟩
  | 101 => ⟨S1x1024x1408, .f32⟩
  | 102 => ⟨S1024x1408, .f32⟩
  | 103 => ⟨S1x1024x1408, .f32⟩
  | 104 => ⟨S1024x1408, .f32⟩
  | 105 => ⟨S1x1408x1024, .f32⟩
  | 106 => ⟨S1408x1024, .f32⟩
  | 107 => ⟨S16384x1408, .f32⟩
  | 108 => ⟨S16384x1408, .f32⟩
  | 109 => ⟨S16384x1408, .f32⟩
  | 110 => ⟨S_, .f32⟩
  | 111 => ⟨S16384x1408, .f32⟩
  | 112 => ⟨S16384x1408, .f32⟩
  | 113 => ⟨S_, .f32⟩
  | 114 => ⟨S16384x1408, .f32⟩
  | 115 => ⟨S16384x1408, .f32⟩
  | 116 => ⟨S16384x1408, .f32⟩
  | 117 => ⟨S16384x1408, .f32⟩
  | 118 => ⟨S16384x1408, .f32⟩
  | 119 => ⟨S16384x1024, .f32⟩
  | 120 => ⟨S16384x1024, .f32⟩
  | 121 => ⟨S16384x1024, .f32⟩
  | 122 => ⟨S16384x1024, .f32⟩
  | 123 => ⟨S2x8192x1024, .f32⟩
  | 124 => ⟨S2x8192x1024, .f32⟩
  | 125 => ⟨S2x8192x1024, .f32⟩
  | 126 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_values : Ref sig .tc := ⟨.hbm, 38, rfl⟩
abbrev main_indices : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call3_v0 : Ref sig .tc := ⟨.hbm, 121, rfl⟩
abbrev main_call3_v1 : Ref sig .tc := ⟨.hbm, 122, rfl⟩
abbrev main_call3_cst : Ref sig .tc := ⟨.hbm, 123, rfl⟩
abbrev main_call3_v2 : Ref sig .tc := ⟨.hbm, 124, rfl⟩
abbrev main_call3_v3 : Ref sig .tc := ⟨.hbm, 125, rfl⟩
abbrev main_call3_cst_0 : Ref sig .tc := ⟨.hbm, 126, rfl⟩
abbrev main_call3_v4 : Ref sig .tc := ⟨.hbm, 127, rfl⟩
abbrev main_call3_v5 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_call4_v0 : Ref sig .tc := ⟨.hbm, 144, rfl⟩
abbrev main_call4_v1 : Ref sig .tc := ⟨.hbm, 145, rfl⟩
abbrev main_call4_cst : Ref sig .tc := ⟨.hbm, 146, rfl⟩
abbrev main_call4_v2 : Ref sig .tc := ⟨.hbm, 147, rfl⟩
abbrev main_call4_v3 : Ref sig .tc := ⟨.hbm, 148, rfl⟩
abbrev main_call4_cst_0 : Ref sig .tc := ⟨.hbm, 149, rfl⟩
abbrev main_call4_v4 : Ref sig .tc := ⟨.hbm, 150, rfl⟩
abbrev main_call4_v5 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_call5_v0 : Ref sig .tc := ⟨.hbm, 167, rfl⟩
abbrev main_call5_v1 : Ref sig .tc := ⟨.hbm, 168, rfl⟩
abbrev main_call5_cst : Ref sig .tc := ⟨.hbm, 169, rfl⟩
abbrev main_call5_v2 : Ref sig .tc := ⟨.hbm, 170, rfl⟩
abbrev main_call5_v3 : Ref sig .tc := ⟨.hbm, 171, rfl⟩
abbrev main_call5_cst_0 : Ref sig .tc := ⟨.hbm, 172, rfl⟩
abbrev main_call5_v4 : Ref sig .tc := ⟨.hbm, 173, rfl⟩
abbrev main_call5_v5 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_call6_v0 : Ref sig .tc := ⟨.hbm, 190, rfl⟩
abbrev main_call6_v1 : Ref sig .tc := ⟨.hbm, 191, rfl⟩
abbrev main_call6_cst : Ref sig .tc := ⟨.hbm, 192, rfl⟩
abbrev main_call6_v2 : Ref sig .tc := ⟨.hbm, 193, rfl⟩
abbrev main_call6_v3 : Ref sig .tc := ⟨.hbm, 194, rfl⟩
abbrev main_call6_cst_0 : Ref sig .tc := ⟨.hbm, 195, rfl⟩
abbrev main_call6_v4 : Ref sig .tc := ⟨.hbm, 196, rfl⟩
abbrev main_call6_v5 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_call7_v0 : Ref sig .tc := ⟨.hbm, 213, rfl⟩
abbrev main_call7_v1 : Ref sig .tc := ⟨.hbm, 214, rfl⟩
abbrev main_call7_cst : Ref sig .tc := ⟨.hbm, 215, rfl⟩
abbrev main_call7_v2 : Ref sig .tc := ⟨.hbm, 216, rfl⟩
abbrev main_call7_v3 : Ref sig .tc := ⟨.hbm, 217, rfl⟩
abbrev main_call7_cst_0 : Ref sig .tc := ⟨.hbm, 218, rfl⟩
abbrev main_call7_v4 : Ref sig .tc := ⟨.hbm, 219, rfl⟩
abbrev main_call7_v5 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_call8_v0 : Ref sig .tc := ⟨.hbm, 236, rfl⟩
abbrev main_call8_v1 : Ref sig .tc := ⟨.hbm, 237, rfl⟩
abbrev main_call8_cst : Ref sig .tc := ⟨.hbm, 238, rfl⟩
abbrev main_call8_v2 : Ref sig .tc := ⟨.hbm, 239, rfl⟩
abbrev main_call8_v3 : Ref sig .tc := ⟨.hbm, 240, rfl⟩
abbrev main_call8_cst_0 : Ref sig .tc := ⟨.hbm, 241, rfl⟩
abbrev main_call8_v4 : Ref sig .tc := ⟨.hbm, 242, rfl⟩
abbrev main_call8_v5 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩

abbrev nD : Nat := 1
abbrev τ : Topo := Topo.v7x

variable {F : FTy → Type} [FloatOps F]
-- ==== ProjIn.lean ====
abbrev S2x8192x1024 : Shape := ⟨3, ![2, 8192, 1024]⟩
abbrev S1024 : Shape := ⟨1, ![1024]⟩
abbrev S2x1x6144 : Shape := ⟨3, ![2, 1, 6144]⟩
abbrev S1024x3624 : Shape := ⟨2, ![1024, 3624]⟩
abbrev S_ : Shape := ⟨0, ![]⟩
abbrev S1024x3712 : Shape := ⟨2, ![1024, 3712]⟩
abbrev S1x1024 : Shape := ⟨2, ![1, 1024]⟩
abbrev S2x8192x1792 : Shape := ⟨3, ![2, 8192, 1792]⟩
abbrev S2x8192x1536 : Shape := ⟨3, ![2, 8192, 1536]⟩
abbrev S2x8192x384 : Shape := ⟨3, ![2, 8192, 384]⟩
abbrev S1x256x1024 : Shape := ⟨3, ![1, 256, 1024]⟩
abbrev S1x1x6144 : Shape := ⟨3, ![1, 1, 6144]⟩
abbrev S1x256x1792 : Shape := ⟨3, ![1, 256, 1792]⟩
abbrev S1x256x1536 : Shape := ⟨3, ![1, 256, 1536]⟩
abbrev S1x256x384 : Shape := ⟨3, ![1, 256, 384]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x3712 : Shape := ⟨2, ![256, 3712]⟩
abbrev S256x1792 : Shape := ⟨2, ![256, 1792]⟩
abbrev S256x1536 : Shape := ⟨2, ![256, 1536]⟩
abbrev S256x384 : Shape := ⟨2, ![256, 384]⟩

abbrev nBuf : Space → Nat
  | .hbm => 12
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x6144, .f32⟩
  | .hbm, ⟨3, _⟩ => ⟨S1024x3624, .f32⟩
  | .hbm, ⟨4, _⟩ => ⟨S_, .i32⟩
  | .hbm, ⟨5, _⟩ => ⟨S_, .f32⟩
  | .hbm, ⟨6, _⟩ => ⟨S1024x3712, .f32⟩
  | .hbm, ⟨7, _⟩ => ⟨S1024x3712, .bf16⟩
  | .hbm, ⟨8, _⟩ => ⟨S1x1024, .f32⟩
  | .hbm, ⟨9, _⟩ => ⟨S2x8192x1792, .f32⟩
  | .hbm, ⟨10, _⟩ => ⟨S2x8192x1536, .f32⟩
  | .hbm, ⟨11, _⟩ => ⟨S2x8192x384, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x6144, .f32⟩
  | .local _ .vmem, ⟨4, _⟩ => ⟨S1x1x6144, .f32⟩
  | .local _ .vmem, ⟨5, _⟩ => ⟨S1024x3712, .bf16⟩
  | .local _ .vmem, ⟨6, _⟩ => ⟨S1x256x1792, .f32⟩
  | .local _ .vmem, ⟨7, _⟩ => ⟨S1x256x1792, .f32⟩
  | .local _ .vmem, ⟨8, _⟩ => ⟨S1x256x1536, .f32⟩
  | .local _ .vmem, ⟨9, _⟩ => ⟨S1x256x1536, .f32⟩
  | .local _ .vmem, ⟨10, _⟩ => ⟨S1x256x384, .f32⟩
  | .local _ .vmem, ⟨11, _⟩ => ⟨S1x256x384, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjInRefIdeal.lean ====
abbrev S2x8192x1024 : Shape := ⟨3, ![2, 8192, 1024]⟩
abbrev S1024 : Shape := ⟨1, ![1024]⟩
abbrev S2x1x6144 : Shape := ⟨3, ![2, 1, 6144]⟩
abbrev S1024x3624 : Shape := ⟨2, ![1024, 3624]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3624 : Shape := ⟨3, ![2, 8192, 3624]⟩
abbrev S2x8192x1792 : Shape := ⟨3, ![2, 8192, 1792]⟩
abbrev S2x8192x1536 : Shape := ⟨3, ![2, 8192, 1536]⟩
abbrev S2x8192x296 : Shape := ⟨3, ![2, 8192, 296]⟩
abbrev S2x8192x384 : Shape := ⟨3, ![2, 8192, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x6144, .f32⟩
  | .hbm, ⟨3, _⟩ => ⟨S1024x3624, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x3624, .f32⟩
  | .hbm, ⟨34, _⟩ => ⟨S2x8192x1792, .f32⟩
  | .hbm, ⟨35, _⟩ => ⟨S2x8192x1536, .f32⟩
  | .hbm, ⟨36, _⟩ => ⟨S2x8192x296, .f32⟩
  | .hbm, ⟨37, _⟩ => ⟨S_, .i32⟩
  | .hbm, ⟨38, _⟩ => ⟨S_, .f32⟩
  | .hbm, ⟨39, _⟩ => ⟨S2x8192x384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_call0_v0 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Ada.lean ====
abbrev S2x1024 : Shape := ⟨2, ![2, 1024]⟩
abbrev S128x1024 : Shape := ⟨2, ![128, 1024]⟩
abbrev S4x1024x6144 : Shape := ⟨3, ![4, 1024, 6144]⟩
abbrev S4x6144 : Shape := ⟨2, ![4, 6144]⟩
abbrev S130x1024 : Shape := ⟨2, ![130, 1024]⟩
abbrev S_ : Shape := ⟨0, ![]⟩
abbrev S136x1024 : Shape := ⟨2, ![136, 1024]⟩
abbrev S4x1x6144 : Shape := ⟨3, ![4, 1, 6144]⟩
abbrev S4x136x6144 : Shape := ⟨3, ![4, 136, 6144]⟩
abbrev S1x1024x1536 : Shape := ⟨3, ![1, 1024, 1536]⟩
abbrev S1x1x1536 : Shape := ⟨3, ![1, 1, 1536]⟩
abbrev S1x136x1536 : Shape := ⟨3, ![1, 136, 1536]⟩
abbrev S1024x1536 : Shape := ⟨2, ![1024, 1536]⟩
abbrev S136x1536 : Shape := ⟨2, ![136, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S128x1024, .f32⟩
  | .hbm, ⟨2, _⟩ => ⟨S4x1024x6144, .f32⟩
  | .hbm, ⟨3, _⟩ => ⟨S4x6144, .f32⟩
  | .hbm, ⟨4, _⟩ => ⟨S130x1024, .f32⟩
  | .hbm, ⟨5, _⟩ => ⟨S_, .i32⟩
  | .hbm, ⟨6, _⟩ => ⟨S_, .f32⟩
  | .hbm, ⟨7, _⟩ => ⟨S136x1024, .f32⟩
  | .hbm, ⟨8, _⟩ => ⟨S4x1x6144, .f32⟩
  | .hbm, ⟨9, _⟩ => ⟨S4x136x6144, .f32⟩
  | .local _ .vmem, ⟨0, _⟩ => ⟨S136x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x136x1536, .f32⟩
  | .local _ .vmem, ⟨6, _⟩ => ⟨S1x136x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x1024 : Shape := ⟨2, ![2, 1024]⟩
abbrev S128x1024 : Shape := ⟨2, ![128, 1024]⟩
abbrev S4x1024x6144 : Shape := ⟨3, ![4, 1024, 6144]⟩
abbrev S4x6144 : Shape := ⟨2, ![4, 6144]⟩
abbrev S_ : Shape := ⟨0, ![]⟩
abbrev S6x1024 : Shape := ⟨2, ![6, 1024]⟩
abbrev S136x1024 : Shape := ⟨2, ![136, 1024]⟩
abbrev S4x6144x136 : Shape := ⟨3, ![4, 6144, 136]⟩
abbrev S4x136x6144 : Shape := ⟨3, ![4, 136, 6144]⟩
abbrev S4x1x6144 : Shape := ⟨3, ![4, 1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S128x1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S6x1024, .f32⟩
  | .hbm, ⟨6, _⟩ => ⟨S136x1024, .f32⟩
  | .hbm, ⟨7, _⟩ => ⟨S136x1024, .f32⟩
  | .hbm, ⟨8, _⟩ => ⟨S136x1024, .f32⟩
  | .hbm, ⟨9, _⟩ => ⟨S_, .f32⟩
  | .hbm, ⟨10, _⟩ => ⟨S136x1024, .f32⟩
  | .hbm, ⟨11, _⟩ => ⟨S136x1024, .f32⟩
  | .hbm, ⟨12, _⟩ => ⟨S_, .f32⟩
  | .hbm, ⟨13, _⟩ => ⟨S136x1024, .f32⟩
  | .hbm, ⟨14, _⟩ => ⟨S136x1024, .f32⟩
  | .hbm, ⟨15, _⟩ => ⟨S136x1024, .f32⟩
  | .hbm, ⟨16, _⟩ => ⟨S4x6144x136, .f32⟩
  | .hbm, ⟨17, _⟩ => ⟨S4x136x6144, .f32⟩
  | .hbm, ⟨18, _⟩ => ⟨S4x1x6144, .f32⟩
  | .hbm, ⟨19, _⟩ => ⟨S4x136x6144, .f32⟩
  | .hbm, ⟨20, _⟩ => ⟨S4x136x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== ProjOut.lean ====
abbrev S2x8192x1024 : Shape := ⟨3, ![2, 8192, 1024]⟩
abbrev S2x8192x512 : Shape := ⟨3, ![2, 8192, 512]⟩
abbrev S512 : Shape := ⟨1, ![512]⟩
abbrev S2x1x6144 : Shape := ⟨3, ![2, 1, 6144]⟩
abbrev S1024x1024 : Shape := ⟨2, ![1024, 1024]⟩
abbrev S1x512 : Shape := ⟨2, ![1, 512]⟩
abbrev S2x512 : Shape := ⟨2, ![2, 512]⟩
abbrev S1x256x1024 : Shape := ⟨3, ![1, 256, 1024]⟩
abbrev S1x256x512 : Shape := ⟨3, ![1, 256, 512]⟩
abbrev S1x1x6144 : Shape := ⟨3, ![1, 1, 6144]⟩
abbrev S256x512 : Shape := ⟨2, ![256, 512]⟩
abbrev S512x512 : Shape := ⟨2, ![512, 512]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 14
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S512, .f32⟩
  | .hbm, ⟨6, _⟩ => ⟨S512, .f32⟩
  | .hbm, ⟨7, _⟩ => ⟨S2x1x6144, .f32⟩
  | .hbm, ⟨8, _⟩ => ⟨S1024x1024, .f32⟩
  | .hbm, ⟨9, _⟩ => ⟨S1x512, .f32⟩
  | .hbm, ⟨10, _⟩ => ⟨S1x512, .f32⟩
  | .hbm, ⟨11, _⟩ => ⟨S2x512, .f32⟩
  | .hbm, ⟨12, _⟩ => ⟨S1024x1024, .bf16⟩
  | .hbm, ⟨13, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S2x512, .f32⟩
  | .local _ .vmem, ⟨11, _⟩ => ⟨S1x1x6144, .f32⟩
  | .local _ .vmem, ⟨12, _⟩ => ⟨S1x1x6144, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjOutRefIdeal.lean ====
abbrev S2x8192x1024 : Shape := ⟨3, ![2, 8192, 1024]⟩
abbrev S2x8192x512 : Shape := ⟨3, ![2, 8192, 512]⟩
abbrev S512 : Shape := ⟨1, ![512]⟩
abbrev S2x1x6144 : Shape := ⟨3, ![2, 1, 6144]⟩
abbrev S1024x1024 : Shape := ⟨2, ![1024, 1024]⟩
abbrev S2x1x1024 : Shape := ⟨3, ![2, 1, 1024]⟩
abbrev S2x8192x8x64 : Shape := ⟨4, ![2, 8192, 8, 64]⟩
abbrev S_ : Shape := ⟨0, ![]⟩
abbrev S2x8192x8 : Shape := ⟨3, ![2, 8192, 8]⟩
abbrev S2x8192x8x1 : Shape := ⟨4, ![2, 8192, 8, 1]⟩
abbrev S1x1x512 : Shape := ⟨3, ![1, 1, 512]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S512, .f32⟩
  | .hbm, ⟨6, _⟩ => ⟨S512, .f32⟩
  | .hbm, ⟨7, _⟩ => ⟨S2x1x6144, .f32⟩
  | .hbm, ⟨8, _⟩ => ⟨S1024x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x8192x8x64, .f32⟩
  | .hbm, ⟨16, _⟩ => ⟨S_, .f32⟩
  | .hbm, ⟨17, _⟩ => ⟨S2x8192x8, .f32⟩
  | .hbm, ⟨18, _⟩ => ⟨S2x8192x8x1, .f32⟩
  | .hbm, ⟨19, _⟩ => ⟨S_, .f32⟩
  | .hbm, ⟨20, _⟩ => ⟨S2x8192x8x1, .f32⟩
  | .hbm, ⟨21, _⟩ => ⟨S2x8192x8x1, .f32⟩
  | .hbm, ⟨22, _⟩ => ⟨S2x8192x8x64, .f32⟩
  | .hbm, ⟨23, _⟩ => ⟨S2x8192x8x64, .f32⟩
  | .hbm, ⟨24, _⟩ => ⟨S2x8192x8x64, .f32⟩
  | .hbm, ⟨25, _⟩ => ⟨S_, .f32⟩
  | .hbm, ⟨26, _⟩ => ⟨S2x8192x8, .f32⟩
  | .hbm, ⟨27, _⟩ => ⟨S2x8192x8x1, .f32⟩
  | .hbm, ⟨28, _⟩ => ⟨S_, .f32⟩
  | .hbm, ⟨29, _⟩ => ⟨S2x8192x8x1, .f32⟩
  | .hbm, ⟨30, _⟩ => ⟨S2x8192x8x1, .f32⟩
  | .hbm, ⟨31, _⟩ => ⟨S2x8192x8x64, .f32⟩
  | .hbm, ⟨32, _⟩ => ⟨S2x8192x8x64, .f32⟩
  | .hbm, ⟨33, _⟩ => ⟨S_, .f32⟩
  | .hbm, ⟨34, _⟩ => ⟨S2x8192x8x1, .f32⟩
  | .hbm, ⟨35, _⟩ => ⟨S2x8192x8x1, .f32⟩
  | .hbm, ⟨36, _⟩ => ⟨S2x8192x8x1, .f32⟩
  | .hbm, ⟨37, _⟩ => ⟨S2x8192x8x64, .f32⟩
  | .hbm, ⟨38, _⟩ => ⟨S2x8192x8x64, .f32⟩
  | .hbm, ⟨39, _⟩ => ⟨S2x8192x512, .f32⟩
  | .hbm, ⟨40, _⟩ => ⟨S1x1x512, .f32⟩
  | .hbm, ⟨41, _⟩ => ⟨S2x8192x512, .f32⟩
  | .hbm, ⟨42, _⟩ => ⟨S2x8192x512, .f32⟩
  | .hbm, ⟨43, _⟩ => ⟨S1x1x512, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Time.lean ====
abbrev S2x8192x1792 : Shape := ⟨3, ![2, 8192, 1792]⟩
abbrev S2x1x1792 : Shape := ⟨3, ![2, 1, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S256x512 : Shape := ⟨2, ![256, 512]⟩
abbrev S1x512 : Shape := ⟨2, ![1, 512]⟩
abbrev S8x512 : Shape := ⟨2, ![8, 512]⟩
abbrev S1 : Shape := ⟨1, ![1]⟩
abbrev S1x1792 : Shape := ⟨2, ![1, 1792]⟩
abbrev S2x8192x512 : Shape := ⟨3, ![2, 8192, 512]⟩
abbrev S1x256x1792 : Shape := ⟨3, ![1, 256, 1792]⟩
abbrev S1x8x1792 : Shape := ⟨3, ![1, 8, 1792]⟩
abbrev S1x1x1792 : Shape := ⟨3, ![1, 1, 1792]⟩
abbrev S1x256x512 : Shape := ⟨3, ![1, 256, 512]⟩
abbrev S256x1792 : Shape := ⟨2, ![256, 1792]⟩
abbrev S256x256 : Shape := ⟨2, ![256, 256]⟩
abbrev S512x512 : Shape := ⟨2, ![512, 512]⟩

abbrev nBuf : Space → Nat
  | .hbm => 43
  | .vmem => 27
  | .smem => 0
  | _ => 0

abbrev bufTy : (tb : Table) → Fin (tcTables nBuf tb) → BufTy
  | .hbm, ⟨0, _⟩ => ⟨S2x8192x1792, .f32⟩
  | .hbm, ⟨1, _⟩ => ⟨S2x1x1792, .f32⟩
  | .hbm, ⟨2, _⟩ => ⟨S1792, .f32⟩
  | .hbm, ⟨3, _⟩ => ⟨S512, .f32⟩
  | .hbm, ⟨4, _⟩ => ⟨S64x512, .f32⟩
  | .hbm, ⟨5, _⟩ => ⟨S512, .f32⟩
  | .hbm, ⟨6, _⟩ => ⟨S64x512, .f32⟩
  | .hbm, ⟨7, _⟩ => ⟨S128x512, .f32⟩
  | .hbm, ⟨8, _⟩ => ⟨S512, .f32⟩
  | .hbm, ⟨9, _⟩ => ⟨S512, .f32⟩
  | .hbm, ⟨10, _⟩ => ⟨S8x64, .f32⟩
  | .hbm, ⟨11, _⟩ => ⟨S_, .f32⟩
  | .hbm, ⟨12, _⟩ => ⟨S256x512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S8x512, .f32⟩
  | .hbm, ⟨25, _⟩ => ⟨S_, .i32⟩
  | .hbm, ⟨26, _⟩ => ⟨S1, .i32⟩
  | .hbm, ⟨27, _⟩ => ⟨S256x512, .f32⟩
  | .hbm, ⟨28, _⟩ => ⟨S_, .i32⟩
  | .hbm, ⟨29, _⟩ => ⟨S1, .i32⟩
  | .hbm, ⟨30, _⟩ => ⟨S256x512, .f32⟩
  | .hbm, ⟨31, _⟩ => ⟨S_, .i32⟩
  | .hbm, ⟨32, _⟩ => ⟨S1, .i32⟩
  | .hbm, ⟨33, _⟩ => ⟨S256x512, .f32⟩
  | .hbm, ⟨34, _⟩ => ⟨S1x1792, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S2x8192x512, .f32⟩
  | .hbm, ⟨41, _⟩ => ⟨S2x8192x512, .f32⟩
  | .hbm, ⟨42, _⟩ => ⟨S2x8192x512, .f32⟩
  | .local _ .vmem, ⟨0, _⟩ => ⟨S1x256x1792, .f32⟩
  | .local _ .vmem, ⟨1, _⟩ => ⟨S1x256x1792, .f32⟩
  | .local _ .vmem, ⟨2, _⟩ => ⟨S1x8x1792, .f32⟩
  | .local _ .vmem, ⟨3, _⟩ => ⟨S1x8x1792, .f32⟩
  | .local _ .vmem, ⟨4, _⟩ => ⟨S1x1x1792, .f32⟩
  | .local _ .vmem, ⟨5, _⟩ => ⟨S1x1x1792, .f32⟩
  | .local _ .vmem, ⟨6, _⟩ => ⟨S1x1792, .f32⟩
  | .local _ .vmem, ⟨7, _⟩ => ⟨S8x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | _, _ => ⟨S2x8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v19_3 : Ref sig .tc := ⟨.hbm, 38, rfl⟩
abbrev main_v19_4 : Ref sig .tc := ⟨.hbm, 39, rfl⟩
abbrev main_v19_5 : Ref sig .tc := ⟨.hbm, 40, rfl⟩
abbrev main_v19_6 : Ref sig .tc := ⟨.hbm, 41, rfl⟩
abbrev main_v19_7 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== TimeRefIdeal.lean ====
abbrev S2x8192x1792 : Shape := ⟨3, ![2, 8192, 1792]⟩
abbrev S2x1x1792 : Shape := ⟨3, ![2, 1, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S2x8191x1792 : Shape := ⟨3, ![2, 8191, 1792]⟩
abbrev S1x1x1792 : Shape := ⟨3, ![1, 1, 1792]⟩
abbrev S2x8192x512 : Shape := ⟨3, ![2, 8192, 512]⟩
abbrev S2x8192x64 : Shape := ⟨3, ![2, 8192, 64]⟩
abbrev S2x8192x128 : Shape := ⟨3, ![2, 8192, 128]⟩
abbrev S1x1x512 : Shape := ⟨3, ![1, 1, 512]⟩
abbrev S_ : Shape := ⟨0, ![]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x8x64 : Shape := ⟨4, ![1, 1, 8, 64]⟩

abbrev nBuf : Space → Nat
  | .hbm => 113
  | .vmem => 0
  | .smem => 0
  | _ => 0

abbrev bufTy : (tb : Table) → Fin (tcTables nBuf tb) → BufTy
  | .hbm, ⟨0, _⟩ => ⟨S2x8192x1792, .f32⟩
  | .hbm, ⟨1, _⟩ => ⟨S2x1x1792, .f32⟩
  | .hbm, ⟨2, _⟩ => ⟨S1792, .f32⟩
  | .hbm, ⟨3, _⟩ => ⟨S512, .f32⟩
  | .hbm, ⟨4, _⟩ => ⟨S64x512, .f32⟩
  | .hbm, ⟨5, _⟩ => ⟨S512, .f32⟩
  | .hbm, ⟨6, _⟩ => ⟨S64x512, .f32⟩
  | .hbm, ⟨7, _⟩ => ⟨S128x512, .f32⟩
  | .hbm, ⟨8, _⟩ => ⟨S512, .f32⟩
  | .hbm, ⟨9, _⟩ => ⟨S512, .f32⟩
  | .hbm, ⟨10, _⟩ => ⟨S8x64, .f32⟩
  | .hbm, ⟨11, _⟩ => ⟨S2x8191x1792, .f32⟩
  | .hbm, ⟨12, _⟩ => ⟨S2x8192x1792, .f32⟩
  | .hbm, ⟨13, _⟩ => ⟨S2x8192x1792, .f32⟩
  | .hbm, ⟨14, _⟩ => ⟨S1x1x1792, .f32⟩
  | .hbm, ⟨15, _⟩ => ⟨S2x8192x1792, .f32⟩
  | .hbm, ⟨16, _⟩ => ⟨S2x8192x1792, .f32⟩
  | .hbm, ⟨17, _⟩ => ⟨S2x8192x1792, .f32⟩
  | .hbm, ⟨18, _⟩ => ⟨S2x8192x512, .f32⟩
  | .hbm, ⟨19, _⟩ => ⟨S2x8192x512, .f32⟩
  | .hbm, ⟨20, _⟩ => ⟨S2x8192x512, .f32⟩
  | .hbm, ⟨21, _⟩ => ⟨S2x8192x64, .f32⟩
  | .hbm, ⟨22, _⟩ => ⟨S2x8192x64, .f32⟩
  | .hbm, ⟨23, _⟩ => ⟨S2x8192x128, .f32⟩
  | .hbm, ⟨24, _⟩ => ⟨S2x8192x64, .f32⟩
  | .hbm, ⟨25, _⟩ => ⟨S2x8192x512, .f32⟩
  | .hbm, ⟨26, _⟩ => ⟨S1x1x512, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S_, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S2x8192x512, .i1⟩
  | .hbm, ⟨36, _⟩ => ⟨S2x8192x512, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S2x8192x512, .f32⟩
  | .hbm, ⟨41, _⟩ => ⟨S2x8192x512, .f32⟩
  | .hbm, ⟨42, _⟩ => ⟨S2x8192x512, .f32⟩
  | .hbm, ⟨43, _⟩ => ⟨S2x8192x512, .f32⟩
  | .hbm, ⟨44, _⟩ => ⟨S2x8192x512, .f32⟩
  | .hbm, ⟨45, _⟩ => ⟨S_, .f32⟩
  | .hbm, ⟨46, _⟩ => ⟨S2x8192x512, .f32⟩
  | .hbm, ⟨47, _⟩ => ⟨S2x8192x512, .f32⟩
  | .hbm, ⟨48, _⟩ => ⟨S2x8192x512, .f32⟩
  | .hbm, ⟨49, _⟩ => ⟨S2x8192x512, .f32⟩
  | .hbm, ⟨50, _⟩ => ⟨S2x8192x512, .f32⟩
  | .hbm, ⟨51, _⟩ => ⟨S2x8192x512, .f32⟩
  | .hbm, ⟨52, _⟩ => ⟨S1x1x512, .f32⟩
  | .hbm, ⟨53, _⟩ => ⟨S2x8192x512, .f32⟩
  | .hbm, ⟨54, _⟩ => ⟨S2x8192x512, .f32⟩
  | .hbm, ⟨55, _⟩ => ⟨S2x8192x512, .f32⟩
  | .hbm, ⟨56, _⟩ => ⟨S2x8192x512, .f32⟩
  | .hbm, ⟨57, _⟩ => ⟨S_, .f32⟩
  | .hbm, ⟨58, _⟩ => ⟨S2x8192x512, .f32⟩
  | .hbm, ⟨59, _⟩ => ⟨S2x8192x512, .f32⟩
  | .hbm, ⟨60, _⟩ => ⟨S_, .f32⟩
  | .hbm, ⟨61, _⟩ => ⟨S2x8192x512, .f32⟩
  | .hbm, ⟨62, _⟩ => ⟨S2x8192x512, .f32⟩
  | .hbm, ⟨63, _⟩ => ⟨S2x8192x128, .f32⟩
  | .hbm, ⟨64, _⟩ => ⟨S2x8192x128, .f32⟩
  | .hbm, ⟨65, _⟩ => ⟨S_, .f32⟩
  | .hbm, ⟨66, _⟩ => ⟨S2x8192x128, .f32⟩
  | .hbm, ⟨67, _⟩ => ⟨S2x8192x128, .f32⟩
  | .hbm, ⟨68, _⟩ => ⟨S_, .f32⟩
  | .hbm, ⟨69, _⟩ => ⟨S2x8192x128, .f32⟩
  | .hbm, ⟨70, _⟩ => ⟨S2x8192x128, .f32⟩
  | .hbm, ⟨71, _⟩ => ⟨S2x8192x512, .f32⟩
  | .hbm, ⟨72, _⟩ => ⟨S1x1x512, .f32⟩
  | .hbm, ⟨73, _⟩ => ⟨S2x8192x512, .f32⟩
  | .hbm, ⟨74, _⟩ => ⟨S2x8192x512, .f32⟩
  | .hbm, ⟨75, _⟩ => ⟨S2x8192x8x64, .f32⟩
  | .hbm, ⟨76, _⟩ => ⟨S2x8192x8x64, .f32⟩
  | .hbm, ⟨77, _⟩ => ⟨S_, .f32⟩
  | .hbm, ⟨78, _⟩ => ⟨S2x8192x8, .f32⟩
  | .hbm, ⟨79, _⟩ => ⟨S2x8192x8x1, .f32⟩
  | .hbm, ⟨80, _⟩ => ⟨S_, .f32⟩
  | .hbm, ⟨81, _⟩ => ⟨S2x8192x8x1, .f32⟩
  | .hbm, ⟨82, _⟩ => ⟨S2x8192x8x1, .f32⟩
  | .hbm, ⟨83, _⟩ => ⟨S2x8192x8x1, .f32⟩
  | .hbm, ⟨84, _⟩ => ⟨S2x8192x8x64, .f32⟩
  | .hbm, ⟨85, _⟩ => ⟨S2x8192x8x64, .f32⟩
  | .hbm, ⟨86, _⟩ => ⟨S_, .f32⟩
  | .hbm, ⟨87, _⟩ => ⟨S2x8192x512, .f32⟩
  | .hbm, ⟨88, _⟩ => ⟨S2x8192x512, .f32⟩
  | .hbm, ⟨89, _⟩ => ⟨S1x1x512, .f32⟩
  | .hbm, ⟨90, _⟩ => ⟨S2x8192x512, .f32⟩
  | .hbm, ⟨91, _⟩ => ⟨S2x8192x512, .f32⟩
  | .hbm, ⟨92, _⟩ => ⟨S_, .f32⟩
  | .hbm, ⟨93, _⟩ => ⟨S2x8192x512, .f32⟩
  | .hbm, ⟨94, _⟩ => ⟨S2x8192x512, .f32⟩
  | .hbm, ⟨95, _⟩ => ⟨S2x8192x512, .f32⟩
  | .hbm, ⟨96, _⟩ => ⟨S2x8192x8x64, .f32⟩
  | .hbm, ⟨97, _⟩ => ⟨S2x8192x8x64, .f32⟩
  | .hbm, ⟨98, _⟩ => ⟨S2x8192x8x64, .f32⟩
  | .hbm, ⟨99, _⟩ => ⟨S1x1x8x64, .f32⟩
  | .hbm, ⟨100, _⟩ => ⟨S2x8192x8x64, .f32⟩
  | .hbm, ⟨101, _⟩ => ⟨S2x8192x8x64, .f32⟩
  | .hbm, ⟨102, _⟩ => ⟨S_, .f32⟩
  | .hbm, ⟨103, _⟩ => ⟨S2x8192x8, .f32⟩
  | .hbm, ⟨104, _⟩ => ⟨S2x8192x8x1, .f32⟩
  | .hbm, ⟨105, _⟩ => ⟨S2x8192x8x64, .f32⟩
  | .hbm, ⟨106, _⟩ => ⟨S2x8192x8x64, .f32⟩
  | .hbm, ⟨107, _⟩ => ⟨S2x8192x8x64, .f32⟩
  | .hbm, ⟨108, _⟩ => ⟨S2x8192x512, .f32⟩
  | .hbm, ⟨109, _⟩ => ⟨S2x8192x8x64, .f32⟩
  | .hbm, ⟨110, _⟩ => ⟨S2x8192x8x64, .f32⟩
  | .hbm, ⟨111, _⟩ => ⟨S2x8192x512, .f32⟩
  | .hbm, ⟨112, _⟩ => ⟨S2x8192x512, .f32⟩
  | _, _ => ⟨S2x8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_v19 : Ref sig .tc := ⟨.hbm, 43, rfl⟩
abbrev main_v20 : Ref sig .tc := ⟨.hbm, 44, rfl⟩
abbrev main_cst : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_0 : Ref sig .tc := ⟨.hbm, 57, rfl⟩
abbrev main_v32 : Ref sig .tc := ⟨.hbm, 58, rfl⟩
abbrev main_v33 : Ref sig .tc := ⟨.hbm, 59, rfl⟩
abbrev main_cst_1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_2 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_4 : Ref sig .tc := ⟨.hbm, 77, rfl⟩
abbrev main_v48 : Ref sig .tc := ⟨.hbm, 78, rfl⟩
abbrev main_v49 : Ref sig .tc := ⟨.hbm, 79, rfl⟩
abbrev main_cst_5 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_6 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_7 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_8 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]
-- ==== Prep.lean ====
abbrev S2x8192x1536 : Shape := ⟨3, ![2, 8192, 1536]⟩
abbrev S2x8192x384 : Shape := ⟨3, ![2, 8192, 384]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x512 : Shape := ⟨2, ![2, 512]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S512x1 : Shape := ⟨2, ![512, 1]⟩
abbrev S8192x512 : Shape := ⟨2, ![8192, 512]⟩
abbrev S1x8192x512 : Shape := ⟨3, ![1, 8192, 512]⟩
abbrev S3x8192x512 : Shape := ⟨3, ![3, 8192, 512]⟩
abbrev S4 : Shape := ⟨1, ![4]⟩
abbrev S1x4 : Shape := ⟨2, ![1, 4]⟩
abbrev S8192x4 : Shape := ⟨2, ![8192, 4]⟩
abbrev S384 : Shape := ⟨1, ![384]⟩
abbrev S1x384 : Shape := ⟨2, ![1, 384]⟩
abbrev S384x1 : Shape := ⟨2, ![384, 1]⟩
abbrev S8192x384 : Shape := ⟨2, ![8192, 384]⟩
abbrev S1x8192x384 : Shape := ⟨3, ![1, 8192, 384]⟩
abbrev S3x8192x384 : Shape := ⟨3, ![3, 8192, 384]⟩
abbrev S2x8192x512 : Shape := ⟨3, ![2, 8192, 512]⟩
abbrev S2x8192x256 : Shape := ⟨3, ![2, 8192, 256]⟩
abbrev S2x8192x128 : Shape := ⟨3, ![2, 8192, 128]⟩
abbrev S1x256x1536 : Shape := ⟨3, ![1, 256, 1536]⟩
abbrev S1x256x384 : Shape := ⟨3, ![1, 256, 384]⟩
abbrev S3x256x512 : Shape := ⟨3, ![3, 256, 512]⟩
abbrev S3x256x384 : Shape := ⟨3, ![3, 256, 384]⟩
abbrev S1x256x512 : Shape := ⟨3, ![1, 256, 512]⟩
abbrev S1x256x256 : Shape := ⟨3, ![1, 256, 256]⟩
abbrev S1x256x128 : Shape := ⟨3, ![1, 256, 128]⟩
abbrev S512x512 : Shape := ⟨2, ![512, 512]⟩
abbrev S256x512 : Shape := ⟨2, ![256, 512]⟩
abbrev S256x384 : Shape := ⟨2, ![256, 384]⟩
abbrev S256x256 : Shape := ⟨2, ![256, 256]⟩
abbrev S256x128 : Shape := ⟨2, ![256, 128]⟩

abbrev nBuf : Space → Nat
  | .hbm => 296
  | .vmem => 17
  | .smem => 0
  | _ => 0

abbrev hbmTy0_0 (i : Nat) : BufTy := match i % 128 with
  | 0 => ⟨S2x8192x1536, .f32⟩
  | 1 => ⟨S2x8192x384, .f32⟩
  | 2 => ⟨S64, .f32⟩
  | 3 => ⟨S64, .f32⟩
  | 4 => ⟨S1x64, .f32⟩
  | 5 => ⟨S8x64, .f32⟩
  | 6 => ⟨S512, .f32⟩
  | 7 => ⟨S1x64, .f32⟩
  | 8 => ⟨S8x64, .f32⟩
  | 9 => ⟨S512, .f32⟩
  | 10 => ⟨S1x512, .f32⟩
  | 11 => ⟨S1x512, .f32⟩
  | 12 => ⟨S2x512, .f32⟩
  | 13 => ⟨S8192, .i32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S8192, .f32⟩
  | 23 => ⟨S8192x1, .f32⟩
  | 24 => ⟨S1x8, .f32⟩
  | 25 => ⟨S8192x8, .f32⟩
  | 26 => ⟨S8192x8, .f32⟩
  | 27 => ⟨S8192x8, .f32⟩
  | 28 => ⟨S512, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S512, .i32⟩
  | 36 => ⟨S512, .i32⟩
  | 37 => ⟨S_, .i32⟩
  | 38 => ⟨S512, .i32⟩
  | 39 => ⟨S512, .i1⟩
  | 40 => ⟨S_, .i32⟩
  | 41 => ⟨S512, .i32⟩
  | 42 => ⟨S512, .i1⟩
  | 43 => ⟨S_, .i32⟩
  | 44 => ⟨S_, .i1⟩
  | 45 => ⟨S512, .i1⟩
  | 46 => ⟨S512, .i1⟩
  | 47 => ⟨S512, .i1⟩
  | 48 => ⟨S512, .i32⟩
  | 49 => ⟨S512, .i32⟩
  | 50 => ⟨S512, .i32⟩
  | 51 => ⟨S_, .i32⟩
  | 52 => ⟨S512, .i32⟩
  | 53 => ⟨S512, .i1⟩
  | 54 => ⟨S_, .i32⟩
  | 55 => ⟨S512, .i32⟩
  | 56 => ⟨S512, .i1⟩
  | 57 => ⟨S512, .i1⟩
  | 58 => ⟨S1x512, .i1⟩
  | 59 => ⟨S8192x8, .f32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S512, .i32⟩
  | 67 => ⟨S512, .i32⟩
  | 68 => ⟨S_, .i32⟩
  | 69 => ⟨S512, .i32⟩
  | 70 => ⟨S512, .i1⟩
  | 71 => ⟨S_, .i32⟩
  | 72 => ⟨S512, .i32⟩
  | 73 => ⟨S512, .i1⟩
  | 74 => ⟨S_, .i32⟩
  | 75 => ⟨S_, .i1⟩
  | 76 => ⟨S512, .i1⟩
  | 77 => ⟨S512, .i1⟩
  | 78 => ⟨S512, .i1⟩
  | 79 => ⟨S512, .i32⟩
  | 80 => ⟨S512, .i32⟩
  | 81 => ⟨S512, .i32⟩
  | 82 => ⟨S_, .i32⟩
  | 83 => ⟨S512, .i32⟩
  | 84 => ⟨S512, .i1⟩
  | 85 => ⟨S_, .i32⟩
  | 86 => ⟨S512, .i32⟩
  | 87 => ⟨S512, .i32⟩
  | 88 => ⟨S512, .i32⟩
  | 89 => ⟨S512x1, .i32⟩
  | 90 => ⟨S8192x512, .f32⟩
  | 91 => ⟨S_, .f32⟩
  | 92 => ⟨S_, .f32⟩
  | 93 => ⟨S8192x512, .i1⟩
  | 94 => ⟨S8192x512, .f32⟩
  | 95 => ⟨S8192x512, .f32⟩
  | 96 => ⟨S8192x8, .f32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S512, .i32⟩
  | 104 => ⟨S512, .i32⟩
  | 105 => ⟨S_, .i32⟩
  | 106 => ⟨S512, .i32⟩
  | 107 => ⟨S512, .i1⟩
  | 108 => ⟨S_, .i32⟩
  | 109 => ⟨S512, .i32⟩
  | 110 => ⟨S512, .i1⟩
  | 111 => ⟨S_, .i32⟩
  | 112 => ⟨S_, .i1⟩
  | 113 => ⟨S512, .i1⟩
  | 114 => ⟨S512, .i1⟩
  | 115 => ⟨S512, .i1⟩
  | 116 => ⟨S512, .i32⟩
  | 117 => ⟨S512, .i32⟩
  | 118 => ⟨S512, .i32⟩
  | 119 => ⟨S_, .i32⟩
  | 120 => ⟨S512, .i32⟩
  | 121 => ⟨S512, .i1⟩
  | 122 => ⟨S_, .i32⟩
  | 123 => ⟨S512, .i32⟩
  | 124 => ⟨S512, .i32⟩
  | 125 => ⟨S512, .i32⟩
  | 126 => ⟨S512x1, .i32⟩
  | 127 => ⟨S8192x512, .f32⟩
  | _ => ⟨S2x8192x1536, .f32⟩

abbrev hbmTy0_1 (i : Nat) : BufTy := match i % 128 with
  | 0 => ⟨S_, .i32⟩
  | 1 => ⟨S512, .i32⟩
  | 2 => ⟨S512, .i1⟩
  | 3 => ⟨S512, .i1⟩
  | 4 => ⟨S1x512, .i1⟩
  | 5 => ⟨S8192x512, .f32⟩
  | 6 => ⟨S_, .f32⟩
  | 7 => ⟨S_, .f32⟩
  | 8 => ⟨S8192x512, .i1⟩
  | 9 => ⟨S8192x512, .f32⟩
  | 10 => ⟨S8192x512, .f32⟩
  | 11 => ⟨S_, .i32⟩
  | 12 => ⟨S512, .i32⟩
  | 13 => ⟨S512, .i1⟩
  | 14 => ⟨S512, .i1⟩
  | 15 => ⟨S1x512, .i1⟩
  | 16 => ⟨S_, .f32⟩
  | 17 => ⟨S_, .f32⟩
  | 18 => ⟨S8192x512, .i1⟩
  | 19 => ⟨S8192x512, .f32⟩
  | 20 => ⟨S8192x512, .f32⟩
  | 21 => ⟨S1x8192x512, .f32⟩
  | 22 => ⟨S1x8192x512, .f32⟩
  | 23 => ⟨S1x8192x512, .f32⟩
  | 24 => ⟨S3x8192x512, .f32⟩
  | 25 => ⟨S4, .f32⟩
  | 26 => ⟨S4, .f32⟩
  | 27 => ⟨S_, .f32⟩
  | 28 => ⟨S4, .f32⟩
  | 29 => ⟨S4, .f32⟩
  | 30 => ⟨S_, .f32⟩
  | 31 => ⟨S4, .f32⟩
  | 32 => ⟨S4, .f32⟩
  | 33 => ⟨S8192, .f32⟩
  | 34 => ⟨S8192x1, .f32⟩
  | 35 => ⟨S1x4, .f32⟩
  | 36 => ⟨S8192x4, .f32⟩
  | 37 => ⟨S8192x4, .f32⟩
  | 38 => ⟨S8192x4, .f32⟩
  | 39 => ⟨S384, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S384, .i32⟩
  | 47 => ⟨S384, .i32⟩
  | 48 => ⟨S_, .i32⟩
  | 49 => ⟨S384, .i32⟩
  | 50 => ⟨S384, .i1⟩
  | 51 => ⟨S_, .i32⟩
  | 52 => ⟨S384, .i32⟩
  | 53 => ⟨S384, .i1⟩
  | 54 => ⟨S_, .i32⟩
  | 55 => ⟨S_, .i1⟩
  | 56 => ⟨S384, .i1⟩
  | 57 => ⟨S384, .i1⟩
  | 58 => ⟨S384, .i1⟩
  | 59 => ⟨S384, .i32⟩
  | 60 => ⟨S384, .i32⟩
  | 61 => ⟨S384, .i32⟩
  | 62 => ⟨S_, .i32⟩
  | 63 => ⟨S384, .i32⟩
  | 64 => ⟨S384, .i1⟩
  | 65 => ⟨S_, .i32⟩
  | 66 => ⟨S384, .i32⟩
  | 67 => ⟨S384, .i1⟩
  | 68 => ⟨S384, .i1⟩
  | 69 => ⟨S1x384, .i1⟩
  | 70 => ⟨S8192x4, .f32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S384, .i32⟩
  | 78 => ⟨S384, .i32⟩
  | 79 => ⟨S_, .i32⟩
  | 80 => ⟨S384, .i32⟩
  | 81 => ⟨S384, .i1⟩
  | 82 => ⟨S_, .i32⟩
  | 83 => ⟨S384, .i32⟩
  | 84 => ⟨S384, .i1⟩
  | 85 => ⟨S_, .i32⟩
  | 86 => ⟨S_, .i1⟩
  | 87 => ⟨S384, .i1⟩
  | 88 => ⟨S384, .i1⟩
  | 89 => ⟨S384, .i1⟩
  | 90 => ⟨S384, .i32⟩
  | 91 => ⟨S384, .i32⟩
  | 92 => ⟨S384, .i32⟩
  | 93 => ⟨S_, .i32⟩
  | 94 => ⟨S384, .i32⟩
  | 95 => ⟨S384, .i1⟩
  | 96 => ⟨S_, .i32⟩
  | 97 => ⟨S384, .i32⟩
  | 98 => ⟨S384, .i32⟩
  | 99 => ⟨S384, .i32⟩
  | 100 => ⟨S384x1, .i32⟩
  | 101 => ⟨S8192x384, .f32⟩
  | 102 => ⟨S_, .f32⟩
  | 103 => ⟨S_, .f32⟩
  | 104 => ⟨S8192x384, .i1⟩
  | 105 => ⟨S8192x384, .f32⟩
  | 106 => ⟨S8192x384, .f32⟩
  | 107 => ⟨S8192x4, .f32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S384, .i32⟩
  | 115 => ⟨S384, .i32⟩
  | 116 => ⟨S_, .i32⟩
  | 117 => ⟨S384, .i32⟩
  | 118 => ⟨S384, .i1⟩
  | 119 => ⟨S_, .i32⟩
  | 120 => ⟨S384, .i32⟩
  | 121 => ⟨S384, .i1⟩
  | 122 => ⟨S_, .i32⟩
  | 123 => ⟨S_, .i1⟩
  | 124 => ⟨S384, .i1⟩
  | 125 => ⟨S384, .i1⟩
  | 126 => ⟨S384, .i1⟩
  | 127 => ⟨S384, .i32⟩
  | _ => ⟨S2x8192x1536, .f32⟩

abbrev hbmTy0_2 (i : Nat) : BufTy := match i % 128 with
  | 0 => ⟨S384, .i32⟩
  | 1 => ⟨S384, .i32⟩
  | 2 => ⟨S_, .i32⟩
  | 3 => ⟨S384, .i32⟩
  | 4 => ⟨S384, .i1⟩
  | 5 => ⟨S_, .i32⟩
  | 6 => ⟨S384, .i32⟩
  | 7 => ⟨S384, .i32⟩
  | 8 => ⟨S384, .i32⟩
  | 9 => ⟨S384x1, .i32⟩
  | 10 => ⟨S8192x384, .f32⟩
  | 11 => ⟨S_, .i32⟩
  | 12 => ⟨S384, .i32⟩
  | 13 => ⟨S384, .i1⟩
  | 14 => ⟨S384, .i1⟩
  | 15 => ⟨S1x384, .i1⟩
  | 16 => ⟨S8192x384, .f32⟩
  | 17 => ⟨S_, .f32⟩
  | 18 => ⟨S_, .f32⟩
  | 19 => ⟨S8192x384, .i1⟩
  | 20 => ⟨S8192x384, .f32⟩
  | 21 => ⟨S8192x384, .f32⟩
  | 22 => ⟨S_, .i32⟩
  | 23 => ⟨S384, .i32⟩
  | 24 => ⟨S384, .i1⟩
  | 25 => ⟨S384, .i1⟩
  | 26 => ⟨S1x384, .i1⟩
  | 27 => ⟨S_, .f32⟩
  | 28 => ⟨S_, .f32⟩
  | 29 => ⟨S8192x384, .i1⟩
  | 30 => ⟨S8192x384, .f32⟩
  | 31 => ⟨S8192x384, .f32⟩
  | 32 => ⟨S1x8192x384, .f32⟩
  | 33 => ⟨S1x8192x384, .f32⟩
  | 34 => ⟨S1x8192x384, .f32⟩
  | 35 => ⟨S3x8192x384, .f32⟩
  | 36 => ⟨S2x8192x512, .f32⟩
  | 37 => ⟨S2x8192x512, .f32⟩
  | 38 => ⟨S2x8192x256, .f32⟩
  | 39 => ⟨S2x8192x128, .f32⟩
  | _ => ⟨S2x8192x1536, .f32⟩

abbrev hbmTy (i : Nat) : BufTy := match i / 128 with
  | 0 => hbmTy0_0 i
  | 1 => hbmTy0_1 i
  | 2 => hbmTy0_2 i
  | _ => ⟨S2x8192x1536, .f32⟩

abbrev bufTy : (tb : Table) → Fin (tcTables nBuf tb) → BufTy
  | .hbm, ⟨i, _⟩ => hbmTy i
  | .local _ .vmem, ⟨0, _⟩ => ⟨S1x256x1536, .f32⟩
  | .local _ .vmem, ⟨1, _⟩ => ⟨S1x256x1536, .f32⟩
  | .local _ .vmem, ⟨2, _⟩ => ⟨S1x256x384, .f32⟩
  | .local _ .vmem, ⟨3, _⟩ => ⟨S1x256x384, .f32⟩
  | .local _ .vmem, ⟨4, _⟩ => ⟨S2x512, .f32⟩
  | .local _ .vmem, ⟨5, _⟩ => ⟨S3x256x512, .f32⟩
  | .local _ .vmem, ⟨6, _⟩ => ⟨S3x256x512, .f32⟩
  | .local _ .vmem, ⟨7, _⟩ => ⟨S3x256x384, .f32⟩
  | .local _ .vmem, ⟨8, _⟩ => ⟨S3x256x384, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x256, .f32⟩
  | .local _ .vmem, ⟨14, _⟩ => ⟨S1x256x256, .f32⟩
  | .local _ .vmem, ⟨15, _⟩ => ⟨S1x256x128, .f32⟩
  | .local _ .vmem, ⟨16, _⟩ => ⟨S1x256x128, .f32⟩
  | _, _ => ⟨S2x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v23 : Ref sig .tc := ⟨.hbm, 50, rfl⟩
abbrev main_c_1 : Ref sig .tc := ⟨.hbm, 51, rfl⟩
abbrev main_v24 : Ref sig .tc := ⟨.hbm, 52, rfl⟩
abbrev main_v25 : Ref sig .tc := ⟨.hbm, 53, rfl⟩
abbrev main_c_2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_3 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v31 : Ref sig .tc := ⟨.hbm, 81, rfl⟩
abbrev main_c_4 : Ref sig .tc := ⟨.hbm, 82, rfl⟩
abbrev main_v32 : Ref sig .tc := ⟨.hbm, 83, rfl⟩
abbrev main_v33 : Ref sig .tc := ⟨.hbm, 84, rfl⟩
abbrev main_c_5 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_cst_6 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v39 : Ref sig .tc := ⟨.hbm, 95, rfl⟩
abbrev main_v40 : Ref sig .tc := ⟨.hbm, 96, rfl⟩
abbrev main_c_7 : Ref sig .tc := ⟨.hbm, 97, rfl⟩
abbrev main_call3_v0 : Ref sig .tc := ⟨.hbm, 98, rfl⟩
abbrev main_call3_c : Ref sig .tc := ⟨.hbm, 99, rfl⟩
abbrev main_call3_v1 : Ref sig .tc := ⟨.hbm, 100, rfl⟩
abbrev main_call3_c_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_c_1 : Ref sig .tc := ⟨.hbm, 105, rfl⟩
abbrev main_call3_v5 : Ref sig .tc := ⟨.hbm, 106, rfl⟩
abbrev main_call3_v6 : Ref sig .tc := ⟨.hbm, 107, rfl⟩
abbrev main_call3_c_2 : Ref sig .tc := ⟨.hbm, 108, rfl⟩
abbrev main_call3_v7 : Ref sig .tc := ⟨.hbm, 109, rfl⟩
abbrev main_call3_v8 : Ref sig .tc := ⟨.hbm, 110, rfl⟩
abbrev main_call3_c_3 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_v12 : Ref sig .tc := ⟨.hbm, 115, rfl⟩
abbrev main_call3_v13 : Ref sig .tc := ⟨.hbm, 116, rfl⟩
abbrev main_call3_v14 : Ref sig .tc := ⟨.hbm, 117, rfl⟩
abbrev main_v41 : Ref sig .tc := ⟨.hbm, 118, rfl⟩
abbrev main_c_8 : Ref sig .tc := ⟨.hbm, 119, rfl⟩
abbrev main_v42 : Ref sig .tc := ⟨.hbm, 120, rfl⟩
abbrev main_v43 : Ref sig .tc := ⟨.hbm, 121, rfl⟩
abbrev main_c_9 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_c_10 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_cst_11 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v54 : Ref sig .tc := ⟨.hbm, 138, rfl⟩
abbrev main_c_12 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_cst_13 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_cst_14 : Ref sig .tc := ⟨.hbm, 155, rfl⟩
abbrev main_v66 : Ref sig .tc := ⟨.hbm, 156, rfl⟩
abbrev main_v67 : Ref sig .tc := ⟨.hbm, 157, rfl⟩
abbrev main_cst_15 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_c_16 : Ref sig .tc := ⟨.hbm, 168, rfl⟩
abbrev main_call6_v0 : Ref sig .tc := ⟨.hbm, 169, rfl⟩
abbrev main_call6_c : Ref sig .tc := ⟨.hbm, 170, rfl⟩
abbrev main_call6_v1 : Ref sig .tc := ⟨.hbm, 171, rfl⟩
abbrev main_call6_c_0 : Ref sig .tc := ⟨.hbm, 172, rfl⟩
abbrev main_call6_v2 : Ref sig .tc := ⟨.hbm, 173, rfl⟩
abbrev main_call6_v3 : Ref sig .tc := ⟨.hbm, 174, rfl⟩
abbrev main_call6_v4 : Ref sig .tc := ⟨.hbm, 175, rfl⟩
abbrev main_call6_c_1 : Ref sig .tc := ⟨.hbm, 176, rfl⟩
abbrev main_call6_v5 : Ref sig .tc := ⟨.hbm, 177, rfl⟩
abbrev main_call6_v6 : Ref sig .tc := ⟨.hbm, 178, rfl⟩
abbrev main_call6_c_2 : Ref sig .tc := ⟨.hbm, 179, rfl⟩
abbrev main_call6_v7 : Ref sig .tc := ⟨.hbm, 180, rfl⟩
abbrev main_call6_v8 : Ref sig .tc := ⟨.hbm, 181, rfl⟩
abbrev main_call6_c_3 : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_call6_v12 : Ref sig .tc := ⟨.hbm, 186, rfl⟩
abbrev main_call6_v13 : Ref sig .tc := ⟨.hbm, 187, rfl⟩
abbrev main_call6_v14 : Ref sig .tc := ⟨.hbm, 188, rfl⟩
abbrev main_v77 : Ref sig .tc := ⟨.hbm, 189, rfl⟩
abbrev main_c_17 : Ref sig .tc := ⟨.hbm, 190, rfl⟩
abbrev main_v78 : Ref sig .tc := ⟨.hbm, 191, rfl⟩
abbrev main_v79 : Ref sig .tc := ⟨.hbm, 192, rfl⟩
abbrev main_c_18 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_c_19 : Ref sig .tc := ⟨.hbm, 199, rfl⟩
abbrev main_call7_v0 : Ref sig .tc := ⟨.hbm, 200, rfl⟩
abbrev main_call7_c : Ref sig .tc := ⟨.hbm, 201, rfl⟩
abbrev main_call7_v1 : Ref sig .tc := ⟨.hbm, 202, rfl⟩
abbrev main_call7_c_0 : Ref sig .tc := ⟨.hbm, 203, rfl⟩
abbrev main_call7_v2 : Ref sig .tc := ⟨.hbm, 204, rfl⟩
abbrev main_call7_v3 : Ref sig .tc := ⟨.hbm, 205, rfl⟩
abbrev main_call7_v4 : Ref sig .tc := ⟨.hbm, 206, rfl⟩
abbrev main_call7_c_1 : Ref sig .tc := ⟨.hbm, 207, rfl⟩
abbrev main_call7_v5 : Ref sig .tc := ⟨.hbm, 208, rfl⟩
abbrev main_call7_v6 : Ref sig .tc := ⟨.hbm, 209, rfl⟩
abbrev main_call7_c_2 : Ref sig .tc := ⟨.hbm, 210, rfl⟩
abbrev main_call7_v7 : Ref sig .tc := ⟨.hbm, 211, rfl⟩
abbrev main_call7_v8 : Ref sig .tc := ⟨.hbm, 212, rfl⟩
abbrev main_call7_c_3 : Ref sig .tc := ⟨.hbm, 213, rfl⟩
abbrev main_call7_v9 : Ref sig .tc := ⟨.hbm, 214, rfl⟩
abbrev main_call7_v10 : Ref sig .tc := ⟨.hbm, 215, rfl⟩
abbrev main_call7_v11 : Ref sig .tc := ⟨.hbm, 216, rfl⟩
abbrev main_call7_v12 : Ref sig .tc := ⟨.hbm, 217, rfl⟩
abbrev main_call7_v13 : Ref sig .tc := ⟨.hbm, 218, rfl⟩
abbrev main_call7_v14 : Ref sig .tc := ⟨.hbm, 219, rfl⟩
abbrev main_v85 : Ref sig .tc := ⟨.hbm, 220, rfl⟩
abbrev main_c_20 : Ref sig .tc := ⟨.hbm, 221, rfl⟩
abbrev main_v86 : Ref sig .tc := ⟨.hbm, 222, rfl⟩
abbrev main_v87 : Ref sig .tc := ⟨.hbm, 223, rfl⟩
abbrev main_c_21 : Ref sig .tc := ⟨.hbm, 224, rfl⟩
abbrev main_v88 : Ref sig .tc := ⟨.hbm, 225, rfl⟩
abbrev main_v89 : Ref sig .tc := ⟨.hbm, 226, rfl⟩
abbrev main_v90 : Ref sig .tc := ⟨.hbm, 227, rfl⟩
abbrev main_v91 : Ref sig .tc := ⟨.hbm, 228, rfl⟩
abbrev main_v92 : Ref sig .tc := ⟨.hbm, 229, rfl⟩
abbrev main_cst_22 : Ref sig .tc := ⟨.hbm, 230, rfl⟩
abbrev main_call8_v0 : Ref sig .tc := ⟨.hbm, 231, rfl⟩
abbrev main_call8_v1 : Ref sig .tc := ⟨.hbm, 232, rfl⟩
abbrev main_call8_v2 : Ref sig .tc := ⟨.hbm, 233, rfl⟩
abbrev main_v93 : Ref sig .tc := ⟨.hbm, 234, rfl⟩
abbrev main_v94 : Ref sig .tc := ⟨.hbm, 235, rfl⟩
abbrev main_c_23 : Ref sig .tc := ⟨.hbm, 236, rfl⟩
abbrev main_call9_v0 : Ref sig .tc := ⟨.hbm, 237, rfl⟩
abbrev main_call9_c : Ref sig .tc := ⟨.hbm, 238, rfl⟩
abbrev main_call9_v1 : Ref sig .tc := ⟨.hbm, 239, rfl⟩
abbrev main_call9_c_0 : Ref sig .tc := ⟨.hbm, 240, rfl⟩
abbrev main_call9_v2 : Ref sig .tc := ⟨.hbm, 241, rfl⟩
abbrev main_call9_v3 : Ref sig .tc := ⟨.hbm, 242, rfl⟩
abbrev main_call9_v4 : Ref sig .tc := ⟨.hbm, 243, rfl⟩
abbrev main_call9_c_1 : Ref sig .tc := ⟨.hbm, 244, rfl⟩
abbrev main_call9_v5 : Ref sig .tc := ⟨.hbm, 245, rfl⟩
abbrev main_call9_v6 : Ref sig .tc := ⟨.hbm, 246, rfl⟩
abbrev main_call9_c_2 : Ref sig .tc := ⟨.hbm, 247, rfl⟩
abbrev main_call9_v7 : Ref sig .tc := ⟨.hbm, 248, rfl⟩
abbrev main_call9_v8 : Ref sig .tc := ⟨.hbm, 249, rfl⟩
abbrev main_call9_c_3 : Ref sig .tc := ⟨.hbm, 250, rfl⟩
abbrev main_call9_v9 : Ref sig .tc := ⟨.hbm, 251, rfl⟩
abbrev main_call9_v10 : Ref sig .tc := ⟨.hbm, 252, rfl⟩
abbrev main_call9_v11 : Ref sig .tc := ⟨.hbm, 253, rfl⟩
abbrev main_call9_v12 : Ref sig .tc := ⟨.hbm, 254, rfl⟩
abbrev main_call9_v13 : Ref sig .tc := ⟨.hbm, 255, rfl⟩
abbrev main_call9_v14 : Ref sig .tc := ⟨.hbm, 256, rfl⟩
abbrev main_v95 : Ref sig .tc := ⟨.hbm, 257, rfl⟩
abbrev main_c_24 : Ref sig .tc := ⟨.hbm, 258, rfl⟩
abbrev main_v96 : Ref sig .tc := ⟨.hbm, 259, rfl⟩
abbrev main_v97 : Ref sig .tc := ⟨.hbm, 260, rfl⟩
abbrev main_c_25 : Ref sig .tc := ⟨.hbm, 261, rfl⟩
abbrev main_v98 : Ref sig .tc := ⟨.hbm, 262, rfl⟩
abbrev main_v99 : Ref sig .tc := ⟨.hbm, 263, rfl⟩
abbrev main_v100 : Ref sig .tc := ⟨.hbm, 264, rfl⟩
abbrev main_v101 : Ref sig .tc := ⟨.hbm, 265, rfl⟩
abbrev main_v102 : Ref sig .tc := ⟨.hbm, 266, rfl⟩
abbrev main_c_26 : Ref sig .tc := ⟨.hbm, 267, rfl⟩
abbrev main_v103 : Ref sig .tc := ⟨.hbm, 268, rfl⟩
abbrev main_v104 : Ref sig .tc := ⟨.hbm, 269, rfl⟩
abbrev main_v105 : Ref sig .tc := ⟨.hbm, 270, rfl⟩
abbrev main_v106 : Ref sig .tc := ⟨.hbm, 271, rfl⟩
abbrev main_v107 : Ref sig .tc := ⟨.hbm, 272, rfl⟩
abbrev main_cst_27 : Ref sig .tc := ⟨.hbm, 273, rfl⟩
abbrev main_call10_v0 : Ref sig .tc := ⟨.hbm, 274, rfl⟩
abbrev main_call10_v1 : Ref sig .tc := ⟨.hbm, 275, rfl⟩
abbrev main_call10_v2 : Ref sig .tc := ⟨.hbm, 276, rfl⟩
abbrev main_v108 : Ref sig .tc := ⟨.hbm, 277, rfl⟩
abbrev main_c_28 : Ref sig .tc := ⟨.hbm, 278, rfl⟩
abbrev main_v109 : Ref sig .tc := ⟨.hbm, 279, rfl⟩
abbrev main_v110 : Ref sig .tc := ⟨.hbm, 280, rfl⟩
abbrev main_v111 : Ref sig .tc := ⟨.hbm, 281, rfl⟩
abbrev main_v112 : Ref sig .tc := ⟨.hbm, 282, rfl⟩
abbrev main_cst_29 : Ref sig .tc := ⟨.hbm, 283, rfl⟩
abbrev main_call11_v0 : Ref sig .tc := ⟨.hbm, 284, rfl⟩
abbrev main_call11_v1 : Ref sig .tc := ⟨.hbm, 285, rfl⟩
abbrev main_call11_v2 : Ref sig .tc := ⟨.hbm, 286, rfl⟩
abbrev main_v113 : Ref sig .tc := ⟨.hbm, 287, rfl⟩
abbrev main_v114 : Ref sig .tc := ⟨.hbm, 288, rfl⟩
abbrev main_v115 : Ref sig .tc := ⟨.hbm, 289, rfl⟩
abbrev main_v116 : Ref sig .tc := ⟨.hbm, 290, rfl⟩
abbrev main_v117 : Ref sig .tc := ⟨.hbm, 291, rfl⟩
abbrev main_v118_0 : Ref sig .tc := ⟨.hbm, 292, rfl⟩
abbrev main_v118_1 : Ref sig .tc := ⟨.hbm, 293, rfl⟩
abbrev main_v118_2 : Ref sig .tc := ⟨.hbm, 294, rfl⟩
abbrev main_v118_3 : Ref sig .tc := ⟨.hbm, 295, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PrepRefIdeal.lean ====
abbrev S2x8192x1536 : Shape := ⟨3, ![2, 8192, 1536]⟩
abbrev S2x8192x384 : Shape := ⟨3, ![2, 8192, 384]⟩
abbrev S64 : Shape := ⟨1, ![64]⟩
abbrev S8192 : Shape := ⟨1, ![8192]⟩
abbrev S2x8192x512 : Shape := ⟨3, ![2, 8192, 512]⟩
abbrev S2x8192x8x64 : Shape := ⟨4, ![2, 8192, 8, 64]⟩
abbrev S_ : Shape := ⟨0, ![]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x8x8 : Shape := ⟨4, ![2, 8192, 8, 8]⟩
abbrev S2x8192x8x48 : Shape := ⟨4, ![2, 8192, 8, 48]⟩
abbrev S2x8192x256 : Shape := ⟨3, ![2, 8192, 256]⟩
abbrev S2x8192x8x32 : Shape := ⟨4, ![2, 8192, 8, 32]⟩
abbrev S4 : Shape := ⟨1, ![4]⟩
abbrev S1x4 : Shape := ⟨2, ![1, 4]⟩
abbrev S8192x4 : Shape := ⟨2, ![8192, 4]⟩
abbrev S1x8192x1x4 : Shape := ⟨4, ![1, 8192, 1, 4]⟩
abbrev S2x8192x8x4 : Shape := ⟨4, ![2, 8192, 8, 4]⟩
abbrev S2x8192x8x24 : Shape := ⟨4, ![2, 8192, 8, 24]⟩
abbrev S2x8192x32 : Shape := ⟨3, ![2, 8192, 32]⟩
abbrev S2x8192x1x32 : Shape := ⟨4, ![2, 8192, 1, 32]⟩
abbrev S2x8192x1x4 : Shape := ⟨4, ![2, 8192, 1, 4]⟩
abbrev S2x8192x1x24 : Shape := ⟨4, ![2, 8192, 1, 24]⟩
abbrev S2x8192x96 : Shape := ⟨3, ![2, 8192, 96]⟩
abbrev S2x8192x128 : Shape := ⟨3, ![2, 8192, 128]⟩

abbrev nBuf : Space → Nat
  | .hbm => 179
  | .vmem => 0
  | .smem => 0
  | _ => 0

abbrev hbmTy0_0 (i : Nat) : BufTy := match i % 128 with
  | 0 => ⟨S2x8192x1536, .f32⟩
  | 1 => ⟨S2x8192x384, .f32⟩
  | 2 => ⟨S64, .f32⟩
  | 3 => ⟨S64, .f32⟩
  | 4 => ⟨S8192, .i32⟩
  | 5 => ⟨S2x8192x512, .f32⟩
  | 6 => ⟨S2x8192x8x64, .f32⟩
  | 7 => ⟨S2x8192x512, .f32⟩
  | 8 => ⟨S2x8192x8x64, .f32⟩
  | 9 => ⟨S2x8192x8x64, .f32⟩
  | 10 => ⟨S_, .f32⟩
  | 11 => ⟨S2x8192x8, .f32⟩
  | 12 => ⟨S2x8192x8x1, .f32⟩
  | 13 => ⟨S_, .f32⟩
  | 14 => ⟨S2x8192x8x1, .f32⟩
  | 15 => ⟨S2x8192x8x1, .f32⟩
  | 16 => ⟨S_, .f32⟩
  | 17 => ⟨S2x8192x8x1, .f32⟩
  | 18 => ⟨S2x8192x8x1, .f32⟩
  | 19 => ⟨S2x8192x8x1, .f32⟩
  | 20 => ⟨S2x8192x8x64, .f32⟩
  | 21 => ⟨S2x8192x8x64, .f32⟩
  | 22 => ⟨S1x1x1x64, .f32⟩
  | 23 => ⟨S2x8192x8x64, .f32⟩
  | 24 => ⟨S2x8192x8x64, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S8192, .f32⟩
  | 34 => ⟨S8192x1, .f32⟩
  | 35 => ⟨S1x8, .f32⟩
  | 36 => ⟨S8192x8, .f32⟩
  | 37 => ⟨S8192x8, .f32⟩
  | 38 => ⟨S8192x8, .f32⟩
  | 39 => ⟨S8192x8, .f32⟩
  | 40 => ⟨S1x8192x1x8, .f32⟩
  | 41 => ⟨S8192x8, .f32⟩
  | 42 => ⟨S1x8192x1x8, .f32⟩
  | 43 => ⟨S2x8192x8x8, .f32⟩
  | 44 => ⟨S2x8192x8x8, .f32⟩
  | 45 => ⟨S2x8192x8x8, .f32⟩
  | 46 => ⟨S2x8192x8x8, .f32⟩
  | 47 => ⟨S2x8192x8x8, .f32⟩
  | 48 => ⟨S2x8192x8x8, .f32⟩
  | 49 => ⟨S2x8192x8x8, .f32⟩
  | 50 => ⟨S2x8192x8x8, .f32⟩
  | 51 => ⟨S2x8192x8x8, .f32⟩
  | 52 => ⟨S2x8192x8x8, .f32⟩
  | 53 => ⟨S2x8192x8x8, .f32⟩
  | 54 => ⟨S2x8192x8x8, .f32⟩
  | 55 => ⟨S2x8192x8x48, .f32⟩
  | 56 => ⟨S2x8192x8x64, .f32⟩
  | 57 => ⟨S2x8192x8x64, .f32⟩
  | 58 => ⟨S_, .f32⟩
  | 59 => ⟨S2x8192x8, .f32⟩
  | 60 => ⟨S2x8192x8x1, .f32⟩
  | 61 => ⟨S_, .f32⟩
  | 62 => ⟨S2x8192x8x1, .f32⟩
  | 63 => ⟨S2x8192x8x1, .f32⟩
  | 64 => ⟨S_, .f32⟩
  | 65 => ⟨S2x8192x8x1, .f32⟩
  | 66 => ⟨S2x8192x8x1, .f32⟩
  | 67 => ⟨S2x8192x8x1, .f32⟩
  | 68 => ⟨S2x8192x8x64, .f32⟩
  | 69 => ⟨S2x8192x8x64, .f32⟩
  | 70 => ⟨S1x1x1x64, .f32⟩
  | 71 => ⟨S2x8192x8x64, .f32⟩
  | 72 => ⟨S2x8192x8x64, .f32⟩
  | 73 => ⟨S8, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S8192, .f32⟩
  | 82 => ⟨S8192x1, .f32⟩
  | 83 => ⟨S1x8, .f32⟩
  | 84 => ⟨S8192x8, .f32⟩
  | 85 => ⟨S8192x8, .f32⟩
  | 86 => ⟨S8192x8, .f32⟩
  | 87 => ⟨S8192x8, .f32⟩
  | 88 => ⟨S1x8192x1x8, .f32⟩
  | 89 => ⟨S8192x8, .f32⟩
  | 90 => ⟨S1x8192x1x8, .f32⟩
  | 91 => ⟨S2x8192x8x8, .f32⟩
  | 92 => ⟨S2x8192x8x8, .f32⟩
  | 93 => ⟨S2x8192x8x8, .f32⟩
  | 94 => ⟨S2x8192x8x8, .f32⟩
  | 95 => ⟨S2x8192x8x8, .f32⟩
  | 96 => ⟨S2x8192x8x8, .f32⟩
  | 97 => ⟨S2x8192x8x8, .f32⟩
  | 98 => ⟨S2x8192x8x8, .f32⟩
  | 99 => ⟨S2x8192x8x8, .f32⟩
  | 100 => ⟨S2x8192x8x8, .f32⟩
  | 101 => ⟨S2x8192x8x8, .f32⟩
  | 102 => ⟨S2x8192x8x8, .f32⟩
  | 103 => ⟨S2x8192x8x48, .f32⟩
  | 104 => ⟨S2x8192x8x64, .f32⟩
  | 105 => ⟨S2x8192x256, .f32⟩
  | 106 => ⟨S2x8192x8x32, .f32⟩
  | 107 => ⟨S4, .f32⟩
  | 108 => ⟨S4, .f32⟩
  | 109 => ⟨S_, .f32⟩
  | 110 => ⟨S4, .f32⟩
  | 111 => ⟨S4, .f32⟩
  | 112 => ⟨S_, .f32⟩
  | 113 => ⟨S4, .f32⟩
  | 114 => ⟨S4, .f32⟩
  | 115 => ⟨S8192, .f32⟩
  | 116 => ⟨S8192x1, .f32⟩
  | 117 => ⟨S1x4, .f32⟩
  | 118 => ⟨S8192x4, .f32⟩
  | 119 => ⟨S8192x4, .f32⟩
  | 120 => ⟨S8192x4, .f32⟩
  | 121 => ⟨S8192x4, .f32⟩
  | 122 => ⟨S1x8192x1x4, .f32⟩
  | 123 => ⟨S8192x4, .f32⟩
  | 124 => ⟨S1x8192x1x4, .f32⟩
  | 125 => ⟨S2x8192x8x4, .f32⟩
  | 126 => ⟨S2x8192x8x4, .f32⟩
  | 127 => ⟨S2x8192x8x4, .f32⟩
  | _ => ⟨S2x8192x1536, .f32⟩

abbrev hbmTy0_1 (i : Nat) : BufTy := match i % 128 with
  | 0 => ⟨S2x8192x8x4, .f32⟩
  | 1 => ⟨S2x8192x8x4, .f32⟩
  | 2 => ⟨S2x8192x8x4, .f32⟩
  | 3 => ⟨S2x8192x8x4, .f32⟩
  | 4 => ⟨S2x8192x8x4, .f32⟩
  | 5 => ⟨S2x8192x8x4, .f32⟩
  | 6 => ⟨S2x8192x8x4, .f32⟩
  | 7 => ⟨S2x8192x8x4, .f32⟩
  | 8 => ⟨S2x8192x8x4, .f32⟩
  | 9 => ⟨S2x8192x8x24, .f32⟩
  | 10 => ⟨S2x8192x8x32, .f32⟩
  | 11 => ⟨S2x8192x32, .f32⟩
  | 12 => ⟨S2x8192x1x32, .f32⟩
  | 13 => ⟨S4, .f32⟩
  | 14 => ⟨S4, .f32⟩
  | 15 => ⟨S_, .f32⟩
  | 16 => ⟨S4, .f32⟩
  | 17 => ⟨S4, .f32⟩
  | 18 => ⟨S_, .f32⟩
  | 19 => ⟨S4, .f32⟩
  | 20 => ⟨S4, .f32⟩
  | 21 => ⟨S8192, .f32⟩
  | 22 => ⟨S8192x1, .f32⟩
  | 23 => ⟨S1x4, .f32⟩
  | 24 => ⟨S8192x4, .f32⟩
  | 25 => ⟨S8192x4, .f32⟩
  | 26 => ⟨S8192x4, .f32⟩
  | 27 => ⟨S8192x4, .f32⟩
  | 28 => ⟨S1x8192x1x4, .f32⟩
  | 29 => ⟨S8192x4, .f32⟩
  | 30 => ⟨S1x8192x1x4, .f32⟩
  | 31 => ⟨S2x8192x1x4, .f32⟩
  | 32 => ⟨S2x8192x1x4, .f32⟩
  | 33 => ⟨S2x8192x1x4, .f32⟩
  | 34 => ⟨S2x8192x1x4, .f32⟩
  | 35 => ⟨S2x8192x1x4, .f32⟩
  | 36 => ⟨S2x8192x1x4, .f32⟩
  | 37 => ⟨S2x8192x1x4, .f32⟩
  | 38 => ⟨S2x8192x1x4, .f32⟩
  | 39 => ⟨S2x8192x1x4, .f32⟩
  | 40 => ⟨S2x8192x1x4, .f32⟩
  | 41 => ⟨S2x8192x1x4, .f32⟩
  | 42 => ⟨S2x8192x1x4, .f32⟩
  | 43 => ⟨S2x8192x1x24, .f32⟩
  | 44 => ⟨S2x8192x1x32, .f32⟩
  | 45 => ⟨S2x8192x32, .f32⟩
  | 46 => ⟨S2x8192x512, .f32⟩
  | 47 => ⟨S2x8192x512, .f32⟩
  | 48 => ⟨S2x8192x256, .f32⟩
  | 49 => ⟨S2x8192x96, .f32⟩
  | 50 => ⟨S2x8192x128, .f32⟩
  | _ => ⟨S2x8192x1536, .f32⟩

abbrev hbmTy (i : Nat) : BufTy := match i / 128 with
  | 0 => hbmTy0_0 i
  | 1 => hbmTy0_1 i
  | _ => ⟨S2x8192x1536, .f32⟩

abbrev bufTy : (tb : Table) → Fin (tcTables nBuf tb) → BufTy
  | .hbm, ⟨i, _⟩ => hbmTy i
  | _, _ => ⟨S2x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_9 : Ref sig .tc := ⟨.hbm, 109, rfl⟩
abbrev main_v95 : Ref sig .tc := ⟨.hbm, 110, rfl⟩
abbrev main_v96 : Ref sig .tc := ⟨.hbm, 111, rfl⟩
abbrev main_cst_10 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_cst_11 : Ref sig .tc := ⟨.hbm, 143, rfl⟩
abbrev main_v127 : Ref sig .tc := ⟨.hbm, 144, rfl⟩
abbrev main_v128 : Ref sig .tc := ⟨.hbm, 145, rfl⟩
abbrev main_cst_12 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩

abbrev nD : Nat := 1
abbrev τ : Topo := Topo.v7x

variable {F : FTy → Type} [FloatOps F]
-- ==== Proof.Ffn.Spec.lean ====
/-
  The feed-forward part of the layer over the extended reals, written once for both feed-forward calls: one token's
  row normalised and modulated, and one hidden unit of the gated product.
-/
module

public import Idealize.ShloMosaic.PureOps.Ideal.Laws

@[expose] public section

noncomputable section

namespace Cert.Ffn

open Idealize.ShloMosaic

/-- The small number the mean square is moved by, as its printed word reads. -/
def eps : EReal := Ideal.ofBits .f32 0x358637BD#32

/-- The row length, as its printed word reads. -/
def width : EReal := Ideal.ofBits .f32 0x44800000#32

/-- Entry `k` of a token's row after the RMS norm with weight `w`, scaled by `1 + sc` and shifted by `sh`. -/
def modNorm (x w sc sh : Fin 1024 → EReal) (k : Fin 1024) : EReal :=
  x k * Ideal.rsqrt (Ideal.div (∑ q, x q * x q) width + eps) * w k * (1 + sc k) + sh k

/-- One hidden unit: the SiLU of the row's product with the gate column, times its product with the up column. -/
def gated (h g u : Fin 1024 → EReal) : EReal :=
  (∑ k, h k * g k) * Ideal.logistic (∑ k, h k * g k) * ∑ k, h k * u k

end Cert.Ffn

end
-- ==== Proof.Ffn.DensePayload.lean ====
/-
  What each stored value of the dense feed-forward kernel's body is at an index, over the extended reals.
-/
module

public import proofs.«01_k».proof.Proof.Gen.DenseIdeal.Value
public import proofs.«01_k».proof.Proof.Ffn.Spec
public import Idealize.ShloMosaic.Lib.Pointwise

@[expose] public section

set_option maxRecDepth 16384

noncomputable section

namespace Cert.DenseIdeal.Pay

open Cert.DenseIdeal Cert.DenseIdeal.Gen Idealize.ShloMosaic Cert.Ffn

/-- The normalised, modulated rows the first step of a row block keeps. -/
theorem pay1_apply (x : Vec Ideal S1x512x1024 .f32) (w : Vec Ideal S1x1024 .f32) (sh sc : Vec Ideal S1x1x1024 .f32)
    (r : Fin 512) (k : Fin 1024) :
    k0_pay1 x w sh sc (ix2 r k)
      = modNorm (fun q => x (ix3 0 r q)) (fun q => w (ix2 0 q)) (fun q => sc (ix3 0 0 q)) (fun q => sh (ix3 0 0 q)) k := by
  unfold modNorm width eps
  pointwise [k0_pay1]

/-- The accumulator starts at zero. -/
theorem pay2_apply (i : S512x1024.Idx) : (k0_pay2 (F := Ideal)) i = 0 := by
  idx_vars i
  pointwise [k0_pay2]

/-- One step adds the products of its half of the hidden units. -/
theorem pay3_apply (h : Vec Ideal S512x1024 .bf16) (g u : Vec Ideal S1x1024x1408 .bf16) (d : Vec Ideal S1x1408x1024 .bf16)
    (acc : Vec Ideal S512x1024 .f32) (r : Fin 512) (l : Fin 1024) :
    k0_pay3 h g u d acc (ix2 r l)
      = acc (ix2 r l) + ∑ c : Fin 1408, gated (fun k => h (ix2 r k)) (fun k => g (ix3 0 k c)) (fun k => u (ix3 0 k c)) * d (ix3 0 c l) := by
  unfold gated
  pointwise [k0_pay3]

/-- The last step of a row block stores the residual plus the gated accumulator. -/
theorem pay4_apply (x : Vec Ideal S1x512x1024 .f32) (gt : Vec Ideal S1x1x1024 .f32) (acc : Vec Ideal S512x1024 .f32)
    (r : Fin 512) (l : Fin 1024) :
    k0_pay4 x gt acc (ix3 0 r l) = x (ix3 0 r l) + gt (ix3 0 0 l) * acc (ix2 r l) := by
  pointwise [k0_pay4]

end Cert.DenseIdeal.Pay

end
-- ==== Proof.Ffn.DenseCases.lean ====
/-
  What one grid point of the dense feed-forward kernel leaves behind, as its stored values at the point's input blocks:
  the first point of a row block fills both scratch buffers, the second finishes the accumulator and stores the result.
-/
module

public import proofs.«01_k».proof.Proof.Gen.DenseIdeal.Value
public import Idealize.ShloMosaic.Lib.Tactic

@[expose] public section

set_option maxRecDepth 16384

noncomputable section

namespace Cert.DenseIdeal.Cases

open Cert.DenseIdeal Cert.DenseIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The shift of the normalised row, read out of the modulation block. -/
def shiftOf (x : Vec F S1x1x6144 .f32) : Vec F S1x1x1024 .f32 :=
  View.ld x (Rect.unit (s := S1x1x6144) ![0, 0, 3072] S1x1x1024.size inb_S1x1x6144_S1x1x1024_0_0_3072)
/-- The scale of the normalised row. -/
def scaleOf (x : Vec F S1x1x6144 .f32) : Vec F S1x1x1024 .f32 :=
  View.ld x (Rect.unit (s := S1x1x6144) ![0, 0, 4096] S1x1x1024.size inb_S1x1x6144_S1x1x1024_0_0_4096)
/-- The gate of the block's result. -/
def gateOf (x : Vec F S1x1x6144 .f32) : Vec F S1x1x1024 .f32 :=
  View.ld x (Rect.unit (s := S1x1x6144) ![0, 0, 5120] S1x1x1024.size inb_S1x1x6144_S1x1x1024_0_0_5120)

variable (c : Dev nD) (i : grid0.Coords)
  (arg3 : Memref sig .tc .vmem S1x512x1024 .f32) (harg3 : arg3.IsWhole) (arg4 : Memref sig .tc .vmem S1x1024 .f32) (harg4 : arg4.IsWhole)
  (arg5 : Memref sig .tc .vmem S1x1x6144 .f32) (harg5 : arg5.IsWhole) (arg6 : Memref sig .tc .vmem S8x128 .f32) (harg6 : arg6.IsWhole)
  (arg7 : Memref sig .tc .vmem S1x1024x1408 .bf16) (harg7 : arg7.IsWhole) (arg8 : Memref sig .tc .vmem S1x1024x1408 .bf16) (harg8 : arg8.IsWhole)
  (arg9 : Memref sig .tc .vmem S1x1408x1024 .bf16) (harg9 : arg9.IsWhole) (arg10 : Memref sig .tc .vmem S1x512x1024 .f32) (harg10 : arg10.IsWhole)
  (arg11 : Memref sig .tc .vmem S512x1024 .bf16) (harg11 : arg11.IsWhole) (arg12 : Memref sig .tc .vmem S512x1024 .f32) (harg12 : arg12.IsWhole)
  (arg13 : Memref sig .tc .vmem S512x128 .f32) (harg13 : arg13.IsWhole)
  (x0 : Vec F S1x512x1024 .f32) (x1 : Vec F S1x1024 .f32) (x2 : Vec F S1x1x6144 .f32) (x3 : Vec F S8x128 .f32)
  (x4 x5 : Vec F S1x1024x1408 .bf16) (x6 : Vec F S1x1408x1024 .bf16) (xs0 : Vec F S512x1024 .bf16) (xs1 : Vec F S512x1024 .f32)

/-- The first point leaves the normalised rows in the first scratch buffer. -/
theorem first_rows (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6
      = k0_pay1 x0 x1 (shiftOf x2) (scaleOf x2) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero hz2]
  simp only [View.readAt_eq_ld, harg3.read_unread, harg4.read_unread, harg5.read_unread, View.ld_unit_zero (S := S1x512x1024) hz3,
    View.ld_unit_zero (S := S1x1024) hz2]
  rfl

/-- The first point leaves the first half's products in the accumulator. -/
theorem first_acc (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5 x6
      = k0_pay3 (k0_pay1 x0 x1 (shiftOf x2) (scaleOf x2)) x4 x5 x6 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S512x1024) hz2]
  simp only [View.readCov_unit_zero (S := S512x1024) _ hz2, View.readAt_eq_ld, harg3.read_unread, harg4.read_unread, harg5.read_unread,
    harg7.read_unread, harg8.read_unread, harg9.read_unread, View.ld_unit_zero (S := S1x512x1024) hz3,
    View.ld_unit_zero (S := S1x1024) hz2, View.ld_unit_zero (S := S1x1024x1408) hz3, View.ld_unit_zero (S := S1x1408x1024) hz3]
  rfl

/-- The second point stores the residual plus the gated accumulator, its own half added. -/
theorem second_out (hc0 : ¬cond0_0 i) (hc1 : cond0_1 i) :
    out0_B_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1
      = k0_pay4 x0 (gateOf x2) (k0_pay3 xs0 x4 x5 x6 xs1) := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun0_B
  dsimp only
  sl_unfold_words
  rw [View.canon_unit_zero hz3]
  simp only [View.readCov_unit_zero (S := S512x1024) _ hz2, View.readAt_eq_ld, harg3.read_unread, harg5.read_unread,
    harg7.read_unread, harg8.read_unread, harg9.read_unread, harg11.read_unread, harg12.read_unread, View.ld_unit_zero (S := S1x512x1024) hz3,
    View.ld_unit_zero (S := S512x1024) hz2, View.ld_unit_zero (S := S1x1024x1408) hz3, View.ld_unit_zero (S := S1x1408x1024) hz3]
  rfl

end Cert.DenseIdeal.Cases

end
-- ==== Proof.Ffn.DenseBlocks.lean ====
/-
  The dense feed-forward kernel's input blocks read off the arguments, and what two consecutive grid points make of
  them: the result array over the extended reals.
-/
module

public import proofs.«01_k».proof.Proof.Ffn.DensePayload
public import proofs.«01_k».proof.Proof.Ffn.DenseCases
public import Idealize.ShloMosaic.Lib.Pipeline.Value
public import Idealize.ShloMosaic.Lib.StableHlo.Run

@[expose] public section

set_option maxRecDepth 16384

noncomputable section

namespace Cert.DenseIdeal.Blocks

open Cert.DenseIdeal Cert.DenseIdeal.Gen Idealize.ShloMosaic Idealize.ShloMosaic.TcCoe Idealize.SL.Sem Cert.Ffn

variable (m : (ℓ : Loc nD τ sig) → Buf (Elt Ideal) ℓ)

/-! ## The arrays the region finds -/

/-- A matrix's columns as two halves, as the host lays them out. -/
def colHalves (w : FVec Ideal S1024x2816 .f32) : FVec Ideal S2x1024x1408 .bf16 :=
  truncf .bf16 (concatenate S2x1024x1408 0
      [⟨S1x1024x1408, broadcastInDim S1x1024x1408 ![1, 2] bcast_S1024x1408_S1x1024x1408_1_2 (extractStridedSlice S1024x1408 ![0, 0] w slices_S1024x2816_S1024x1408_0_0)⟩,
        ⟨S1x1024x1408, broadcastInDim S1x1024x1408 ![1, 2] bcast_S1024x1408_S1x1024x1408_1_2 (extractStridedSlice S1024x1408 ![0, 1408] w slices_S1024x2816_S1024x1408_0_1408)⟩]
      concatenates_S1x1024x1408_S1x1024x1408_S2x1024x1408_d0) bitsLt_bf16_f32

theorem colHalves_apply (w : FVec Ideal S1024x2816 .f32) (j : Fin 2) (k : Fin 1024) (q : Fin 1408) :
    colHalves w (ix3 j k q) = w (ix2 k ⟨1408 * j.val + q.val, by omega⟩) := by
  fin_vals j with hj
  · pointwise [colHalves]
    rw [dif_pos (by omega)]
    exact congrArg w (congrArg (ix2 k) (Fin.ext (by simp only [hj]; omega)))
  · pointwise [colHalves]
    rw [dif_neg (by omega)]
    exact congrArg w (congrArg (ix2 k) (Fin.ext (by simp only [hj])))

theorem V_v5 (c : Dev nD) : V m c main_v5 = colHalves (m ((c : Thread nD τ).loc main_arg3)) := by
  unfold V hostOps0 colHalves
  after_results_simp
  rfl

theorem V_v11 (c : Dev nD) : V m c main_v11 = colHalves (m ((c : Thread nD τ).loc main_arg4)) := by
  unfold V hostOps0 colHalves
  after_results_simp
  rfl

/-- A matrix's rows as two halves. -/
def rowHalves (w : FVec Ideal S2816x1024 .f32) : FVec Ideal S2x1408x1024 .bf16 :=
  truncf .bf16 (concatenate S2x1408x1024 0
      [⟨S1x1408x1024, broadcastInDim S1x1408x1024 ![1, 2] bcast_S1408x1024_S1x1408x1024_1_2 (extractStridedSlice S1408x1024 ![0, 0] w slices_S2816x1024_S1408x1024_0_0)⟩,
        ⟨S1x1408x1024, broadcastInDim S1x1408x1024 ![1, 2] bcast_S1408x1024_S1x1408x1024_1_2 (extractStridedSlice S1408x1024 ![1408, 0] w slices_S2816x1024_S1408x1024_1408_0)⟩]
      concatenates_S1x1408x1024_S1x1408x1024_S2x1408x1024_d0) bitsLt_bf16_f32

theorem rowHalves_apply (w : FVec Ideal S2816x1024 .f32) (j : Fin 2) (q : Fin 1408) (k : Fin 1024) :
    rowHalves w (ix3 j q k) = w (ix2 ⟨1408 * j.val + q.val, by omega⟩ k) := by
  fin_vals j with hj
  · pointwise [rowHalves]
    rw [dif_pos (by omega)]
    exact congrArg (fun n => w (ix2 n k)) (Fin.ext (by simp only [hj]; omega))
  · pointwise [rowHalves]
    rw [dif_neg (by omega)]
    exact congrArg (fun n => w (ix2 n k)) (Fin.ext (by simp only [hj]))

theorem V_v17 (c : Dev nD) : V m c main_v17 = rowHalves (m ((c : Thread nD τ).loc main_arg5)) := by
  unfold V hostOps0 rowHalves
  after_results_simp
  rfl

theorem V_v19 (c : Dev nD) (k : Fin 1024) :
    V m c main_v19 (ix2 0 k) = m ((c : Thread nD τ).loc main_arg1) (ix1 k) := by
  have e : V m c main_v19 = shapeCast S1x1024 (m ((c : Thread nD τ).loc main_arg1) : FVec Ideal S1024 .f32) shapeCasts_S1024_S1x1024 := by
    unfold V hostOps0
    after_results_simp
    rfl
  rw [e]
  pointwise

/-! ## The blocks of a grid point -/

theorem at0 : ∀ t : Fin grid0.N, win0_0.index t = ![t.val / 32, t.val / 2 % 16, 0] := by decide +kernel
theorem at1 : ∀ t : Fin grid0.N, win0_1.index t = ![0, 0] := by decide +kernel
theorem at2 : ∀ t : Fin grid0.N, win0_2.index t = ![t.val / 32, 0, 0] := by decide +kernel
theorem at4 : ∀ t : Fin grid0.N, win0_4.index t = ![t.val % 2, 0, 0] := by decide +kernel
theorem at5 : ∀ t : Fin grid0.N, win0_5.index t = ![t.val % 2, 0, 0] := by decide +kernel
theorem at6 : ∀ t : Fin grid0.N, win0_6.index t = ![t.val % 2, 0, 0] := by decide +kernel

theorem lt64 (t : Fin grid0.N) : t.val < 64 := lt_of_lt_of_eq t.isLt (by decide)

variable (c : Dev nD) (t : Fin grid0.N)

/-- The rows of the point's batch and row block. -/
theorem rows_apply (r : Fin 512) (k : Fin 1024) :
    iblk m c 0 t (ix3 0 r k)
      = m ((c : Thread nD τ).loc main_arg0) (ix3 ⟨t.val / 32, by have := lt64 t; omega⟩ ⟨512 * (t.val / 2 % 16) + r.val, by omega⟩ k) := by
  have e := at0 t
  unfold iblk
  rw [View.read_apply]
  show V m c main_arg0 _ = _
  rw [V_main_arg0 m c]
  congr 1
  funext a
  apply Fin.ext
  match a with
  | ⟨0, _⟩ => show win0_0.index t 0 * 1 + 1 * 0 = t.val / 32; rw [e]; simp
  | ⟨1, _⟩ => show win0_0.index t 1 * 512 + 1 * r.val = 512 * (t.val / 2 % 16) + r.val; rw [e]; simp; omega
  | ⟨2, _⟩ => show win0_0.index t 2 * 1024 + 1 * k.val = k.val; rw [e]; simp

/-- The norm's weights. -/
theorem weight_apply (k : Fin 1024) :
    iblk m c 1 t (ix2 0 k) = m ((c : Thread nD τ).loc main_arg1) (ix1 k) := by
  have e := at1 t
  unfold iblk
  rw [View.read_apply]
  show V m c main_v19 _ = _
  rw [← V_v19 m c k]
  congr 1
  funext a
  apply Fin.ext
  match a with
  | ⟨0, _⟩ => show win0_1.index t 0 * 1 + 1 * 0 = 0; rw [e]; simp <;> omega
  | ⟨1, _⟩ => show win0_1.index t 1 * 1024 + 1 * k.val = k.val; rw [e]; simp <;> omega

/-- The modulation of the point's batch. -/
theorem mod_apply (k : Fin 6144) :
    iblk m c 2 t (ix3 0 0 k) = m ((c : Thread nD τ).loc main_arg2) (ix3 ⟨t.val / 32, by have := lt64 t; omega⟩ 0 k) := by
  have e := at2 t
  unfold iblk
  rw [View.read_apply]
  show V m c main_arg2 _ = _
  rw [V_main_arg2 m c]
  congr 1
  funext a
  apply Fin.ext
  match a with
  | ⟨0, _⟩ => show win0_2.index t 0 * 1 + 1 * 0 = t.val / 32; rw [e]; simp <;> omega
  | ⟨1, _⟩ => show win0_2.index t 1 * 1 + 1 * 0 = 0; rw [e]; simp <;> omega
  | ⟨2, _⟩ => show win0_2.index t 2 * 6144 + 1 * k.val = k.val; rw [e]; simp <;> omega

/-- The gate weights of the point's half of the hidden units. -/
theorem gate_apply (k : Fin 1024) (q : Fin 1408) :
    iblk m c 4 t (ix3 0 k q) = m ((c : Thread nD τ).loc main_arg3) (ix2 k ⟨1408 * (t.val % 2) + q.val, by omega⟩) := by
  have e := at4 t
  unfold iblk
  rw [View.read_apply]
  show V m c main_v5 _ = _
  rw [V_v5 m c]
  refine Eq.trans ?_ (colHalves_apply (m ((c : Thread nD τ).loc main_arg3)) ⟨t.val % 2, by omega⟩ k q)
  congr 1
  funext a
  apply Fin.ext
  match a with
  | ⟨0, _⟩ => show win0_4.index t 0 * 1 + 1 * 0 = t.val % 2; rw [e]; simp <;> omega
  | ⟨1, _⟩ => show win0_4.index t 1 * 1024 + 1 * k.val = k.val; rw [e]; simp <;> omega
  | ⟨2, _⟩ => show win0_4.index t 2 * 1408 + 1 * q.val = q.val; rw [e]; simp <;> omega

/-- The up weights of the point's half of the hidden units. -/
theorem up_apply (k : Fin 1024) (q : Fin 1408) :
    iblk m c 5 t (ix3 0 k q) = m ((c : Thread nD τ).loc main_arg4) (ix2 k ⟨1408 * (t.val % 2) + q.val, by omega⟩) := by
  have e := at5 t
  unfold iblk
  rw [View.read_apply]
  show V m c main_v11 _ = _
  rw [V_v11 m c]
  refine Eq.trans ?_ (colHalves_apply (m ((c : Thread nD τ).loc main_arg4)) ⟨t.val % 2, by omega⟩ k q)
  congr 1
  funext a
  apply Fin.ext
  match a with
  | ⟨0, _⟩ => show win0_5.index t 0 * 1 + 1 * 0 = t.val % 2; rw [e]; simp <;> omega
  | ⟨1, _⟩ => show win0_5.index t 1 * 1024 + 1 * k.val = k.val; rw [e]; simp <;> omega
  | ⟨2, _⟩ => show win0_5.index t 2 * 1408 + 1 * q.val = q.val; rw [e]; simp <;> omega

/-- The down weights of the point's half of the hidden units. -/
theorem down_apply (q : Fin 1408) (k : Fin 1024) :
    iblk m c 6 t (ix3 0 q k) = m ((c : Thread nD τ).loc main_arg5) (ix2 ⟨1408 * (t.val % 2) + q.val, by omega⟩ k) := by
  have e := at6 t
  unfold iblk
  rw [View.read_apply]
  show V m c main_v17 _ = _
  rw [V_v17 m c]
  refine Eq.trans ?_ (rowHalves_apply (m ((c : Thread nD τ).loc main_arg5)) ⟨t.val % 2, by omega⟩ q k)
  congr 1
  funext a
  apply Fin.ext
  match a with
  | ⟨0, _⟩ => show win0_6.index t 0 * 1 + 1 * 0 = t.val % 2; rw [e]; simp <;> omega
  | ⟨1, _⟩ => show win0_6.index t 1 * 1408 + 1 * q.val = q.val; rw [e]; simp <;> omega
  | ⟨2, _⟩ => show win0_6.index t 2 * 1024 + 1 * k.val = k.val; rw [e]; simp <;> omega

end Cert.DenseIdeal.Blocks

end
-- ==== Proof.Ffn.DenseValue.lean ====
/-
  The dense feed-forward kernel's result array, element by element, from the launch memory.
-/
module

public import proofs.«01_k».proof.Proof.Ffn.DenseBlocks

@[expose] public section

set_option maxRecDepth 16384

noncomputable section

namespace Cert.DenseIdeal.Fold

open Cert.DenseIdeal Cert.DenseIdeal.Gen Idealize.ShloMosaic Idealize.ShloMosaic.TcCoe Idealize.SL.Sem Cert.Ffn
open Cert.DenseIdeal.Cases Cert.DenseIdeal.Blocks Cert.DenseIdeal.Pay

variable (m : (ℓ : Loc nD τ sig) → Buf (Elt Ideal) ℓ) (c : Dev nD) (t : Fin grid0.N)

theorem shiftOf_apply (x : Vec Ideal S1x1x6144 .f32) (k : Fin 1024) : shiftOf x (ix3 0 0 k) = x (ix3 0 0 ⟨3072 + k.val, by omega⟩) := by
  pointwise [shiftOf]
theorem scaleOf_apply (x : Vec Ideal S1x1x6144 .f32) (k : Fin 1024) : scaleOf x (ix3 0 0 k) = x (ix3 0 0 ⟨4096 + k.val, by omega⟩) := by
  pointwise [scaleOf]
theorem gateOf_apply (x : Vec Ideal S1x1x6144 .f32) (k : Fin 1024) : gateOf x (ix3 0 0 k) = x (ix3 0 0 ⟨5120 + k.val, by omega⟩) := by
  pointwise [gateOf]

/-- The first point of a row block. -/
theorem first (h0 : t.val % 2 = 0) :
    (outsAt0 m c t.val t.isLt).2.1 = k0_pay1 (iblk m c 0 t) (iblk m c 1 t) (shiftOf (iblk m c 2 t)) (scaleOf (iblk m c 2 t))
    ∧ (outsAt0 m c t.val t.isLt).2.2 = k0_pay3 (k0_pay1 (iblk m c 0 t) (iblk m c 1 t) (shiftOf (iblk m c 2 t)) (scaleOf (iblk m c 2 t)))
        (iblk m c 4 t) (iblk m c 5 t) (iblk m c 6 t) (k0_pay2 (F := Ideal)) := by
  rw [outsAt0_A m c t h0 (by omega)]
  dsimp only
  rw [first_rows, first_acc]
  exact ⟨rfl, rfl⟩

/-- The second point of a row block. -/
theorem second (h1 : t.val % 2 = 1) :
    (outsAt0 m c t.val t.isLt).1 = k0_pay4 (iblk m c 0 t) (gateOf (iblk m c 2 t))
      (k0_pay3 (outsAt0 m c (t.val - 1) (lt_of_le_of_lt (Nat.sub_le _ _) t.isLt)).2.1 (iblk m c 4 t) (iblk m c 5 t) (iblk m c 6 t) (outsAt0 m c (t.val - 1) (lt_of_le_of_lt (Nat.sub_le _ _) t.isLt)).2.2) := by
  rw [outsAt0_B m c t (by omega) h1]
  dsimp only
  rw [second_out]

/-- The row of the residual stream the element belongs to. -/
def rowOf (c : Dev nD) (g : Fin 2) (R : Fin 8192) (k : Fin 1024) : EReal := m ((c : Thread nD τ).loc main_arg0) (ix3 g R k)

/-- The normalised and modulated row. -/
def normRow (c : Dev nD) (g : Fin 2) (R : Fin 8192) : Fin 1024 → EReal :=
  modNorm (rowOf m c g R) (fun k => m ((c : Thread nD τ).loc main_arg1) (ix1 k))
    (fun k => m ((c : Thread nD τ).loc main_arg2) (ix3 g 0 ⟨4096 + k.val, by omega⟩))
    (fun k => m ((c : Thread nD τ).loc main_arg2) (ix3 g 0 ⟨3072 + k.val, by omega⟩))

/-- One hidden unit's share of one output element. -/
def share (c : Dev nD) (g : Fin 2) (R : Fin 8192) (l : Fin 1024) (q : Fin 2816) : EReal :=
  gated (normRow m c g R) (fun k => m ((c : Thread nD τ).loc main_arg3) (ix2 k q)) (fun k => m ((c : Thread nD τ).loc main_arg4) (ix2 k q))
    * (m ((c : Thread nD τ).loc main_arg5) (ix2 q l) : EReal)

theorem batch_lt (t : Fin grid0.N) : t.val / 32 < 2 := by have := lt64 t; omega
theorem row_lt (t : Fin grid0.N) (r : Fin 512) : 512 * (t.val / 2 % 16) + r.val < 8192 := by omega

theorem normed (t : Fin grid0.N) (g : Fin 2) (R : Fin 8192) (r : Fin 512) (hg : t.val / 32 = g.val) (hR : 512 * (t.val / 2 % 16) + r.val = R.val) (k : Fin 1024) :
    k0_pay1 (iblk m c 0 t) (iblk m c 1 t) (shiftOf (iblk m c 2 t)) (scaleOf (iblk m c 2 t)) (ix2 r k) = normRow m c g R k := by
  obtain rfl : g = ⟨t.val / 32, batch_lt t⟩ := Fin.ext hg.symm
  obtain rfl : R = ⟨512 * (t.val / 2 % 16) + r.val, row_lt t r⟩ := Fin.ext hR.symm
  rw [pay1_apply]
  simp only [shiftOf_apply, scaleOf_apply, rows_apply, weight_apply, mod_apply]
  rfl

/-- One half's products. -/
theorem half (t : Fin grid0.N) (h : FVec Ideal S512x1024 .bf16) (acc : FVec Ideal S512x1024 .f32) (g : Fin 2) (R : Fin 8192) (r : Fin 512) (l : Fin 1024)
    (hh : ∀ k, h (ix2 r k) = normRow m c g R k) :
    k0_pay3 h (iblk m c 4 t) (iblk m c 5 t) (iblk m c 6 t) acc (ix2 r l)
      = acc (ix2 r l) + ∑ q : Fin 1408, share m c g R l ⟨1408 * (t.val % 2) + q.val, by omega⟩ := by
  rw [pay3_apply]
  simp only [hh, gate_apply, up_apply, down_apply]
  rfl

/-- The gate of the block's result at a column. -/
def outGate (c : Dev nD) (g : Fin 2) (l : Fin 1024) : EReal := m ((c : Thread nD τ).loc main_arg2) (ix3 g 0 ⟨5120 + l.val, by omega⟩)

/-- The element of the result array. -/
def result (c : Dev nD) (g : Fin 2) (R : Fin 8192) (l : Fin 1024) : EReal :=
  rowOf m c g R l + outGate m c g l * ∑ q : Fin 2816, share m c g R l q

theorem out_apply (t : Fin grid0.N) (h1 : t.val % 2 = 1) (g : Fin 2) (R : Fin 8192) (r : Fin 512) (l : Fin 1024)
    (hg : t.val / 32 = g.val) (hR : 512 * (t.val / 2 % 16) + r.val = R.val) :
    (outsAt0 m c t.val t.isLt).1 (ix3 0 r l) = result m c g R l := by
  have hp : t.val - 1 < grid0.N := by have := t.isLt; omega
  obtain ⟨e1, e2⟩ := first m c ⟨t.val - 1, hp⟩ (by simp only []; omega)
  have hn : ∀ k, (outsAt0 m c (t.val - 1) hp).2.1 (ix2 r k) = normRow m c g R k := fun k => by
    rw [show (outsAt0 m c (t.val - 1) hp).2.1 = _ from e1]
    exact normed m c ⟨t.val - 1, hp⟩ g R r (by simp only []; omega) (by simp only []; omega) k
  have ha : (outsAt0 m c (t.val - 1) hp).2.2 (ix2 r l) = ∑ q : Fin 1408, share m c g R l ⟨q.val, by omega⟩ := by
    rw [show (outsAt0 m c (t.val - 1) hp).2.2 = _ from e2,
      half m c ⟨t.val - 1, hp⟩ _ _ g R r l (fun k => normed m c ⟨t.val - 1, hp⟩ g R r (by simp only []; omega) (by simp only []; omega) k), pay2_apply, zero_add]
    refine Finset.sum_congr rfl fun q _ => congrArg _ (Fin.ext ?_)
    simp only []
    omega
  rw [second m c t h1, pay4_apply, half m c t _ _ g R r l hn, ha, gateOf_apply, mod_apply, rows_apply]
  obtain rfl : g = ⟨t.val / 32, batch_lt t⟩ := Fin.ext hg.symm
  obtain rfl : R = ⟨512 * (t.val / 2 % 16) + r.val, row_lt t r⟩ := Fin.ext hR.symm
  unfold result rowOf outGate
  rw [Fin.sum_univ_two_halves 1408 1408 rfl]
  congr 3
  refine Finset.sum_congr rfl fun q _ => congrArg _ (Fin.ext ?_)
  simp only []
  omega

/-- The region leaves `result`. -/
theorem G7_apply (g : Fin 2) (R : Fin 8192) (l : Fin 1024) : Value.G7 m c (ix3 g R l) = result m c g R l := by
  have hN : grid0.N = 64 := by decide
  unfold Value.G7
  have hb : Value.pt7Of (ix3 g R l) < grid0.N := by
    rw [hN]
    show 2 * (16 * (g.val / 1 - 0) + 1 * (R.val / 512 - 0) + 1 * (l.val / 1024 - 0)) + 1 < 64
    omega
  rw [dif_pos hb, ← Value.outsAt0_sweep]
  have hl : Value.loc7Of (ix3 g R l) = ix3 0 ⟨R.val % 512, by omega⟩ l := by
    funext a
    apply Fin.ext
    match a with
    | ⟨0, _⟩ => show g.val % 1 = 0; omega
    | ⟨1, _⟩ => rfl
    | ⟨2, _⟩ => show l.val % 1024 = l.val; omega
  rw [hl]
  have hv : Value.pt7Of (ix3 g R l) = 32 * g.val + 2 * (R.val / 512) + 1 := by
    show 2 * (16 * (g.val / 1 - 0) + 1 * (R.val / 512 - 0) + 1 * (l.val / 1024 - 0)) + 1 = _
    omega
  exact out_apply m c ⟨_, hb⟩ (by simp only [hv]; omega) g R _ l (by simp only [hv]; omega) (by simp only [hv]; omega)

end Cert.DenseIdeal.Fold

end
-- ==== Proof.Ffn.DenseRefValue.lean ====
/-
  The dense feed-forward reference's result, element by element.
-/
module

public import proofs.«01_k».proof.Proof.Ffn.Spec
public import proofs.«01_k».proof.Proof.Gen.DenseRefIdeal.Read
public import Idealize.ShloMosaic.Lib.Pointwise

@[expose] public section

set_option maxRecDepth 16384

noncomputable section

namespace Cert.DenseRefIdeal.Ref

open Cert.DenseRefIdeal Cert.DenseRefIdeal.Gen Idealize.ShloMosaic Idealize.ShloMosaic.TcCoe Idealize.SL.Sem Cert.Ffn
open Cert.DenseRefIdeal.Read

variable (x : FVec Ideal S2x8192x1024 .f32) (w : FVec Ideal S1024 .f32) (md : FVec Ideal S2x1x6144 .f32)
  (wg wu : FVec Ideal S1024x2816 .f32) (wd : FVec Ideal S2816x1024 .f32)

/-- The normalised and modulated row. -/
theorem norm_apply (g : Fin 2) (R : Fin 8192) (k : Fin 1024) :
    val_main_v24 (F := Ideal) x w md (ix3 g R k)
      = modNorm (fun q => x (ix3 g R q)) (fun q => w (ix1 q)) (fun q => md (ix3 g 0 ⟨4096 + q.val, by omega⟩))
          (fun q => md (ix3 g 0 ⟨3072 + q.val, by omega⟩)) k := by
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v3, val_main_v4, val_main_cst, val_main_cst_0, val_main_cst_1, val_main_cst_2, modNorm, eps, width]

theorem out_apply (g : Fin 2) (R : Fin 8192) (l : Fin 1024) :
    val_main_v32 (F := Ideal) x w md wg wu wd (ix3 g R l)
      = x (ix3 g R l) + md (ix3 g 0 ⟨5120 + l.val, by omega⟩) * ∑ q : Fin 2816,
        gated (fun k => val_main_v24 (F := Ideal) x w md (ix3 g R k)) (fun k => wg (ix2 k q)) (fun k => wu (ix2 k q)) * wd (ix2 q l) := by
  pointwise [val_main_v32, val_main_v31, val_main_v30, val_main_v5, val_main_v29, val_main_v28, val_main_v27, val_main_v26, val_main_v25,
    val_main_call0_v5, val_main_call0_v4, val_main_call0_v3, val_main_call0_v2, val_main_call0_v1, val_main_call0_v0, val_main_call0_cst,
    val_main_call0_cst_0, gated, Ideal.logistic]

end Cert.DenseRefIdeal.Ref

end
-- ==== Proof.Ffn.DenseClaim.lean ====
/-
  The dense feed-forward claims: the kernel's result array and the reference's are the same function of the arguments.
-/
module

public import proofs.«01_k».proof.Defs
public import proofs.«01_k».proof.Proof.Ffn.DenseValue
public import proofs.«01_k».proof.Proof.Ffn.DenseRefValue
public import proofs.«01_k».proof.Proof.Gen.DenseRefIdeal.Run
public import proofs.«01_k».proof.Proof.Gen.Dense.Frame
public import proofs.«01_k».proof.Proof.Gen.Dense
public import proofs.«01_k».proof.Proof.Gen.DenseIdeal
public import proofs.«01_k».proof.Proof.Gen.DenseRefIdeal

@[expose] public section

noncomputable section

namespace Cert.Proof.Dense

open Idealize.ShloMosaic Idealize.ShloMosaic.TcCoe Idealize.SL.Sem

theorem frame_kernel : Cert.quiescent_Dense := fun m ρ _ => Cert.Dense.Gen.frame m ρ
theorem frame_ideal : Cert.quiescent_DenseIdeal := fun m ρ _ => Cert.DenseIdeal.Gen.frame m ρ
theorem frame_ref : Cert.quiescent_DenseRefIdeal := fun m ρ _ =>
  (θ_run Cert.DenseRefIdeal.defs _ _).mono (fun r h => ⟨fun c => (h c).2, sem_eq_zero_of_no_sems (by decide) r.2⟩)
    (Cert.DenseRefIdeal.Value.run (F := Ideal) m ρ)

/-- Both programs leave the same array where their arguments agree. -/
theorem same (m : (ℓ : Loc Cert.DenseIdeal.nD Cert.DenseIdeal.τ Cert.DenseIdeal.sig) → Buf (Elt Ideal) ℓ) (c : Dev Cert.DenseIdeal.nD) :
    Cert.DenseRefIdeal.Read.val_main_v32 (F := Ideal) (m ((c.tc : Thread Cert.DenseIdeal.nD Cert.DenseIdeal.τ).loc Cert.DenseIdeal.main_arg0))
      (m ((c.tc : Thread Cert.DenseIdeal.nD Cert.DenseIdeal.τ).loc Cert.DenseIdeal.main_arg1)) (m ((c.tc : Thread Cert.DenseIdeal.nD Cert.DenseIdeal.τ).loc Cert.DenseIdeal.main_arg2))
      (m ((c.tc : Thread Cert.DenseIdeal.nD Cert.DenseIdeal.τ).loc Cert.DenseIdeal.main_arg3)) (m ((c.tc : Thread Cert.DenseIdeal.nD Cert.DenseIdeal.τ).loc Cert.DenseIdeal.main_arg4))
      (m ((c.tc : Thread Cert.DenseIdeal.nD Cert.DenseIdeal.τ).loc Cert.DenseIdeal.main_arg5))
      = Cert.DenseIdeal.Value.G7 m c := by
  funext i
  idx_vars i
  rw [Cert.DenseIdeal.Fold.G7_apply, Cert.DenseRefIdeal.Ref.out_apply]
  simp only [Cert.DenseRefIdeal.Ref.norm_apply]
  rfl

theorem algebraic : Cert.algebraic_DenseIdeal_DenseRefIdeal := by
  intro m ρ m' ρ' _ hag
  refine ⟨fun c => Cert.DenseIdeal.Value.G7 m c, Cert.DenseIdeal.Value.run (F := Ideal) m ρ, ?_⟩
  refine (θ_run Cert.DenseRefIdeal.defs _ _).mono (fun _ h c => ⟨(h c).1.trans ?_, (h c).2⟩) (Cert.DenseRefIdeal.Value.run (F := Ideal) m' ρ')
  obtain ⟨a0, a1, a2, a3, a4, a5⟩ := hag c
  rw [Cert.DenseRefIdeal.Read.val_main_v32_eq, a0, a1, a2, a3, a4, a5]
  exact same m c

end Cert.Proof.Dense

end
-- ==== Proof.Ffn.TopTwo.lean ====
/-
  The two greatest of eight scores, ties to the lower index, and the weights a softmax over the two gives them.
-/
module

public import Idealize.ShloMosaic.PureOps.Ideal
public import Idealize.ShloMosaic.Lib.IdealHost
public import Idealize.ShloMosaic.Lib.Pointwise

@[expose] public section

noncomputable section

namespace Cert.Ffn

open Idealize.ShloMosaic

/-- A finite extended real. -/
def Fin' (x : EReal) : Prop := ∃ a : ℝ, x = a

theorem Fin'.zero : Fin' 0 := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sum {n : Nat} {f : Fin n → EReal} (h : ∀ k, Fin' (f k)) : Fin' (∑ k, f k) :=
  Finset.sum_induction f Fin' (fun _ _ => Fin'.add) Fin'.zero fun k _ => h k
theorem Fin'.sub_self {x : EReal} (hx : Fin' x) : x - x = 0 := by
  obtain ⟨a, rfl⟩ := hx
  rw [← EReal.coe_sub, _root_.sub_self, EReal.coe_zero]
theorem Fin'.ne_bot {x : EReal} (hx : Fin' x) : x ≠ ⊥ := by obtain ⟨a, rfl⟩ := hx; exact EReal.coe_ne_bot a

/-- `i` is the first of the greatest of eight scores, `j` the first of the greatest of the others. -/
structure TopTwo (L : Fin 8 → EReal) (i j : Fin 8) : Prop where
  ne : j ≠ i
  top : ∀ k, L k ≤ L i
  first : ∀ k, L k = L i → i ≤ k
  next : ∀ k, k ≠ i → L k ≤ L j
  second : ∀ k, k ≠ i → L k = L j → j ≤ k

/-- The greater's weight and the other's, as a softmax over the two scores. -/
def weight (L : Fin 8 → EReal) (i j : Fin 8) (e : Nat) : EReal :=
  (if e = i.val then Ideal.div 1 (1 + Ideal.exp (L j - L i)) else 0)
    + if e = j.val then Ideal.div (Ideal.exp (L j - L i)) (1 + Ideal.exp (L j - L i)) else 0

theorem fold_max {n : Nat} (f : Fin n → EReal) (a : Fin n) (h : ∀ k, f k ≤ f a) : Finset.univ.fold max ⊥ f = f a :=
  le_antisymm ((Finset.fold_max_le _).mpr ⟨bot_le, fun k _ => h k⟩) ((Finset.le_fold_max _).mpr (.inr ⟨a, Finset.mem_univ a, le_rfl⟩))

theorem fold_min {n : Nat} (f : Fin n → EReal) (a : Fin n) (h : ∀ k, f a ≤ f k) : Finset.univ.fold min ⊤ f = f a :=
  le_antisymm ((Finset.fold_min_le _).mpr (.inr ⟨a, Finset.mem_univ a, le_rfl⟩)) ((Finset.le_fold_min _).mpr ⟨le_top, fun k _ => h k⟩)

/-- A lane's number as an extended real. -/
def lane (n : Nat) : EReal := ((n : ℝ) : EReal)

theorem lane_inj {a b : Nat} : lane a = lane b ↔ a = b := by
  unfold lane
  rw [EReal.coe_eq_coe_iff, Nat.cast_inj]
theorem lane_le {a b : Nat} : lane a ≤ lane b ↔ a ≤ b := by
  unfold lane
  rw [EReal.coe_le_coe_iff, Nat.cast_le]
theorem lane_lt {a b : Nat} : lane a < lane b ↔ a < b := by
  unfold lane
  rw [EReal.coe_lt_coe_iff, Nat.cast_lt]

theorem bits_top : Ideal.ofBits .f32 0x7F800000#32 = ⊤ := by simp [Ideal.ofBits, Ideal.ieee]
theorem bits_bot : Ideal.ofBits .f32 0xFF800000#32 = ⊥ := by simp [Ideal.ofBits, Ideal.ieee]
theorem bits_8 : Ideal.ofBits .f32 0x41000000#32 = lane 8 := by
  unfold lane
  simp [Ideal.ofBits, Ideal.ieee, -EReal.coe_mul]; norm_num
theorem bits_128 : Ideal.ofBits .f32 0x43000000#32 = lane 128 := by
  unfold lane
  simp [Ideal.ofBits, Ideal.ieee, -EReal.coe_mul]; norm_num

theorem lane_word {n : Nat} (h : n < 128) : FloatOps.sitofp (F := Ideal) .f32 (BitVec.ofNat 32 n) = lane n := by
  show (((BitVec.ofNat 32 n).toInt : ℝ) : EReal) = _
  rw [show (BitVec.ofNat 32 n).toInt = (n : Int) by
    rw [BitVec.toInt_eq_toNat_of_lt (by rw [BitVec.toNat_ofNat]; omega), BitVec.toNat_ofNat, Nat.mod_eq_of_lt (by omega)]]
  rfl

/-- A row of 128 lanes, eight scores and then minus infinity. -/
def padded (L : Fin 8 → EReal) (l : Fin 128) : EReal := if h : l.val < 8 then L ⟨l.val, h⟩ else ⊥

section Search
variable {L : Fin 8 → EReal} {i j : Fin 8} (T : TopTwo L i j) (hL : ∀ e, Fin' (L e))
include T hL

theorem TopTwo.max_eq : Finset.univ.fold max ⊥ (padded L) = L i := by
  rw [fold_max (padded L) ⟨i.val, by omega⟩ fun k => ?_]
  · unfold padded; rw [dif_pos i.isLt]
  · unfold padded
    rw [dif_pos (show i.val < 8 from i.isLt)]
    split
    · exact T.top _
    · exact bot_le

theorem TopTwo.first_eq : Finset.univ.fold min ⊤ (fun l : Fin 128 => if padded L l = L i then lane l.val else lane 128) = lane i.val := by
  have e : padded L ⟨i.val, by omega⟩ = L i := by unfold padded; rw [dif_pos i.isLt]
  rw [fold_min _ (⟨i.val, by omega⟩ : Fin 128) fun k => ?_]
  · rw [if_pos e]
  · rw [if_pos e]
    split
    · rename_i h
      rw [lane_le]
      unfold padded at h
      split at h
      · exact T.first _ h
      · exact absurd h.symm (hL i).ne_bot
    · rw [lane_le]; show i.val ≤ 128; omega

/-- The scores without the greatest. -/
def others (L : Fin 8 → EReal) (i : Fin 8) (l : Fin 128) : EReal := if lane l.val = lane i.val then ⊥ else padded L l

omit T hL in
theorem others_at {k : Fin 8} (h : k ≠ i) : others L i ⟨k.val, by omega⟩ = L k := by
  unfold others padded
  rw [if_neg (by rw [lane_inj]; exact fun e => h (Fin.ext e)), dif_pos (show k.val < 8 from k.isLt)]

omit T hL in
theorem others_cases (l : Fin 128) : others L i l = ⊥ ∨ ∃ k : Fin 8, k ≠ i ∧ k.val = l.val ∧ others L i l = L k := by
  by_cases h : l.val < 8
  · by_cases hi : l.val = i.val
    · left; unfold others; rw [if_pos (by rw [hi])]
    · exact .inr ⟨⟨l.val, h⟩, fun e => hi (congrArg Fin.val e), rfl, others_at (k := ⟨l.val, h⟩) fun e => hi (congrArg Fin.val e)⟩
  · left; unfold others padded
    split
    · rfl
    · rfl

theorem TopTwo.next_eq : Finset.univ.fold max ⊥ (others L i) = L j := by
  rw [fold_max (others L i) ⟨j.val, by omega⟩ fun k => ?_]
  · exact others_at T.ne
  · rw [others_at T.ne]
    rcases others_cases (L := L) (i := i) k with h | ⟨k', hk, _, h⟩
    · rw [h]; exact bot_le
    · rw [h]; exact T.next _ hk

theorem TopTwo.second_eq : Finset.univ.fold min ⊤ (fun l : Fin 128 => if others L i l = L j then lane l.val else lane 128) = lane j.val := by
  rw [fold_min _ (⟨j.val, by omega⟩ : Fin 128) fun k => ?_]
  · rw [if_pos (others_at T.ne)]
  · rw [if_pos (others_at T.ne)]
    split
    · rename_i h
      rw [lane_le]
      rcases others_cases (L := L) (i := i) k with h' | ⟨k', hk, e, h'⟩
      · exact absurd (h.symm.trans h') (hL j).ne_bot
      · have := T.second k' hk (h'.symm.trans h)
        show j.val ≤ k.val
        rw [← e]; exact this
    · rw [lane_le]; show j.val ≤ 128; omega

end Search

/-- There are always two. -/
theorem TopTwo.exists (L : Fin 8 → EReal) : ∃ i j, TopTwo L i j := by
  have least : ∀ s : Finset (Fin 8), s.Nonempty → ∃ a ∈ s, (∀ k ∈ s, L k ≤ L a) ∧ ∀ k ∈ s, L k = L a → a ≤ k := fun s hs => by
    obtain ⟨b, hb, hm⟩ := Finset.exists_max_image s L hs
    obtain ⟨a, ha, hl⟩ := Finset.exists_min_image (s.filter fun k => L k = L b) id ⟨b, Finset.mem_filter.mpr ⟨hb, rfl⟩⟩
    obtain ⟨h1, h2⟩ := Finset.mem_filter.mp ha
    exact ⟨a, h1, fun k hk => h2 ▸ hm k hk, fun k hk e => hl k (Finset.mem_filter.mpr ⟨hk, e.trans h2⟩)⟩
  obtain ⟨i, _, h1, h2⟩ := least Finset.univ ⟨0, Finset.mem_univ _⟩
  have hne : (Finset.univ.erase i).Nonempty := by
    rw [← Finset.card_pos, Finset.card_erase_of_mem (Finset.mem_univ i)]
    decide
  obtain ⟨j, hj, h3, h4⟩ := least (Finset.univ.erase i) hne
  exact ⟨i, j, Finset.ne_of_mem_erase hj, fun k => h1 k (Finset.mem_univ _), fun k => h2 k (Finset.mem_univ _),
    fun k hk => h3 k (Finset.mem_erase.mpr ⟨hk, Finset.mem_univ _⟩), fun k hk => h4 k (Finset.mem_erase.mpr ⟨hk, Finset.mem_univ _⟩)⟩

end Cert.Ffn

end
-- ==== Proof.Ffn.RoutedPayload.lean ====
/-
  What the routed feed-forward kernel stores, read at an index: its payloads over the extended reals.
-/
module

public import proofs.«01_k».proof.Proof.Ffn.Spec
public import proofs.«01_k».proof.Proof.Ffn.TopTwo
public import proofs.«01_k».proof.Proof.Gen.RoutedIdeal.Skeleton
public import Idealize.ShloMosaic.Lib.Pointwise

@[expose] public section

set_option maxRecDepth 16384

noncomputable section

namespace Cert.RoutedIdeal.Pay

open Cert.RoutedIdeal Cert.RoutedIdeal.Gen Idealize.ShloMosaic Cert.Ffn

/-- An expert's number is a lane of the padded scores. -/
theorem expert_lane (e : Fin 8) : e.val < 128 := by omega

/-- The modulated norm of a row. -/
theorem pay2_apply (x : Vec Ideal S1x512x1024 .f32) (w : Vec Ideal S1x1024 .f32) (sh sc : Vec Ideal S1x1x1024 .f32)
    (r : Fin 512) (k : Fin 1024) :
    k0_pay2 x w sh sc (ix2 r k)
      = modNorm (fun q => x (ix3 0 r q)) (fun q => w (ix2 0 q)) (fun q => sc (ix3 0 0 q)) (fun q => sh (ix3 0 0 q)) k := by
  unfold modNorm width eps
  pointwise [k0_pay2]

/-- The rows the experts read are those of the norm. -/
theorem pay3_apply (x : Vec Ideal S1x512x1024 .f32) (w : Vec Ideal S1x1024 .f32) (sh sc : Vec Ideal S1x1x1024 .f32)
    (r : Fin 512) (k : Fin 1024) : k0_pay3 x w sh sc (ix2 r k) = k0_pay2 x w sh sc (ix2 r k) := by
  pointwise [k0_pay3]

/-- The accumulator starts at zero. -/
theorem pay4_apply (i : S512x1024.Idx) : (k0_pay4 (F := Ideal)) i = 0 := by
  idx_vars i
  pointwise [k0_pay4]

/-- The result: the residual plus the gated accumulator. -/
theorem pay1_apply (x : Vec Ideal S1x512x1024 .f32) (gt : Vec Ideal S1x1x1024 .f32) (acc : Vec Ideal S512x1024 .f32)
    (r : Fin 512) (l : Fin 1024) :
    k0_pay1 x gt acc (ix3 0 r l) = x (ix3 0 r l) + gt (ix3 0 0 l) * acc (ix2 r l) := by
  pointwise [k0_pay1]

/-- A lane's number. -/
theorem pay5_apply (r : Fin 512) (l : Fin 128) : k0_pay5 (F := Ideal) (ix2 r l) = lane l.val := by
  pointwise [k0_pay5]
  exact lane_word l.isLt

/-- The number of experts. -/
theorem pay6_apply (r : Fin 512) (l : Fin 128) : k0_pay6 (F := Ideal) (ix2 r l) = lane 8 := by
  pointwise [k0_pay6]
  exact bits_8

section Scores
variable {h : FVec Ideal S512x1024 .f32} {w : Vec Ideal S1024x128 .f32} {r : Fin 512} {L : Fin 8 → EReal}
  (hh : ∀ k, Fin' (h (ix2 r k))) (hw : ∀ k l, Fin' (w (ix2 k l)))
  (hL : ∀ e : Fin 8, ∑ k : Fin 1024, h (ix2 r k) * w (ix2 k ⟨e.val, expert_lane e⟩) = L e)
include hh hw hL

/-- The scores of a row, minus infinity past the experts. -/
theorem pay7_apply (l : Fin 128) : k0_pay7 h k0_pay5 k0_pay6 w (ix2 r l) = padded L l := by
  pointwise [k0_pay7]
  rw [pay5_apply, pay6_apply]
  simp only [lane_lt, (hh _).sub_self, (hw _ _).sub_self, zero_mul, mul_zero, Finset.sum_const_zero, add_zero]
  unfold padded
  split
  · exact hL ⟨l.val, by assumption⟩
  · exact bits_bot

variable {i j : Fin 8} (T : TopTwo L i j)
include T

theorem score_fin (e : Fin 8) : Fin' (L e) := by
  rw [← hL]
  exact Fin'.sum fun k => (hh k).mul (hw _ _)

theorem pay8_apply : k0_pay8 h k0_pay5 k0_pay6 w (ix2 r 0) = L i := by
  pointwise [k0_pay8]
  rw [bits_bot, ← T.max_eq (score_fin hh hw hL T)]
  exact congrArg (fun f => Finset.univ.fold max ⊥ f) (funext fun l => pay7_apply hh hw hL l)

theorem pay9_apply : k0_pay9 h k0_pay5 k0_pay6 w (ix2 r 0) = lane i.val := by
  pointwise [k0_pay9]
  rw [bits_top, ← T.first_eq (score_fin hh hw hL T)]
  refine congrArg (fun f => Finset.univ.fold min ⊤ f) (funext fun l => ?_)
  rw [pay7_apply hh hw hL l, pay8_apply hh hw hL T, pay5_apply, bits_128]

theorem pay10_apply (l : Fin 128) : k0_pay10 h k0_pay5 k0_pay6 w (ix2 r l) = others L i l := by
  pointwise [k0_pay10]
  rw [pay9_apply hh hw hL T, pay5_apply, bits_bot, pay7_apply hh hw hL l]
  rfl

theorem pay11_apply : k0_pay11 h k0_pay5 k0_pay6 w (ix2 r 0) = L j := by
  pointwise [k0_pay11]
  rw [bits_bot, ← T.next_eq (score_fin hh hw hL T)]
  exact congrArg (fun f => Finset.univ.fold max ⊥ f) (funext fun l => pay10_apply hh hw hL T l)

theorem pay12_apply : k0_pay12 h k0_pay5 k0_pay6 w (ix2 r 0) = lane j.val := by
  pointwise [k0_pay12]
  rw [bits_top, ← T.second_eq (score_fin hh hw hL T)]
  refine congrArg (fun f => Finset.univ.fold min ⊤ f) (funext fun l => ?_)
  rw [pay10_apply hh hw hL T l, pay11_apply hh hw hL T, pay5_apply, bits_128]

theorem pay13_apply : k0_pay13 h k0_pay5 k0_pay6 w (ix2 r 0) = Ideal.exp (L j - L i) := by
  pointwise [k0_pay13]
  rw [pay11_apply hh hw hL T, pay8_apply hh hw hL T]

/-- The weight of every lane's expert. -/
theorem comb_apply (l : Fin 128) :
    k0_pay17 k0_pay5 (k0_pay12 h k0_pay5 k0_pay6 w) (k0_pay13 h k0_pay5 k0_pay6 w) (k0_pay14 h k0_pay5 k0_pay6 w)
      (k0_pay15 h k0_pay5 k0_pay6 w) k0_pay16 (ix2 r l) = weight L i j l.val := by
  pointwise [k0_pay17, k0_pay14, k0_pay15, k0_pay16]
  rw [pay5_apply, pay9_apply hh hw hL T, pay12_apply hh hw hL T, pay13_apply hh hw hL T]
  simp only [lane_inj]
  rfl

end Scores

/-- Choosing by equality of two lane numbers. -/
theorem word_select (a : Fin 128) (e : Fin 8) (x : EReal) :
    Scalar.select (IntOp.cmpi CmpIPredicate.eq (BitVec.ofNat 32 a.val) (BitVec.ofNat 32 e.val)) x 0
      = if a.val = e.val then x else 0 := by
  have hi : BitVec.ofNat 32 a.val = BitVec.ofNat 32 e.val ↔ a.val = e.val := by
    rw [BitVec.toNat_inj.symm, BitVec.toNat_ofNat, BitVec.toNat_ofNat, Nat.mod_eq_of_lt (by omega), Nat.mod_eq_of_lt (by omega)]
  by_cases h : a.val = e.val
  · rw [if_pos h, h]
    simp [Scalar.select, IntOp.cmpi]
  · rw [if_neg h]
    simp [Scalar.select, IntOp.cmpi, beq_eq_false_iff_ne.mpr fun e => h (hi.mp e)]

/-- One expert's step: its products, weighted by its lane of the weights. -/
theorem pay18_apply (i : grid0.Coords) (h : Vec Ideal S512x1024 .bf16) (g u : Vec Ideal S1x1024x1408 .bf16) (d : Vec Ideal S1x1408x1024 .bf16)
    (comb : Vec Ideal S512x128 .f32) (acc : Vec Ideal S512x1024 .f32) (e : Fin 8) (he : (i 2).val = e.val) (r : Fin 512) (l : Fin 1024) :
    k0_pay18 i h g u d comb acc (ix2 r l)
      = acc (ix2 r l) + (∑ c : Fin 1408, gated (fun k => h (ix2 r k)) (fun k => g (ix3 0 k c)) (fun k => u (ix3 0 k c)) * d (ix3 0 c l))
          * comb (ix2 r ⟨e.val, expert_lane e⟩) := by
  unfold gated
  pointwise [k0_pay18]
  congr 2
  rw [he, Finset.sum_eq_single (⟨e.val, expert_lane e⟩ : Fin 128)]
  · rw [word_select, if_pos rfl]
  · intro b _ hb
    rw [word_select, if_neg fun h' => hb (Fin.ext h')]
  · exact fun h' => absurd (Finset.mem_univ _) h'

end Cert.RoutedIdeal.Pay

end
-- ==== Proof.Ffn.RoutedCases.lean ====
/-
  What one grid point of the routed feed-forward kernel leaves behind, as its stored values at the point's input blocks:
  the first expert's point of a row block fills the three scratch buffers, every later one adds to the accumulator, and
  the last stores the result.
-/
module

public import proofs.«01_k».proof.Proof.Gen.RoutedIdeal.Value
public import Idealize.ShloMosaic.Lib.Tactic

@[expose] public section

set_option maxRecDepth 16384

noncomputable section

namespace Cert.RoutedIdeal.Cases

open Cert.RoutedIdeal Cert.RoutedIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The shift of the normalised row, read out of the modulation block. -/
def shiftOf (x : Vec F S1x1x6144 .f32) : Vec F S1x1x1024 .f32 :=
  View.ld x (Rect.unit (s := S1x1x6144) ![0, 0, 3072] S1x1x1024.size inb_S1x1x6144_S1x1x1024_0_0_3072)
/-- The scale of the normalised row. -/
def scaleOf (x : Vec F S1x1x6144 .f32) : Vec F S1x1x1024 .f32 :=
  View.ld x (Rect.unit (s := S1x1x6144) ![0, 0, 4096] S1x1x1024.size inb_S1x1x6144_S1x1x1024_0_0_4096)
/-- The gate of the block's result. -/
def gateOf (x : Vec F S1x1x6144 .f32) : Vec F S1x1x1024 .f32 :=
  View.ld x (Rect.unit (s := S1x1x6144) ![0, 0, 5120] S1x1x1024.size inb_S1x1x6144_S1x1x1024_0_0_5120)

/-- The weight every expert lane gets from the normalised rows and the router. -/
def combOf (h : FVec F S512x1024 .f32) (w : Vec F S1024x128 .f32) : FVec F S512x128 .f32 :=
  k0_pay17 k0_pay5 (k0_pay12 h k0_pay5 k0_pay6 w) (k0_pay13 h k0_pay5 k0_pay6 w) (k0_pay14 h k0_pay5 k0_pay6 w)
    (k0_pay15 h k0_pay5 k0_pay6 w) k0_pay16

variable (c : Dev nD) (i : grid0.Coords)
  (arg3 : Memref sig .tc .vmem S1x512x1024 .f32) (harg3 : arg3.IsWhole) (arg4 : Memref sig .tc .vmem S1x1024 .f32) (harg4 : arg4.IsWhole)
  (arg5 : Memref sig .tc .vmem S1x1x6144 .f32) (harg5 : arg5.IsWhole) (arg6 : Memref sig .tc .vmem S1024x128 .f32) (harg6 : arg6.IsWhole)
  (arg7 : Memref sig .tc .vmem S1x1024x1408 .bf16) (harg7 : arg7.IsWhole) (arg8 : Memref sig .tc .vmem S1x1024x1408 .bf16) (harg8 : arg8.IsWhole)
  (arg9 : Memref sig .tc .vmem S1x1408x1024 .bf16) (harg9 : arg9.IsWhole) (arg10 : Memref sig .tc .vmem S1x512x1024 .f32) (harg10 : arg10.IsWhole)
  (arg11 : Memref sig .tc .vmem S512x1024 .bf16) (harg11 : arg11.IsWhole) (arg12 : Memref sig .tc .vmem S512x1024 .f32) (harg12 : arg12.IsWhole)
  (arg13 : Memref sig .tc .vmem S512x128 .f32) (harg13 : arg13.IsWhole)
  (x0 : Vec F S1x512x1024 .f32) (x1 : Vec F S1x1024 .f32) (x2 : Vec F S1x1x6144 .f32) (x3 : Vec F S1024x128 .f32)
  (x4 x5 : Vec F S1x1024x1408 .bf16) (x6 : Vec F S1x1408x1024 .bf16) (xs0 : Vec F S512x1024 .bf16) (xs1 : Vec F S512x1024 .f32)
  (xs2 : Vec F S512x128 .f32)

/-- The first point leaves the normalised rows in the first scratch buffer. -/
theorem first_rows (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6
      = k0_pay3 x0 x1 (shiftOf x2) (scaleOf x2) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero hz2]
  simp only [View.readCov_unit_zero (S := S512x1024) _ hz2, View.readCov_unit_zero (S := S512x128) _ hz2, View.readAt_eq_ld, harg3.read_unread, harg4.read_unread, harg5.read_unread, harg6.read_unread,
    harg7.read_unread, harg8.read_unread, harg9.read_unread, harg11.read_unread, harg12.read_unread, harg13.read_unread,
    View.ld_unit_zero (S := S1x512x1024) hz3, View.ld_unit_zero (S := S1x1024) hz2, View.ld_unit_zero (S := S1024x128) hz2,
    View.ld_unit_zero (S := S512x1024) hz2, View.ld_unit_zero (S := S512x128) hz2,
    View.ld_unit_zero (S := S1x1024x1408) hz3, View.ld_unit_zero (S := S1x1408x1024) hz3]
  rfl

/-- The first point leaves the experts' weights in the third scratch buffer. -/
theorem first_comb (hc0 : cond0_0 i) (hc1 : ¬cond0_1 i) :
    sout0_A_2 c i arg3 harg3 arg4 harg4 arg5 harg5 arg6 harg6 arg7 harg7 arg8 harg8 arg9 harg9 arg10 harg10 arg11 harg11 arg12 harg12 arg13 harg13 hc0 hc1 x0 x1 x2 x3 x4 x5 x6
      = combOf (k0_pay2 x0 x1 (shiftOf x2) (scaleOf x2)) x3 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero hz2]
  simp only [View.readCov_unit_zero (S := S512x1024) _ hz2, View.readCov_unit_zero (S := S512x128) _ hz2, View.readAt_eq_ld, harg3.read_unread, harg4.read_unread, harg5.read_unread, harg6.read_unread,
    harg7.read_unread, harg8.read_unread, harg9.read_unread, harg11.read_unread, harg12.read_unread, harg13.read_unread,
    View.ld_unit_zero (S := S1x512x1024) hz3, View.ld_unit_zero (S := S1x1024) hz2, View.ld_unit_zero (S := S1024x128) hz2,
    View.ld_unit_zero (S := S512x1024) hz2, View.ld_unit_zero (S := S512x128) hz2,
    View.ld_unit_zero (S := S1x1024x1408) hz3, View.ld_unit_zero (S := S1x1408x1024) hz3]
  rfl

/-- The first point leaves the first expert's weighted products in the accumulator. -/
theorem first_acc (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5 x6
      = k0_pay18 i (k0_pay3 x0 x1 (shiftOf x2) (scaleOf x2)) x4 x5 x6 (combOf (k0_pay2 x0 x1 (shiftOf x2) (scaleOf x2)) x3) (k0_pay4 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S512x1024) hz2]
  simp only [View.readCov_unit_zero (S := S512x1024) _ hz2, View.readCov_unit_zero (S := S512x128) _ hz2, View.readAt_eq_ld, harg3.read_unread, harg4.read_unread, harg5.read_unread, harg6.read_unread,
    harg7.read_unread, harg8.read_unread, harg9.read_unread, harg11.read_unread, harg12.read_unread, harg13.read_unread,
    View.ld_unit_zero (S := S1x512x1024) hz3, View.ld_unit_zero (S := S1x1024) hz2, View.ld_unit_zero (S := S1024x128) hz2,
    View.ld_unit_zero (S := S512x1024) hz2, View.ld_unit_zero (S := S512x128) hz2,
    View.ld_unit_zero (S := S1x1024x1408) hz3, View.ld_unit_zero (S := S1x1408x1024) hz3]
  rfl

/-- A middle point adds its expert's weighted products to the accumulator. -/
theorem middle_acc (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2
      = k0_pay18 i xs0 x4 x5 x6 xs2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero hz2]
  simp only [View.readCov_unit_zero (S := S512x1024) _ hz2, View.readCov_unit_zero (S := S512x128) _ hz2, View.readAt_eq_ld, harg3.read_unread, harg4.read_unread, harg5.read_unread, harg6.read_unread,
    harg7.read_unread, harg8.read_unread, harg9.read_unread, harg11.read_unread, harg12.read_unread, harg13.read_unread,
    View.ld_unit_zero (S := S1x512x1024) hz3, View.ld_unit_zero (S := S1x1024) hz2, View.ld_unit_zero (S := S1024x128) hz2,
    View.ld_unit_zero (S := S512x1024) hz2, View.ld_unit_zero (S := S512x128) hz2,
    View.ld_unit_zero (S := S1x1024x1408) hz3, View.ld_unit_zero (S := S1x1408x1024) hz3]

/-- The last point stores the residual plus the gated accumulator, its own expert added. -/
theorem last_out (hc0 : ¬cond0_0 i) (hc1 : cond0_1 i) :
    out0_C_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2
      = k0_pay1 x0 (gateOf x2) (k0_pay18 i xs0 x4 x5 x6 xs2 xs1) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero hz3]
  simp only [View.readCov_unit_zero (S := S512x1024) _ hz2, View.readCov_unit_zero (S := S512x128) _ hz2, View.readAt_eq_ld, harg3.read_unread, harg4.read_unread, harg5.read_unread, harg6.read_unread,
    harg7.read_unread, harg8.read_unread, harg9.read_unread, harg11.read_unread, harg12.read_unread, harg13.read_unread,
    View.ld_unit_zero (S := S1x512x1024) hz3, View.ld_unit_zero (S := S1x1024) hz2, View.ld_unit_zero (S := S1024x128) hz2,
    View.ld_unit_zero (S := S512x1024) hz2, View.ld_unit_zero (S := S512x128) hz2,
    View.ld_unit_zero (S := S1x1024x1408) hz3, View.ld_unit_zero (S := S1x1408x1024) hz3]
  rfl

end Cert.RoutedIdeal.Cases

end
-- ==== Proof.Ffn.RoutedBlocks.lean ====
/-
  The routed feed-forward kernel's input blocks read off the arguments.
-/
module

public import proofs.«01_k».proof.Proof.Ffn.RoutedPayload
public import proofs.«01_k».proof.Proof.Ffn.RoutedCases
public import proofs.«01_k».proof.Proof.Ffn.TopTwo
public import Idealize.ShloMosaic.Lib.Pipeline.Value
public import Idealize.ShloMosaic.Lib.StableHlo.Run
public import Idealize.ShloMosaic.Lib.StableHlo.RunRead

@[expose] public section

set_option maxRecDepth 16384

noncomputable section

namespace Cert.RoutedIdeal.Blocks

open Cert.RoutedIdeal Cert.RoutedIdeal.Gen Idealize.ShloMosaic Idealize.ShloMosaic.TcCoe Idealize.SL.Sem Cert.Ffn

variable (m : (ℓ : Loc nD τ sig) → Buf (Elt Ideal) ℓ)

/-! ## The arrays the region finds -/

theorem V_v0 (c : Dev nD) : V m c main_v0 = (truncf .bf16 (m ((c : Thread nD τ).loc main_arg4) : FVec Ideal S8x1024x1408 .f32) bitsLt_bf16_f32 : FVec Ideal S8x1024x1408 .bf16) := by
  unfold V hostOps0 hostOps0_1 hostOps0_2
  after_results_simp
  rfl

theorem V_v1 (c : Dev nD) : V m c main_v1 = (truncf .bf16 (m ((c : Thread nD τ).loc main_arg5) : FVec Ideal S8x1024x1408 .f32) bitsLt_bf16_f32 : FVec Ideal S8x1024x1408 .bf16) := by
  unfold V hostOps0 hostOps0_1 hostOps0_2
  after_results_simp
  rfl

theorem V_v2 (c : Dev nD) : V m c main_v2 = (truncf .bf16 (m ((c : Thread nD τ).loc main_arg6) : FVec Ideal S8x1408x1024 .f32) bitsLt_bf16_f32 : FVec Ideal S8x1408x1024 .bf16) := by
  unfold V hostOps0 hostOps0_1 hostOps0_2
  after_results_simp
  rfl

/-- The router with its columns padded to a lane row. -/
def padRouter (w : FVec Ideal S1024x8 .f32) : FVec Ideal S1024x128 .f32 :=
  pad S1024x128 ![0, 0] ![0, 120] ![0, 0] w (sitofp .f32 (constantI S_ 32 0#32)) pads_S1024x8_S1024x128_000_01200 h_S_

theorem V_v3 (c : Dev nD) : V m c main_v3 = padRouter (m ((c : Thread nD τ).loc main_arg3)) := by
  unfold V hostOps0 hostOps0_1 hostOps0_2 padRouter
  after_reads_simp
  rfl

theorem padRouter_apply (w : FVec Ideal S1024x8 .f32) (k : Fin 1024) (l : Fin 128) :
    padRouter w (ix2 k l) = if h : l.val < 8 then w (ix2 k ⟨l.val, h⟩) else 0 := by
  pointwise [padRouter]
  congr 1
  funext
  exact (lane_word (n := 0) (by decide)).trans (by simp [lane])

theorem V_v4 (c : Dev nD) (k : Fin 1024) :
    V m c main_v4 (ix2 0 k) = m ((c : Thread nD τ).loc main_arg1) (ix1 k) := by
  have e : V m c main_v4 = shapeCast S1x1024 (m ((c : Thread nD τ).loc main_arg1) : FVec Ideal S1024 .f32) shapeCasts_S1024_S1x1024 := by
    unfold V hostOps0 hostOps0_1 hostOps0_2
    after_results_simp
    rfl
  rw [e]
  pointwise

/-! ## The blocks of a grid point -/

theorem at0 : ∀ t : Fin grid0.N, win0_0.index t = ![t.val / 128, t.val / 8 % 16, 0] := by decide +kernel
theorem at1 : ∀ t : Fin grid0.N, win0_1.index t = ![0, 0] := by decide +kernel
theorem at2 : ∀ t : Fin grid0.N, win0_2.index t = ![t.val / 128, 0, 0] := by decide +kernel
theorem at3 : ∀ t : Fin grid0.N, win0_3.index t = ![0, 0] := by decide +kernel
theorem at4 : ∀ t : Fin grid0.N, win0_4.index t = ![t.val % 8, 0, 0] := by decide +kernel
theorem at5 : ∀ t : Fin grid0.N, win0_5.index t = ![t.val % 8, 0, 0] := by decide +kernel
theorem at6 : ∀ t : Fin grid0.N, win0_6.index t = ![t.val % 8, 0, 0] := by decide +kernel

theorem lt256 (t : Fin grid0.N) : t.val < 256 := lt_of_lt_of_eq t.isLt (by decide)

variable (c : Dev nD) (t : Fin grid0.N)

/-- The rows of the point's batch and row block. -/
theorem rows_apply (r : Fin 512) (k : Fin 1024) :
    iblk m c 0 t (ix3 0 r k)
      = m ((c : Thread nD τ).loc main_arg0) (ix3 ⟨t.val / 128, by have := lt256 t; omega⟩ ⟨512 * (t.val / 8 % 16) + r.val, by omega⟩ k) := by
  have e := at0 t
  unfold iblk
  rw [View.read_apply]
  show V m c main_arg0 _ = _
  rw [V_main_arg0 m c]
  congr 1
  funext a
  apply Fin.ext
  match a with
  | ⟨0, _⟩ => show win0_0.index t 0 * 1 + 1 * 0 = t.val / 128; rw [e]; simp
  | ⟨1, _⟩ => show win0_0.index t 1 * 512 + 1 * r.val = 512 * (t.val / 8 % 16) + r.val; rw [e]; simp; omega
  | ⟨2, _⟩ => show win0_0.index t 2 * 1024 + 1 * k.val = k.val; rw [e]; simp

/-- The norm's weights. -/
theorem weight_apply (k : Fin 1024) :
    iblk m c 1 t (ix2 0 k) = m ((c : Thread nD τ).loc main_arg1) (ix1 k) := by
  have e := at1 t
  unfold iblk
  rw [View.read_apply]
  show V m c main_v4 _ = _
  rw [← V_v4 m c k]
  congr 1
  funext a
  apply Fin.ext
  match a with
  | ⟨0, _⟩ => show win0_1.index t 0 * 1 + 1 * 0 = 0; rw [e]; simp <;> omega
  | ⟨1, _⟩ => show win0_1.index t 1 * 1024 + 1 * k.val = k.val; rw [e]; simp <;> omega

/-- The modulation of the point's batch. -/
theorem mod_apply (k : Fin 6144) :
    iblk m c 2 t (ix3 0 0 k) = m ((c : Thread nD τ).loc main_arg2) (ix3 ⟨t.val / 128, by have := lt256 t; omega⟩ 0 k) := by
  have e := at2 t
  unfold iblk
  rw [View.read_apply]
  show V m c main_arg2 _ = _
  rw [V_main_arg2 m c]
  congr 1
  funext a
  apply Fin.ext
  match a with
  | ⟨0, _⟩ => show win0_2.index t 0 * 1 + 1 * 0 = t.val / 128; rw [e]; simp <;> omega
  | ⟨1, _⟩ => show win0_2.index t 1 * 1 + 1 * 0 = 0; rw [e]; simp <;> omega
  | ⟨2, _⟩ => show win0_2.index t 2 * 6144 + 1 * k.val = k.val; rw [e]; simp <;> omega

/-- The padded router. -/
theorem router_apply (k : Fin 1024) (l : Fin 128) :
    iblk m c 3 t (ix2 k l) = padRouter (m ((c : Thread nD τ).loc main_arg3)) (ix2 k l) := by
  have e := at3 t
  unfold iblk
  rw [View.read_apply]
  show V m c main_v3 _ = _
  rw [V_v3 m c]
  congr 1
  funext a
  apply Fin.ext
  match a with
  | ⟨0, _⟩ => show win0_3.index t 0 * 1024 + 1 * k.val = k.val; rw [e]; simp <;> omega
  | ⟨1, _⟩ => show win0_3.index t 1 * 128 + 1 * l.val = l.val; rw [e]; simp <;> omega

/-- The gate weights of the point's expert. -/
theorem gate_apply (k : Fin 1024) (q : Fin 1408) :
    iblk m c 4 t (ix3 0 k q) = m ((c : Thread nD τ).loc main_arg4) (ix3 ⟨t.val % 8, by omega⟩ k q) := by
  have e := at4 t
  unfold iblk
  rw [View.read_apply]
  show V m c main_v0 _ = _
  rw [V_v0 m c]
  refine congrArg (m ((c : Thread nD τ).loc main_arg4)) ?_
  funext a
  apply Fin.ext
  match a with
  | ⟨0, _⟩ => show win0_4.index t 0 * 1 + 1 * 0 = t.val % 8; rw [e]; simp <;> omega
  | ⟨1, _⟩ => show win0_4.index t 1 * 1024 + 1 * k.val = k.val; rw [e]; simp <;> omega
  | ⟨2, _⟩ => show win0_4.index t 2 * 1408 + 1 * q.val = q.val; rw [e]; simp <;> omega

/-- The up weights of the point's expert. -/
theorem up_apply (k : Fin 1024) (q : Fin 1408) :
    iblk m c 5 t (ix3 0 k q) = m ((c : Thread nD τ).loc main_arg5) (ix3 ⟨t.val % 8, by omega⟩ k q) := by
  have e := at5 t
  unfold iblk
  rw [View.read_apply]
  show V m c main_v1 _ = _
  rw [V_v1 m c]
  refine congrArg (m ((c : Thread nD τ).loc main_arg5)) ?_
  funext a
  apply Fin.ext
  match a with
  | ⟨0, _⟩ => show win0_5.index t 0 * 1 + 1 * 0 = t.val % 8; rw [e]; simp <;> omega
  | ⟨1, _⟩ => show win0_5.index t 1 * 1024 + 1 * k.val = k.val; rw [e]; simp <;> omega
  | ⟨2, _⟩ => show win0_5.index t 2 * 1408 + 1 * q.val = q.val; rw [e]; simp <;> omega

/-- The down weights of the point's expert. -/
theorem down_apply (q : Fin 1408) (k : Fin 1024) :
    iblk m c 6 t (ix3 0 q k) = m ((c : Thread nD τ).loc main_arg6) (ix3 ⟨t.val % 8, by omega⟩ q k) := by
  have e := at6 t
  unfold iblk
  rw [View.read_apply]
  show V m c main_v2 _ = _
  rw [V_v2 m c]
  refine congrArg (m ((c : Thread nD τ).loc main_arg6)) ?_
  funext a
  apply Fin.ext
  match a with
  | ⟨0, _⟩ => show win0_6.index t 0 * 1 + 1 * 0 = t.val % 8; rw [e]; simp <;> omega
  | ⟨1, _⟩ => show win0_6.index t 1 * 1408 + 1 * q.val = q.val; rw [e]; simp <;> omega
  | ⟨2, _⟩ => show win0_6.index t 2 * 1024 + 1 * k.val = k.val; rw [e]; simp <;> omega

end Cert.RoutedIdeal.Blocks

end
-- ==== Proof.Ffn.NormFinite.lean ====
/-
  The normalised and modulated row is finite whatever the row holds, once the weight, the scale and the shift are: an
  infinite entry makes the mean square infinite and the reciprocal root zero.
-/
module

public import proofs.«01_k».proof.Proof.Ffn.Spec
public import proofs.«01_k».proof.Proof.Ffn.TopTwo

@[expose] public section

noncomputable section

namespace Cert.Ffn

open Idealize.ShloMosaic

theorem width_eq : width = ((1024 : ℝ) : EReal) := by
  unfold width
  simp [Ideal.ofBits, Ideal.ieee, -EReal.coe_mul]; norm_num

theorem eps_pos : ∃ r : ℝ, 0 < r ∧ eps = (r : EReal) := by
  unfold eps
  refine ⟨8796093 * (2 ^ 43)⁻¹, by positivity, ?_⟩
  simp [Ideal.ofBits, Ideal.ieee, -EReal.coe_mul]

theorem square_nonneg (a : EReal) : 0 ≤ a * a := by
  induction a with
  | bot => simp
  | top => simp
  | coe r => exact_mod_cast mul_self_nonneg r

theorem rsqrt_fin {r : ℝ} (h : 0 < r) : Fin' (Ideal.rsqrt (r : EReal)) := by
  refine ⟨(Real.sqrt r)⁻¹, ?_⟩
  show (if r < 0 then (⊥ : EReal) else if r = 0 then ⊤ else ((Real.sqrt r)⁻¹ : ℝ)) = _
  rw [if_neg h.not_gt, if_neg h.ne']

theorem div_width (s : EReal) : Ideal.div s width = s * ((1024 : ℝ)⁻¹ : ℝ) := by
  unfold Ideal.div
  rw [width_eq, if_neg (by norm_num), EReal.coe_inv]

theorem scaled_fin (x : Fin 1024 → EReal) (k : Fin 1024) :
    Fin' (x k * Ideal.rsqrt (Ideal.div (∑ q, x q * x q) width + eps)) := by
  obtain ⟨d, hd, he⟩ := eps_pos
  rw [div_width, he]
  by_cases h : ∀ q, Fin' (x q)
  · choose f hf using h
    have hs : (∑ q, x q * x q) = ((∑ q, f q * f q : ℝ) : EReal) := by
      rw [Finset.sum_congr rfl fun q _ => show x q * x q = ((f q * f q : ℝ) : EReal) by rw [hf q, EReal.coe_mul]]
      exact (map_sum (⟨⟨Real.toEReal, EReal.coe_zero⟩, EReal.coe_add⟩ : ℝ →+ EReal) _ _).symm
    rw [hs, ← EReal.coe_mul, ← EReal.coe_add]
    refine Fin'.mul ⟨_, hf k⟩ (rsqrt_fin ?_)
    have : 0 ≤ ∑ q, f q * f q := Finset.sum_nonneg fun q _ => mul_self_nonneg _
    positivity
  · obtain ⟨q, hq⟩ := not_forall.mp h
    have ht : x q * x q = ⊤ := by
      revert hq
      induction x q with
      | bot => intro; rfl
      | top => intro; rfl
      | coe r => exact fun hq => absurd ⟨r, rfl⟩ hq
    have hs : (∑ q, x q * x q) = ⊤ :=
      top_le_iff.mp (ht ▸ Finset.single_le_sum (f := fun q => x q * x q) (fun q _ => square_nonneg (x q)) (Finset.mem_univ q))
    rw [hs, EReal.top_mul_coe_of_pos (by norm_num), EReal.top_add_coe]
    show Fin' (x k * 0)
    rw [mul_zero]
    exact Fin'.zero

theorem modNorm_fin (x w sc sh : Fin 1024 → EReal) (k : Fin 1024) (hw : Fin' (w k)) (hc : Fin' (sc k)) (hs : Fin' (sh k)) :
    Fin' (modNorm x w sc sh k) :=
  (((scaled_fin x k).mul hw).mul (Fin'.add ⟨1, EReal.coe_one.symm⟩ hc)).add hs

end Cert.Ffn

end
-- ==== Proof.Ffn.RoutedValue.lean ====
/-
  The routed feed-forward kernel's result array, element by element, from the launch memory.
-/
module

public import proofs.«01_k».proof.Proof.Ffn.RoutedBlocks
public import proofs.«01_k».proof.Proof.Ffn.RoutedPayload
public import proofs.«01_k».proof.Proof.Ffn.NormFinite

@[expose] public section

set_option maxRecDepth 16384

noncomputable section

namespace Cert.RoutedIdeal.Fold

open Cert.RoutedIdeal Cert.RoutedIdeal.Gen Idealize.ShloMosaic Idealize.ShloMosaic.TcCoe Idealize.SL.Sem Cert.Ffn
open Cert.RoutedIdeal.Cases Cert.RoutedIdeal.Blocks Cert.RoutedIdeal.Pay

variable (m : (ℓ : Loc nD τ sig) → Buf (Elt Ideal) ℓ) (c : Dev nD) (t : Fin grid0.N)

theorem shiftOf_apply (x : Vec Ideal S1x1x6144 .f32) (k : Fin 1024) : shiftOf x (ix3 0 0 k) = x (ix3 0 0 ⟨3072 + k.val, by omega⟩) := by
  pointwise [shiftOf]
theorem scaleOf_apply (x : Vec Ideal S1x1x6144 .f32) (k : Fin 1024) : scaleOf x (ix3 0 0 k) = x (ix3 0 0 ⟨4096 + k.val, by omega⟩) := by
  pointwise [scaleOf]
theorem gateOf_apply (x : Vec Ideal S1x1x6144 .f32) (k : Fin 1024) : gateOf x (ix3 0 0 k) = x (ix3 0 0 ⟨5120 + k.val, by omega⟩) := by
  pointwise [gateOf]

/-- The rows' norm at a point, as stored by the kernel. -/
def rows (t : Fin grid0.N) : FVec Ideal S512x1024 .f32 := k0_pay2 (iblk m c 0 t) (iblk m c 1 t) (shiftOf (iblk m c 2 t)) (scaleOf (iblk m c 2 t))

/-- The first expert's point of a row block. -/
theorem first (h0 : t.val % 8 = 0) :
    (outsAt0 m c t.val t.isLt).2.1 = k0_pay3 (iblk m c 0 t) (iblk m c 1 t) (shiftOf (iblk m c 2 t)) (scaleOf (iblk m c 2 t))
    ∧ (outsAt0 m c t.val t.isLt).2.2.1 = k0_pay18 (grid0.coords t) (k0_pay3 (iblk m c 0 t) (iblk m c 1 t) (shiftOf (iblk m c 2 t)) (scaleOf (iblk m c 2 t)))
        (iblk m c 4 t) (iblk m c 5 t) (iblk m c 6 t) (combOf (rows m c t) (iblk m c 3 t)) (k0_pay4 (F := Ideal))
    ∧ (outsAt0 m c t.val t.isLt).2.2.2 = combOf (rows m c t) (iblk m c 3 t) := by
  rw [outsAt0_A m c t h0 (by omega)]
  dsimp only
  rw [first_rows, first_acc, first_comb]
  exact ⟨rfl, rfl, rfl⟩

/-- A middle expert's point. -/
theorem middle (h0 : t.val % 8 ≠ 0) (h1 : t.val % 8 ≠ 7) :
    (outsAt0 m c t.val t.isLt).2.1 = (outsAt0 m c (t.val - 1) (lt_of_le_of_lt (Nat.sub_le _ _) t.isLt)).2.1
    ∧ (outsAt0 m c t.val t.isLt).2.2.1 = k0_pay18 (grid0.coords t) (outsAt0 m c (t.val - 1) (lt_of_le_of_lt (Nat.sub_le _ _) t.isLt)).2.1 (iblk m c 4 t) (iblk m c 5 t) (iblk m c 6 t)
        (outsAt0 m c (t.val - 1) (lt_of_le_of_lt (Nat.sub_le _ _) t.isLt)).2.2.2 (outsAt0 m c (t.val - 1) (lt_of_le_of_lt (Nat.sub_le _ _) t.isLt)).2.2.1
    ∧ (outsAt0 m c t.val t.isLt).2.2.2 = (outsAt0 m c (t.val - 1) (lt_of_le_of_lt (Nat.sub_le _ _) t.isLt)).2.2.2 := by
  rw [outsAt0_B m c t h0 h1]
  dsimp only
  rw [middle_acc]
  exact ⟨rfl, rfl, rfl⟩

/-- The last expert's point. -/
theorem last (h1 : t.val % 8 = 7) :
    (outsAt0 m c t.val t.isLt).1 = k0_pay1 (iblk m c 0 t) (gateOf (iblk m c 2 t))
      (k0_pay18 (grid0.coords t) (outsAt0 m c (t.val - 1) (lt_of_le_of_lt (Nat.sub_le _ _) t.isLt)).2.1 (iblk m c 4 t) (iblk m c 5 t) (iblk m c 6 t) (outsAt0 m c (t.val - 1) (lt_of_le_of_lt (Nat.sub_le _ _) t.isLt)).2.2.2 (outsAt0 m c (t.val - 1) (lt_of_le_of_lt (Nat.sub_le _ _) t.isLt)).2.2.1) := by
  rw [outsAt0_C m c t (by omega) h1]
  dsimp only
  rw [last_out]

/-- The row of the residual stream the element belongs to. -/
def rowOf (c : Dev nD) (g : Fin 2) (R : Fin 8192) (k : Fin 1024) : EReal := m ((c : Thread nD τ).loc main_arg0) (ix3 g R k)

/-- The normalised and modulated row. -/
def normRow (c : Dev nD) (g : Fin 2) (R : Fin 8192) : Fin 1024 → EReal :=
  modNorm (rowOf m c g R) (fun k => m ((c : Thread nD τ).loc main_arg1) (ix1 k))
    (fun k => m ((c : Thread nD τ).loc main_arg2) (ix3 g 0 ⟨4096 + k.val, by omega⟩))
    (fun k => m ((c : Thread nD τ).loc main_arg2) (ix3 g 0 ⟨3072 + k.val, by omega⟩))

/-- The router's scores of a row. -/
def score (c : Dev nD) (g : Fin 2) (R : Fin 8192) (e : Fin 8) : EReal :=
  ∑ k, normRow m c g R k * (m ((c : Thread nD τ).loc main_arg3) (ix2 k e) : EReal)

/-- One expert's output at one element. -/
def expert (c : Dev nD) (g : Fin 2) (R : Fin 8192) (l : Fin 1024) (e : Fin 8) : EReal :=
  ∑ q : Fin 1408, gated (normRow m c g R) (fun k => m ((c : Thread nD τ).loc main_arg4) (ix3 e k q)) (fun k => m ((c : Thread nD τ).loc main_arg5) (ix3 e k q))
    * (m ((c : Thread nD τ).loc main_arg6) (ix3 e q l) : EReal)

theorem batch_lt (t : Fin grid0.N) : t.val / 128 < 2 := by have := lt256 t; omega
theorem row_lt (t : Fin grid0.N) (r : Fin 512) : 512 * (t.val / 8 % 16) + r.val < 8192 := by omega
theorem expert_lt (t : Fin grid0.N) : t.val % 8 < 8 := by omega
theorem coord2 : ∀ t : Fin grid0.N, (grid0.coords t 2).val = t.val % 8 := by decide +kernel

/-- The point works on row `r` of its block: row `R` of batch `g`. -/
def At (t : Fin grid0.N) (g : Fin 2) (R : Fin 8192) (r : Fin 512) : Prop := t.val / 128 = g.val ∧ 512 * (t.val / 8 % 16) + r.val = R.val

variable {t}

theorem rows_eq {g : Fin 2} {R : Fin 8192} {r : Fin 512} (h : At t g R r) (k : Fin 1024) : rows m c t (ix2 r k) = normRow m c g R k := by
  obtain rfl : g = ⟨t.val / 128, batch_lt t⟩ := Fin.ext h.1.symm
  obtain rfl : R = ⟨512 * (t.val / 8 % 16) + r.val, row_lt t r⟩ := Fin.ext h.2.symm
  unfold rows
  rw [pay2_apply]
  simp only [shiftOf_apply, scaleOf_apply, rows_apply, weight_apply, mod_apply]
  rfl

/-- What the routing reads is finite. -/
structure Finite (c : Dev nD) : Prop where
  weight : ∀ k, Fin' (m ((c : Thread nD τ).loc main_arg1) (ix1 k))
  mod : ∀ (g : Fin 2) (k : Fin 2048), Fin' (m ((c : Thread nD τ).loc main_arg2) (ix3 g 0 ⟨3072 + k.val, by omega⟩))
  router : ∀ k e, Fin' (m ((c : Thread nD τ).loc main_arg3) (ix2 k e))

variable {m c} (hf : Finite m c)
include hf

theorem normRow_fin (g : Fin 2) (R : Fin 8192) (k : Fin 1024) : Fin' (normRow m c g R k) := by
  refine modNorm_fin _ _ _ _ k (hf.weight k) ?_ (hf.mod g ⟨k.val, by omega⟩)
  have := hf.mod g ⟨1024 + k.val, by omega⟩
  exact (congrArg (fun n => Fin' (m ((c : Thread nD τ).loc main_arg2) (ix3 g 0 n))) (Fin.ext (by simp only []; omega))).mp this

theorem score_fin (g : Fin 2) (R : Fin 8192) (e : Fin 8) : Fin' (score m c g R e) :=
  Fin'.sum fun k => (normRow_fin hf g R k).mul (hf.router k e)

variable {g : Fin 2} {R : Fin 8192} {r : Fin 512} {i j : Fin 8} (T : TopTwo (score m c g R) i j)
include T

theorem comb_eq (h : At t g R r) (e : Fin 8) : combOf (rows m c t) (iblk m c 3 t) (ix2 r ⟨e.val, expert_lane e⟩) = weight (score m c g R) i j e.val := by
  unfold combOf
  refine comb_apply (fun k => rows_eq m c h k ▸ normRow_fin hf g R k) (fun k l => ?_) (fun e => ?_) T _
  · rw [router_apply, padRouter_apply]
    split
    · exact hf.router _ _
    · exact Fin'.zero
  · unfold score
    refine Finset.sum_congr rfl fun k _ => ?_
    rw [rows_eq m c h k, router_apply, padRouter_apply, dif_pos e.isLt]

omit hf T

/-- One expert's step. -/
theorem step (hA : At t g R r) (h : FVec Ideal S512x1024 .bf16) (cb : FVec Ideal S512x128 .f32) (acc : FVec Ideal S512x1024 .f32) (l : Fin 1024)
    (hh : ∀ k, h (ix2 r k) = normRow m c g R k) (hc : ∀ e : Fin 8, cb (ix2 r ⟨e.val, expert_lane e⟩) = weight (score m c g R) i j e.val) :
    k0_pay18 (grid0.coords t) h (iblk m c 4 t) (iblk m c 5 t) (iblk m c 6 t) cb acc (ix2 r l)
      = acc (ix2 r l) + weight (score m c g R) i j (t.val % 8) * expert m c g R l ⟨t.val % 8, expert_lt t⟩ := by
  rw [pay18_apply (grid0.coords t) _ _ _ _ _ _ ⟨t.val % 8, expert_lt t⟩ (coord2 t)]
  simp only [hh, gate_apply, up_apply, down_apply, hc ⟨t.val % 8, expert_lt t⟩]
  rw [mul_comm]
  rfl

/-- The weighted outputs of the first `n` experts. -/
def upto (m : (ℓ : Loc nD τ sig) → Buf (Elt Ideal) ℓ) (c : Dev nD) (g : Fin 2) (R : Fin 8192) (l : Fin 1024) (i j : Fin 8) (n : Nat) : EReal :=
  ∑ e ∈ Finset.range n, if h : e < 8 then weight (score m c g R) i j e * expert m c g R l ⟨e, h⟩ else 0

theorem upto_succ (l : Fin 1024) (n : Nat) (h : n < 8) :
    upto m c g R l i j (n + 1) = upto m c g R l i j n + weight (score m c g R) i j n * expert m c g R l ⟨n, h⟩ := by
  unfold upto
  rw [Finset.sum_range_succ, dif_pos h]

include hf T

/-- What the scratch buffers hold after each expert but the last. -/
theorem held : ∀ (n : Nat) (t : Fin grid0.N), t.val % 8 = n → n < 7 → At t g R r →
    (∀ k, (outsAt0 m c t.val t.isLt).2.1 (ix2 r k) = normRow m c g R k)
    ∧ (∀ l, (outsAt0 m c t.val t.isLt).2.2.1 (ix2 r l) = upto m c g R l i j (n + 1))
    ∧ (∀ e : Fin 8, (outsAt0 m c t.val t.isLt).2.2.2 (ix2 r ⟨e.val, expert_lane e⟩) = weight (score m c g R) i j e.val) := by
  intro n
  induction n with
  | zero =>
    intro t ht _ hA
    obtain ⟨e1, e2, e3⟩ := first m c t ht
    rw [e1, e2, e3]
    have hh : ∀ k, k0_pay3 (iblk m c 0 t) (iblk m c 1 t) (shiftOf (iblk m c 2 t)) (scaleOf (iblk m c 2 t)) (ix2 r k) = normRow m c g R k :=
      fun k => (pay3_apply _ _ _ _ r k).trans (rows_eq m c hA k)
    refine ⟨hh, fun l => ?_, comb_eq hf T hA⟩
    rw [step hA _ _ _ l hh (comb_eq hf T hA), pay4_apply, upto_succ l 0 (by omega)]
    simp only [ht]
    unfold upto
    rw [Finset.range_zero, Finset.sum_empty]
  | succ n ih =>
    intro t ht hn hA
    have hp : t.val - 1 < grid0.N := by have := t.isLt; omega
    obtain ⟨p1, p2, p3⟩ := ih ⟨t.val - 1, hp⟩ (by simp only []; omega) (by omega)
      ⟨by have := hA.1; simp only []; omega, by have := hA.2; simp only []; omega⟩
    obtain ⟨e1, e2, e3⟩ := middle m c t (by omega) (by omega)
    rw [e1, e2, e3]
    refine ⟨p1, fun l => ?_, p3⟩
    rw [step hA _ _ _ l p1 p3, upto_succ l (n + 1) (by omega)]
    simp only [ht]
    exact congrArg (· + _) (p2 l)

/-- The gate of the block's result at a column. -/
def outGate (m : (ℓ : Loc nD τ sig) → Buf (Elt Ideal) ℓ) (c : Dev nD) (g : Fin 2) (l : Fin 1024) : EReal :=
  m ((c : Thread nD τ).loc main_arg2) (ix3 g 0 ⟨5120 + l.val, by omega⟩)

theorem out_apply (h1 : t.val % 8 = 7) (hA : At t g R r) (l : Fin 1024) :
    (outsAt0 m c t.val t.isLt).1 (ix3 0 r l) = rowOf m c g R l + outGate m c g l * ∑ e : Fin 8, weight (score m c g R) i j e.val * expert m c g R l e := by
  have hp : t.val - 1 < grid0.N := by have := t.isLt; omega
  obtain ⟨p1, p2, p3⟩ := held (r := r) hf T 6 ⟨t.val - 1, hp⟩ (by simp only []; omega) (by omega)
    ⟨by have := hA.1; simp only []; omega, by have := hA.2; simp only []; omega⟩
  rw [last m c t h1, pay1_apply, step hA _ _ _ l p1 p3, gateOf_apply, mod_apply, rows_apply]
  have hs : (∑ e : Fin 8, weight (score m c g R) i j e.val * expert m c g R l e)
      = upto m c g R l i j 7 + weight (score m c g R) i j (t.val % 8) * expert m c g R l ⟨t.val % 8, expert_lt t⟩ := by
    simp only [h1]
    rw [← upto_succ l 7 (by omega)]
    unfold upto
    rw [Finset.sum_range]
    exact Finset.sum_congr rfl fun e _ => by rw [dif_pos e.isLt]
  rw [hs]
  obtain rfl : g = ⟨t.val / 128, batch_lt t⟩ := Fin.ext hA.1.symm
  obtain rfl : R = ⟨512 * (t.val / 8 % 16) + r.val, row_lt t r⟩ := Fin.ext hA.2.symm
  unfold rowOf outGate
  exact congrArg (fun z : EReal => _ + _ * (z + _)) (p2 l)

omit T

/-- The region leaves the routed experts' gated sum over the residual. -/
theorem G7_apply (g : Fin 2) (R : Fin 8192) (l : Fin 1024) {i j : Fin 8} (T : TopTwo (score m c g R) i j) :
    Value.G7 m c (ix3 g R l) = rowOf m c g R l + outGate m c g l * ∑ e : Fin 8, weight (score m c g R) i j e.val * expert m c g R l e := by
  have hN : grid0.N = 256 := by decide
  unfold Value.G7
  have hv : Value.pt7Of (ix3 g R l) = 128 * g.val + 8 * (R.val / 512) + 7 := by
    show 8 * (16 * (g.val / 1 - 0) + 1 * (R.val / 512 - 0) + 1 * (l.val / 1024 - 0)) + 7 = _
    omega
  have hb : Value.pt7Of (ix3 g R l) < grid0.N := by
    rw [hN, hv]
    omega
  rw [dif_pos hb, ← Value.outsAt0_sweep]
  have hl : Value.loc7Of (ix3 g R l) = ix3 0 ⟨R.val % 512, by omega⟩ l := by
    funext a
    apply Fin.ext
    match a with
    | ⟨0, _⟩ => show g.val % 1 = 0; omega
    | ⟨1, _⟩ => rfl
    | ⟨2, _⟩ => show l.val % 1024 = l.val; omega
  rw [hl]
  exact out_apply hf T (t := ⟨_, hb⟩) (by simp only [hv]; omega) ⟨by simp only [hv]; omega, by simp only [hv]; omega⟩ l

end Cert.RoutedIdeal.Fold

end
-- ==== Proof.Ffn.Sorted.lean ====
/-
  The first two places of a stable descending sort of eight scores hold the greatest and the next: equal scores stay in
  the order of their positions.
-/
module

public import proofs.«01_k».proof.Proof.Ffn.TopTwo
public import Idealize.ShloMosaic.Lib.SortFacts

@[expose] public section

noncomputable section

namespace Cert.Ffn

open Idealize.ShloMosaic

variable {n : Nat} (L : Fin n → EReal)

/-- `a` comes before `b`: its score is greater, or they are equal and it stands first. -/
def Ahead (a b : Fin n) : Prop := L b < L a ∨ (L b = L a ∧ a < b)

/-- The comparison the sort makes. -/
def greater (a b : Fin n) : Bool := decide (L b < L a)

theorem ahead_insert (a : Fin n) (l : List (Fin n)) (hl : l.Pairwise (Ahead L)) (ha : ∀ b ∈ l, a < b) :
    (insertBefore (greater L) a l).Pairwise (Ahead L) := by
  induction l with
  | nil => exact List.pairwise_singleton _ _
  | cons b l ih =>
    obtain ⟨h1, h2⟩ := List.pairwise_cons.mp hl
    unfold insertBefore
    split
    · rename_i hb
      refine List.pairwise_cons.mpr ⟨fun x hx => ?_, ih h2 fun y hy => ha y (List.mem_cons_of_mem _ hy)⟩
      rcases List.mem_cons.mp ((perm_insertBefore _ a l).mem_iff.mp hx) with rfl | hx
      · exact .inl (of_decide_eq_true hb)
      · exact h1 x hx
    · rename_i hb
      have hle : L b ≤ L a := not_lt.mp fun h => hb (decide_eq_true h)
      refine List.pairwise_cons.mpr ⟨fun x hx => ?_, hl⟩
      have hx' : L x ≤ L a := by
        rcases List.mem_cons.mp hx with rfl | hx
        · exact hle
        · rcases h1 x hx with h | h
          · exact h.le.trans hle
          · exact h.1.le.trans hle
      rcases hx'.lt_or_eq with h | h
      · exact .inl h
      · exact .inr ⟨h, ha x hx⟩

theorem ahead_sort (l : List (Fin n)) (hl : l.Pairwise (· < ·)) : (stableSort (greater L) l).Pairwise (Ahead L) := by
  induction l with
  | nil => exact List.Pairwise.nil
  | cons a l ih =>
    obtain ⟨h1, h2⟩ := List.pairwise_cons.mp hl
    unfold stableSort
    exact ahead_insert L a _ (ih h2) fun b hb => h1 b ((perm_stableSort _ l).mem_iff.mp hb)

theorem ahead_places (p q : Fin n) (h : p < q) : Ahead L (sortedFrom (greater L) p) (sortedFrom (greater L) q) := by
  have hs : (sortPositions n (greater L)).Pairwise (Ahead L) := ahead_sort L _ (List.pairwise_lt_finRange n)
  exact List.pairwise_iff_get.mp hs _ _ h

theorem Ahead.le {L : Fin n → EReal} {a b : Fin n} (h : Ahead L a b) : L b ≤ L a := h.elim (·.le) (·.1.le)
theorem Ahead.lt {L : Fin n → EReal} {a b : Fin n} (h : Ahead L a b) (e : L b = L a) : a < b :=
  h.elim (fun h => absurd e h.ne) (·.2)

/-- The first two places of the sort. -/
theorem topTwo_sorted (L : Fin 8 → EReal) : TopTwo L (sortedFrom (greater L) 0) (sortedFrom (greater L) 1) := by
  have front : ∀ k, k ≠ sortedFrom (greater L) 0 → Ahead L (sortedFrom (greater L) 0) k := fun k hk => by
    obtain ⟨p, rfl⟩ := sortedFrom_surjective (greater L) k
    refine ahead_places L 0 p (Fin.pos_of_ne_zero fun h => hk (by rw [h]))
  have behind : ∀ k, k ≠ sortedFrom (greater L) 0 → k ≠ sortedFrom (greater L) 1 → Ahead L (sortedFrom (greater L) 1) k := fun k hk hk' => by
    obtain ⟨p, rfl⟩ := sortedFrom_surjective (greater L) k
    have h0 : p ≠ 0 := fun h => hk (by rw [h])
    have h1 : p ≠ 1 := fun h => hk' (by rw [h])
    exact ahead_places L 1 p (by omega)
  refine ⟨fun h => absurd (sortedFrom_injective _ h) (by decide), fun k => ?_, fun k e => ?_, fun k hk => ?_, fun k hk e => ?_⟩
  · by_cases h : k = sortedFrom (greater L) 0
    · rw [h]
    · exact (front k h).le
  · by_cases h : k = sortedFrom (greater L) 0
    · rw [h]
    · exact ((front k h).lt e).le
  · by_cases h : k = sortedFrom (greater L) 1
    · rw [h]
    · exact (behind k hk h).le
  · by_cases h : k = sortedFrom (greater L) 1
    · rw [h]
    · exact ((behind k hk h).lt e).le

end Cert.Ffn

end
-- ==== Proof.Ffn.RoutedRefValue.lean ====
/-
  The routed feed-forward reference's result, element by element.
-/
module

public import proofs.«01_k».proof.Proof.Ffn.Spec
public import proofs.«01_k».proof.Proof.Ffn.Sorted
public import proofs.«01_k».proof.Proof.Gen.RoutedRefIdeal.Read
public import Idealize.ShloMosaic.Lib.Pointwise

@[expose] public section

set_option maxRecDepth 16384

noncomputable section

namespace Cert.RoutedRefIdeal.Ref

open Cert.RoutedRefIdeal Cert.RoutedRefIdeal.Gen Idealize.ShloMosaic Idealize.ShloMosaic.TcCoe Idealize.SL.Sem Cert.Ffn
open Cert.RoutedRefIdeal.Read

variable (x : FVec Ideal S2x8192x1024 .f32) (w : FVec Ideal S1024 .f32) (md : FVec Ideal S2x1x6144 .f32) (rt : FVec Ideal S1024x8 .f32)
  (wg wu : FVec Ideal S8x1024x1408 .f32) (wd : FVec Ideal S8x1408x1024 .f32)

/-- The normalised and modulated row. -/
theorem norm_apply (g : Fin 2) (R : Fin 8192) (k : Fin 1024) :
    val_main_v24 (F := Ideal) x w md (ix3 g R k)
      = modNorm (fun q => x (ix3 g R q)) (fun q => w (ix1 q)) (fun q => md (ix3 g 0 ⟨4096 + q.val, by omega⟩))
          (fun q => md (ix3 g 0 ⟨3072 + q.val, by omega⟩)) k := by
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v3, val_main_v4, val_main_cst, val_main_cst_0, val_main_cst_1, val_main_cst_2, modNorm, eps, width]

theorem flat_apply (n : Fin 16384) (k : Fin 1024) :
    val_main_v25 (F := Ideal) x w md (ix2 n k) = val_main_v24 (F := Ideal) x w md (ix3 ⟨n.val / 8192, by omega⟩ ⟨n.val % 8192, by omega⟩ k) := by
  pointwise [val_main_v25]

/-- The scores of a row. -/
def scores (n : Fin 16384) (e : Fin 8) : EReal := val_main_v26 (F := Ideal) x w md rt (ix2 n e)

theorem scores_apply (n : Fin 16384) (e : Fin 8) :
    scores x w md rt n e = ∑ k : Fin 1024, val_main_v25 (F := Ideal) x w md (ix2 n k) * rt (ix2 k e) := by
  unfold scores
  pointwise [val_main_v26]

theorem along_row (n : Fin 16384) (p e : Fin 8) :
    (ix2 n p : S16384x8.Idx).along 1 e = (ix2 n e : S16384x8.Idx) := by
  funext a
  match a with
  | ⟨0, _⟩ => rfl
  | ⟨1, _⟩ => rfl

theorem greater_eq (a b : EReal) : (FloatOps.cmpfTotal (F := Ideal) (φ := .f32) CmpDirection.gt a b == 1#1) = decide (b < a) := by
  show (BitVec.ofBool (decide (b < a)) == 1#1) = _
  cases decide (b < a) <;> rfl

/-- The selected scores and experts, as places of a sort of the row. -/
theorem picked (n : Fin 16384) (p : Fin 2) :
    val_main_values (F := Ideal) x w md rt (ix2 n p) = scores x w md rt n (sortedFrom (greater (scores x w md rt n)) ⟨p.val, by omega⟩)
    ∧ val_main_indices (F := Ideal) x w md rt (ix2 n p)
      = BitVec.ofNat 32 (sortedFrom (greater (scores x w md rt n)) ⟨p.val, by omega⟩).val := by
  have hg : (fun k k' : Fin 8 => FloatOps.cmpfTotal (F := Ideal) (φ := .f32) CmpDirection.gt
      (val_main_v26 (F := Ideal) x w md rt ((ix2 n ⟨p.val, by omega⟩ : S16384x8.Idx).along 1 k))
      (val_main_v26 (F := Ideal) x w md rt ((ix2 n ⟨p.val, by omega⟩ : S16384x8.Idx).along 1 k')) == 1#1) = greater (scores x w md rt n) := by
    funext k k'
    refine (greater_eq _ _).trans ?_
    exact congrArg₂ (fun i j : S16384x8.Idx => decide (val_main_v26 (F := Ideal) x w md rt j < val_main_v26 (F := Ideal) x w md rt i))
      (along_row n _ k) (along_row n _ k')
  have key := congrArg (fun R : Fin 8 → Fin 8 → Bool => sortedFrom R ⟨p.val, by omega⟩) hg
  unfold val_main_values val_main_indices Host.topK Host.sort2
  constructor
  · pointwise
    exact (congrArg (fun e : Fin 8 => val_main_v26 (F := Ideal) x w md rt ((ix2 n ⟨p.val, by omega⟩ : S16384x8.Idx).along 1 e)) key).trans
      (congrArg (val_main_v26 (F := Ideal) x w md rt) (along_row n _ _))
  · pointwise
    exact congrArg (fun e : Fin 8 => BitVec.ofNat 32 e.val) key

theorem exp_zero : Ideal.exp 0 = 1 := by
  show ((Real.exp 0 : ℝ) : EReal) = 1
  rw [Real.exp_zero, EReal.coe_one]

/-- A flag as an extended real. -/
theorem flag (a e : Fin 8) :
    FloatOps.uitofp (F := Ideal) .f32 (IntOp.cmpi CmpIPredicate.eq (BitVec.ofNat 32 a.val) (BitVec.ofNat 32 e.val)) = if e.val = a.val then 1 else 0 := by
  have hi : BitVec.ofNat 32 a.val = BitVec.ofNat 32 e.val ↔ e.val = a.val := by
    rw [BitVec.toNat_inj.symm, BitVec.toNat_ofNat, BitVec.toNat_ofNat, Nat.mod_eq_of_lt (by omega), Nat.mod_eq_of_lt (by omega), eq_comm]
  show (((BitVec.ofBool (BitVec.ofNat 32 a.val == BitVec.ofNat 32 e.val)).toNat : ℝ) : EReal) = _
  by_cases h : e.val = a.val
  · rw [if_pos h, h]
    simp
  · rw [if_neg h, beq_eq_false_iff_ne.mpr fun e => h (hi.mp e)]
    simp

/-- The softmax over the two selected scores, spread over the experts. -/
theorem combine_apply (n : Fin 16384) (hf : ∀ e, Fin' (scores x w md rt n e)) : ∃ i j, TopTwo (scores x w md rt n) i j
    ∧ ∀ e : Fin 8, val_main_v42 (F := Ideal) x w md rt (ix2 n e) = weight (scores x w md rt n) i j e.val := by
  have T := topTwo_sorted (scores x w md rt n)
  refine ⟨_, _, T, fun e => ?_⟩
  pointwise [val_main_v42, val_main_v41, val_main_v40, val_main_v39, val_main_v38, val_main_v37, val_main_v36, val_main_v35, val_main_v34,
    val_main_v33, val_main_v32, val_main_v31, val_main_v30, val_main_v29, val_main_v28, val_main_v27, val_main_cst_3, val_main_cst_4,
    val_main_cst_5, val_main_cst_6, val_main_call0_v4, val_main_call0_v3, val_main_call0_v2, val_main_call0_v1, val_main_call0_v0]
  have hm : Finset.univ.fold max ⊥ (fun p => val_main_values (F := Ideal) x w md rt (ix2 n p))
      = scores x w md rt n (sortedFrom (greater (scores x w md rt n)) 0) := by
    refine (fold_max _ (0 : Fin 2) fun p => ?_).trans (picked x w md rt n 0).1
    rw [(picked x w md rt n p).1, (picked x w md rt n 0).1]
    exact T.top _
  rw [bits_bot, hm, max_eq_right bot_le]
  simp only [Fin.sum_univ_two, (picked x w md rt n _).1, (picked x w md rt n _).2, flag]
  rw [show (⟨(0 : Fin 2).val, by omega⟩ : Fin 8) = 0 from rfl, show (⟨(1 : Fin 2).val, by omega⟩ : Fin 8) = 1 from rfl, (hf _).sub_self,
    exp_zero]
  unfold weight
  simp only [ite_mul, one_mul, zero_mul]

/-! ## One expert's part -/

theorem col_fits (e : Fin 8) : S16384x8.Slices ![0, e.val] S16384x1 := by revert e; decide
theorem gate_fits (e : Fin 8) : S8x1024x1408.Slices ![e.val, 0, 0] S1x1024x1408 := by revert e; decide
theorem down_fits (e : Fin 8) : S8x1408x1024.Slices ![e.val, 0, 0] S1x1408x1024 := by revert e; decide

/-- An expert's matrix of a stack of eight. -/
def inner (e : Fin 8) (a : FVec Ideal S8x1024x1408 .f32) : FVec Ideal S1024x1408 .f32 :=
  shapeCast _ (extractStridedSlice S1x1024x1408 ![e.val, 0, 0] a (gate_fits e)) shapeCasts_S1x1024x1408_S1024x1408

/-- What one expert adds to the rows. -/
def part (e : Fin 8) (h : FVec Ideal S16384x1024 .f32) (cb : FVec Ideal S16384x8 .f32) : FVec Ideal S16384x1024 .f32 :=
  mulf (broadcastInDim S16384x1024 ![0, 1] bcast_S16384x1_S16384x1024_0_1 (extractStridedSlice S16384x1 ![0, e.val] cb (col_fits e)))
    (Host.dotGeneral dot_S16384x1408_S1408x1024_S16384x1024_1_0_0_1_n_n none
      (mulf (mulf (Host.dotGeneral dot_S16384x1024_S1024x1408_S16384x1408_1_0_0_1_n_n none h (inner e wg))
          (Host.divf (broadcastInDim S16384x1408 ![] bcast_S_S16384x1408 (constant S_ .f32 0x3F800000#32))
            (addf (broadcastInDim S16384x1408 ![] bcast_S_S16384x1408 (constant S_ .f32 0x3F800000#32))
              (Host.exp (Host.negf (Host.dotGeneral dot_S16384x1024_S1024x1408_S16384x1408_1_0_0_1_n_n none h (inner e wg)))))))
        (Host.dotGeneral dot_S16384x1024_S1024x1408_S16384x1408_1_0_0_1_n_n none h (inner e wu)))
      (shapeCast _ (extractStridedSlice S1x1408x1024 ![e.val, 0, 0] wd (down_fits e)) shapeCasts_S1x1408x1024_S1408x1024))

theorem part_apply (e : Fin 8) (h : FVec Ideal S16384x1024 .f32) (cb : FVec Ideal S16384x8 .f32) (n : Fin 16384) (l : Fin 1024) :
    part wg wu wd e h cb (ix2 n l) = cb (ix2 n e)
      * ∑ c : Fin 1408, gated (fun k => h (ix2 n k)) (fun k => wg (ix3 e k c)) (fun k => wu (ix3 e k c)) * wd (ix3 e c l) := by
  pointwise [part, inner, gated, Ideal.logistic]

/-- The eight experts, one after another. -/
theorem experts_eq :
    val_main_v163 (F := Ideal) x w md rt wg wu wd
      = let P := fun e => part wg wu wd e (val_main_v25 (F := Ideal) x w md) (val_main_v42 (F := Ideal) x w md rt)
        addf (addf (addf (addf (addf (addf (addf (addf (val_main_v43 (F := Ideal)) (P 0)) (P 1)) (P 2)) (P 3)) (P 4)) (P 5)) (P 6)) (P 7) := rfl

theorem experts_apply (n : Fin 16384) (l : Fin 1024) :
    val_main_v163 (F := Ideal) x w md rt wg wu wd (ix2 n l)
      = ∑ e : Fin 8, part wg wu wd e (val_main_v25 (F := Ideal) x w md) (val_main_v42 (F := Ideal) x w md rt) (ix2 n l) := by
  rw [experts_eq, Fin.sum_univ_eight]
  pointwise [val_main_v43, val_main_cst_7]

theorem out_apply (g : Fin 2) (R : Fin 8192) (l : Fin 1024) :
    val_main_v167 (F := Ideal) x w md rt wg wu wd (ix3 g R l)
      = x (ix3 g R l) + md (ix3 g 0 ⟨5120 + l.val, by omega⟩) * val_main_v163 (F := Ideal) x w md rt wg wu wd (ix2 ⟨g.val * 8192 + R.val, by omega⟩ l) := by
  pointwise [val_main_v167, val_main_v166, val_main_v165, val_main_v5, val_main_v164]

end Cert.RoutedRefIdeal.Ref

end
-- ==== Proof.Ffn.RoutedClaim.lean ====
/-
  The routed feed-forward claims: the kernel's result array and the reference's are the same function of the arguments.
-/
module

public import proofs.«01_k».proof.Defs
public import proofs.«01_k».proof.Proof.Ffn.RoutedValue
public import proofs.«01_k».proof.Proof.Ffn.RoutedRefValue
public import proofs.«01_k».proof.Proof.Gen.RoutedRefIdeal.Run
public import proofs.«01_k».proof.Proof.Gen.Routed.Frame
public import proofs.«01_k».proof.Proof.Gen.Routed
public import proofs.«01_k».proof.Proof.Gen.RoutedIdeal
public import proofs.«01_k».proof.Proof.Gen.RoutedRefIdeal
public import proofs.«01_k».proof.Proof.Gen.Pre_routable

@[expose] public section

noncomputable section

namespace Cert.Proof.Routed

open Idealize.ShloMosaic Idealize.ShloMosaic.TcCoe Idealize.SL.Sem Cert.Ffn

theorem frame_ref : Cert.quiescent_RoutedRefIdeal := fun m ρ _ =>
  (θ_run Cert.RoutedRefIdeal.defs _ _).mono (fun r h => ⟨fun c => (h c).2, sem_eq_zero_of_no_sems (by decide) r.2⟩)
    (Cert.RoutedRefIdeal.Value.run (F := Ideal) m ρ)

/-- A value below plus infinity in absolute value is finite. -/
theorem fin_of_lt {x : EReal} (h : max x (-x) < ⊤) : Fin' x := by
  induction x with
  | bot => simp at h
  | top => simp at h
  | coe r => exact ⟨r, rfl⟩

theorem word_true {b : Bool} (h : BitVec.ofBool b = 1#1) : b = true := by cases b <;> simp_all

theorem fin_of_word {x : EReal} (h : BitVec.ofBool (decide (max x (-x) < Ideal.ofBits .f32 0x7F800000#32)) = 1#1) : Fin' x := by
  rw [bits_top] at h
  exact fin_of_lt (of_decide_eq_true (word_true h))

variable (m : (ℓ : Loc Cert.RoutedIdeal.nD Cert.RoutedIdeal.τ Cert.RoutedIdeal.sig) → Buf (Elt Ideal) ℓ)

/-- The precondition, entry by entry. -/
theorem finite (h : Cert.Pre_RoutedIdeal m) (c : Dev Cert.RoutedIdeal.nD) : Cert.RoutedIdeal.Fold.Finite m c := by
  obtain ⟨h1, h2, h3⟩ := h c
  exact ⟨fun k => fin_of_word (x := (m ((c.tc : Thread Cert.RoutedIdeal.nD Cert.RoutedIdeal.τ).loc Cert.RoutedIdeal.main_arg1)) (ix1 k)) (congrFun h1 (ix1 k)),
    fun g k => by
      refine fin_of_word (x := (m ((c.tc : Thread Cert.RoutedIdeal.nD Cert.RoutedIdeal.τ).loc Cert.RoutedIdeal.main_arg2)) (ix3 g 0 ⟨3072 + k.val, by omega⟩)) (Eq.trans ?_ (congrFun h2 (ix3 g 0 k)))
      pointwise [Cert.Pre_routable.fn]
      rfl,
    fun k e => fin_of_word (x := (m ((c.tc : Thread Cert.RoutedIdeal.nD Cert.RoutedIdeal.τ).loc Cert.RoutedIdeal.main_arg3)) (ix2 k e)) (congrFun h3 (ix2 k e))⟩

theorem flat_lt (g : Fin 2) (R : Fin 8192) : g.val * 8192 + R.val < 16384 := by omega

/-- The reference's normalised rows, in one list of both batches. -/
theorem rows_same (c : Dev Cert.RoutedIdeal.nD) (g : Fin 2) (R : Fin 8192) (k : Fin 1024) :
    Cert.RoutedRefIdeal.Read.val_main_v25 (F := Ideal) (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (ix2 ⟨g.val * 8192 + R.val, flat_lt g R⟩ k) = Cert.RoutedIdeal.Fold.normRow m c g R k := by
  rw [Cert.RoutedRefIdeal.Ref.flat_apply]
  have hg : (⟨(g.val * 8192 + R.val) / 8192, by omega⟩ : Fin 2) = g := Fin.ext (by simp only []; omega)
  have hR : (⟨(g.val * 8192 + R.val) % 8192, by omega⟩ : Fin 8192) = R := Fin.ext (by simp only []; omega)
  rw [hg, hR, Cert.RoutedRefIdeal.Ref.norm_apply]
  rfl

theorem scores_same (c : Dev Cert.RoutedIdeal.nD) (g : Fin 2) (R : Fin 8192) :
    Cert.RoutedRefIdeal.Ref.scores (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (m ((c.tc : Thread Cert.RoutedIdeal.nD Cert.RoutedIdeal.τ).loc Cert.RoutedIdeal.main_arg3)) ⟨g.val * 8192 + R.val, flat_lt g R⟩ = Cert.RoutedIdeal.Fold.score m c g R := by
  funext e
  rw [Cert.RoutedRefIdeal.Ref.scores_apply]
  simp only [rows_same]
  rfl

/-- Both programs leave the same array where their arguments agree. -/
theorem same (c : Dev Cert.RoutedIdeal.nD) (hf : Cert.RoutedIdeal.Fold.Finite m c) :
    Cert.RoutedRefIdeal.Read.val_main_v167 (F := Ideal) (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (m ((c.tc : Thread Cert.RoutedIdeal.nD Cert.RoutedIdeal.τ).loc Cert.RoutedIdeal.main_arg3)) (m ((c.tc : Thread Cert.RoutedIdeal.nD Cert.RoutedIdeal.τ).loc Cert.RoutedIdeal.main_arg4)) (m ((c.tc : Thread Cert.RoutedIdeal.nD Cert.RoutedIdeal.τ).loc Cert.RoutedIdeal.main_arg5)) (m ((c.tc : Thread Cert.RoutedIdeal.nD Cert.RoutedIdeal.τ).loc Cert.RoutedIdeal.main_arg6))
      = Cert.RoutedIdeal.Value.G7 m c := by
  have key : ∀ (g : Fin 2) (R : Fin 8192) (l : Fin 1024), Cert.RoutedRefIdeal.Read.val_main_v167 (F := Ideal) (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (m ((c.tc : Thread Cert.RoutedIdeal.nD Cert.RoutedIdeal.τ).loc Cert.RoutedIdeal.main_arg3)) (m ((c.tc : Thread Cert.RoutedIdeal.nD Cert.RoutedIdeal.τ).loc Cert.RoutedIdeal.main_arg4)) (m ((c.tc : Thread Cert.RoutedIdeal.nD Cert.RoutedIdeal.τ).loc Cert.RoutedIdeal.main_arg5)) (m ((c.tc : Thread Cert.RoutedIdeal.nD Cert.RoutedIdeal.τ).loc Cert.RoutedIdeal.main_arg6)) (ix3 g R l) = Cert.RoutedIdeal.Value.G7 m c (ix3 g R l) := by
    intro g R l
    rw [Cert.RoutedRefIdeal.Ref.out_apply, Cert.RoutedRefIdeal.Ref.experts_apply]
    obtain ⟨a, b, T, hw⟩ := Cert.RoutedRefIdeal.Ref.combine_apply (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (m ((c.tc : Thread Cert.RoutedIdeal.nD Cert.RoutedIdeal.τ).loc Cert.RoutedIdeal.main_arg3)) ⟨g.val * 8192 + R.val, flat_lt g R⟩
      (fun e => by rw [scores_same]; exact Cert.RoutedIdeal.Fold.score_fin hf g R e)
    rw [scores_same] at T hw
    rw [Cert.RoutedIdeal.Fold.G7_apply hf g R l T]
    simp only [Cert.RoutedRefIdeal.Ref.part_apply, hw, rows_same]
    rfl
  funext i
  idx_vars i
  exact key _ _ _

theorem algebraic : Cert.algebraic_RoutedIdeal_RoutedRefIdeal := by
  intro m ρ m' ρ' hpre hag
  refine ⟨fun c => Cert.RoutedIdeal.Value.G7 m c, Cert.RoutedIdeal.Value.run (F := Ideal) m ρ, ?_⟩
  refine (θ_run Cert.RoutedRefIdeal.defs _ _).mono (fun _ h c => ⟨(h c).1.trans ?_, (h c).2⟩) (Cert.RoutedRefIdeal.Value.run (F := Ideal) m' ρ')
  obtain ⟨a0, a1, a2, a3, a4, a5, a6⟩ := hag c
  rw [Cert.RoutedRefIdeal.Read.val_main_v167_eq]
  show Cert.RoutedRefIdeal.Read.val_main_v167 (F := Ideal) (m' ((c.tc : Thread Cert.RoutedRefIdeal.nD Cert.RoutedRefIdeal.τ).loc Cert.RoutedRefIdeal.main_arg0)) (m' ((c.tc : Thread Cert.RoutedRefIdeal.nD Cert.RoutedRefIdeal.τ).loc Cert.RoutedRefIdeal.main_arg1)) (m' ((c.tc : Thread Cert.RoutedRefIdeal.nD Cert.RoutedRefIdeal.τ).loc Cert.RoutedRefIdeal.main_arg2)) (m' ((c.tc : Thread Cert.RoutedRefIdeal.nD Cert.RoutedRefIdeal.τ).loc Cert.RoutedRefIdeal.main_arg3)) (m' ((c.tc : Thread Cert.RoutedRefIdeal.nD Cert.RoutedRefIdeal.τ).loc Cert.RoutedRefIdeal.main_arg4)) (m' ((c.tc : Thread Cert.RoutedRefIdeal.nD Cert.RoutedRefIdeal.τ).loc Cert.RoutedRefIdeal.main_arg5)) (m' ((c.tc : Thread Cert.RoutedRefIdeal.nD Cert.RoutedRefIdeal.τ).loc Cert.RoutedRefIdeal.main_arg6)) = _
  rw [a0, a1, a2, a3, a4, a5, a6]
  exact same m c (finite m hpre c)

end Cert.Proof.Routed

end
-- ==== Proof.Proj.InValue.lean ====
/-
  The input projection's three result arrays over the extended reals: the modulated row's products with the columns.
-/
module

public import proofs.«01_k».proof.Proof.Gen.ProjInIdeal.Value
public import proofs.«01_k».proof.Proof.Ffn.Spec
public import proofs.«01_k».proof.Proof.Ffn.TopTwo
public import Idealize.ShloMosaic.Lib.Pointwise
public import Idealize.ShloMosaic.Lib.Pipeline.Value
public import Idealize.ShloMosaic.Lib.StableHlo.Run
public import Idealize.ShloMosaic.Lib.StableHlo.RunRead

@[expose] public section

set_option maxRecDepth 16384

noncomputable section

namespace Cert.ProjInIdeal.Fold

open Cert.ProjInIdeal Cert.ProjInIdeal.Gen Idealize.ShloMosaic Idealize.ShloMosaic.TcCoe Idealize.SL.Sem Cert.Ffn

/-- A row's product with one column of the weights. -/
theorem pay3_apply (x : Vec Ideal S1x256x1024 .f32) (w : Vec Ideal S1x1024 .f32) (sh sc : Vec Ideal S1x1x1024 .f32)
    (p : Vec Ideal S1024x3712 .bf16) (r : Fin 256) (n : Fin 3712) :
    k0_pay3 x w sh sc p (ix2 r n)
      = ∑ k, modNorm (fun q => x (ix3 0 r q)) (fun q => w (ix2 0 q)) (fun q => sc (ix3 0 0 q)) (fun q => sh (ix3 0 0 q)) k * p (ix2 k n) := by
  unfold modNorm width eps
  pointwise [k0_pay3]

variable (m : (ℓ : Loc nD τ sig) → Buf (Elt Ideal) ℓ)

/-! ## The arrays the region finds -/

/-- The weights with 88 columns of zeros appended. -/
def padIn (w : FVec Ideal S1024x3624 .f32) : FVec Ideal S1024x3712 .bf16 :=
  truncf .bf16 (pad S1024x3712 ![0, 0] ![0, 88] ![0, 0] w (sitofp .f32 (constantI S_ 32 0#32)) pads_S1024x3624_S1024x3712_000_0880 h_S_) bitsLt_bf16_f32

theorem padIn_apply (w : FVec Ideal S1024x3624 .f32) (k : Fin 1024) (l : Fin 3712) :
    padIn w (ix2 k l) = if h : l.val < 3624 then w (ix2 k ⟨l.val, h⟩) else 0 := by
  pointwise [padIn]
  congr 1
  funext
  exact (lane_word (n := 0) (by decide)).trans (by simp [lane])

theorem V_v1 (c : Dev nD) : V m c main_v1 = padIn (m ((c : Thread nD τ).loc main_arg3)) := by
  unfold V hostOps0 hostOps0_1 hostOps0_2 padIn
  after_reads_simp
  rfl

theorem V_v2 (c : Dev nD) (k : Fin 1024) : V m c main_v2 (ix2 0 k) = m ((c : Thread nD τ).loc main_arg1) (ix1 k) := by
  have e : V m c main_v2 = shapeCast S1x1024 (m ((c : Thread nD τ).loc main_arg1) : FVec Ideal S1024 .f32) shapeCasts_S1024_S1x1024 := by
    unfold V hostOps0 hostOps0_1 hostOps0_2
    after_results_simp
    rfl
  rw [e]
  pointwise

/-! ## The blocks of a grid point -/

theorem at0 : ∀ t : Fin grid0.N, win0_0.index t = ![t.val / 32, t.val % 32, 0] := by decide +kernel
theorem at1 : ∀ t : Fin grid0.N, win0_1.index t = ![0, 0] := by decide +kernel
theorem at2 : ∀ t : Fin grid0.N, win0_2.index t = ![t.val / 32, 0, 0] := by decide +kernel
theorem at3 : ∀ t : Fin grid0.N, win0_3.index t = ![0, 0] := by decide +kernel
theorem at4 : ∀ t : Fin grid0.N, win0_4.index t = ![t.val / 32, t.val % 32, 0] := by decide +kernel
theorem at5 : ∀ t : Fin grid0.N, win0_5.index t = ![t.val / 32, t.val % 32, 0] := by decide +kernel
theorem at6 : ∀ t : Fin grid0.N, win0_6.index t = ![t.val / 32, t.val % 32, 0] := by decide +kernel
theorem flush4 : ∀ t : Fin grid0.N, win0_4.flush t = true := by decide +kernel
theorem flush5 : ∀ t : Fin grid0.N, win0_5.flush t = true := by decide +kernel
theorem flush6 : ∀ t : Fin grid0.N, win0_6.flush t = true := by decide +kernel

theorem lt64 (t : Fin grid0.N) : t.val < 64 := lt_of_lt_of_eq t.isLt (by decide)
theorem batch_lt (t : Fin grid0.N) : t.val / 32 < 2 := by have := lt64 t; omega
theorem row_lt (t : Fin grid0.N) (r : Fin 256) : 256 * (t.val % 32) + r.val < 8192 := by omega

variable (c : Dev nD) (t : Fin grid0.N)

theorem rows_apply (r : Fin 256) (k : Fin 1024) :
    iblk m c 0 t (ix3 0 r k) = m ((c : Thread nD τ).loc main_arg0) (ix3 ⟨t.val / 32, batch_lt t⟩ ⟨256 * (t.val % 32) + r.val, row_lt t r⟩ k) := by
  have e := at0 t
  unfold iblk
  rw [View.read_apply]
  show V m c main_arg0 _ = _
  rw [V_main_arg0 m c]
  congr 1
  funext a
  apply Fin.ext
  match a with
  | ⟨0, _⟩ => show win0_0.index t 0 * 1 + 1 * 0 = t.val / 32; rw [e]; simp
  | ⟨1, _⟩ => show win0_0.index t 1 * 256 + 1 * r.val = 256 * (t.val % 32) + r.val; rw [e]; simp; omega
  | ⟨2, _⟩ => show win0_0.index t 2 * 1024 + 1 * k.val = k.val; rw [e]; simp

theorem weight_apply (k : Fin 1024) : iblk m c 1 t (ix2 0 k) = m ((c : Thread nD τ).loc main_arg1) (ix1 k) := by
  have e := at1 t
  unfold iblk
  rw [View.read_apply]
  show V m c main_v2 _ = _
  rw [← V_v2 m c k]
  congr 1
  funext a
  apply Fin.ext
  match a with
  | ⟨0, _⟩ => show win0_1.index t 0 * 1 + 1 * 0 = 0; rw [e]; simp <;> omega
  | ⟨1, _⟩ => show win0_1.index t 1 * 1024 + 1 * k.val = k.val; rw [e]; simp <;> omega

theorem mod_apply (k : Fin 6144) :
    iblk m c 2 t (ix3 0 0 k) = m ((c : Thread nD τ).loc main_arg2) (ix3 ⟨t.val / 32, batch_lt t⟩ 0 k) := by
  have e := at2 t
  unfold iblk
  rw [View.read_apply]
  show V m c main_arg2 _ = _
  rw [V_main_arg2 m c]
  congr 1
  funext a
  apply Fin.ext
  match a with
  | ⟨0, _⟩ => show win0_2.index t 0 * 1 + 1 * 0 = t.val / 32; rw [e]; simp <;> omega
  | ⟨1, _⟩ => show win0_2.index t 1 * 1 + 1 * 0 = 0; rw [e]; simp <;> omega
  | ⟨2, _⟩ => show win0_2.index t 2 * 6144 + 1 * k.val = k.val; rw [e]; simp <;> omega

theorem cols_apply (k : Fin 1024) (n : Fin 3712) :
    iblk m c 3 t (ix2 k n) = padIn (m ((c : Thread nD τ).loc main_arg3)) (ix2 k n) := by
  have e := at3 t
  unfold iblk
  rw [View.read_apply]
  show V m c main_v1 _ = _
  rw [V_v1 m c]
  congr 1
  funext a
  apply Fin.ext
  match a with
  | ⟨0, _⟩ => show win0_3.index t 0 * 1024 + 1 * k.val = k.val; rw [e]; simp <;> omega
  | ⟨1, _⟩ => show win0_3.index t 1 * 3712 + 1 * n.val = n.val; rw [e]; simp <;> omega

/-! ## The result arrays -/

/-- One entry of the projection: the modulated row times a column of the padded weights. -/
def proj (c : Dev nD) (g : Fin 2) (R : Fin 8192) (n : Fin 3712) : EReal :=
  ∑ k, modNorm (fun q => m ((c : Thread nD τ).loc main_arg0) (ix3 g R q)) (fun q => m ((c : Thread nD τ).loc main_arg1) (ix1 q))
      (fun q => m ((c : Thread nD τ).loc main_arg2) (ix3 g 0 ⟨1024 + q.val, by omega⟩)) (fun q => m ((c : Thread nD τ).loc main_arg2) (ix3 g 0 ⟨q.val, by omega⟩)) k
    * padIn (m ((c : Thread nD τ).loc main_arg3)) (ix2 k n)

/-- What a point computes before it is split into the three results. -/
def point : FVec Ideal S256x3712 .f32 :=
  k0_pay3 (View.ld (iblk m c 0 t) r0_0) (View.ld (iblk m c 1 t) r0_1) (View.ld (iblk m c 2 t) r0_2) (View.ld (iblk m c 2 t) r0_3) (View.ld (iblk m c 3 t) r0_4)

theorem hz3 : (![0, 0, 0] : Fin 3 → Nat) = fun _ => 0 := by decide
theorem hz2 : (![0, 0] : Fin 2 → Nat) = fun _ => 0 := by decide

theorem point_apply (r : Fin 256) (n : Fin 3712) :
    point m c t (ix2 r n) = proj m c ⟨t.val / 32, batch_lt t⟩ ⟨256 * (t.val % 32) + r.val, row_lt t r⟩ n := by
  unfold point proj
  rw [View.ld_unit_zero (S := S1x256x1024) hz3, View.ld_unit_zero (S := S1x1024) hz2, View.ld_unit_zero (S := S1024x3712) hz2, pay3_apply]
  have h2 : ∀ q : Fin 1024, View.ld (iblk m c 2 t) r0_2 (ix3 0 0 q) = iblk m c 2 t (ix3 0 0 ⟨q.val, by omega⟩) := fun q => by
    refine congrArg (iblk m c 2 t) (funext fun a => Fin.ext ?_)
    match a with
    | ⟨0, _⟩ => rfl
    | ⟨1, _⟩ => rfl
    | ⟨2, _⟩ => show 0 + 1 * q.val = q.val; omega
  have h3 : ∀ q : Fin 1024, View.ld (iblk m c 2 t) r0_3 (ix3 0 0 q) = iblk m c 2 t (ix3 0 0 ⟨1024 + q.val, by omega⟩) := fun q => by
    refine congrArg (iblk m c 2 t) (funext fun a => Fin.ext ?_)
    match a with
    | ⟨0, _⟩ => rfl
    | ⟨1, _⟩ => rfl
    | ⟨2, _⟩ => show 1024 + 1 * q.val = 1024 + q.val; omega
  simp only [h2, h3, rows_apply, weight_apply, mod_apply, cols_apply]

/-- The point of a row. -/
def pointOf (g : Fin 2) (R : Fin 8192) : Fin grid0.N := ⟨32 * g.val + R.val / 256, lt_of_lt_of_eq (by omega : _ < 64) (by decide)⟩

theorem point_row (g : Fin 2) (R : Fin 8192) (n : Fin 3712) :
    point m c (pointOf g R) (ix2 ⟨R.val % 256, by omega⟩ n) = proj m c g R n := by
  rw [point_apply]
  have hg : (⟨(pointOf g R).val / 32, batch_lt _⟩ : Fin 2) = g := Fin.ext (by show (32 * g.val + R.val / 256) / 32 = _; omega)
  have hR : (⟨256 * ((pointOf g R).val % 32) + R.val % 256, row_lt (pointOf g R) ⟨R.val % 256, by omega⟩⟩ : Fin 8192) = R :=
    Fin.ext (by show 256 * ((32 * g.val + R.val / 256) % 32) + R.val % 256 = _; omega)
  rw [hg]
  exact congrArg (fun z => proj m c g z n) hR

theorem res4_apply (g : Fin 2) (R : Fin 8192) (n : Fin 1792) : (dats m 0 c).arrAt 4 cfg0.N (ix3 g R n) = proj m c g R ⟨n.val, by omega⟩ := by
  have h := congrFun (Value.blocks4 m c (pointOf g R) (flush4 _)) (ix3 0 ⟨R.val % 256, by omega⟩ n)
  rw [View.read_apply, Value.flushed4] at h
  have e := at4 (pointOf g R)
  refine Eq.trans (congrArg ((dats m 0 c).arrAt 4 cfg0.N) (funext fun a => Fin.ext ?_)) (h.trans ?_)
  · match a with
    | ⟨0, _⟩ => show g.val = win0_4.index (pointOf g R) 0 * 1 + 1 * 0; rw [e]; show g.val = (32 * g.val + R.val / 256) / 32 * 1 + 1 * 0; omega
    | ⟨1, _⟩ => show R.val = win0_4.index (pointOf g R) 1 * 256 + 1 * (R.val % 256); rw [e]; show R.val = (32 * g.val + R.val / 256) % 32 * 256 + 1 * (R.val % 256); omega
    | ⟨2, _⟩ => show n.val = win0_4.index (pointOf g R) 2 * 1792 + 1 * n.val; rw [e]; show n.val = 0 * 1792 + 1 * n.val; omega
  · unfold out0_4
    exact (Value.canon4_eq _ _ _ _ _ _).trans (point_row m c g R ⟨n.val, by omega⟩)

theorem res5_apply (g : Fin 2) (R : Fin 8192) (n : Fin 1536) : (dats m 0 c).arrAt 5 cfg0.N (ix3 g R n) = proj m c g R ⟨n.val + 1792, by omega⟩ := by
  have h := congrFun (Value.blocks5 m c (pointOf g R) (flush5 _)) (ix3 0 ⟨R.val % 256, by omega⟩ n)
  rw [View.read_apply, Value.flushed5] at h
  have e := at5 (pointOf g R)
  refine Eq.trans (congrArg ((dats m 0 c).arrAt 5 cfg0.N) (funext fun a => Fin.ext ?_)) (h.trans ?_)
  · match a with
    | ⟨0, _⟩ => show g.val = win0_5.index (pointOf g R) 0 * 1 + 1 * 0; rw [e]; show g.val = (32 * g.val + R.val / 256) / 32 * 1 + 1 * 0; omega
    | ⟨1, _⟩ => show R.val = win0_5.index (pointOf g R) 1 * 256 + 1 * (R.val % 256); rw [e]; show R.val = (32 * g.val + R.val / 256) % 32 * 256 + 1 * (R.val % 256); omega
    | ⟨2, _⟩ => show n.val = win0_5.index (pointOf g R) 2 * 1536 + 1 * n.val; rw [e]; show n.val = 0 * 1536 + 1 * n.val; omega
  · unfold out0_5
    exact (Value.canon5_eq _ _ _ _ _ _).trans (point_row m c g R ⟨n.val + 1792, by omega⟩)

theorem res6_apply (g : Fin 2) (R : Fin 8192) (n : Fin 384) : (dats m 0 c).arrAt 6 cfg0.N (ix3 g R n) = proj m c g R ⟨n.val + 3328, by omega⟩ := by
  have h := congrFun (Value.blocks6 m c (pointOf g R) (flush6 _)) (ix3 0 ⟨R.val % 256, by omega⟩ n)
  rw [View.read_apply, Value.flushed6] at h
  have e := at6 (pointOf g R)
  refine Eq.trans (congrArg ((dats m 0 c).arrAt 6 cfg0.N) (funext fun a => Fin.ext ?_)) (h.trans ?_)
  · match a with
    | ⟨0, _⟩ => show g.val = win0_6.index (pointOf g R) 0 * 1 + 1 * 0; rw [e]; show g.val = (32 * g.val + R.val / 256) / 32 * 1 + 1 * 0; omega
    | ⟨1, _⟩ => show R.val = win0_6.index (pointOf g R) 1 * 256 + 1 * (R.val % 256); rw [e]; show R.val = (32 * g.val + R.val / 256) % 32 * 256 + 1 * (R.val % 256); omega
    | ⟨2, _⟩ => show n.val = win0_6.index (pointOf g R) 2 * 384 + 1 * n.val; rw [e]; show n.val = 0 * 384 + 1 * n.val; omega
  · unfold out0_6
    exact (Value.canon6_eq _ _ _ _ _ _).trans (point_row m c g R ⟨n.val + 3328, by omega⟩)

end Cert.ProjInIdeal.Fold

end
-- ==== Proof.Proj.InClaim.lean ====
/-
  The input projection's claims: the kernel's three result arrays and the reference's are the same functions of the
  arguments.
-/
module

public import proofs.«01_k».proof.Defs
public import proofs.«01_k».proof.Proof.Proj.InValue
public import proofs.«01_k».proof.Proof.Gen.ProjInRefIdeal.Run
public import proofs.«01_k».proof.Proof.Gen.ProjInRefIdeal.Read
public import proofs.«01_k».proof.Proof.Gen.ProjIn.Frame
public import proofs.«01_k».proof.Proof.Gen.ProjIn
public import proofs.«01_k».proof.Proof.Gen.ProjInIdeal
public import proofs.«01_k».proof.Proof.Gen.ProjInRefIdeal

@[expose] public section

set_option maxRecDepth 16384

noncomputable section

namespace Cert.ProjInRefIdeal.Ref

open Cert.ProjInRefIdeal Cert.ProjInRefIdeal.Gen Idealize.ShloMosaic Idealize.ShloMosaic.TcCoe Idealize.SL.Sem Cert.Ffn
open Cert.ProjInRefIdeal.Read

variable (x : FVec Ideal S2x8192x1024 .f32) (w : FVec Ideal S1024 .f32) (md : FVec Ideal S2x1x6144 .f32) (p : FVec Ideal S1024x3624 .f32)

/-- The normalised and modulated row. -/
theorem norm_apply (g : Fin 2) (R : Fin 8192) (k : Fin 1024) :
    val_main_v24 (F := Ideal) x w md (ix3 g R k)
      = modNorm (fun q => x (ix3 g R q)) (fun q => w (ix1 q)) (fun q => md (ix3 g 0 ⟨1024 + q.val, by omega⟩))
          (fun q => md (ix3 g 0 ⟨q.val, by omega⟩)) k := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v1, val_main_v0, val_main_cst, val_main_cst_0, val_main_cst_1, val_main_cst_2, modNorm, eps, width]

theorem all_apply (g : Fin 2) (R : Fin 8192) (n : Fin 3624) :
    val_main_v25 (F := Ideal) x w md p (ix3 g R n) = ∑ k, val_main_v24 (F := Ideal) x w md (ix3 g R k) * p (ix2 k n) := by
  pointwise [val_main_v25]

theorem shifted_apply (g : Fin 2) (R : Fin 8192) (n : Fin 1792) :
    val_main_v26 (F := Ideal) x w md p (ix3 g R n) = val_main_v25 (F := Ideal) x w md p (ix3 g R ⟨n.val, by omega⟩) := by
  pointwise [val_main_v26]

theorem attn_apply (g : Fin 2) (R : Fin 8192) (n : Fin 1536) :
    val_main_v27 (F := Ideal) x w md p (ix3 g R n) = val_main_v25 (F := Ideal) x w md p (ix3 g R ⟨1792 + n.val, by omega⟩) := by
  pointwise [val_main_v27]

theorem index_apply (g : Fin 2) (R : Fin 8192) (n : Fin 384) :
    val_main_v29 (F := Ideal) x w md p (ix3 g R n)
      = if h : n.val < 296 then val_main_v25 (F := Ideal) x w md p (ix3 g R ⟨3328 + n.val, by omega⟩) else 0 := by
  pointwise [val_main_v29, val_main_v28, val_main_call0_v0, val_main_c]
  congr 1
  funext
  exact (lane_word (n := 0) (by decide)).trans (by simp [lane])

end Cert.ProjInRefIdeal.Ref

namespace Cert.Proof.ProjIn

open Idealize.ShloMosaic Idealize.ShloMosaic.TcCoe Idealize.SL.Sem Cert.Ffn

theorem frame_ref : Cert.quiescent_ProjInRefIdeal := fun m ρ _ =>
  (θ_run Cert.ProjInRefIdeal.defs _ _).mono (fun r h => ⟨fun c => (h c).2.2.2, sem_eq_zero_of_no_sems (by decide) r.2⟩)
    (Cert.ProjInRefIdeal.Value.run (F := Ideal) m ρ)

variable (m : (ℓ : Loc Cert.ProjInIdeal.nD Cert.ProjInIdeal.τ Cert.ProjInIdeal.sig) → Buf (Elt Ideal) ℓ) (c : Dev Cert.ProjInIdeal.nD)

/-- A column of the weights: the two programs' products with it. -/
theorem column (g : Fin 2) (R : Fin 8192) (n : Fin 3712) (h : n.val < 3624) :
    Cert.ProjInRefIdeal.Read.val_main_v25 (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3)) (ix3 g R ⟨n.val, h⟩) = Cert.ProjInIdeal.Fold.proj m c g R n := by
  rw [Cert.ProjInRefIdeal.Ref.all_apply]
  unfold Cert.ProjInIdeal.Fold.proj
  refine Finset.sum_congr rfl fun k _ => ?_
  rw [Cert.ProjInRefIdeal.Ref.norm_apply, Cert.ProjInIdeal.Fold.padIn_apply, dif_pos h]

/-- A column of the padding. -/
theorem column_pad (g : Fin 2) (R : Fin 8192) (n : Fin 3712) (h : ¬ n.val < 3624) : Cert.ProjInIdeal.Fold.proj m c g R n = 0 := by
  unfold Cert.ProjInIdeal.Fold.proj
  refine Finset.sum_eq_zero fun k _ => ?_
  rw [Cert.ProjInIdeal.Fold.padIn_apply, dif_neg h, mul_zero]

theorem same4 : Cert.ProjInRefIdeal.Read.val_main_v26 (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3))
    = (Cert.ProjInIdeal.Gen.dats m 0 c).arrAt 4 Cert.ProjInIdeal.cfg0.N := by
  have key : ∀ (g : Fin 2) (R : Fin 8192) (n : Fin 1792), Cert.ProjInRefIdeal.Read.val_main_v26 (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3)) (ix3 g R n)
      = (Cert.ProjInIdeal.Gen.dats m 0 c).arrAt 4 Cert.ProjInIdeal.cfg0.N (ix3 g R n) := fun g R n => by
    rw [Cert.ProjInIdeal.Fold.res4_apply, Cert.ProjInRefIdeal.Ref.shifted_apply]
    exact column m c g R ⟨n.val, by omega⟩ (by simp only []; omega)
  funext i
  idx_vars i
  exact key _ _ _

theorem same5 : Cert.ProjInRefIdeal.Read.val_main_v27 (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3))
    = (Cert.ProjInIdeal.Gen.dats m 0 c).arrAt 5 Cert.ProjInIdeal.cfg0.N := by
  have key : ∀ (g : Fin 2) (R : Fin 8192) (n : Fin 1536), Cert.ProjInRefIdeal.Read.val_main_v27 (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3)) (ix3 g R n)
      = (Cert.ProjInIdeal.Gen.dats m 0 c).arrAt 5 Cert.ProjInIdeal.cfg0.N (ix3 g R n) := fun g R n => by
    rw [Cert.ProjInIdeal.Fold.res5_apply, Cert.ProjInRefIdeal.Ref.attn_apply, ← column m c g R ⟨n.val + 1792, by omega⟩ (by simp only []; omega)]
    exact congrArg _ (congrArg (ix3 g R) (Fin.ext (Nat.add_comm _ _)))
  funext i
  idx_vars i
  exact key _ _ _

theorem same6 : Cert.ProjInRefIdeal.Read.val_main_v29 (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3))
    = (Cert.ProjInIdeal.Gen.dats m 0 c).arrAt 6 Cert.ProjInIdeal.cfg0.N := by
  have key : ∀ (g : Fin 2) (R : Fin 8192) (n : Fin 384), Cert.ProjInRefIdeal.Read.val_main_v29 (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3)) (ix3 g R n)
      = (Cert.ProjInIdeal.Gen.dats m 0 c).arrAt 6 Cert.ProjInIdeal.cfg0.N (ix3 g R n) := fun g R n => by
    rw [Cert.ProjInIdeal.Fold.res6_apply, Cert.ProjInRefIdeal.Ref.index_apply]
    split
    · rw [← column m c g R ⟨n.val + 3328, by omega⟩ (by simp only []; omega)]
      exact congrArg _ (congrArg (ix3 g R) (Fin.ext (Nat.add_comm _ _)))
    · exact (column_pad m c g R ⟨n.val + 3328, by omega⟩ (by simp only []; omega)).symm
  funext i
  idx_vars i
  exact key _ _ _

theorem algebraic : Cert.algebraic_ProjInIdeal_ProjInRefIdeal := by
  intro m ρ m' ρ' _ hag
  refine ⟨fun c => (Cert.ProjInIdeal.Gen.dats m 0 c).arrAt 4 Cert.ProjInIdeal.cfg0.N, fun c => (Cert.ProjInIdeal.Gen.dats m 0 c).arrAt 5 Cert.ProjInIdeal.cfg0.N,
    fun c => (Cert.ProjInIdeal.Gen.dats m 0 c).arrAt 6 Cert.ProjInIdeal.cfg0.N, Cert.ProjInIdeal.Value.run_blocks (F := Ideal) m ρ, ?_⟩
  refine (θ_run Cert.ProjInRefIdeal.defs _ _).mono (fun _ h c => ⟨(h c).1.trans ?_, (h c).2.1.trans ?_, (h c).2.2.1.trans ?_, (h c).2.2.2⟩) (Cert.ProjInRefIdeal.Value.run (F := Ideal) m' ρ')
  all_goals obtain ⟨a0, a1, a2, a3⟩ := hag c
  · rw [Cert.ProjInRefIdeal.Read.val_main_v26_eq]
    show Cert.ProjInRefIdeal.Read.val_main_v26 (F := Ideal) (m' ((c.tc : Thread Cert.ProjInRefIdeal.nD Cert.ProjInRefIdeal.τ).loc Cert.ProjInRefIdeal.main_arg0)) (m' ((c.tc : Thread Cert.ProjInRefIdeal.nD Cert.ProjInRefIdeal.τ).loc Cert.ProjInRefIdeal.main_arg1)) (m' ((c.tc : Thread Cert.ProjInRefIdeal.nD Cert.ProjInRefIdeal.τ).loc Cert.ProjInRefIdeal.main_arg2)) (m' ((c.tc : Thread Cert.ProjInRefIdeal.nD Cert.ProjInRefIdeal.τ).loc Cert.ProjInRefIdeal.main_arg3)) = _
    rw [a0, a1, a2, a3]
    exact same4 m c
  · rw [Cert.ProjInRefIdeal.Read.val_main_v27_eq]
    show Cert.ProjInRefIdeal.Read.val_main_v27 (F := Ideal) (m' ((c.tc : Thread Cert.ProjInRefIdeal.nD Cert.ProjInRefIdeal.τ).loc Cert.ProjInRefIdeal.main_arg0)) (m' ((c.tc : Thread Cert.ProjInRefIdeal.nD Cert.ProjInRefIdeal.τ).loc Cert.ProjInRefIdeal.main_arg1)) (m' ((c.tc : Thread Cert.ProjInRefIdeal.nD Cert.ProjInRefIdeal.τ).loc Cert.ProjInRefIdeal.main_arg2)) (m' ((c.tc : Thread Cert.ProjInRefIdeal.nD Cert.ProjInRefIdeal.τ).loc Cert.ProjInRefIdeal.main_arg3)) = _
    rw [a0, a1, a2, a3]
    exact same5 m c
  · rw [Cert.ProjInRefIdeal.Read.val_main_v29_eq]
    show Cert.ProjInRefIdeal.Read.val_main_v29 (F := Ideal) (m' ((c.tc : Thread Cert.ProjInRefIdeal.nD Cert.ProjInRefIdeal.τ).loc Cert.ProjInRefIdeal.main_arg0)) (m' ((c.tc : Thread Cert.ProjInRefIdeal.nD Cert.ProjInRefIdeal.τ).loc Cert.ProjInRefIdeal.main_arg1)) (m' ((c.tc : Thread Cert.ProjInRefIdeal.nD Cert.ProjInRefIdeal.τ).loc Cert.ProjInRefIdeal.main_arg2)) (m' ((c.tc : Thread Cert.ProjInRefIdeal.nD Cert.ProjInRefIdeal.τ).loc Cert.ProjInRefIdeal.main_arg3)) = _
    rw [a0, a1, a2, a3]
    exact same6 m c

end Cert.Proof.ProjIn

end
-- ==== Proof.Proj.AdaValue.lean ====
/-
  The modulation's result array over the extended reals, where the conditioning rows and the weights are finite.
-/
module

public import proofs.«01_k».proof.Proof.Gen.AdaIdeal.Value
public import proofs.«01_k».proof.Proof.Ffn.TopTwo
public import Idealize.ShloMosaic.Lib.Pointwise
public import Idealize.ShloMosaic.Lib.Pipeline.Value
public import Idealize.ShloMosaic.Lib.StableHlo.Run
public import Idealize.ShloMosaic.Lib.StableHlo.RunRead

@[expose] public section

set_option maxRecDepth 16384

noncomputable section

namespace Cert.Ffn

open Idealize.ShloMosaic

/-- A value times its logistic. -/
def silu (x : EReal) : EReal := x * Ideal.logistic x

theorem silu_fin {x : EReal} (h : Fin' x) : Fin' (silu x) := by
  obtain ⟨r, rfl⟩ := h
  exact Fin'.mul ⟨r, rfl⟩ ⟨_, Ideal.logistic_coe r⟩

/-- The conditioning rows: two, then 128, then six of zeros. -/
def condRow (a : Fin 2 → EReal) (b : Fin 128 → EReal) (r : Fin 136) : EReal :=
  if h : r.val < 2 then a ⟨r.val, h⟩ else if h : r.val - 2 < 128 then b ⟨r.val - 2, h⟩ else 0

theorem condRow_fin {a : Fin 2 → EReal} {b : Fin 128 → EReal} (ha : ∀ i, Fin' (a i)) (hb : ∀ i, Fin' (b i)) (r : Fin 136) : Fin' (condRow a b r) := by
  unfold condRow
  split
  · exact ha _
  · split
    · exact hb _
    · exact Fin'.zero

/-- A row of products plus a bias. -/
def affine (c w : Fin 1024 → EReal) (b : EReal) : EReal := (∑ k, c k * w k) + b

end Cert.Ffn

namespace Cert.AdaIdeal.Fold

open Cert.AdaIdeal Cert.AdaIdeal.Gen Idealize.ShloMosaic Idealize.ShloMosaic.TcCoe Idealize.SL.Sem Cert.Ffn

/-- A row's three products are one: the low parts are zero. -/
theorem pay1_apply (v0 : Vec Ideal S136x1024 .f32) (v4 : Vec Ideal S1x1024x1536 .f32) (v19 : Vec Ideal S1x1x1536 .f32) (r : Fin 136) (n : Fin 1536)
    (h0 : ∀ k, Fin' (v0 (ix2 r k))) (h4 : ∀ k, Fin' (v4 (ix3 0 k n))) :
    k0_pay1 v0 v4 v19 (ix3 0 r n) = affine (fun k => silu (v0 (ix2 r k))) (fun k => v4 (ix3 0 k n)) (v19 (ix3 0 0 n)) := by
  have h : k0_pay1 v0 v4 v19 (ix3 0 r n) = (∑ k, silu (v0 (ix2 r k)) * v4 (ix3 0 k n)) + (∑ k, (silu (v0 (ix2 r k)) - silu (v0 (ix2 r k))) * v4 (ix3 0 k n))
      + (∑ k, silu (v0 (ix2 r k)) * (v4 (ix3 0 k n) - v4 (ix3 0 k n))) + v19 (ix3 0 0 n) := by
    unfold silu
    pointwise [k0_pay1]
  rw [h, Finset.sum_eq_zero (f := fun k => (silu (v0 (ix2 r k)) - silu (v0 (ix2 r k))) * v4 (ix3 0 k n)) fun k _ => by rw [(silu_fin (h0 k)).sub_self, zero_mul],
    Finset.sum_eq_zero (f := fun k => silu (v0 (ix2 r k)) * (v4 (ix3 0 k n) - v4 (ix3 0 k n))) fun k _ => by rw [(h4 k).sub_self, mul_zero], add_zero, add_zero]
  rfl

variable (m : (ℓ : Loc nD τ sig) → Buf (Elt Ideal) ℓ)

/-! ## The arrays the region finds -/

/-- The two lists of rows, joined and padded. -/
def padRows (a : FVec Ideal S2x1024 .f32) (b : FVec Ideal S128x1024 .f32) : FVec Ideal S136x1024 .f32 :=
  pad S136x1024 ![0, 0] ![6, 0] ![0, 0] (concatenate S130x1024 0 [⟨S2x1024, a⟩, ⟨S128x1024, b⟩] concatenates_S2x1024_S128x1024_S130x1024_d0)
    (sitofp .f32 (constantI S_ 32 0#32)) pads_S130x1024_S136x1024_060_000 h_S_

theorem padRows_apply (a : FVec Ideal S2x1024 .f32) (b : FVec Ideal S128x1024 .f32) (r : Fin 136) (k : Fin 1024) :
    padRows a b (ix2 r k) = condRow (fun i => a (ix2 i k)) (fun i => b (ix2 i k)) r := by
  unfold condRow
  pointwise [padRows]
  have z : FloatOps.sitofp (F := Ideal) .f32 (0#32) = 0 := (lane_word (n := 0) (by decide)).trans (by simp [lane])
  rw [z]
  by_cases h : r.val < 130
  · rw [dif_pos h]
    split
    · rfl
    · rw [dif_pos (by omega)]
  · rw [dif_neg h, dif_neg (by omega), dif_neg (by omega)]

theorem V_v1 (c : Dev nD) : V m c main_v1 = padRows (m ((c : Thread nD τ).loc main_arg0)) (m ((c : Thread nD τ).loc main_arg1)) := by
  unfold V hostOps0 hostOps0_1 hostOps0_2 padRows
  after_reads_simp
  rfl

theorem V_v2 (c : Dev nD) (l : Fin 4) (n : Fin 6144) : V m c main_v2 (ix3 l 0 n) = m ((c : Thread nD τ).loc main_arg3) (ix2 l n) := by
  have e : V m c main_v2 = shapeCast S4x1x6144 (m ((c : Thread nD τ).loc main_arg3) : FVec Ideal S4x6144 .f32) shapeCasts_S4x6144_S4x1x6144 := by
    unfold V hostOps0 hostOps0_1 hostOps0_2
    after_results_simp
    rfl
  rw [e]
  exact shapeCast_apply (s := S4x6144) (t := S4x1x6144) (m ((c : Thread nD τ).loc main_arg3)) shapeCasts_S4x6144_S4x1x6144 (ix3 l 0 n) (ix2 l n)
    (by rw [Shape.rowMajor_val_two, Shape.rowMajor_val_three]; show l.val * 6144 + n.val = (l.val * 1 + 0) * 6144 + n.val; omega)

/-! ## The blocks of a grid point -/

theorem at0 : ∀ t : Fin grid0.N, win0_0.index t = ![0, 0] := by decide +kernel
theorem at1 : ∀ t : Fin grid0.N, win0_1.index t = ![t.val / 4, 0, t.val % 4] := by decide +kernel
theorem at2 : ∀ t : Fin grid0.N, win0_2.index t = ![t.val / 4, 0, t.val % 4] := by decide +kernel
theorem at3 : ∀ t : Fin grid0.N, win0_3.index t = ![t.val / 4, 0, t.val % 4] := by decide +kernel
theorem flush3 : ∀ t : Fin grid0.N, win0_3.flush t = true := by decide +kernel

theorem lt16 (t : Fin grid0.N) : t.val < 16 := lt_of_lt_of_eq t.isLt (by decide)
theorem layer_lt (t : Fin grid0.N) : t.val / 4 < 4 := by have := lt16 t; omega
theorem col_lt (t : Fin grid0.N) (n : Fin 1536) : 1536 * (t.val % 4) + n.val < 6144 := by omega

variable (c : Dev nD) (t : Fin grid0.N)

theorem rows_apply (r : Fin 136) (k : Fin 1024) :
    iblk m c 0 t (ix2 r k) = condRow (fun i => m ((c : Thread nD τ).loc main_arg0) (ix2 i k)) (fun i => m ((c : Thread nD τ).loc main_arg1) (ix2 i k)) r := by
  have e := at0 t
  rw [← padRows_apply]
  unfold iblk
  rw [View.read_apply]
  show V m c main_v1 _ = _
  rw [V_v1 m c]
  congr 1
  funext a
  apply Fin.ext
  match a with
  | ⟨0, _⟩ => show win0_0.index t 0 * 136 + 1 * r.val = r.val; rw [e]; simp <;> omega
  | ⟨1, _⟩ => show win0_0.index t 1 * 1024 + 1 * k.val = k.val; rw [e]; simp <;> omega

theorem cols_apply (k : Fin 1024) (n : Fin 1536) :
    iblk m c 1 t (ix3 0 k n) = m ((c : Thread nD τ).loc main_arg2) (ix3 ⟨t.val / 4, layer_lt t⟩ k ⟨1536 * (t.val % 4) + n.val, col_lt t n⟩) := by
  have e := at1 t
  unfold iblk
  rw [View.read_apply]
  show V m c main_arg2 _ = _
  rw [V_main_arg2 m c]
  congr 1
  funext a
  apply Fin.ext
  match a with
  | ⟨0, _⟩ => show win0_1.index t 0 * 1 + 1 * 0 = t.val / 4; rw [e]; simp
  | ⟨1, _⟩ => show win0_1.index t 1 * 1024 + 1 * k.val = k.val; rw [e]; simp
  | ⟨2, _⟩ => show win0_1.index t 2 * 1536 + 1 * n.val = 1536 * (t.val % 4) + n.val; rw [e]; simp; omega

theorem bias_apply (n : Fin 1536) :
    iblk m c 2 t (ix3 0 0 n) = m ((c : Thread nD τ).loc main_arg3) (ix2 ⟨t.val / 4, layer_lt t⟩ ⟨1536 * (t.val % 4) + n.val, col_lt t n⟩) := by
  have e := at2 t
  unfold iblk
  rw [View.read_apply]
  show V m c main_v2 _ = _
  rw [← V_v2 m c]
  congr 1
  funext a
  apply Fin.ext
  match a with
  | ⟨0, _⟩ => show win0_2.index t 0 * 1 + 1 * 0 = t.val / 4; rw [e]; simp
  | ⟨1, _⟩ => show win0_2.index t 1 * 1 + 1 * 0 = 0; rw [e]; simp
  | ⟨2, _⟩ => show win0_2.index t 2 * 1536 + 1 * n.val = 1536 * (t.val % 4) + n.val; rw [e]; simp; omega

/-! ## The result array -/

/-- The conditioning rows and the weights are finite. -/
structure Conditioned (c : Dev nD) : Prop where
  prompt : ∀ i k, Fin' (m ((c : Thread nD τ).loc main_arg0) (ix2 i k))
  sample : ∀ i k, Fin' (m ((c : Thread nD τ).loc main_arg1) (ix2 i k))
  weights : ∀ l k n, Fin' (m ((c : Thread nD τ).loc main_arg2) (ix3 l k n))

/-- One entry of the result. -/
def outAt (c : Dev nD) (l : Fin 4) (r : Fin 136) (n : Fin 6144) : EReal :=
  affine (fun k => silu (condRow (fun i => m ((c : Thread nD τ).loc main_arg0) (ix2 i k)) (fun i => m ((c : Thread nD τ).loc main_arg1) (ix2 i k)) r))
    (fun k => m ((c : Thread nD τ).loc main_arg2) (ix3 l k n)) (m ((c : Thread nD τ).loc main_arg3) (ix2 l n))

theorem hz3 : (![0, 0, 0] : Fin 3 → Nat) = fun _ => 0 := by decide
theorem hz2 : (![0, 0] : Fin 2 → Nat) = fun _ => 0 := by decide

/-- What a point stores. -/
def point : Vec Ideal S1x136x1536 .f32 := k0_pay1 (View.ld (iblk m c 0 t) r0_0) (View.ld (iblk m c 1 t) r0_1) (View.ld (iblk m c 2 t) r0_2)

theorem point_apply (hf : Conditioned m c) (r : Fin 136) (n : Fin 1536) :
    point m c t (ix3 0 r n) = outAt m c ⟨t.val / 4, layer_lt t⟩ r ⟨1536 * (t.val % 4) + n.val, col_lt t n⟩ := by
  unfold point outAt
  rw [View.ld_unit_zero (S := S136x1024) hz2, View.ld_unit_zero (S := S1x1024x1536) hz3, View.ld_unit_zero (S := S1x1x1536) hz3, pay1_apply]
  · simp only [rows_apply, cols_apply, bias_apply]
  · exact fun k => by rw [rows_apply]; exact condRow_fin (fun i => hf.prompt i k) (fun i => hf.sample i k) r
  · exact fun k => by rw [cols_apply]; exact hf.weights _ _ _

/-- The point of a layer's column. -/
def pointOf (l : Fin 4) (n : Fin 6144) : Fin grid0.N := ⟨4 * l.val + n.val / 1536, lt_of_lt_of_eq (by omega : _ < 16) (by decide)⟩

theorem point_col (hf : Conditioned m c) (l : Fin 4) (r : Fin 136) (n : Fin 6144) :
    point m c (pointOf l n) (ix3 0 r ⟨n.val % 1536, by omega⟩) = outAt m c l r n := by
  rw [point_apply m c _ hf]
  have hl : (⟨(pointOf l n).val / 4, layer_lt _⟩ : Fin 4) = l := Fin.ext (by show (4 * l.val + n.val / 1536) / 4 = _; omega)
  have hn : (⟨1536 * ((pointOf l n).val % 4) + n.val % 1536, col_lt (pointOf l n) ⟨n.val % 1536, by omega⟩⟩ : Fin 6144) = n :=
    Fin.ext (by show 1536 * ((4 * l.val + n.val / 1536) % 4) + n.val % 1536 = _; omega)
  rw [hl]
  exact congrArg (outAt m c l r) hn

theorem res3_apply (hf : Conditioned m c) (l : Fin 4) (r : Fin 136) (n : Fin 6144) : (dats m 0 c).arrAt 3 cfg0.N (ix3 l r n) = outAt m c l r n := by
  have h := congrFun (Value.blocks3 m c (pointOf l n) (flush3 _)) (ix3 0 r ⟨n.val % 1536, by omega⟩)
  rw [View.read_apply, Value.flushed3] at h
  have e := at3 (pointOf l n)
  refine Eq.trans (congrArg ((dats m 0 c).arrAt 3 cfg0.N) (funext fun a => Fin.ext ?_)) (h.trans ?_)
  · match a with
    | ⟨0, _⟩ => show l.val = win0_3.index (pointOf l n) 0 * 1 + 1 * 0; rw [e]; show l.val = (4 * l.val + n.val / 1536) / 4 * 1 + 1 * 0; omega
    | ⟨1, _⟩ => show r.val = win0_3.index (pointOf l n) 1 * 136 + 1 * r.val; rw [e]; show r.val = 0 * 136 + 1 * r.val; omega
    | ⟨2, _⟩ => show n.val = win0_3.index (pointOf l n) 2 * 1536 + 1 * (n.val % 1536); rw [e]; show n.val = (4 * l.val + n.val / 1536) % 4 * 1536 + 1 * (n.val % 1536); omega
  · unfold out0_3
    exact (congrFun (View.canon_unit_zero hz3 _ _) _).trans (point_col m c hf l r n)

end Cert.AdaIdeal.Fold

end
-- ==== Proof.Proj.AdaClaim.lean ====
/-
  The modulation's claims: the kernel's result array and the reference's are the same function of the arguments.
-/
module

public import proofs.«01_k».proof.Defs
public import proofs.«01_k».proof.Proof.Proj.AdaValue
public import proofs.«01_k».proof.Proof.Ffn.RoutedClaim
public import proofs.«01_k».proof.Proof.Gen.AdaRefIdeal.Run
public import proofs.«01_k».proof.Proof.Gen.AdaRefIdeal.Read
public import proofs.«01_k».proof.Proof.Gen.Ada.Frame
public import proofs.«01_k».proof.Proof.Gen.Ada
public import proofs.«01_k».proof.Proof.Gen.AdaIdeal
public import proofs.«01_k».proof.Proof.Gen.AdaRefIdeal
public import proofs.«01_k».proof.Proof.Gen.Pre_conditioned

@[expose] public section

set_option maxRecDepth 16384

noncomputable section

namespace Cert.AdaRefIdeal.Ref

open Cert.AdaRefIdeal Cert.AdaRefIdeal.Gen Idealize.ShloMosaic Idealize.ShloMosaic.TcCoe Idealize.SL.Sem Cert.Ffn
open Cert.AdaRefIdeal.Read

variable (a : FVec Ideal S2x1024 .f32) (b : FVec Ideal S128x1024 .f32) (w : FVec Ideal S4x1024x6144 .f32) (z : FVec Ideal S4x6144 .f32)

theorem rows_apply (r : Fin 136) (k : Fin 1024) :
    val_main_v1 (F := Ideal) a b (ix2 r k) = condRow (fun i => a (ix2 i k)) (fun i => b (ix2 i k)) r := by
  unfold condRow
  pointwise [val_main_v1, val_main_v0, val_main_cst]

theorem out_apply (l : Fin 4) (r : Fin 136) (n : Fin 6144) :
    val_main_v7 (F := Ideal) a b w z (ix3 l r n)
      = affine (fun k => silu (condRow (fun i => a (ix2 i k)) (fun i => b (ix2 i k)) r)) (fun k => w (ix3 l k n)) (z (ix2 l n)) := by
  unfold affine silu Ideal.logistic
  simp only [← rows_apply]
  pointwise [val_main_v7, val_main_v6, val_main_v5, val_main_v4, val_main_v3, val_main_v2, val_main_call0_v5, val_main_call0_v4, val_main_call0_v3,
    val_main_call0_v2, val_main_call0_v1, val_main_call0_v0, val_main_call0_cst, val_main_call0_cst_0]
  exact congrArg (· + _) (Finset.sum_congr rfl fun k _ => mul_comm _ _)

end Cert.AdaRefIdeal.Ref

namespace Cert.Proof.Ada

open Idealize.ShloMosaic Idealize.ShloMosaic.TcCoe Idealize.SL.Sem Cert.Ffn

theorem frame_ref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

variable (m : (ℓ : Loc Cert.AdaIdeal.nD Cert.AdaIdeal.τ Cert.AdaIdeal.sig) → Buf (Elt Ideal) ℓ) (c : Dev Cert.AdaIdeal.nD)

/-- The precondition, entry by entry. -/
theorem finite (h : Cert.Pre_AdaIdeal m) : Cert.AdaIdeal.Fold.Conditioned m c := by
  obtain ⟨h1, h2, h3⟩ := h c
  exact ⟨fun i k => Routed.fin_of_word (x := (m ((c.tc : Thread Cert.AdaIdeal.nD Cert.AdaIdeal.τ).loc Cert.AdaIdeal.main_arg0)) (ix2 i k)) (congrFun h1 (ix2 i k)),
    fun i k => Routed.fin_of_word (x := (m ((c.tc : Thread Cert.AdaIdeal.nD Cert.AdaIdeal.τ).loc Cert.AdaIdeal.main_arg1)) (ix2 i k)) (congrFun h2 (ix2 i k)),
    fun l k n => Routed.fin_of_word (x := (m ((c.tc : Thread Cert.AdaIdeal.nD Cert.AdaIdeal.τ).loc Cert.AdaIdeal.main_arg2)) (ix3 l k n)) (congrFun h3 (ix3 l k n))⟩

theorem same (hf : Cert.AdaIdeal.Fold.Conditioned m c) : Cert.AdaRefIdeal.Read.val_main_v7 (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3))
    = (Cert.AdaIdeal.Gen.dats m 0 c).arrAt 3 Cert.AdaIdeal.cfg0.N := by
  have key : ∀ (l : Fin 4) (r : Fin 136) (n : Fin 6144), Cert.AdaRefIdeal.Read.val_main_v7 (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3)) (ix3 l r n)
      = (Cert.AdaIdeal.Gen.dats m 0 c).arrAt 3 Cert.AdaIdeal.cfg0.N (ix3 l r n) := fun l r n => by
    rw [Cert.AdaIdeal.Fold.res3_apply m c hf, Cert.AdaRefIdeal.Ref.out_apply]
    rfl
  funext i
  idx_vars i
  exact key _ _ _

theorem algebraic : Cert.algebraic_AdaIdeal_AdaRefIdeal := by
  intro m ρ m' ρ' hpre hag
  refine ⟨fun c => (Cert.AdaIdeal.Gen.dats m 0 c).arrAt 3 Cert.AdaIdeal.cfg0.N, Cert.AdaIdeal.Value.run_blocks (F := Ideal) m ρ, ?_⟩
  refine (θ_run Cert.AdaRefIdeal.defs _ _).mono (fun _ h c => ⟨(h c).1.trans ?_, (h c).2⟩) (Cert.AdaRefIdeal.Value.run (F := Ideal) m' ρ')
  obtain ⟨a0, a1, a2, a3⟩ := hag c
  rw [Cert.AdaRefIdeal.Read.val_main_v7_eq]
  show Cert.AdaRefIdeal.Read.val_main_v7 (F := Ideal) (m' ((c.tc : Thread Cert.AdaRefIdeal.nD Cert.AdaRefIdeal.τ).loc Cert.AdaRefIdeal.main_arg0)) (m' ((c.tc : Thread Cert.AdaRefIdeal.nD Cert.AdaRefIdeal.τ).loc Cert.AdaRefIdeal.main_arg1)) (m' ((c.tc : Thread Cert.AdaRefIdeal.nD Cert.AdaRefIdeal.τ).loc Cert.AdaRefIdeal.main_arg2)) (m' ((c.tc : Thread Cert.AdaRefIdeal.nD Cert.AdaRefIdeal.τ).loc Cert.AdaRefIdeal.main_arg3)) = _
  rw [a0, a1, a2, a3]
  exact same m c (finite m c hpre)

end Cert.Proof.Ada

end
-- ==== Proof.Proj.OutSpec.lean ====
/-
  The output projection in plain terms: a group norm over heads of 64 lanes, its scale, shift, bonus and gate, the
  attention lanes appended, and the gated product added to the residual.
-/
module

public import proofs.«01_k».proof.Proof.Ffn.Spec
public import proofs.«01_k».proof.Proof.Ffn.TopTwo

@[expose] public section

noncomputable section

namespace Cert.Ffn

open Idealize.ShloMosaic

theorem head_lane (l : Fin 512) (q : Fin 64) : l.val / 64 * 64 + q.val < 512 := by omega

/-- The mean over the 64 lanes of a lane's head. -/
def headMean (v : Fin 512 → EReal) (l : Fin 512) : EReal :=
  Ideal.div (∑ q : Fin 64, v ⟨l.val / 64 * 64 + q.val, head_lane l q⟩) (Ideal.ofBits .f32 0x42800000#32)

/-- A lane less its head's mean. -/
def centred (o : Fin 512 → EReal) (l : Fin 512) : EReal := o l - headMean o l

/-- The normalised lane, scaled, shifted, with its bonus, gated. -/
def readout (o lw lb bonus g : Fin 512 → EReal) (l : Fin 512) : EReal :=
  (centred o l * Ideal.rsqrt (headMean (fun k => centred o k * centred o k) l + Ideal.ofBits .f32 0x3A27C5AC#32) * lw l + lb l + bonus l) * g l

/-- The 512 lanes of one part followed by the 512 of the other. -/
def joined (a b : Fin 512 → EReal) (k : Fin 1024) : EReal :=
  if h : k.val < 512 then a ⟨k.val, h⟩ else b ⟨k.val - 512, by omega⟩

/-- The residual plus the gated product. -/
def gatedSum (x t : EReal) (a b : Fin 1024 → EReal) : EReal := x + t * ∑ k, a k * b k

/-- One entry of the weight that averages within heads. -/
def headWeight (k l : Fin 512) : EReal := if k.val / 64 = l.val / 64 then Ideal.ofBits .f32 0x3C800000#32 else 0

theorem bits_64 : Ideal.ofBits .f32 0x42800000#32 = ((64 : ℝ) : EReal) := by
  simp [Ideal.ofBits, Ideal.ieee, -EReal.coe_mul]; norm_num

theorem bits_64th : Ideal.ofBits .f32 0x3C800000#32 = (((64 : ℝ)⁻¹ : ℝ) : EReal) := by
  simp [Ideal.ofBits, Ideal.ieee, -EReal.coe_mul]; norm_num

theorem coe_sum {ι : Type} [Fintype ι] (f : ι → ℝ) : (∑ q, (f q : EReal)) = ((∑ q, f q : ℝ) : EReal) :=
  (map_sum (⟨⟨Real.toEReal, EReal.coe_zero⟩, EReal.coe_add⟩ : ℝ →+ EReal) _ _).symm

/-- The product with the averaging weight is the mean over the head. -/
theorem headMean_sum (v : Fin 512 → EReal) (hv : ∀ k, Fin' (v k)) (l : Fin 512) : ∑ k, v k * headWeight k l = headMean v l := by
  choose f hf using hv
  have h : ∑ q : Fin 64, v ⟨l.val / 64 * 64 + q.val, head_lane l q⟩ * Ideal.ofBits .f32 0x3C800000#32 = ∑ k, v k * headWeight k l := by
    refine Finset.sum_of_injOn (fun q : Fin 64 => (⟨l.val / 64 * 64 + q.val, head_lane l q⟩ : Fin 512)) ?_ (fun _ _ => by simp) ?_ ?_
    · intro a _ b _ hab
      have := congrArg Fin.val hab
      simp only [] at this
      exact Fin.ext (by omega)
    · intro k _ hk
      have hne : k.val / 64 ≠ l.val / 64 := fun e => hk ⟨⟨k.val % 64, by omega⟩, by simp, Fin.ext (by simp only []; omega)⟩
      rw [headWeight, if_neg hne, mul_zero]
    · intro q _
      rw [headWeight, if_pos (by simp only []; omega)]
  rw [← h, headMean, Ideal.div, bits_64, bits_64th, if_neg (by norm_num)]
  simp only [hf]
  rw [coe_sum, ← EReal.coe_inv, ← EReal.coe_mul, Finset.sum_mul, ← coe_sum]
  exact Finset.sum_congr rfl fun q _ => (EReal.coe_mul _ _).symm

theorem headMean_fin (v : Fin 512 → EReal) (hv : ∀ k, Fin' (v k)) (l : Fin 512) : Fin' (headMean v l) := by
  choose f hf using hv
  rw [headMean, Ideal.div, bits_64, if_neg (by norm_num)]
  simp only [hf]
  rw [coe_sum, ← EReal.coe_inv, ← EReal.coe_mul]
  exact ⟨_, rfl⟩

theorem centred_fin (o : Fin 512 → EReal) (ho : ∀ k, Fin' (o k)) (l : Fin 512) : Fin' (centred o l) := by
  obtain ⟨a, ha⟩ := ho l
  obtain ⟨b, hb⟩ := headMean_fin o ho l
  exact ⟨a - b, by rw [centred, ha, hb, EReal.coe_sub]⟩

/-- A value split into a rounded part and the rest: over the reals the rest is zero and the two products are one. -/
theorem headMean_split (v : Fin 512 → EReal) (hv : ∀ k, Fin' (v k)) (l : Fin 512) :
    (∑ k, v k * headWeight k l) + ∑ k, (v k - v k) * headWeight k l = headMean v l := by
  rw [headMean_sum v hv l, Finset.sum_eq_zero fun k _ => by rw [(hv k).sub_self, zero_mul], add_zero]

end Cert.Ffn

end
-- ==== Proof.Proj.OutValue.lean ====
/-
  The output projection's result array over the extended reals, where the scanned rows are finite.
-/
module

public import proofs.«01_k».proof.Proof.Gen.ProjOutIdeal.Value
public import proofs.«01_k».proof.Proof.Proj.OutSpec
public import Idealize.ShloMosaic.Lib.Pointwise
public import Idealize.ShloMosaic.Lib.Pipeline.Value
public import Idealize.ShloMosaic.Lib.StableHlo.Run
public import Idealize.ShloMosaic.Lib.StableHlo.RunRead

@[expose] public section

set_option maxRecDepth 16384

noncomputable section

namespace Cert.ProjOutIdeal.Fold

open Cert.ProjOutIdeal Cert.ProjOutIdeal.Gen Idealize.ShloMosaic Idealize.ShloMosaic.TcCoe Idealize.SL.Sem Cert.Ffn

/-! ## What a point computes -/

/-- The second coordinate of the averaging weight. -/
def lanes : IVec S512x512 32 := iota .tc S512x512 32 [1] iota_S512x512_d1_w32

/-- The rounding-down quotient by 64, on words. -/
def quot (a : BitVec 32) : BitVec 32 :=
  Scalar.select
    (IntOp.andi
      (IntOp.cmpi .ne (IntOp.subi (BitVec.setWidth 32 (IntOp.cmpi .sgt a 0#32)) (BitVec.setWidth 32 (IntOp.cmpi .slt a 0#32)))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32) (IntOp.divsi .vector a 64#32)

theorem quot_eq : ∀ k : Fin 512, quot (BitVec.ofNat 32 k.val) = BitVec.ofNat 32 (k.val / 64) := by decide +kernel

theorem same_head : ∀ a b : Fin 8, IntOp.cmpi .eq (BitVec.ofNat 32 a.val) (BitVec.ofNat 32 b.val) = BitVec.ofBool (decide (a.val = b.val)) := by decide

theorem weight_apply (k l : Fin 512) : k0_pay9 (F := Ideal) k0_pay7 lanes 64#32 k0_pay8 (ix2 k l) = headWeight k l := by
  have h : k0_pay9 (F := Ideal) k0_pay7 lanes 64#32 k0_pay8 (ix2 k l)
      = Scalar.select (IntOp.cmpi .eq (quot (BitVec.ofNat 32 k.val)) (quot (BitVec.ofNat 32 l.val))) (Ideal.ofBits .f32 0x3C800000#32) 0 := by
    unfold quot
    pointwise [k0_pay9, k0_pay7, k0_pay8, lanes]
  rw [h, quot_eq, quot_eq, same_head ⟨k.val / 64, by omega⟩ ⟨l.val / 64, by omega⟩]
  unfold headWeight
  by_cases e : k.val / 64 = l.val / 64
  · simp [e, Scalar.select]
  · simp [e, Scalar.select]

theorem centre_apply (v : FVec Ideal S256x512 .f32) (r : Fin 256) (hv : ∀ k, Fin' (v (ix2 r k))) (l : Fin 512) :
    k0_pay10 v k0_pay7 lanes 64#32 k0_pay8 (ix2 r l) = centred (fun k => v (ix2 r k)) l := by
  have h : k0_pay10 v k0_pay7 lanes 64#32 k0_pay8 (ix2 r l)
      = v (ix2 r l) - ((∑ k, v (ix2 r k) * headWeight k l) + ∑ k, (v (ix2 r k) - v (ix2 r k)) * headWeight k l) := by
    simp only [← weight_apply]
    pointwise [k0_pay10]
  rw [h, headMean_split _ hv]
  rfl

theorem root_apply (v : FVec Ideal S256x512 .f32) (r : Fin 256) (hv : ∀ k, Fin' (v (ix2 r k))) (l : Fin 512) :
    k0_pay11 v k0_pay7 lanes 64#32 k0_pay8 (ix2 r l)
      = Ideal.rsqrt (headMean (fun k => centred (fun q => v (ix2 r q)) k * centred (fun q => v (ix2 r q)) k) l + Ideal.ofBits .f32 0x3A27C5AC#32) := by
  have hc : ∀ k, Fin' (centred (fun q => v (ix2 r q)) k * centred (fun q => v (ix2 r q)) k) := fun k =>
    (centred_fin _ hv k).mul (centred_fin _ hv k)
  rw [← headMean_split _ hc l]
  simp only [← weight_apply, ← centre_apply v r hv]
  pointwise [k0_pay11]

theorem pay1_apply (v3 v5 v72 v83 : FVec Ideal S256x512 .f32) (v7 v9 : FVec Ideal S1x512 .f32) (v91 : Vec Ideal S1x256x512 .f32) (v95 : Vec Ideal S1024x1024 .bf16)
    (v98 : Vec Ideal S1x256x1024 .f32) (v100 : Vec Ideal S1x1x1024 .f32) (r : Fin 256) (n : Fin 1024) :
    k0_pay1 v3 v5 v7 v9 v72 v83 v91 v95 v98 v100 (ix3 0 r n)
      = v98 (ix3 0 r n) + v100 (ix3 0 0 n) * ∑ k, joined (fun l => (v72 (ix2 r l) * v83 (ix2 r l) * v7 (ix2 0 l) + v9 (ix2 0 l) + v3 (ix2 r l)) * v5 (ix2 r l)) (fun l => v91 (ix3 0 r l)) k * v95 (ix2 k n) := by
  unfold joined
  pointwise [k0_pay1]

theorem pay2_apply (x : Vec Ideal S1x256x512 .f32) (r : Fin 256) (l : Fin 512) : k0_pay2 x (ix2 r l) = x (ix3 0 r l) := by pointwise [k0_pay2]
theorem pay3_apply (x : Vec Ideal S1x256x512 .f32) (r : Fin 256) (l : Fin 512) : k0_pay3 x (ix2 r l) = x (ix3 0 r l) := by pointwise [k0_pay3]
theorem pay4_apply (x : Vec Ideal S1x256x512 .f32) (r : Fin 256) (l : Fin 512) : k0_pay4 x (ix2 r l) = x (ix3 0 r l) := by pointwise [k0_pay4]
theorem pay5_apply (x : Vec Ideal S1x512 .f32) (l : Fin 512) : k0_pay5 x (ix2 0 l) = x (ix2 0 l) := by pointwise [k0_pay5]
theorem pay6_apply (x : Vec Ideal S1x512 .f32) (l : Fin 512) : k0_pay6 x (ix2 0 l) = x (ix2 0 l) := by pointwise [k0_pay6]

variable (m : (ℓ : Loc nD τ sig) → Buf (Elt Ideal) ℓ)

/-! ## The arrays the region finds -/

/-- The scale's row over the shift's. -/
def scaleShift (a b : FVec Ideal S512 .f32) : FVec Ideal S2x512 .f32 :=
  concatenate S2x512 0 [⟨S1x512, broadcastInDim S1x512 ![1] bcast_S512_S1x512_1 a⟩, ⟨S1x512, broadcastInDim S1x512 ![1] bcast_S512_S1x512_1 b⟩]
    concatenates_S1x512_S1x512_S2x512_d0

theorem scaleShift_zero (a b : FVec Ideal S512 .f32) (l : Fin 512) : scaleShift a b (ix2 0 l) = a (ix1 l) := by
  pointwise [scaleShift]

theorem scaleShift_one (a b : FVec Ideal S512 .f32) (l : Fin 512) : scaleShift a b (ix2 1 l) = b (ix1 l) := by
  pointwise [scaleShift]

theorem V_v2 (c : Dev nD) : V m c main_v2 = scaleShift (m ((c : Thread nD τ).loc main_arg5)) (m ((c : Thread nD τ).loc main_arg6)) := by
  unfold V hostOps0 scaleShift
  after_results_simp
  rfl

theorem V_v3 (c : Dev nD) (k n : Fin 1024) : V m c main_v3 (ix2 k n) = m ((c : Thread nD τ).loc main_arg8) (ix2 k n) := by
  have e : V m c main_v3 = (truncf .bf16 (m ((c : Thread nD τ).loc main_arg8) : FVec Ideal S1024x1024 .f32) bitsLt_bf16_f32 : FVec Ideal S1024x1024 .bf16) := by
    unfold V hostOps0
    after_results_simp
  rw [e]
  rfl

/-! ## The blocks of a grid point -/

theorem at0 : ∀ t : Fin grid0.N, win0_0.index t = ![t.val / 32, t.val % 32, 0] := by decide +kernel
theorem at1 : ∀ t : Fin grid0.N, win0_1.index t = ![t.val / 32, t.val % 32, 0] := by decide +kernel
theorem at2 : ∀ t : Fin grid0.N, win0_2.index t = ![t.val / 32, t.val % 32, 0] := by decide +kernel
theorem at3 : ∀ t : Fin grid0.N, win0_3.index t = ![t.val / 32, t.val % 32, 0] := by decide +kernel
theorem at4 : ∀ t : Fin grid0.N, win0_4.index t = ![t.val / 32, t.val % 32, 0] := by decide +kernel
theorem at8 : ∀ t : Fin grid0.N, win0_8.index t = ![t.val / 32, t.val % 32, 0] := by decide +kernel
theorem at5 : ∀ t : Fin grid0.N, win0_5.index t = ![0, 0] := by decide +kernel
theorem at6 : ∀ t : Fin grid0.N, win0_6.index t = ![t.val / 32, 0, 0] := by decide +kernel
theorem at7 : ∀ t : Fin grid0.N, win0_7.index t = ![0, 0] := by decide +kernel
theorem flush8 : ∀ t : Fin grid0.N, win0_8.flush t = true := by decide +kernel

theorem lt64 (t : Fin grid0.N) : t.val < 64 := lt_of_lt_of_eq t.isLt (by decide)
theorem batch_lt (t : Fin grid0.N) : t.val / 32 < 2 := by have := lt64 t; omega
theorem row_lt (t : Fin grid0.N) (r : Fin 256) : 256 * (t.val % 32) + r.val < 8192 := by omega

/-- The array coordinates of a row block's entry. -/
theorem coords_of {t : Fin grid0.N} {i : Fin 3 → Nat} (e : i = ![t.val / 32, t.val % 32, 0]) (r w l : Nat) :
    i 0 * 1 + 1 * 0 = t.val / 32 ∧ i 1 * 256 + 1 * r = 256 * (t.val % 32) + r ∧ i 2 * w + 1 * l = l := by
  subst e
  refine ⟨?_, ?_, ?_⟩
  · show t.val / 32 * 1 + 1 * 0 = _; omega
  · show t.val % 32 * 256 + 1 * r = _; omega
  · show 0 * w + 1 * l = l; omega

variable (c : Dev nD) (t : Fin grid0.N)

theorem rows_apply (r : Fin 256) (k : Fin 1024) :
    iblk m c 0 t (ix3 0 r k) = m ((c : Thread nD τ).loc main_arg0) (ix3 ⟨t.val / 32, batch_lt t⟩ ⟨256 * (t.val % 32) + r.val, row_lt t r⟩ k) := by
  obtain ⟨h0, h1, h2⟩ := coords_of (at0 t) r.val 1024 k.val
  unfold iblk
  rw [View.read_apply]
  show V m c main_arg0 _ = _
  rw [V_main_arg0 m c]
  exact congrArg _ (funext fun a => Fin.ext (match a with | ⟨0, _⟩ => h0 | ⟨1, _⟩ => h1 | ⟨2, _⟩ => h2))

theorem scan_apply (r : Fin 256) (k : Fin 512) :
    iblk m c 1 t (ix3 0 r k) = m ((c : Thread nD τ).loc main_arg1) (ix3 ⟨t.val / 32, batch_lt t⟩ ⟨256 * (t.val % 32) + r.val, row_lt t r⟩ k) := by
  obtain ⟨h0, h1, h2⟩ := coords_of (at1 t) r.val 512 k.val
  unfold iblk
  rw [View.read_apply]
  show V m c main_arg1 _ = _
  rw [V_main_arg1 m c]
  exact congrArg _ (funext fun a => Fin.ext (match a with | ⟨0, _⟩ => h0 | ⟨1, _⟩ => h1 | ⟨2, _⟩ => h2))

theorem bonus_apply (r : Fin 256) (k : Fin 512) :
    iblk m c 2 t (ix3 0 r k) = m ((c : Thread nD τ).loc main_arg2) (ix3 ⟨t.val / 32, batch_lt t⟩ ⟨256 * (t.val % 32) + r.val, row_lt t r⟩ k) := by
  obtain ⟨h0, h1, h2⟩ := coords_of (at2 t) r.val 512 k.val
  unfold iblk
  rw [View.read_apply]
  show V m c main_arg2 _ = _
  rw [V_main_arg2 m c]
  exact congrArg _ (funext fun a => Fin.ext (match a with | ⟨0, _⟩ => h0 | ⟨1, _⟩ => h1 | ⟨2, _⟩ => h2))

theorem gate_apply (r : Fin 256) (k : Fin 512) :
    iblk m c 3 t (ix3 0 r k) = m ((c : Thread nD τ).loc main_arg3) (ix3 ⟨t.val / 32, batch_lt t⟩ ⟨256 * (t.val % 32) + r.val, row_lt t r⟩ k) := by
  obtain ⟨h0, h1, h2⟩ := coords_of (at3 t) r.val 512 k.val
  unfold iblk
  rw [View.read_apply]
  show V m c main_arg3 _ = _
  rw [V_main_arg3 m c]
  exact congrArg _ (funext fun a => Fin.ext (match a with | ⟨0, _⟩ => h0 | ⟨1, _⟩ => h1 | ⟨2, _⟩ => h2))

theorem attn_apply (r : Fin 256) (k : Fin 512) :
    iblk m c 4 t (ix3 0 r k) = m ((c : Thread nD τ).loc main_arg4) (ix3 ⟨t.val / 32, batch_lt t⟩ ⟨256 * (t.val % 32) + r.val, row_lt t r⟩ k) := by
  obtain ⟨h0, h1, h2⟩ := coords_of (at4 t) r.val 512 k.val
  unfold iblk
  rw [View.read_apply]
  show V m c main_arg4 _ = _
  rw [V_main_arg4 m c]
  exact congrArg _ (funext fun a => Fin.ext (match a with | ⟨0, _⟩ => h0 | ⟨1, _⟩ => h1 | ⟨2, _⟩ => h2))

theorem norm_apply (j : Fin 2) (k : Fin 512) :
    iblk m c 5 t (ix2 j k) = scaleShift (m ((c : Thread nD τ).loc main_arg5)) (m ((c : Thread nD τ).loc main_arg6)) (ix2 j k) := by
  have e := at5 t
  unfold iblk
  rw [View.read_apply]
  show V m c main_v2 _ = _
  rw [V_v2 m c]
  congr 1
  funext a
  apply Fin.ext
  match a with
  | ⟨0, _⟩ => show win0_5.index t 0 * 2 + 1 * j.val = j.val; rw [e]; simp <;> omega
  | ⟨1, _⟩ => show win0_5.index t 1 * 512 + 1 * k.val = k.val; rw [e]; simp <;> omega

theorem mod_apply (k : Fin 6144) :
    iblk m c 6 t (ix3 0 0 k) = m ((c : Thread nD τ).loc main_arg7) (ix3 ⟨t.val / 32, batch_lt t⟩ 0 k) := by
  have e := at6 t
  unfold iblk
  rw [View.read_apply]
  show V m c main_arg7 _ = _
  rw [V_main_arg7 m c]
  congr 1
  funext a
  apply Fin.ext
  match a with
  | ⟨0, _⟩ => show win0_6.index t 0 * 1 + 1 * 0 = t.val / 32; rw [e]; simp <;> omega
  | ⟨1, _⟩ => show win0_6.index t 1 * 1 + 1 * 0 = 0; rw [e]; simp <;> omega
  | ⟨2, _⟩ => show win0_6.index t 2 * 6144 + 1 * k.val = k.val; rw [e]; simp <;> omega

theorem cols_apply (k n : Fin 1024) :
    iblk m c 7 t (ix2 k n) = m ((c : Thread nD τ).loc main_arg8) (ix2 k n) := by
  have e := at7 t
  unfold iblk
  rw [View.read_apply]
  show V m c main_v3 _ = _
  rw [← V_v3 m c k n]
  congr 1
  funext a
  apply Fin.ext
  match a with
  | ⟨0, _⟩ => show win0_7.index t 0 * 1024 + 1 * k.val = k.val; rw [e]; simp <;> omega
  | ⟨1, _⟩ => show win0_7.index t 1 * 1024 + 1 * n.val = n.val; rw [e]; simp <;> omega

/-! ## The result array -/

/-- The row of both parts, joined. -/
def mixed (c : Dev nD) (g : Fin 2) (R : Fin 8192) : Fin 1024 → EReal :=
  joined (readout (fun l => m ((c : Thread nD τ).loc main_arg1) (ix3 g R l)) (fun l => m ((c : Thread nD τ).loc main_arg5) (ix1 l))
      (fun l => m ((c : Thread nD τ).loc main_arg6) (ix1 l)) (fun l => m ((c : Thread nD τ).loc main_arg2) (ix3 g R l)) (fun l => m ((c : Thread nD τ).loc main_arg3) (ix3 g R l)))
    (fun l => m ((c : Thread nD τ).loc main_arg4) (ix3 g R l))

/-- One entry of the result. -/
def outAt (c : Dev nD) (g : Fin 2) (R : Fin 8192) (n : Fin 1024) : EReal :=
  gatedSum (m ((c : Thread nD τ).loc main_arg0) (ix3 g R n)) (m ((c : Thread nD τ).loc main_arg7) (ix3 g 0 ⟨2048 + n.val, by omega⟩)) (mixed m c g R)
    (fun k => m ((c : Thread nD τ).loc main_arg8) (ix2 k n))

/-- The scanned rows are finite. -/
def Scanned (c : Dev nD) : Prop := ∀ (g : Fin 2) (R : Fin 8192) (l : Fin 512), Fin' (m ((c : Thread nD τ).loc main_arg1) (ix3 g R l))

theorem hz3 : (![0, 0, 0] : Fin 3 → Nat) = fun _ => 0 := by decide
theorem hz2 : (![0, 0] : Fin 2 → Nat) = fun _ => 0 := by decide

/-- What a point stores. -/
def point : Vec Ideal S1x256x1024 .f32 :=
  k0_pay1 (k0_pay3 (View.ld (iblk m c 2 t) r0_0)) (k0_pay4 (View.ld (iblk m c 3 t) r0_0)) (k0_pay5 (View.ld (iblk m c 5 t) r0_1)) (k0_pay6 (View.ld (iblk m c 5 t) r0_2))
    (k0_pay10 (k0_pay2 (View.ld (iblk m c 1 t) r0_0)) k0_pay7 lanes 64#32 k0_pay8) (k0_pay11 (k0_pay2 (View.ld (iblk m c 1 t) r0_0)) k0_pay7 lanes 64#32 k0_pay8)
    (View.ld (iblk m c 4 t) r0_0) (View.ld (iblk m c 7 t) r0_3) (View.ld (iblk m c 0 t) r0_4) (View.ld (iblk m c 6 t) r0_5)

theorem point_apply (hs : Scanned m c) (r : Fin 256) (n : Fin 1024) :
    point m c t (ix3 0 r n) = outAt m c ⟨t.val / 32, batch_lt t⟩ ⟨256 * (t.val % 32) + r.val, row_lt t r⟩ n := by
  have h5 : ∀ q : Fin 512, View.ld (iblk m c 5 t) r0_1 (ix2 0 q) = iblk m c 5 t (ix2 0 q) := fun q => by
    refine congrArg (iblk m c 5 t) (funext fun a => Fin.ext ?_)
    match a with
    | ⟨0, _⟩ => rfl
    | ⟨1, _⟩ => show 0 + 1 * q.val = q.val; omega
  have h6 : ∀ q : Fin 512, View.ld (iblk m c 5 t) r0_2 (ix2 0 q) = iblk m c 5 t (ix2 1 q) := fun q => by
    refine congrArg (iblk m c 5 t) (funext fun a => Fin.ext ?_)
    match a with
    | ⟨0, _⟩ => rfl
    | ⟨1, _⟩ => show 0 + 1 * q.val = q.val; omega
  have h7 : ∀ q : Fin 1024, View.ld (iblk m c 6 t) r0_5 (ix3 0 0 q) = iblk m c 6 t (ix3 0 0 ⟨2048 + q.val, by omega⟩) := fun q => by
    refine congrArg (iblk m c 6 t) (funext fun a => Fin.ext ?_)
    match a with
    | ⟨0, _⟩ => rfl
    | ⟨1, _⟩ => rfl
    | ⟨2, _⟩ => show 2048 + 1 * q.val = 2048 + q.val; omega
  unfold point outAt mixed readout gatedSum
  rw [View.ld_unit_zero (S := S1x256x512) hz3, View.ld_unit_zero (S := S1x256x512) hz3, View.ld_unit_zero (S := S1x256x512) hz3,
    View.ld_unit_zero (S := S1x256x512) hz3, View.ld_unit_zero (S := S1x256x512) hz3, View.ld_unit_zero (S := S1024x1024) hz2, View.ld_unit_zero (S := S1x256x1024) hz3, pay1_apply]
  have hv : ∀ k : Fin 512, Fin' (k0_pay2 (iblk m c 1 t) (ix2 r k)) := fun k => by rw [pay2_apply, scan_apply]; exact hs _ _ _
  simp only [centre_apply _ r hv, root_apply _ r hv, pay2_apply, pay3_apply, pay4_apply, pay5_apply, pay6_apply, h5, h6, h7, rows_apply, scan_apply, bonus_apply,
    gate_apply, attn_apply, norm_apply, scaleShift_zero, scaleShift_one, mod_apply, cols_apply]

/-- The point of a row. -/
def pointOf (g : Fin 2) (R : Fin 8192) : Fin grid0.N := ⟨32 * g.val + R.val / 256, lt_of_lt_of_eq (by omega : _ < 64) (by decide)⟩

theorem point_row (hs : Scanned m c) (g : Fin 2) (R : Fin 8192) (n : Fin 1024) :
    point m c (pointOf g R) (ix3 0 ⟨R.val % 256, by omega⟩ n) = outAt m c g R n := by
  rw [point_apply m c _ hs]
  have hg : (⟨(pointOf g R).val / 32, batch_lt _⟩ : Fin 2) = g := Fin.ext (by show (32 * g.val + R.val / 256) / 32 = _; omega)
  have hR : (⟨256 * ((pointOf g R).val % 32) + R.val % 256, row_lt (pointOf g R) ⟨R.val % 256, by omega⟩⟩ : Fin 8192) = R :=
    Fin.ext (by show 256 * ((32 * g.val + R.val / 256) % 32) + R.val % 256 = _; omega)
  rw [hg]
  exact congrArg (fun z => outAt m c g z n) hR

theorem res8_apply (hs : Scanned m c) (g : Fin 2) (R : Fin 8192) (n : Fin 1024) : (dats m 0 c).arrAt 8 cfg0.N (ix3 g R n) = outAt m c g R n := by
  have h := congrFun (Value.blocks8 m c (pointOf g R) (flush8 _)) (ix3 0 ⟨R.val % 256, by omega⟩ n)
  rw [View.read_apply, Value.flushed8] at h
  have e := at8 (pointOf g R)
  refine Eq.trans (congrArg ((dats m 0 c).arrAt 8 cfg0.N) (funext fun a => Fin.ext ?_)) (h.trans ?_)
  · match a with
    | ⟨0, _⟩ => show g.val = win0_8.index (pointOf g R) 0 * 1 + 1 * 0; rw [e]; show g.val = (32 * g.val + R.val / 256) / 32 * 1 + 1 * 0; omega
    | ⟨1, _⟩ => show R.val = win0_8.index (pointOf g R) 1 * 256 + 1 * (R.val % 256); rw [e]; show R.val = (32 * g.val + R.val / 256) % 32 * 256 + 1 * (R.val % 256); omega
    | ⟨2, _⟩ => show n.val = win0_8.index (pointOf g R) 2 * 1024 + 1 * n.val; rw [e]; show n.val = 0 * 1024 + 1 * n.val; omega
  · unfold out0_8
    exact (congrFun (View.canon_unit_zero hz3 _ _) _).trans (point_row m c hs g R n)

end Cert.ProjOutIdeal.Fold

end
-- ==== Proof.Proj.OutClaim.lean ====
/-
  The output projection's claims: the kernel's result array and the reference's are the same function of the arguments.
-/
module

public import proofs.«01_k».proof.Defs
public import proofs.«01_k».proof.Proof.Proj.OutValue
public import proofs.«01_k».proof.Proof.Ffn.RoutedClaim
public import proofs.«01_k».proof.Proof.Gen.ProjOutRefIdeal.Run
public import proofs.«01_k».proof.Proof.Gen.ProjOutRefIdeal.Read
public import proofs.«01_k».proof.Proof.Gen.ProjOut.Frame
public import proofs.«01_k».proof.Proof.Gen.ProjOut
public import proofs.«01_k».proof.Proof.Gen.ProjOutIdeal
public import proofs.«01_k».proof.Proof.Gen.ProjOutRefIdeal
public import proofs.«01_k».proof.Proof.Gen.Pre_scanned

@[expose] public section

set_option maxRecDepth 16384

noncomputable section

namespace Cert.ProjOutRefIdeal.Ref

open Cert.ProjOutRefIdeal Cert.ProjOutRefIdeal.Gen Idealize.ShloMosaic Idealize.ShloMosaic.TcCoe Idealize.SL.Sem Cert.Ffn
open Cert.ProjOutRefIdeal.Read

variable (x : FVec Ideal S2x8192x1024 .f32) (o b gt oa : FVec Ideal S2x8192x512 .f32) (lw lb : FVec Ideal S512 .f32)
  (md : FVec Ideal S2x1x6144 .f32) (p : FVec Ideal S1024x1024 .f32)

/-- A head's mean. -/
theorem mean_apply (g : Fin 2) (R : Fin 8192) (l : Fin 512) :
    val_main_v10 (F := Ideal) o (ix4 g R ⟨l.val / 64, by omega⟩ 0) = headMean (fun k => o (ix3 g R k)) l := by
  unfold headMean
  pointwise [val_main_v10, val_main_v9, val_main_v8, val_main_v7, val_main_v6, val_main_cst, val_main_cst_0]

/-- A lane of a head less the head's mean. -/
theorem centred_apply (g : Fin 2) (R : Fin 8192) (h : Fin 8) (q : Fin 64) :
    val_main_v12 (F := Ideal) o (ix4 g R h q) = centred (fun k => o (ix3 g R k)) ⟨h.val * 64 + q.val, by omega⟩ := by
  unfold centred
  rw [← mean_apply]
  pointwise [val_main_v12, val_main_v11, val_main_v6]
  exact congrArg (fun z => o (ix3 g R ⟨h.val * 64 + q.val, _⟩) - val_main_v10 (F := Ideal) o (ix4 g R z 0)) (Fin.ext (by simp only []; omega))

theorem norm_apply (g : Fin 2) (R : Fin 8192) (l : Fin 512) :
    val_main_v33 (F := Ideal) o b gt lw lb (ix3 g R l)
      = readout (fun k => o (ix3 g R k)) (fun k => lw (ix1 k)) (fun k => lb (ix1 k)) (fun k => b (ix3 g R k)) (fun k => gt (ix3 g R k)) l := by
  have hc : val_main_v6 (F := Ideal) o (ix4 g R ⟨l.val / 64, by omega⟩ ⟨l.val % 64, by omega⟩) - val_main_v10 (F := Ideal) o (ix4 g R ⟨l.val / 64, by omega⟩ 0)
      = centred (fun k => o (ix3 g R k)) l := by
    rw [mean_apply]
    unfold centred
    pointwise [val_main_v6]
  unfold readout
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst_1, val_main_cst_2, val_main_cst_3]
  simp only [hc, centred_apply, headMean]

theorem out_apply (g : Fin 2) (R : Fin 8192) (n : Fin 1024) :
    val_main_v38 (F := Ideal) x o b gt oa lw lb md p (ix3 g R n)
      = x (ix3 g R n) + md (ix3 g 0 ⟨2048 + n.val, by omega⟩) * ∑ k, joined (fun l => val_main_v33 (F := Ideal) o b gt lw lb (ix3 g R l)) (fun l => oa (ix3 g R l)) k * p (ix2 k n) := by
  unfold joined
  pointwise [val_main_v38, val_main_v37, val_main_v36, val_main_v35, val_main_v34, val_main_v2]

end Cert.ProjOutRefIdeal.Ref

namespace Cert.Proof.ProjOut

open Idealize.ShloMosaic Idealize.ShloMosaic.TcCoe Idealize.SL.Sem Cert.Ffn

theorem frame_ref : Cert.quiescent_ProjOutRefIdeal := fun m ρ _ =>
  (θ_run Cert.ProjOutRefIdeal.defs _ _).mono (fun r h => ⟨fun c => (h c).2, sem_eq_zero_of_no_sems (by decide) r.2⟩)
    (Cert.ProjOutRefIdeal.Value.run (F := Ideal) m ρ)

variable (m : (ℓ : Loc Cert.ProjOutIdeal.nD Cert.ProjOutIdeal.τ Cert.ProjOutIdeal.sig) → Buf (Elt Ideal) ℓ) (c : Dev Cert.ProjOutIdeal.nD)

/-- The precondition, entry by entry. -/
theorem finite (h : Cert.Pre_ProjOutIdeal m) : Cert.ProjOutIdeal.Fold.Scanned m c := fun g R l =>
  Routed.fin_of_word (x := (m ((c.tc : Thread Cert.ProjOutIdeal.nD Cert.ProjOutIdeal.τ).loc Cert.ProjOutIdeal.main_arg1)) (ix3 g R l)) (congrFun (h c) (ix3 g R l))

theorem same (hs : Cert.ProjOutIdeal.Fold.Scanned m c) : Cert.ProjOutRefIdeal.Read.val_main_v38 (F := Ideal) (m ((c.tc : Thread Cert.ProjOutIdeal.nD Cert.ProjOutIdeal.τ).loc Cert.ProjOutIdeal.main_arg0)) (m ((c.tc : Thread Cert.ProjOutIdeal.nD Cert.ProjOutIdeal.τ).loc Cert.ProjOutIdeal.main_arg1)) (m ((c.tc : Thread Cert.ProjOutIdeal.nD Cert.ProjOutIdeal.τ).loc Cert.ProjOutIdeal.main_arg2)) (m ((c.tc : Thread Cert.ProjOutIdeal.nD Cert.ProjOutIdeal.τ).loc Cert.ProjOutIdeal.main_arg3)) (m ((c.tc : Thread Cert.ProjOutIdeal.nD Cert.ProjOutIdeal.τ).loc Cert.ProjOutIdeal.main_arg4)) (m ((c.tc : Thread Cert.ProjOutIdeal.nD Cert.ProjOutIdeal.τ).loc Cert.ProjOutIdeal.main_arg5)) (m ((c.tc : Thread Cert.ProjOutIdeal.nD Cert.ProjOutIdeal.τ).loc Cert.ProjOutIdeal.main_arg6)) (m ((c.tc : Thread Cert.ProjOutIdeal.nD Cert.ProjOutIdeal.τ).loc Cert.ProjOutIdeal.main_arg7)) (m ((c.tc : Thread Cert.ProjOutIdeal.nD Cert.ProjOutIdeal.τ).loc Cert.ProjOutIdeal.main_arg8))
    = (Cert.ProjOutIdeal.Gen.dats m 0 c).arrAt 8 Cert.ProjOutIdeal.cfg0.N := by
  have key : ∀ (g : Fin 2) (R : Fin 8192) (n : Fin 1024), Cert.ProjOutRefIdeal.Read.val_main_v38 (F := Ideal) (m ((c.tc : Thread Cert.ProjOutIdeal.nD Cert.ProjOutIdeal.τ).loc Cert.ProjOutIdeal.main_arg0)) (m ((c.tc : Thread Cert.ProjOutIdeal.nD Cert.ProjOutIdeal.τ).loc Cert.ProjOutIdeal.main_arg1)) (m ((c.tc : Thread Cert.ProjOutIdeal.nD Cert.ProjOutIdeal.τ).loc Cert.ProjOutIdeal.main_arg2)) (m ((c.tc : Thread Cert.ProjOutIdeal.nD Cert.ProjOutIdeal.τ).loc Cert.ProjOutIdeal.main_arg3)) (m ((c.tc : Thread Cert.ProjOutIdeal.nD Cert.ProjOutIdeal.τ).loc Cert.ProjOutIdeal.main_arg4)) (m ((c.tc : Thread Cert.ProjOutIdeal.nD Cert.ProjOutIdeal.τ).loc Cert.ProjOutIdeal.main_arg5)) (m ((c.tc : Thread Cert.ProjOutIdeal.nD Cert.ProjOutIdeal.τ).loc Cert.ProjOutIdeal.main_arg6)) (m ((c.tc : Thread Cert.ProjOutIdeal.nD Cert.ProjOutIdeal.τ).loc Cert.ProjOutIdeal.main_arg7)) (m ((c.tc : Thread Cert.ProjOutIdeal.nD Cert.ProjOutIdeal.τ).loc Cert.ProjOutIdeal.main_arg8)) (ix3 g R n)
      = (Cert.ProjOutIdeal.Gen.dats m 0 c).arrAt 8 Cert.ProjOutIdeal.cfg0.N (ix3 g R n) := fun g R n => by
    rw [Cert.ProjOutIdeal.Fold.res8_apply m c hs, Cert.ProjOutRefIdeal.Ref.out_apply]
    simp only [Cert.ProjOutRefIdeal.Ref.norm_apply]
    rfl
  funext i
  idx_vars i
  exact key _ _ _

theorem algebraic : Cert.algebraic_ProjOutIdeal_ProjOutRefIdeal := by
  intro m ρ m' ρ' hpre hag
  refine ⟨fun c => (Cert.ProjOutIdeal.Gen.dats m 0 c).arrAt 8 Cert.ProjOutIdeal.cfg0.N, Cert.ProjOutIdeal.Value.run_blocks (F := Ideal) m ρ, ?_⟩
  refine (θ_run Cert.ProjOutRefIdeal.defs _ _).mono (fun _ h c => ⟨(h c).1.trans ?_, (h c).2⟩) (Cert.ProjOutRefIdeal.Value.run (F := Ideal) m' ρ')
  obtain ⟨a0, a1, a2, a3, a4, a5, a6, a7, a8⟩ := hag c
  rw [Cert.ProjOutRefIdeal.Read.val_main_v38_eq]
  show Cert.ProjOutRefIdeal.Read.val_main_v38 (F := Ideal) (m' ((c.tc : Thread Cert.ProjOutRefIdeal.nD Cert.ProjOutRefIdeal.τ).loc Cert.ProjOutRefIdeal.main_arg0)) (m' ((c.tc : Thread Cert.ProjOutRefIdeal.nD Cert.ProjOutRefIdeal.τ).loc Cert.ProjOutRefIdeal.main_arg1)) (m' ((c.tc : Thread Cert.ProjOutRefIdeal.nD Cert.ProjOutRefIdeal.τ).loc Cert.ProjOutRefIdeal.main_arg2)) (m' ((c.tc : Thread Cert.ProjOutRefIdeal.nD Cert.ProjOutRefIdeal.τ).loc Cert.ProjOutRefIdeal.main_arg3)) (m' ((c.tc : Thread Cert.ProjOutRefIdeal.nD Cert.ProjOutRefIdeal.τ).loc Cert.ProjOutRefIdeal.main_arg4)) (m' ((c.tc : Thread Cert.ProjOutRefIdeal.nD Cert.ProjOutRefIdeal.τ).loc Cert.ProjOutRefIdeal.main_arg5)) (m' ((c.tc : Thread Cert.ProjOutRefIdeal.nD Cert.ProjOutRefIdeal.τ).loc Cert.ProjOutRefIdeal.main_arg6)) (m' ((c.tc : Thread Cert.ProjOutRefIdeal.nD Cert.ProjOutRefIdeal.τ).loc Cert.ProjOutRefIdeal.main_arg7)) (m' ((c.tc : Thread Cert.ProjOutRefIdeal.nD Cert.ProjOutRefIdeal.τ).loc Cert.ProjOutRefIdeal.main_arg8)) = _
  rw [a0, a1, a2, a3, a4, a5, a6, a7, a8]
  exact same m c (finite m c hpre)

end Cert.Proof.ProjOut

end
-- ==== Proof.Mix.Spec.lean ====
/-
  The recurrence's inputs in plain terms: the row mixed with the row before it, and from that row's lanes the decay, the
  key, its unit direction, the rate, the gate and the bonus.
-/
module

public import proofs.«01_k».proof.Proof.Proj.OutSpec

@[expose] public section

noncomputable section

namespace Cert.Mix

open Idealize.ShloMosaic Cert.Ffn

/-- The floor under a squared length. -/
def floor : EReal := Ideal.ofBits .f32 0x179ABE15#32

/-- A lane mixed with the lane before it in time. -/
def mix (p mu prev : EReal) : EReal := p + mu * (prev - p)

theorem mix_fin {p mu prev : EReal} (hp : Fin' p) (hm : Fin' mu) (hq : Fin' prev) : Fin' (mix p mu prev) := by
  obtain ⟨a, rfl⟩ := hp
  obtain ⟨b, rfl⟩ := hm
  obtain ⟨c, rfl⟩ := hq
  exact ⟨a + b * (c - a), by unfold mix; push_cast; rfl⟩

/-- `log (1 + exp z)`. -/
def softplus (z : EReal) : EReal := max z 0 + Ideal.log (1 + Ideal.exp (0 - max z (-z)))

/-- The decay of a lane. -/
def decay (w0 s : EReal) : EReal := Ideal.exp (0 - Ideal.exp (0 - softplus (0 - (w0 + s)) - Ideal.ofBits .f32 0x3F000000#32))

/-- The sum over the 64 lanes of a lane's head. -/
def headSum (v : Fin 512 → EReal) (l : Fin 512) : EReal := ∑ q : Fin 64, v ⟨l.val / 64 * 64 + q.val, head_lane l q⟩

/-- The key's unit direction. -/
def unit (k kk : Fin 512 → EReal) (l : Fin 512) : EReal :=
  k l * kk l * Ideal.rsqrt (max (headSum (fun q => k q * kk q * (k q * kk q)) l) floor)

/-- The key at its rate. -/
def keyAt (k a ka : EReal) : EReal := k * (1 + (a - 1) * ka)

/-- The bonus of a lane. -/
def bonus (r k rk v : Fin 512 → EReal) (l : Fin 512) : EReal := headSum (fun q => r q * k q * rk q) l * v l

/-! ## A row's outputs -/

/-- The row before, or the given one before the first. -/
def before (p : Fin 8192 → EReal) (s : EReal) (R : Fin 8192) : EReal := if R.val = 0 then s else p ⟨R.val - 1, by omega⟩

theorem part_lt {o n N : Nat} (h : o + n ≤ N) (l : Fin n) : o + l.val < N := by omega

/-- Lanes `o` to `o + n` of a row. -/
def part {N : Nat} (o n : Nat) (h : o + n ≤ N) (x : Fin N → EReal) (l : Fin n) : EReal := x ⟨o + l.val, part_lt h l⟩

def decayOf (w0 : Fin 512 → EReal) (w2 : Fin 64 → Fin 512 → EReal) (x : Fin 1792 → EReal) (l : Fin 512) : EReal :=
  decay (w0 l) (∑ k, Ideal.tanh (part 1536 64 (by decide) x k) * w2 k l)

def rateOf (a0 : Fin 512 → EReal) (a2 : Fin 64 → Fin 512 → EReal) (x : Fin 1792 → EReal) (l : Fin 512) : EReal :=
  Ideal.logistic (a0 l + ∑ k, part 1600 64 (by decide) x k * a2 k l)

def gateOf (g2 : Fin 128 → Fin 512 → EReal) (x : Fin 1792 → EReal) (l : Fin 512) : EReal :=
  ∑ k, Ideal.logistic (part 1664 128 (by decide) x k) * g2 k l

/-- The three low-rank inputs side by side, each under its own function. -/
def active (x : Fin 1792 → EReal) (k : Fin 256) : EReal :=
  if k.val < 64 then Ideal.tanh (part 1536 256 (by decide) x k)
  else if k.val < 128 then part 1536 256 (by decide) x k else Ideal.logistic (part 1536 256 (by decide) x k)

/-! ## Products with matrices of ones and zeros -/

/-- One entry of the weight that sums within heads. -/
def headOnes (k l : Fin 512) : EReal := if k.val / 64 = l.val / 64 then 1 else 0

theorem headOnes_sum (v : Fin 512 → EReal) (l : Fin 512) : ∑ k, v k * headOnes k l = headSum v l := by
  refine (Finset.sum_of_injOn (fun q : Fin 64 => (⟨l.val / 64 * 64 + q.val, head_lane l q⟩ : Fin 512)) ?_ (fun _ _ => by simp) ?_ ?_).symm
  · intro a _ b _ hab
    have := congrArg Fin.val hab
    simp only [] at this
    exact Fin.ext (by omega)
  · intro k _ hk
    have hne : k.val / 64 ≠ l.val / 64 := fun e => hk ⟨⟨k.val % 64, by omega⟩, by simp, Fin.ext (by simp only []; omega)⟩
    rw [headOnes, if_neg hne, mul_zero]
  · intro q _
    rw [headOnes, if_pos (by simp only []; omega), mul_one]

/-- The product of the rounded part and of the rest, which is zero for finite values. -/
theorem headOnes_split (v : Fin 512 → EReal) (hv : ∀ k, Fin' (v k)) (l : Fin 512) :
    (∑ k, v k * headOnes k l) + ∑ k, (v k - v k) * headOnes k l = headSum v l := by
  rw [headOnes_sum, Finset.sum_eq_zero fun k _ => by rw [(hv k).sub_self, zero_mul], add_zero]

/-- The three products of two values each split in two. -/
theorem split3 {n : Nat} (a w : Fin n → EReal) (ha : ∀ k, Fin' (a k)) (hw : ∀ k, Fin' (w k)) :
    (∑ k, a k * w k) + (∑ k, (a k - a k) * w k) + ∑ k, a k * (w k - w k) = ∑ k, a k * w k := by
  rw [Finset.sum_eq_zero (f := fun k => (a k - a k) * w k) fun k _ => by rw [(ha k).sub_self, zero_mul],
    Finset.sum_eq_zero (f := fun k => a k * (w k - w k)) fun k _ => by rw [(hw k).sub_self, mul_zero], add_zero, add_zero]

/-- Rows `o` to `o + n` of a matrix that is zero elsewhere. -/
def placed {n : Nat} (o : Nat) (w : Fin n → EReal) (k : Fin 256) : EReal :=
  if h : o ≤ k.val ∧ k.val - o < n then w ⟨k.val - o, h.2⟩ else 0

theorem placed_fin {n o : Nat} {w : Fin n → EReal} (hw : ∀ k, Fin' (w k)) (k : Fin 256) : Fin' (placed o w k) := by
  unfold placed
  split
  · exact hw _
  · exact Fin'.zero

/-- A product with such a matrix reads only its rows. -/
theorem placed_sum {n o : Nat} (h : o + n ≤ 256) (a : Fin 256 → EReal) (w : Fin n → EReal) :
    ∑ k, a k * placed o w k = ∑ q : Fin n, part o n h a q * w q := by
  refine (Finset.sum_of_injOn (fun q : Fin n => (⟨o + q.val, part_lt h q⟩ : Fin 256)) ?_ (fun _ _ => by simp) ?_ ?_).symm
  · intro a _ b _ hab
    have := congrArg Fin.val hab
    simp only [] at this
    exact Fin.ext (by omega)
  · intro k _ hk
    have hne : ¬ (o ≤ k.val ∧ k.val - o < n) := fun e => hk ⟨⟨k.val - o, e.2⟩, by simp, Fin.ext (by simp only []; omega)⟩
    rw [placed, dif_neg hne, mul_zero]
  · intro q _
    rw [placed, dif_pos ⟨by simp only []; omega, by simp only []; omega⟩]
    exact congrArg (fun z => a _ * w z) (Fin.ext (by simp only []; omega))

/-! ## What is finite -/

theorem logistic_fin (x : EReal) : Fin' (Ideal.logistic x) := by
  unfold Ideal.logistic
  induction x with
  | bot => exact ⟨0, by rw [EReal.neg_bot, Ideal.exp_top, Ideal.div, EReal.add_top_of_ne_bot (by decide), if_neg (by decide)]; simp⟩
  | top => exact ⟨1, by rw [EReal.neg_top, Ideal.exp_bot, Ideal.div]; simp⟩
  | coe r =>
    have hp : (0 : ℝ) < 1 + Real.exp (-r) := by positivity
    have e : (1 : EReal) + Ideal.exp (-(r : EReal)) = ((1 + Real.exp (-r) : ℝ) : EReal) := by
      rw [← EReal.coe_neg, Ideal.exp_coe]; push_cast; rfl
    rw [e, Ideal.div, if_neg (by exact_mod_cast hp.ne'), ← EReal.coe_inv, one_mul]
    exact ⟨_, rfl⟩

theorem tanh_fin (x : EReal) : Fin' (Ideal.tanh x) := by
  induction x with
  | bot => exact ⟨-1, by rw [Ideal.tanh_bot]; rfl⟩
  | top => exact ⟨1, by rw [Ideal.tanh_top]; rfl⟩
  | coe r => exact ⟨Real.tanh r, rfl⟩

theorem keyAt_fin {k a ka : EReal} (hk : Fin' k) (ha : Fin' a) (hka : Fin' ka) : Fin' (keyAt k a ka) := by
  obtain ⟨x, rfl⟩ := hk
  obtain ⟨y, rfl⟩ := ha
  obtain ⟨z, rfl⟩ := hka
  exact ⟨x * (1 + (y - 1) * z), by unfold keyAt; push_cast; rfl⟩

/-! ## The three low-rank products, over the lanes side by side -/

theorem active_fin (x : Fin 1792 → EReal) (hx : ∀ k : Fin 64, Fin' (part 1600 64 (by decide) x k)) (k : Fin 256) : Fin' (active x k) := by
  unfold active
  split
  · exact tanh_fin _
  · split
    · have e : part 1600 64 (by decide) x ⟨k.val - 64, by omega⟩ = part 1536 256 (by decide) x k :=
        congrArg x (Fin.ext (by simp only []; omega))
      exact e ▸ hx _
    · exact logistic_fin _

variable (x : Fin 1792 → EReal)

theorem decay_product (w : Fin 64 → EReal) :
    ∑ k, active x k * placed 0 w k = ∑ k, Ideal.tanh (part 1536 64 (by decide) x k) * w k := by
  rw [placed_sum (by decide)]
  refine Finset.sum_congr rfl fun k _ => congrArg (· * w k) ?_
  unfold part active
  rw [if_pos (by simp only []; omega)]
  exact congrArg (fun z => Ideal.tanh (x z)) (Fin.ext (by simp only []; omega))

theorem rate_product (w : Fin 64 → EReal) :
    ∑ k, active x k * placed 64 w k = ∑ k, part 1600 64 (by decide) x k * w k := by
  rw [placed_sum (by decide)]
  refine Finset.sum_congr rfl fun k _ => congrArg (· * w k) ?_
  unfold part active
  rw [if_neg (by simp only []; omega), if_pos (by simp only []; omega)]
  exact congrArg x (Fin.ext (by simp only []; omega))

theorem gate_product (w : Fin 128 → EReal) :
    ∑ k, active x k * placed 128 w k = ∑ k, Ideal.logistic (part 1664 128 (by decide) x k) * w k := by
  rw [placed_sum (by decide)]
  refine Finset.sum_congr rfl fun k _ => congrArg (· * w k) ?_
  unfold part active
  rw [if_neg (by simp only []; omega), if_neg (by simp only []; omega)]
  exact congrArg (fun z => Ideal.logistic (x z)) (Fin.ext (by simp only []; omega))

end Cert.Mix

end
-- ==== Proof.Mix.Point.lean ====
/-
  The recurrence's inputs: what a grid point computes from its blocks, over the extended reals.
-/
module

public import proofs.«01_k».proof.Proof.Gen.TimeIdeal.Value
public import proofs.«01_k».proof.Proof.Mix.Spec
public import proofs.«01_k».proof.Proof.Proj.OutValue
public import Idealize.ShloMosaic.Lib.Pointwise
public import Idealize.ShloMosaic.Lib.Pipeline.Value
public import Idealize.ShloMosaic.Lib.StableHlo.Run
public import Idealize.ShloMosaic.Lib.StableHlo.RunRead

@[expose] public section

set_option maxRecDepth 16384

noncomputable section

namespace Cert.TimeIdeal.Fold

open Cert.TimeIdeal Cert.TimeIdeal.Gen Idealize.ShloMosaic Idealize.ShloMosaic.TcCoe Idealize.SL.Sem Cert.Ffn Cert.Mix

/-! ## What a point computes -/

section Payloads

variable (i : grid0.Coords) (v0 : Vec Ideal S1x256x1792 .f32) (v3 v5 : Vec Ideal S1x1x1792 .f32) (v15 : Vec Ideal S1x1792 .f32) (r : Fin 256)

/-- A row mixed with the row before it. -/
def mixRow (j : Fin 1792) : EReal := k0_pay4 i v0 v3 v5 v15 (ix2 r j)

/-- The row before a block's row, its words compared. -/
def prevWord (j : Fin 1792) : EReal :=
  Scalar.select (IntOp.cmpi .eq (BitVec.ofNat 32 r.val) 0#32)
    (Scalar.select (Scalar.cmpi .eq (BitVec.ofNat 32 (i 1).val) 0#32) (v3 (ix3 0 0 j)) (v5 (ix3 0 0 j))) (v0 (ix3 0 ⟨(r.val + 256 - 1) % 256, by omega⟩ j))

theorem mixRow_apply (j : Fin 1792) : mixRow i v0 v3 v5 v15 r j = mix (v0 (ix3 0 r j)) (v15 (ix2 0 j)) (prevWord i v0 v3 v5 r j) := by
  unfold mixRow mix prevWord
  pointwise [k0_pay4]

theorem pay5_apply (l : Fin 512) : k0_pay5 i v0 v3 v5 v15 (ix2 r l) = part 0 512 (by decide) (mixRow i v0 v3 v5 v15 r) l := by
  unfold part mixRow
  pointwise [k0_pay5]

theorem pay6_apply (l : Fin 512) : k0_pay6 i v0 v3 v5 v15 (ix2 r l) = part 512 512 (by decide) (mixRow i v0 v3 v5 v15 r) l := by
  unfold part mixRow
  pointwise [k0_pay6]

theorem pay7_apply (l : Fin 512) : k0_pay7 i v0 v3 v5 v15 (ix2 r l) = part 1024 512 (by decide) (mixRow i v0 v3 v5 v15 r) l := by
  unfold part mixRow
  pointwise [k0_pay7]

theorem below64 : ∀ j : Fin 256, IntOp.cmpi .slt (BitVec.ofNat 32 j.val) 64#32 = BitVec.ofBool (decide (j.val < 64)) := by decide
theorem below128 : ∀ j : Fin 256, IntOp.cmpi .slt (BitVec.ofNat 32 j.val) 128#32 = BitVec.ofBool (decide (j.val < 128)) := by decide

theorem pay8_apply (k : Fin 256) : k0_pay8 i v0 v3 v5 v15 (ix2 r k) = active (mixRow i v0 v3 v5 v15 r) k := by
  have h : k0_pay8 i v0 v3 v5 v15 (ix2 r k)
      = Scalar.select (IntOp.cmpi .slt (BitVec.ofNat 32 k.val) 64#32) (Ideal.tanh (part 1536 256 (by decide) (mixRow i v0 v3 v5 v15 r) k))
          (Scalar.select (IntOp.cmpi .slt (BitVec.ofNat 32 k.val) 128#32) (part 1536 256 (by decide) (mixRow i v0 v3 v5 v15 r) k)
            (Ideal.logistic (part 1536 256 (by decide) (mixRow i v0 v3 v5 v15 r) k))) := by
    unfold part mixRow
    pointwise [k0_pay8]
  rw [h, below64, below128]
  unfold active
  by_cases e : k.val < 64
  · simp [e, Scalar.select]
  · by_cases e' : k.val < 128
    · simp [e, e', Scalar.select]
    · simp [e, e', Scalar.select]

end Payloads

section Products

variable (a : FVec Ideal S256x256 .f32) (b : FVec Ideal S1x512 .f32) (w : Vec Ideal S256x512 .f32) (r : Fin 256) (l : Fin 512)
  (ha : ∀ k, Fin' (a (ix2 r k))) (hw : ∀ k, Fin' (w (ix2 k l)))

include ha hw

theorem decay_apply : k0_pay15 (k0_pay14 a b w) (ix2 r l) = decay (b (ix2 0 l)) (∑ k, a (ix2 r k) * w (ix2 k l)) := by
  rw [← split3 (fun k => a (ix2 r k)) (fun k => w (ix2 k l)) ha hw]
  unfold decay softplus
  pointwise [k0_pay14, k0_pay15]
  rfl

theorem rate_apply : k0_pay16 a b w (ix2 r l) = Ideal.logistic (b (ix2 0 l) + ∑ k, a (ix2 r k) * w (ix2 k l)) := by
  rw [← split3 (fun k => a (ix2 r k)) (fun k => w (ix2 k l)) ha hw]
  pointwise [k0_pay16]

theorem gate_apply : k0_pay2 (k0_pay17 a w) (ix3 0 r l) = ∑ k, a (ix2 r k) * w (ix2 k l) := by
  rw [← split3 (fun k => a (ix2 r k)) (fun k => w (ix2 k l)) ha hw]
  pointwise [k0_pay17, k0_pay2]

end Products

/-- The weight that sums within heads. -/
def heads : FVec Ideal S512x512 .bf16 :=
  k0_pay20 (iota .tc S512x512 32 [0] iota_S512x512_d0_w32) 64#32 k0_pay18 k0_pay19 (Scalar.extui (Scalar.cmpi .sgt 64#32 0#32))

theorem heads_apply (k l : Fin 512) : heads (ix2 k l) = headOnes k l := by
  have h : heads (ix2 k l) = Scalar.select (IntOp.cmpi .eq (ProjOutIdeal.Fold.quot (BitVec.ofNat 32 k.val)) (ProjOutIdeal.Fold.quot (BitVec.ofNat 32 l.val))) 1 0 := by
    unfold ProjOutIdeal.Fold.quot
    pointwise [heads, k0_pay20, k0_pay18, k0_pay19]
  rw [h, ProjOutIdeal.Fold.quot_eq, ProjOutIdeal.Fold.quot_eq, ProjOutIdeal.Fold.same_head ⟨k.val / 64, by omega⟩ ⟨l.val / 64, by omega⟩]
  unfold headOnes
  by_cases e : k.val / 64 = l.val / 64
  · simp [e, Scalar.select]
  · simp [e, Scalar.select]

section Keys

variable (v k a : FVec Ideal S256x512 .f32) (b : FVec Ideal S1x512 .f32) (r : Fin 256) (l : Fin 512)

theorem unit_apply (hk : ∀ q, Fin' (k (ix2 r q) * b (ix2 0 q))) :
    k0_pay25 heads (k0_pay21 k b) (k0_pay22 k b) (k0_pay23 k b) (k0_pay24 k b) (ix2 r l) = unit (fun q => k (ix2 r q)) (fun q => b (ix2 0 q)) l := by
  unfold unit Cert.Mix.floor
  rw [← headOnes_split _ (fun q => (hk q).mul (hk q)) l]
  simp only [← heads_apply]
  pointwise [k0_pay25, k0_pay21, k0_pay22, k0_pay23, k0_pay24]

theorem key_apply : k0_pay26 k b a (ix2 r l) = keyAt (k (ix2 r l)) (a (ix2 r l)) (b (ix2 0 l)) := by
  unfold keyAt
  pointwise [k0_pay26]

theorem bonus_apply (hb : ∀ q, Fin' (v (ix2 r q) * k (ix2 r q) * b (ix2 0 q))) :
    k0_pay3 v a b heads k (ix3 0 r l) = bonus (fun q => v (ix2 r q)) (fun q => k (ix2 r q)) (fun q => b (ix2 0 q)) (fun q => a (ix2 r q)) l := by
  unfold bonus
  rw [← headOnes_split _ hb l]
  simp only [← heads_apply]
  pointwise [k0_pay3]

theorem pay1_apply : k0_pay1 v (ix3 0 r l) = v (ix2 r l) := by pointwise [k0_pay1]
theorem pay27_apply : k0_pay27 v (ix3 0 r l) = v (ix2 r l) := by pointwise [k0_pay27]
theorem pay28_apply : k0_pay28 v (ix3 0 r l) = v (ix2 r l) := by pointwise [k0_pay28]
theorem pay29_apply : k0_pay29 k b a (ix3 0 r l) = k0_pay26 k b a (ix2 r l) := by pointwise [k0_pay29]
theorem pay30_apply : k0_pay30 v (ix3 0 r l) = v (ix2 r l) := by pointwise [k0_pay30]

end Keys

theorem row9 (x : Vec Ideal S1x512 .f32) (l : Fin 512) : k0_pay9 x (ix2 0 l) = x (ix2 0 l) := by pointwise [k0_pay9]
theorem row10 (x : Vec Ideal S1x512 .f32) (l : Fin 512) : k0_pay10 x (ix2 0 l) = x (ix2 0 l) := by pointwise [k0_pay10]
theorem row11 (x : Vec Ideal S1x512 .f32) (l : Fin 512) : k0_pay11 x (ix2 0 l) = x (ix2 0 l) := by pointwise [k0_pay11]
theorem row12 (x : Vec Ideal S1x512 .f32) (l : Fin 512) : k0_pay12 x (ix2 0 l) = x (ix2 0 l) := by pointwise [k0_pay12]
theorem row13 (x : Vec Ideal S1x512 .f32) (l : Fin 512) : k0_pay13 x (ix2 0 l) = x (ix2 0 l) := by pointwise [k0_pay13]

end Cert.TimeIdeal.Fold

end
-- ==== Proof.Mix.Laid.lean ====
/-
  A matrix laid into the rows of a matrix of zeros: the scatter at one index word that carries whole rows, read at an entry.
-/
module

public import proofs.«01_k».proof.Proof.Mix.Spec
public import Idealize.ShloMosaic.Lib.Routing.OpsSet
public import Idealize.ShloMosaic.Lib.Routing.OpsOne

@[expose] public section

noncomputable section

namespace Cert.Mix

open Idealize.ShloMosaic hiding ix1 ix2
open Idealize.ShloMosaic.ValueIdx

theorem index_of_two {M N : Nat} (j : (Routing.shape2 M N).Idx) : j = ix2 (j 0) (j 1) := by
  funext a
  match a with
  | ⟨0, _⟩ => rfl
  | ⟨1, _⟩ => rfl

/-- Both axes are the window's, in order. -/
theorem kept_at {L K : List (Fin 2)} (hL : L = [0, 1]) (hK : K = [0, 1]) (a : Fin 2) (h : K.idxOf a < L.length) : L[K.idxOf a] = a := by
  subst hL hK
  match a with
  | ⟨0, _⟩ => rfl
  | ⟨1, _⟩ => rfl

/-- Where an entry of a matrix laid at row `o` lands. -/
theorem lands_at {A B N : Nat} (d : ScatterDims (Routing.shape2 A N) (Routing.shape1 1) (Routing.shape2 B N)) (hu : d.updateWindowDims = [0, 1]) (hiw : d.insertedWindowDims = [])
    (hsd : d.scatterDimsToOperandDims = [0]) (idx : IVec (Routing.shape1 1) 32) (o : Nat) (hidx : (idx (ix1 0)).toInt = (o : Int))
    (q : Fin B) (e : Fin N) (w : Fin A) (e' : Fin N) : d.resultIdx? (ix2 q e) idx = some (ix2 w e') ↔ o + q.val = w.val ∧ e.val = e'.val := by
  have hm : (0 : Fin 2) ∈ d.scatterDimsToOperandDims := by rw [hsd]; exact List.mem_singleton.2 rfl
  have hkept : d.sKept = [0, 1] := by
    show (Routing.shape2 A N).kept d.insertedWindowDims = _
    rw [hiw]
    rfl
  have hwin0 : d.window (ix2 q e) 0 = q.val := by
    unfold ScatterDims.window
    rw [dif_pos (by rw [hkept]; simp)]
    exact congrArg (fun z => (ix2 q e z).val) (kept_at hu hkept 0 _)
  have hwin1 : d.window (ix2 q e) 1 = e.val := by
    unfold ScatterDims.window
    rw [dif_pos (by rw [hkept]; simp)]
    exact congrArg (fun z => (ix2 q e z).val) (kept_at hu hkept 1 _)
  have hstart1 : d.start (ix2 q e) idx 1 = 0 := by
    unfold ScatterDims.start
    rw [dif_neg fun h => by rw [hsd] at h; exact absurd (List.mem_singleton.1 h) (by decide : (1 : Fin 2) ≠ 0)]
  have hstart0 : d.start (ix2 q e) idx 0 = (o : Int) := by
    unfold ScatterDims.start
    rw [dif_pos hm]
    have hsi : d.siIdx (ix2 q e) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  rw [Routing.resultIdx?_ix2, hstart0, hwin0, hstart1, hwin1]
  omega

theorem laid {B : Nat} (d : ScatterDims (Routing.shape2 256 512) (Routing.shape1 1) (Routing.shape2 B 512)) (hu : d.updateWindowDims = [0, 1]) (hiw : d.insertedWindowDims = [])
    (hsd : d.scatterDimsToOperandDims = [0]) (z : (Routing.shape2 256 512).Idx → EReal) (hz : ∀ j, z j = 0) (idx : IVec (Routing.shape1 1) 32) (o : Nat)
    (hidx : (idx (ix1 0)).toInt = (o : Int)) (upd : (Routing.shape2 B 512).Idx → EReal) (k : Fin 256) (l : Fin 512) :
    Host.scatter d (fun _ b => b) z idx upd (ix2 k l) = placed o (fun q => upd (ix2 q l)) k := by
  have lands : ∀ j : (Routing.shape2 B 512).Idx, d.resultIdx? j idx = some (ix2 k l) → o + (j 0).val = k.val ∧ (j 1).val = l.val := fun j hj =>
    (lands_at d hu hiw hsd idx o hidx (j 0) (j 1) k l).1 ((congrArg (fun t => d.resultIdx? t idx) (index_of_two j).symm).trans hj)
  unfold placed
  split
  · rename_i h
    refine Routing.scatter_set_hit d z idx upd _ _ (fun j hj => ?_) (ix2 ⟨k.val - o, h.2⟩ l) ((lands_at d hu hiw hsd idx o hidx _ _ k l).2 ⟨by simp only []; omega, rfl⟩)
    have e := lands j hj
    rw [index_of_two j]
    exact congrArg₂ (fun y w => upd (ix2 y w)) (Fin.ext (by simp only []; omega)) (Fin.ext e.2)
  · rename_i h
    rw [Routing.scatter_set_miss d z idx upd _ fun j hj => h ?_, hz]
    have e := lands j hj
    have := (j 0).isLt
    exact ⟨by omega, by show _ < B; have : (j 0).val < B := (j 0).isLt; omega⟩

end Cert.Mix

end
-- ==== Proof.Mix.Arrays.lean ====
/-
  The recurrence's inputs: the arrays the kernel's region finds, over the extended reals.
-/
module

public import proofs.«01_k».proof.Proof.Gen.TimeIdeal.Value
public import proofs.«01_k».proof.Proof.Mix.Spec
public import proofs.«01_k».proof.Proof.Proj.OutValue
public import Idealize.ShloMosaic.Lib.Pointwise
public import Idealize.ShloMosaic.Lib.Pipeline.Value
public import Idealize.ShloMosaic.Lib.StableHlo.Run
public import Idealize.ShloMosaic.Lib.StableHlo.RunRead
public import proofs.«01_k».proof.Proof.Mix.Laid

@[expose] public section

set_option maxRecDepth 16384

noncomputable section

namespace Cert.TimeIdeal.Fold

open Cert.TimeIdeal Cert.TimeIdeal.Gen Idealize.ShloMosaic Idealize.ShloMosaic.TcCoe Idealize.SL.Sem Cert.Ffn Cert.Mix

variable (m : (ℓ : Loc nD τ sig) → Buf (Elt Ideal) ℓ)

/-- The five rows of lane vectors over three rows of zeros. -/
def rowsOf (a b c d : FVec Ideal S512 .f32) (e : FVec Ideal S8x64 .f32) : FVec Ideal S8x512 .f32 :=
  let z : FVec Ideal S512 .f32 := broadcastInDim S512 ![] bcast_S_S512 (constant S_ FTy.f32 0#32)
  let u : FVec Ideal S512 .f32 → FVec Ideal S1x512 .f32 := broadcastInDim S1x512 ![1] bcast_S512_S1x512_1
  concatenate S8x512 0 [⟨S1x512, u a⟩, ⟨S1x512, u b⟩, ⟨S1x512, u c⟩, ⟨S1x512, u d⟩, ⟨S1x512, u (shapeCast S512 e shapeCasts_S8x64_S512)⟩, ⟨S1x512, u z⟩, ⟨S1x512, u z⟩, ⟨S1x512, u z⟩]
    concatenates_S1x512_S1x512_S1x512_S1x512_S1x512_S1x512_S1x512_S1x512_S8x512_d0

section Rows
variable (a b c d : FVec Ideal S512 .f32) (e : FVec Ideal S8x64 .f32) (l : Fin 512)
theorem rowsOf_0 : rowsOf a b c d e (ix2 0 l) = a (ix1 l) := by pointwise [rowsOf]
theorem rowsOf_1 : rowsOf a b c d e (ix2 1 l) = b (ix1 l) := by pointwise [rowsOf]
theorem rowsOf_2 : rowsOf a b c d e (ix2 2 l) = c (ix1 l) := by pointwise [rowsOf]
theorem rowsOf_3 : rowsOf a b c d e (ix2 3 l) = d (ix1 l) := by pointwise [rowsOf]
theorem rowsOf_4 : rowsOf a b c d e (ix2 4 l) = e (ix2 ⟨l.val / 64, by omega⟩ ⟨l.val % 64, by omega⟩) := by pointwise [rowsOf]
end Rows

theorem V_v11 (c : Dev nD) : V m c main_v11 = rowsOf (m ((c : Thread nD τ).loc main_arg3)) (m ((c : Thread nD τ).loc main_arg5)) (m ((c : Thread nD τ).loc main_arg8))
    (m ((c : Thread nD τ).loc main_arg9)) (m ((c : Thread nD τ).loc main_arg10)) := by
  unfold V hostOps0 rowsOf
  after_results_simp
  rfl

theorem V_v18 (c : Dev nD) (j : Fin 1792) : V m c main_v18 (ix2 0 j) = m ((c : Thread nD τ).loc main_arg2) (ix1 j) := by
  have e : V m c main_v18 = (broadcastInDim S1x1792 ![1] bcast_S1792_S1x1792_1 (m ((c : Thread nD τ).loc main_arg2) : FVec Ideal S1792 .f32) : FVec Ideal S1x1792 .f32) := by
    unfold V hostOps0
    after_results_simp
  rw [e]
  pointwise []

/-! ## Matrices laid into zeros -/

theorem V_v13 (c : Dev nD) (k : Fin 256) (l : Fin 512) : V m c main_v13 (ix2 k l) = placed 0 (fun q : Fin 64 => m ((c : Thread nD τ).loc main_arg4) (ix2 q l)) k := by
  have e : V m c main_v13 = Host.scatter scatter_S256x512_S1_S64x512_01_n_0_0 (fun _ b => b) (broadcastInDim S256x512 ![] bcast_S_S256x512 (constant (F := Ideal) S_ FTy.f32 0#32))
      (broadcastInDim S1 ![] bcast_S_S1 (constantI S_ 32 0#32)) (m ((c : Thread nD τ).loc main_arg4)) := by
    unfold V hostOps0
    after_results_simp
  rw [e]
  exact laid _ rfl rfl rfl _ (fun j => by idx_vars j; pointwise []) _ 0 rfl _ k l

theorem V_v15 (c : Dev nD) (k : Fin 256) (l : Fin 512) : V m c main_v15 (ix2 k l) = placed 64 (fun q : Fin 64 => m ((c : Thread nD τ).loc main_arg6) (ix2 q l)) k := by
  have e : V m c main_v15 = Host.scatter scatter_S256x512_S1_S64x512_01_n_0_0 (fun _ b => b) (broadcastInDim S256x512 ![] bcast_S_S256x512 (constant (F := Ideal) S_ FTy.f32 0#32))
      (broadcastInDim S1 ![] bcast_S_S1 (constantI S_ 32 64#32)) (m ((c : Thread nD τ).loc main_arg6)) := by
    unfold V hostOps0
    after_results_simp
  rw [e]
  exact laid _ rfl rfl rfl _ (fun j => by idx_vars j; pointwise []) _ 64 rfl _ k l

theorem V_v17 (c : Dev nD) (k : Fin 256) (l : Fin 512) : V m c main_v17 (ix2 k l) = placed 128 (fun q : Fin 128 => m ((c : Thread nD τ).loc main_arg7) (ix2 q l)) k := by
  have e : V m c main_v17 = Host.scatter scatter_S256x512_S1_S128x512_01_n_0_0 (fun _ b => b) (broadcastInDim S256x512 ![] bcast_S_S256x512 (constant (F := Ideal) S_ FTy.f32 0#32))
      (broadcastInDim S1 ![] bcast_S_S1 (constantI S_ 32 128#32)) (m ((c : Thread nD τ).loc main_arg7)) := by
    unfold V hostOps0
    after_results_simp
  rw [e]
  exact laid _ rfl rfl rfl _ (fun j => by idx_vars j; pointwise []) _ 128 rfl _ k l

end Cert.TimeIdeal.Fold

end
-- ==== Proof.Mix.Value.lean ====
/-
  The recurrence's inputs: the eight result arrays over the extended reals, where what is summed is finite.
-/
module

public import proofs.«01_k».proof.Proof.Gen.TimeIdeal.Value
public import proofs.«01_k».proof.Proof.Mix.Point
public import proofs.«01_k».proof.Proof.Mix.Arrays
public import proofs.«01_k».proof.Proof.Proj.OutValue
public import Idealize.ShloMosaic.Lib.Pointwise
public import Idealize.ShloMosaic.Lib.Pipeline.Value
public import Idealize.ShloMosaic.Lib.StableHlo.Run
public import Idealize.ShloMosaic.Lib.StableHlo.RunRead

@[expose] public section

set_option maxRecDepth 16384

noncomputable section

namespace Cert.TimeIdeal.Fold

open Cert.TimeIdeal Cert.TimeIdeal.Gen Idealize.ShloMosaic Idealize.ShloMosaic.TcCoe Idealize.SL.Sem Cert.Ffn Cert.Mix

variable (m : (ℓ : Loc nD τ sig) → Buf (Elt Ideal) ℓ) (c : Dev nD)

/-! ## The arguments, entry by entry -/

def inP (g : Fin 2) (R : Fin 8192) (j : Fin 1792) : EReal := m ((c : Thread nD τ).loc main_arg0) (ix3 g R j)
def inS (g : Fin 2) (j : Fin 1792) : EReal := m ((c : Thread nD τ).loc main_arg1) (ix3 g 0 j)
def inMu (j : Fin 1792) : EReal := m ((c : Thread nD τ).loc main_arg2) (ix1 j)
def inW0 (l : Fin 512) : EReal := m ((c : Thread nD τ).loc main_arg3) (ix1 l)
def inW2 (q : Fin 64) (l : Fin 512) : EReal := m ((c : Thread nD τ).loc main_arg4) (ix2 q l)
def inA0 (l : Fin 512) : EReal := m ((c : Thread nD τ).loc main_arg5) (ix1 l)
def inA2 (q : Fin 64) (l : Fin 512) : EReal := m ((c : Thread nD τ).loc main_arg6) (ix2 q l)
def inG2 (q : Fin 128) (l : Fin 512) : EReal := m ((c : Thread nD τ).loc main_arg7) (ix2 q l)
def inKk (l : Fin 512) : EReal := m ((c : Thread nD τ).loc main_arg8) (ix1 l)
def inKa (l : Fin 512) : EReal := m ((c : Thread nD τ).loc main_arg9) (ix1 l)
def inRk (l : Fin 512) : EReal := m ((c : Thread nD τ).loc main_arg10) (ix2 ⟨l.val / 64, by omega⟩ ⟨l.val % 64, by omega⟩)

/-- The mixed row. -/
def rowAt (g : Fin 2) (R : Fin 8192) (j : Fin 1792) : EReal := mix (inP m c g R j) (inMu m c j) (before (fun r => inP m c g r j) (inS m c g j) R)

def rAt (g : Fin 2) (R : Fin 8192) (l : Fin 512) : EReal := part 0 512 (by decide) (rowAt m c g R) l
def kAt (g : Fin 2) (R : Fin 8192) (l : Fin 512) : EReal := part 512 512 (by decide) (rowAt m c g R) l
def vAt (g : Fin 2) (R : Fin 8192) (l : Fin 512) : EReal := part 1024 512 (by decide) (rowAt m c g R) l
def decayAt (g : Fin 2) (R : Fin 8192) (l : Fin 512) : EReal := decayOf (inW0 m c) (inW2 m c) (rowAt m c g R) l
def rateAt (g : Fin 2) (R : Fin 8192) (l : Fin 512) : EReal := rateOf (inA0 m c) (inA2 m c) (rowAt m c g R) l
def gateAt (g : Fin 2) (R : Fin 8192) (l : Fin 512) : EReal := gateOf (inG2 m c) (rowAt m c g R) l
def unitAt (g : Fin 2) (R : Fin 8192) (l : Fin 512) : EReal := unit (kAt m c g R) (inKk m c) l
def ratedAt (g : Fin 2) (R : Fin 8192) (l : Fin 512) : EReal := unitAt m c g R l * rateAt m c g R l
def keyed (g : Fin 2) (R : Fin 8192) (l : Fin 512) : EReal := keyAt (kAt m c g R l) (rateAt m c g R l) (inKa m c l)
def bonusAt (g : Fin 2) (R : Fin 8192) (l : Fin 512) : EReal := bonus (rAt m c g R) (keyed m c g R) (inRk m c) (vAt m c g R) l

/-- The lanes that enter a sum as they are. -/
def Summed (j : Fin 1792) : Prop := j.val < 1024 ∨ 1600 ≤ j.val ∧ j.val < 1664

/-- What enters a sum is finite. -/
structure Recurrent : Prop where
  p : ∀ g R j, Summed j → Fin' (inP m c g R j)
  s : ∀ g j, Summed j → Fin' (inS m c g j)
  mu : ∀ j, Summed j → Fin' (inMu m c j)
  w2 : ∀ q l, Fin' (inW2 m c q l)
  a2 : ∀ q l, Fin' (inA2 m c q l)
  g2 : ∀ q l, Fin' (inG2 m c q l)
  kk : ∀ l, Fin' (inKk m c l)
  ka : ∀ l, Fin' (inKa m c l)
  rk : ∀ l, Fin' (inRk m c l)

variable {m c} in
theorem Recurrent.row (H : Recurrent m c) (g : Fin 2) (R : Fin 8192) (j : Fin 1792) (hj : Summed j) : Fin' (rowAt m c g R j) := by
  refine mix_fin (H.p g R j hj) (H.mu j hj) ?_
  unfold before
  split
  · exact H.s g j hj
  · exact H.p g _ j hj

/-! ## The blocks of a grid point -/

theorem at0 : ∀ t : Fin grid0.N, win0_0.index t = ![t.val / 32, t.val % 32, 0] := by decide +kernel
theorem at1 : ∀ t : Fin grid0.N, win0_1.index t = ![t.val / 32, 32 * (t.val % 32) - 1, 0] := by decide +kernel
theorem at2 : ∀ t : Fin grid0.N, win0_2.index t = ![t.val / 32, 0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel
theorem at6 : ∀ t : Fin grid0.N, win0_6.index t = ![0, 0] := by decide +kernel
theorem at7 : ∀ t : Fin grid0.N, win0_7.index t = ![0, 0] := by decide +kernel
theorem column_of : ∀ t : Fin grid0.N, (grid0.coords t 1).val = t.val % 32 := by decide +kernel

theorem lt64 (t : Fin grid0.N) : t.val < 64 := lt_of_lt_of_eq t.isLt (by decide)
theorem batch_lt (t : Fin grid0.N) : t.val / 32 < 2 := by have := lt64 t; omega
theorem row_lt (t : Fin grid0.N) (r : Fin 256) : 256 * (t.val % 32) + r.val < 8192 := by omega

/-- A point's batch entry and its rows. -/
def batchOf (t : Fin grid0.N) : Fin 2 := ⟨t.val / 32, batch_lt t⟩
def rowOf (t : Fin grid0.N) (r : Fin 256) : Fin 8192 := ⟨256 * (t.val % 32) + r.val, row_lt t r⟩

variable (t : Fin grid0.N)

theorem rows_apply (r : Fin 256) (j : Fin 1792) : iblk m c 0 t (ix3 0 r j) = inP m c (batchOf t) (rowOf t r) j := by
  have e := at0 t
  unfold iblk inP
  rw [View.read_apply]
  show V m c main_arg0 _ = _
  rw [V_main_arg0 m c]
  congr 1
  funext a
  apply Fin.ext
  match a with
  | ⟨0, _⟩ => show win0_0.index t 0 * 1 + 1 * 0 = t.val / 32; rw [e]; simp <;> omega
  | ⟨1, _⟩ => show win0_0.index t 1 * 256 + 1 * r.val = 256 * (t.val % 32) + r.val; rw [e]; simp <;> omega
  | ⟨2, _⟩ => show win0_0.index t 2 * 1792 + 1 * j.val = j.val; rw [e]; simp <;> omega

theorem halo_lt (q : Fin 8) : 8 * (32 * (t.val % 32) - 1) + q.val < 8192 := by omega

theorem halo_block (q : Fin 8) (j : Fin 1792) : iblk m c 1 t (ix3 0 q j) = inP m c (batchOf t) ⟨8 * (32 * (t.val % 32) - 1) + q.val, halo_lt t q⟩ j := by
  have e := at1 t
  unfold iblk inP
  rw [View.read_apply]
  show V m c main_arg0 _ = _
  rw [V_main_arg0 m c]
  congr 1
  funext a
  apply Fin.ext
  match a with
  | ⟨0, _⟩ => show win0_1.index t 0 * 1 + 1 * 0 = t.val / 32; rw [e]; simp <;> omega
  | ⟨1, _⟩ => show win0_1.index t 1 * 8 + 1 * q.val = 8 * (32 * (t.val % 32) - 1) + q.val; rw [e]; simp <;> omega
  | ⟨2, _⟩ => show win0_1.index t 2 * 1792 + 1 * j.val = j.val; rw [e]; simp <;> omega

theorem halo_apply (j : Fin 1792) : View.ld (iblk m c 1 t) r0_2 (ix3 0 0 j) = inP m c (batchOf t) ⟨8 * (32 * (t.val % 32) - 1) + 7, halo_lt t 7⟩ j := by
  refine Eq.trans (congrArg (iblk m c 1 t) (funext fun a => Fin.ext ?_)) (halo_block m c t 7 j)
  match a with
  | ⟨0, _⟩ => rfl
  | ⟨1, _⟩ => rfl
  | ⟨2, _⟩ => show 0 + 1 * j.val = j.val; omega

theorem shift_apply (j : Fin 1792) : iblk m c 2 t (ix3 0 0 j) = inS m c (batchOf t) j := by
  have e := at2 t
  unfold iblk inS
  rw [View.read_apply]
  show V m c main_arg1 _ = _
  rw [V_main_arg1 m c]
  congr 1
  funext a
  apply Fin.ext
  match a with
  | ⟨0, _⟩ => show win0_2.index t 0 * 1 + 1 * 0 = t.val / 32; rw [e]; simp <;> omega
  | ⟨1, _⟩ => show win0_2.index t 1 * 1 + 1 * 0 = 0; rw [e]; simp <;> omega
  | ⟨2, _⟩ => show win0_2.index t 2 * 1792 + 1 * j.val = j.val; rw [e]; simp <;> omega

theorem mu_apply (j : Fin 1792) : iblk m c 3 t (ix2 0 j) = inMu m c j := by
  have e := at3 t
  unfold iblk inMu
  rw [View.read_apply, ← V_v18 m c j]
  show V m c main_v18 _ = _
  congr 1
  funext a
  apply Fin.ext
  match a with
  | ⟨0, _⟩ => show win0_3.index t 0 * 1 + 1 * 0 = 0; rw [e]; simp <;> omega
  | ⟨1, _⟩ => show win0_3.index t 1 * 1792 + 1 * j.val = j.val; rw [e]; simp <;> omega

theorem vectors_apply (q : Fin 8) (l : Fin 512) : iblk m c 4 t (ix2 q l) = V m c main_v11 (ix2 q l) := by
  have e := at4 t
  unfold iblk
  rw [View.read_apply]
  show V m c main_v11 _ = _
  congr 1
  funext a
  apply Fin.ext
  match a with
  | ⟨0, _⟩ => show win0_4.index t 0 * 8 + 1 * q.val = q.val; rw [e]; simp <;> omega
  | ⟨1, _⟩ => show win0_4.index t 1 * 512 + 1 * l.val = l.val; rw [e]; simp <;> omega

theorem w2_apply (k : Fin 256) (l : Fin 512) : iblk m c 5 t (ix2 k l) = placed 0 (fun q => inW2 m c q l) k := by
  have e := at5 t
  unfold iblk inW2
  rw [View.read_apply, ← V_v13 m c k l]
  show V m c main_v13 _ = _
  congr 1
  funext a
  apply Fin.ext
  match a with
  | ⟨0, _⟩ => show win0_5.index t 0 * 256 + 1 * k.val = k.val; rw [e]; simp <;> omega
  | ⟨1, _⟩ => show win0_5.index t 1 * 512 + 1 * l.val = l.val; rw [e]; simp <;> omega

theorem a2_apply (k : Fin 256) (l : Fin 512) : iblk m c 6 t (ix2 k l) = placed 64 (fun q => inA2 m c q l) k := by
  have e := at6 t
  unfold iblk inA2
  rw [View.read_apply, ← V_v15 m c k l]
  show V m c main_v15 _ = _
  congr 1
  funext a
  apply Fin.ext
  match a with
  | ⟨0, _⟩ => show win0_6.index t 0 * 256 + 1 * k.val = k.val; rw [e]; simp <;> omega
  | ⟨1, _⟩ => show win0_6.index t 1 * 512 + 1 * l.val = l.val; rw [e]; simp <;> omega

theorem g2_apply (k : Fin 256) (l : Fin 512) : iblk m c 7 t (ix2 k l) = placed 128 (fun q => inG2 m c q l) k := by
  have e := at7 t
  unfold iblk inG2
  rw [View.read_apply, ← V_v17 m c k l]
  show V m c main_v17 _ = _
  congr 1
  funext a
  apply Fin.ext
  match a with
  | ⟨0, _⟩ => show win0_7.index t 0 * 256 + 1 * k.val = k.val; rw [e]; simp <;> omega
  | ⟨1, _⟩ => show win0_7.index t 1 * 512 + 1 * l.val = l.val; rw [e]; simp <;> omega

/-! ## A point's rows -/

theorem first_row : ∀ r : Fin 256, IntOp.cmpi .eq (BitVec.ofNat 32 r.val) 0#32 = BitVec.ofBool (decide (r.val = 0)) := by decide
theorem first_block : ∀ b : Fin 32, Scalar.cmpi .eq (BitVec.ofNat 32 b.val) 0#32 = BitVec.ofBool (decide (b.val = 0)) := by decide

theorem hz3 : (![0, 0, 0] : Fin 3 → Nat) = fun _ => 0 := by decide
theorem hz2 : (![0, 0] : Fin 2 → Nat) = fun _ => 0 := by decide

theorem prev_apply (r : Fin 256) (j : Fin 1792) :
    prevWord (grid0.coords t) (iblk m c 0 t) (iblk m c 2 t) (View.ld (iblk m c 1 t) r0_2) r j
      = before (fun q => inP m c (batchOf t) q j) (inS m c (batchOf t) j) (rowOf t r) := by
  unfold prevWord before
  rw [first_row, column_of, first_block ⟨t.val % 32, by omega⟩, rows_apply, shift_apply, halo_apply]
  by_cases hr : r.val = 0
  · by_cases hb : t.val % 32 = 0
    · rw [if_pos (by show 256 * (t.val % 32) + r.val = 0; omega)]
      simp [hr, hb, Scalar.select]
    · rw [if_neg (by show ¬ 256 * (t.val % 32) + r.val = 0; omega)]
      simp only [hr, hb, Scalar.select, decide_true, decide_false]
      exact congrArg (fun z => inP m c (batchOf t) z j) (Fin.ext (by show 8 * (32 * (t.val % 32) - 1) + 7 = 256 * (t.val % 32) + r.val - 1; omega))
  · rw [if_neg (by show ¬ 256 * (t.val % 32) + r.val = 0; omega)]
    simp only [hr, Scalar.select, decide_false]
    exact congrArg (fun z => inP m c (batchOf t) z j) (Fin.ext (by show 256 * (t.val % 32) + (r.val + 256 - 1) % 256 = 256 * (t.val % 32) + r.val - 1; omega))

theorem row_apply (r : Fin 256) :
    mixRow (grid0.coords t) (View.ld (iblk m c 0 t) r0_0) (View.ld (iblk m c 2 t) r0_1) (View.ld (iblk m c 1 t) r0_2) (View.ld (iblk m c 3 t) r0_3) r
      = rowAt m c (batchOf t) (rowOf t r) := by
  funext j
  rw [View.ld_unit_zero (S := S1x256x1792) hz3, View.ld_unit_zero (S := S1x1x1792) hz3, View.ld_unit_zero (S := S1x1792) hz2, mixRow_apply, prev_apply, rows_apply, mu_apply]
  rfl

/-- A row of the lane vectors, as the point loads it. -/
theorem load_row (x : Vec Ideal S8x512 .f32) (l : Fin 512) :
    View.ld x r0_4 (ix2 0 l) = x (ix2 0 l) ∧ View.ld x r0_5 (ix2 0 l) = x (ix2 1 l) ∧ View.ld x r0_6 (ix2 0 l) = x (ix2 2 l)
      ∧ View.ld x r0_7 (ix2 0 l) = x (ix2 3 l) ∧ View.ld x r0_8 (ix2 0 l) = x (ix2 4 l) := by
  have h : 0 + 1 * l.val = l.val := by omega
  refine ⟨congrArg x ?_, congrArg x ?_, congrArg x ?_, congrArg x ?_, congrArg x ?_⟩
  all_goals
    funext a
    apply Fin.ext
    match a with
    | ⟨0, _⟩ => rfl
    | ⟨1, _⟩ => exact h

/-- The values a point's stores share. -/
def actB : FVec Ideal S256x256 .f32 := k0_pay36 (grid0.coords t) (iblk m c 0 t) (iblk m c 1 t) (iblk m c 2 t) (iblk m c 3 t) (iblk m c 4 t) (iblk m c 5 t) (iblk m c 6 t) (iblk m c 7 t)
def rB : FVec Ideal S256x512 .f32 := k0_pay33 (grid0.coords t) (iblk m c 0 t) (iblk m c 1 t) (iblk m c 2 t) (iblk m c 3 t) (iblk m c 4 t) (iblk m c 5 t) (iblk m c 6 t) (iblk m c 7 t)
def kB : FVec Ideal S256x512 .f32 := k0_pay34 (grid0.coords t) (iblk m c 0 t) (iblk m c 1 t) (iblk m c 2 t) (iblk m c 3 t) (iblk m c 4 t) (iblk m c 5 t) (iblk m c 6 t) (iblk m c 7 t)
def vB : FVec Ideal S256x512 .f32 := k0_pay35 (grid0.coords t) (iblk m c 0 t) (iblk m c 1 t) (iblk m c 2 t) (iblk m c 3 t) (iblk m c 4 t) (iblk m c 5 t) (iblk m c 6 t) (iblk m c 7 t)
def rateB : FVec Ideal S256x512 .f32 := k0_pay16 (actB m c t) (k0_pay10 (View.ld (iblk m c 4 t) r0_5)) (View.ld (iblk m c 6 t) r0_9)
def kkB : FVec Ideal S1x512 .f32 := k0_pay11 (View.ld (iblk m c 4 t) r0_6)
def kaB : FVec Ideal S1x512 .f32 := k0_pay12 (View.ld (iblk m c 4 t) r0_7)
def rkB : FVec Ideal S1x512 .f32 := k0_pay13 (View.ld (iblk m c 4 t) r0_8)
def unitB : FVec Ideal S256x512 .f32 := k0_pay25 heads (k0_pay21 (kB m c t) (kkB m c t)) (k0_pay22 (kB m c t) (kkB m c t)) (k0_pay23 (kB m c t) (kkB m c t)) (k0_pay24 (kB m c t) (kkB m c t))
def keyB : FVec Ideal S256x512 .f32 := k0_pay26 (kB m c t) (kaB m c t) (rateB m c t)

variable (r : Fin 256) (l : Fin 512)

theorem actB_apply (k : Fin 256) : actB m c t (ix2 r k) = active (rowAt m c (batchOf t) (rowOf t r)) k := by
  unfold actB k0_pay36
  exact (pay8_apply _ _ _ _ _ r k).trans (congrArg (fun x => active x k) (row_apply m c t r))

theorem rB_apply : rB m c t (ix2 r l) = rAt m c (batchOf t) (rowOf t r) l := by
  unfold rB k0_pay33
  exact (pay5_apply _ _ _ _ _ r l).trans (congrArg (fun x => part 0 512 (by decide) x l) (row_apply m c t r))

theorem kB_apply : kB m c t (ix2 r l) = kAt m c (batchOf t) (rowOf t r) l := by
  unfold kB k0_pay34
  exact (pay6_apply _ _ _ _ _ r l).trans (congrArg (fun x => part 512 512 (by decide) x l) (row_apply m c t r))

theorem vB_apply : vB m c t (ix2 r l) = vAt m c (batchOf t) (rowOf t r) l := by
  unfold vB k0_pay35
  exact (pay7_apply _ _ _ _ _ r l).trans (congrArg (fun x => part 1024 512 (by decide) x l) (row_apply m c t r))

theorem kkB_apply : kkB m c t (ix2 0 l) = inKk m c l := by
  unfold kkB
  rw [row11, (load_row _ l).2.2.1, vectors_apply, V_v11, rowsOf_2]
  rfl

theorem kaB_apply : kaB m c t (ix2 0 l) = inKa m c l := by
  unfold kaB
  rw [row12, (load_row _ l).2.2.2.1, vectors_apply, V_v11, rowsOf_3]
  rfl

theorem rkB_apply : rkB m c t (ix2 0 l) = inRk m c l := by
  unfold rkB
  rw [row13, (load_row _ l).2.2.2.2, vectors_apply, V_v11, rowsOf_4]
  rfl

variable (H : Recurrent m c)
include H

theorem actB_fin (k : Fin 256) : Fin' (actB m c t (ix2 r k)) := by
  rw [actB_apply]
  refine active_fin _ (fun q => ?_) k
  exact H.row _ _ _ (Or.inr ⟨by show 1600 ≤ 1600 + q.val; omega, by show 1600 + q.val < 1664; omega⟩)

theorem kAt_fin (g : Fin 2) (R : Fin 8192) : Fin' (kAt m c g R l) := H.row g R _ (Or.inl (by simp only []; omega))
theorem rAt_fin (g : Fin 2) (R : Fin 8192) : Fin' (rAt m c g R l) := H.row g R _ (Or.inl (by simp only []; omega))
theorem keyed_fin (g : Fin 2) (R : Fin 8192) : Fin' (keyed m c g R l) := keyAt_fin (kAt_fin m c l H g R) (logistic_fin _) (H.ka l)

theorem decay_at : k0_pay15 (k0_pay14 (actB m c t) (k0_pay9 (View.ld (iblk m c 4 t) r0_4)) (View.ld (iblk m c 5 t) r0_9)) (ix2 r l)
    = decayAt m c (batchOf t) (rowOf t r) l := by
  rw [View.ld_unit_zero (S := S256x512) hz2,
    decay_apply _ _ _ r l (actB_fin m c t r H) fun k => by rw [w2_apply]; exact placed_fin (fun q => H.w2 q l) k]
  simp only [actB_apply, w2_apply]
  rw [decay_product, row9, (load_row _ l).1, vectors_apply, V_v11, rowsOf_0]
  rfl

theorem rateB_apply : rateB m c t (ix2 r l) = rateAt m c (batchOf t) (rowOf t r) l := by
  unfold rateB
  rw [View.ld_unit_zero (S := S256x512) hz2,
    rate_apply _ _ _ r l (actB_fin m c t r H) fun k => by rw [a2_apply]; exact placed_fin (fun q => H.a2 q l) k]
  simp only [actB_apply, a2_apply]
  rw [rate_product, row10, (load_row _ l).2.1, vectors_apply, V_v11, rowsOf_1]
  rfl

theorem gate_at : k0_pay2 (k0_pay17 (actB m c t) (View.ld (iblk m c 7 t) r0_9)) (ix3 0 r l) = gateAt m c (batchOf t) (rowOf t r) l := by
  rw [View.ld_unit_zero (S := S256x512) hz2,
    gate_apply _ _ r l (actB_fin m c t r H) fun k => by rw [g2_apply]; exact placed_fin (fun q => H.g2 q l) k]
  simp only [actB_apply, g2_apply]
  rw [gate_product]
  rfl

theorem unitB_apply : unitB m c t (ix2 r l) = unitAt m c (batchOf t) (rowOf t r) l := by
  unfold unitB
  rw [unit_apply _ _ r l fun q => by rw [kB_apply, kkB_apply]; exact (kAt_fin m c q H _ _).mul (H.kk q)]
  simp only [kB_apply, kkB_apply]
  rfl

theorem keyB_apply : keyB m c t (ix2 r l) = keyed m c (batchOf t) (rowOf t r) l := by
  unfold keyB
  rw [key_apply, kB_apply, kaB_apply, rateB_apply m c t r l H]
  rfl

theorem rated_at : k0_pay32 (rateB m c t) heads (k0_pay21 (kB m c t) (kkB m c t)) (k0_pay22 (kB m c t) (kkB m c t)) (k0_pay23 (kB m c t) (kkB m c t)) (k0_pay24 (kB m c t) (kkB m c t)) (ix2 r l)
    = ratedAt m c (batchOf t) (rowOf t r) l := by
  unfold ratedAt
  rw [← unitB_apply m c t r l H, ← rateB_apply m c t r l H]
  unfold unitB
  pointwise [k0_pay32]

theorem bonus_at : k0_pay3 (rB m c t) (vB m c t) (rkB m c t) heads (keyB m c t) (ix3 0 r l) = bonusAt m c (batchOf t) (rowOf t r) l := by
  rw [bonus_apply _ _ _ _ r l fun q => by
    rw [rB_apply, keyB_apply m c t r q H, rkB_apply]
    exact ((rAt_fin m c q H _ _).mul (keyed_fin m c q H _ _)).mul (H.rk q)]
  simp only [rB_apply, keyB_apply m c t r _ H, rkB_apply, vB_apply]
  rfl

end Cert.TimeIdeal.Fold

end
-- ==== Proof.Mix.Results.lean ====
/-
  The recurrence's inputs: the eight result arrays over the extended reals, from what each point stores.
-/
module

public import proofs.«01_k».proof.Proof.Gen.TimeIdeal.Value
public import proofs.«01_k».proof.Proof.Mix.Value
public import Idealize.ShloMosaic.Lib.Pointwise
public import Idealize.ShloMosaic.Lib.Pipeline.Value
public import Idealize.ShloMosaic.Lib.StableHlo.Run
public import Idealize.ShloMosaic.Lib.StableHlo.RunRead

@[expose] public section

set_option maxRecDepth 16384

noncomputable section

namespace Cert.TimeIdeal.Fold

open Cert.TimeIdeal Cert.TimeIdeal.Gen Idealize.ShloMosaic Idealize.ShloMosaic.TcCoe Idealize.SL.Sem Cert.Ffn Cert.Mix

variable (m : (ℓ : Loc nD τ sig) → Buf (Elt Ideal) ℓ) (c : Dev nD)

/-- The point of a row. -/
def pointOf (g : Fin 2) (R : Fin 8192) : Fin grid0.N := ⟨32 * g.val + R.val / 256, lt_of_lt_of_eq (by omega : _ < 64) (by decide)⟩

/-- A row's place in its block. -/
def inBlock (R : Fin 8192) : Fin 256 := ⟨R.val % 256, by omega⟩

theorem batchOf_point (g : Fin 2) (R : Fin 8192) : batchOf (pointOf g R) = g := Fin.ext (by show (32 * g.val + R.val / 256) / 32 = _; omega)
theorem rowOf_point (g : Fin 2) (R : Fin 8192) : rowOf (pointOf g R) (inBlock R) = R :=
  Fin.ext (by show 256 * ((32 * g.val + R.val / 256) % 32) + R.val % 256 = _; omega)

/-- An array whose blocks of rows hold a row's values, read at one entry. -/
theorem whole {A : S2x8192x512.Idx → EReal} {G : Fin 2 → Fin 8192 → Fin 512 → EReal} {W : Fin grid0.N → Fin 3 → Nat}
    {e : Fin grid0.N → S1x256x512.Idx → S2x8192x512.Idx} (hW : ∀ t, W t = ![t.val / 32, t.val % 32, 0])
    (he : ∀ t j a, (e t j a).val = W t a * S1x256x512.size a + 1 * (j a).val)
    (h : ∀ (t : Fin grid0.N) (r : Fin 256) (l : Fin 512), A (e t (ix3 0 r l)) = G (batchOf t) (rowOf t r) l) (g : Fin 2) (R : Fin 8192) (l : Fin 512) :
    A (ix3 g R l) = G g R l := by
  have h' := h (pointOf g R) (inBlock R) l
  rw [batchOf_point, rowOf_point] at h'
  refine (congrArg A (funext fun a => Fin.ext ?_)).trans h'
  rw [he, hW]
  match a with
  | ⟨0, _⟩ => show g.val = (32 * g.val + R.val / 256) / 32 * 1 + 1 * 0; omega
  | ⟨1, _⟩ => show R.val = (32 * g.val + R.val / 256) % 32 * 256 + 1 * (R.val % 256); omega
  | ⟨2, _⟩ => show l.val = 0 * 512 + 1 * l.val; omega

theorem pay31_apply (t : Fin grid0.N) (r : Fin 256) (l : Fin 512) :
    k0_pay31 heads (k0_pay21 (kB m c t) (kkB m c t)) (k0_pay22 (kB m c t) (kkB m c t)) (k0_pay23 (kB m c t) (kkB m c t)) (k0_pay24 (kB m c t) (kkB m c t)) (ix3 0 r l)
      = unitB m c t (ix2 r l) := by
  unfold unitB
  pointwise [k0_pay31]

/-! ## Every output window takes the row blocks in order -/

theorem at8 : ∀ t : Fin grid0.N, win0_8.index t = ![t.val / 32, t.val % 32, 0] := by decide +kernel
theorem at9 : ∀ t : Fin grid0.N, win0_9.index t = ![t.val / 32, t.val % 32, 0] := by decide +kernel
theorem at10 : ∀ t : Fin grid0.N, win0_10.index t = ![t.val / 32, t.val % 32, 0] := by decide +kernel
theorem at11 : ∀ t : Fin grid0.N, win0_11.index t = ![t.val / 32, t.val % 32, 0] := by decide +kernel
theorem at12 : ∀ t : Fin grid0.N, win0_12.index t = ![t.val / 32, t.val % 32, 0] := by decide +kernel
theorem at13 : ∀ t : Fin grid0.N, win0_13.index t = ![t.val / 32, t.val % 32, 0] := by decide +kernel
theorem at14 : ∀ t : Fin grid0.N, win0_14.index t = ![t.val / 32, t.val % 32, 0] := by decide +kernel
theorem at15 : ∀ t : Fin grid0.N, win0_15.index t = ![t.val / 32, t.val % 32, 0] := by decide +kernel
theorem flush8 : ∀ t : Fin grid0.N, win0_8.flush t = true := by decide +kernel
theorem flush9 : ∀ t : Fin grid0.N, win0_9.flush t = true := by decide +kernel
theorem flush10 : ∀ t : Fin grid0.N, win0_10.flush t = true := by decide +kernel
theorem flush11 : ∀ t : Fin grid0.N, win0_11.flush t = true := by decide +kernel
theorem flush12 : ∀ t : Fin grid0.N, win0_12.flush t = true := by decide +kernel
theorem flush13 : ∀ t : Fin grid0.N, win0_13.flush t = true := by decide +kernel
theorem flush14 : ∀ t : Fin grid0.N, win0_14.flush t = true := by decide +kernel
theorem flush15 : ∀ t : Fin grid0.N, win0_15.flush t = true := by decide +kernel

/-! ## The result arrays -/

variable (g : Fin 2) (R : Fin 8192) (l : Fin 512)

theorem res8_apply : (dats m 0 c).arrAt 8 cfg0.N (ix3 g R l) = rAt m c g R l :=
  whole (G := rAt m c) (e := fun t j => ((cfg0.win 8).blk t).view.emb j) at8 (fun _ _ _ => rfl) (fun t r l => by
    refine (congrFun ((Value.blocks8 m c t (flush8 t)).trans (Value.flushed8 m c t)) (ix3 0 r l)).trans ?_
    unfold out0_8
    exact (congrFun (View.canon_unit_zero hz3 _ _) _).trans ((pay27_apply _ r l).trans (rB_apply m c t r l))) g R l

theorem res9_apply (H : Recurrent m c) : (dats m 0 c).arrAt 9 cfg0.N (ix3 g R l) = decayAt m c g R l :=
  whole (G := decayAt m c) (e := fun t j => ((cfg0.win 9).blk t).view.emb j) at9 (fun _ _ _ => rfl) (fun t r l => by
    refine (congrFun ((Value.blocks9 m c t (flush9 t)).trans (Value.flushed9 m c t)) (ix3 0 r l)).trans ?_
    unfold out0_9
    exact (congrFun (View.canon_unit_zero hz3 _ _) _).trans ((pay28_apply _ r l).trans (decay_at m c t r l H))) g R l

theorem res10_apply (H : Recurrent m c) : (dats m 0 c).arrAt 10 cfg0.N (ix3 g R l) = keyed m c g R l :=
  whole (G := keyed m c) (e := fun t j => ((cfg0.win 10).blk t).view.emb j) at10 (fun _ _ _ => rfl) (fun t r l => by
    refine (congrFun ((Value.blocks10 m c t (flush10 t)).trans (Value.flushed10 m c t)) (ix3 0 r l)).trans ?_
    unfold out0_10
    exact (congrFun (View.canon_unit_zero hz3 _ _) _).trans ((pay29_apply _ _ _ r l).trans (keyB_apply m c t r l H))) g R l

theorem res11_apply : (dats m 0 c).arrAt 11 cfg0.N (ix3 g R l) = vAt m c g R l :=
  whole (G := vAt m c) (e := fun t j => ((cfg0.win 11).blk t).view.emb j) at11 (fun _ _ _ => rfl) (fun t r l => by
    refine (congrFun ((Value.blocks11 m c t (flush11 t)).trans (Value.flushed11 m c t)) (ix3 0 r l)).trans ?_
    unfold out0_11
    exact (congrFun (View.canon_unit_zero hz3 _ _) _).trans ((pay30_apply _ r l).trans (vB_apply m c t r l))) g R l

theorem res12_apply (H : Recurrent m c) : (dats m 0 c).arrAt 12 cfg0.N (ix3 g R l) = unitAt m c g R l :=
  whole (G := unitAt m c) (e := fun t j => ((cfg0.win 12).blk t).view.emb j) at12 (fun _ _ _ => rfl) (fun t r l => by
    refine (congrFun ((Value.blocks12 m c t (flush12 t)).trans (Value.flushed12 m c t)) (ix3 0 r l)).trans ?_
    unfold out0_12
    exact (congrFun (View.canon_unit_zero hz3 _ _) _).trans ((pay31_apply m c t r l).trans (unitB_apply m c t r l H))) g R l

theorem res13_apply (H : Recurrent m c) : (dats m 0 c).arrAt 13 cfg0.N (ix3 g R l) = ratedAt m c g R l :=
  whole (G := ratedAt m c) (e := fun t j => ((cfg0.win 13).blk t).view.emb j) at13 (fun _ _ _ => rfl) (fun t r l => by
    refine (congrFun ((Value.blocks13 m c t (flush13 t)).trans (Value.flushed13 m c t)) (ix3 0 r l)).trans ?_
    unfold out0_13
    exact (congrFun (View.canon_unit_zero hz3 _ _) _).trans ((pay1_apply _ r l).trans (rated_at m c t r l H))) g R l

theorem res14_apply (H : Recurrent m c) : (dats m 0 c).arrAt 14 cfg0.N (ix3 g R l) = gateAt m c g R l :=
  whole (G := gateAt m c) (e := fun t j => ((cfg0.win 14).blk t).view.emb j) at14 (fun _ _ _ => rfl) (fun t r l => by
    refine (congrFun ((Value.blocks14 m c t (flush14 t)).trans (Value.flushed14 m c t)) (ix3 0 r l)).trans ?_
    unfold out0_14
    exact (congrFun (View.canon_unit_zero hz3 _ _) _).trans (gate_at m c t r l H)) g R l

theorem res15_apply (H : Recurrent m c) : (dats m 0 c).arrAt 15 cfg0.N (ix3 g R l) = bonusAt m c g R l :=
  whole (G := bonusAt m c) (e := fun t j => ((cfg0.win 15).blk t).view.emb j) at15 (fun _ _ _ => rfl) (fun t r l => by
    refine (congrFun ((Value.blocks15 m c t (flush15 t)).trans (Value.flushed15 m c t)) (ix3 0 r l)).trans ?_
    unfold out0_15
    exact (congrFun (View.canon_unit_zero hz3 _ _) _).trans (bonus_at m c t r l H)) g R l

end Cert.TimeIdeal.Fold

end
-- ==== Proof.Mix.Ref.lean ====
/-
  The recurrence's inputs as the reference computes them, over the extended reals.
-/
module

public import proofs.«01_k».proof.Proof.Gen.TimeRefIdeal.Run
public import proofs.«01_k».proof.Proof.Gen.TimeRefIdeal.Read
public import proofs.«01_k».proof.Proof.Mix.Spec
public import Idealize.ShloMosaic.Lib.Pointwise

@[expose] public section

set_option maxRecDepth 16384

noncomputable section

namespace Cert.TimeRefIdeal.Ref

open Cert.TimeRefIdeal Cert.TimeRefIdeal.Gen Idealize.ShloMosaic Idealize.ShloMosaic.TcCoe Idealize.SL.Sem Cert.Ffn Cert.Mix
open Cert.TimeRefIdeal.Read

variable (p : FVec Ideal S2x8192x1792 .f32) (s : FVec Ideal S2x1x1792 .f32) (mu : FVec Ideal S1792 .f32) (w0 : FVec Ideal S512 .f32) (w2 : FVec Ideal S64x512 .f32)
  (a0 : FVec Ideal S512 .f32) (a2 : FVec Ideal S64x512 .f32) (g2 : FVec Ideal S128x512 .f32) (kk ka : FVec Ideal S512 .f32) (rk : FVec Ideal S8x64 .f32)
  (g : Fin 2) (R : Fin 8192) (l : Fin 512)

theorem before_apply (j : Fin 1792) : val_main_v1 (F := Ideal) p s (ix3 g R j) = before (fun q => p (ix3 g q j)) (s (ix3 g 0 j)) R := by
  unfold before
  pointwise [val_main_v1, val_main_v0]
  by_cases e : R.val = 0
  · rw [dif_pos (by omega), if_pos e]
    exact congrArg (fun z => s (ix3 g z j)) (Subsingleton.elim (α := Fin 1) _ _)
  · rw [dif_neg (by omega), if_neg e]

/-- The mixed row. -/
def row (j : Fin 1792) : EReal := val_main_v6 (F := Ideal) p s mu (ix3 g R j)

theorem row_apply (j : Fin 1792) : row p s mu g R j = mix (p (ix3 g R j)) (mu (ix1 j)) (before (fun q => p (ix3 g q j)) (s (ix3 g 0 j)) R) := by
  rw [← before_apply]
  unfold mix row
  pointwise [val_main_v6, val_main_v5, val_main_v4, val_main_v3, val_main_v2]

theorem r_apply : val_main_v7 (F := Ideal) p s mu (ix3 g R l) = part 0 512 (by decide) (row p s mu g R) l := by
  unfold part row
  pointwise [val_main_v7]

theorem k_apply : val_main_v8 (F := Ideal) p s mu (ix3 g R l) = part 512 512 (by decide) (row p s mu g R) l := by
  unfold part row
  pointwise [val_main_v8]

theorem v_apply : val_main_v9 (F := Ideal) p s mu (ix3 g R l) = part 1024 512 (by decide) (row p s mu g R) l := by
  unfold part row
  pointwise [val_main_v9]

theorem decay_sum : val_main_v14 (F := Ideal) p s mu w2 (ix3 g R l) = ∑ k, Ideal.tanh (part 1536 64 (by decide) (row p s mu g R) k) * w2 (ix2 k l) := by
  unfold part row
  pointwise [val_main_v14, val_main_v13, val_main_v10]

theorem decay_apply : val_main_v25 (F := Ideal) p s mu w0 w2 (ix3 g R l) = decayOf (fun q => w0 (ix1 q)) (fun q n => w2 (ix2 q n)) (row p s mu g R) l := by
  unfold decayOf decay softplus
  rw [← decay_sum]
  pointwise [val_main_v25, val_main_v24, val_main_v23, val_main_v22, val_main_v21, val_main_v20, val_main_v19, val_main_v18, val_main_v17, val_main_v16, val_main_v15, val_main_cst, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11]
  rw [if_neg fun h => h rfl]
  simp only [zero_sub]
  rfl

theorem rate_sum : val_main_v26 (F := Ideal) p s mu a2 (ix3 g R l) = ∑ k, part 1600 64 (by decide) (row p s mu g R) k * a2 (ix2 k l) := by
  unfold part row
  pointwise [val_main_v26, val_main_v11]

theorem rate_apply : val_main_v35 (F := Ideal) p s mu a0 a2 (ix3 g R l) = rateOf (fun q => a0 (ix1 q)) (fun q n => a2 (ix2 q n)) (row p s mu g R) l := by
  unfold rateOf Ideal.logistic
  rw [← rate_sum]
  pointwise [val_main_v35, val_main_v34, val_main_v33, val_main_v32, val_main_v31, val_main_v30, val_main_v29, val_main_v28, val_main_v27, val_main_cst_0, val_main_cst_1]

theorem gate_apply : val_main_v42 (F := Ideal) p s mu g2 (ix3 g R l) = gateOf (fun q n => g2 (ix2 q n)) (row p s mu g R) l := by
  unfold gateOf Ideal.logistic part row
  pointwise [val_main_v42, val_main_v41, val_main_v40, val_main_v39, val_main_v38, val_main_v37, val_main_v36, val_main_cst_2, val_main_cst_3, val_main_v12]

theorem unit_apply : val_main_v74 (F := Ideal) p s mu kk (ix3 g R l) = unit (part 512 512 (by decide) (row p s mu g R)) (fun q => kk (ix1 q)) l := by
  unfold unit headSum Cert.Mix.floor
  simp only [← k_apply]
  pointwise [val_main_v74, val_main_v54, val_main_v53, val_main_v52, val_main_v51, val_main_v50, val_main_v49, val_main_v48, val_main_v47, val_main_v46, val_main_v45, val_main_v44, val_main_v43, val_main_cst_4, val_main_cst_5]

theorem key_apply : val_main_v62 (F := Ideal) p s mu a0 a2 ka (ix3 g R l)
    = keyAt (part 512 512 (by decide) (row p s mu g R) l) (rateOf (fun q => a0 (ix1 q)) (fun q n => a2 (ix2 q n)) (row p s mu g R) l) (ka (ix1 l)) := by
  unfold keyAt
  rw [← k_apply, ← rate_apply]
  pointwise [val_main_v62, val_main_v61, val_main_v60, val_main_v59, val_main_v58, val_main_v57, val_main_v56, val_main_v55, val_main_cst_6, val_main_cst_7]

theorem rated_apply : val_main_v77 (F := Ideal) p s mu a0 a2 kk (ix3 g R l)
    = val_main_v74 (F := Ideal) p s mu kk (ix3 g R l) * val_main_v35 (F := Ideal) p s mu a0 a2 (ix3 g R l) := by
  pointwise [val_main_v77, val_main_v76, val_main_v75, val_main_v74]

theorem bonus_apply : val_main_v78 (F := Ideal) p s mu a0 a2 ka rk (ix3 g R l)
    = bonus (fun q => val_main_v7 (F := Ideal) p s mu (ix3 g R q)) (fun q => val_main_v62 (F := Ideal) p s mu a0 a2 ka (ix3 g R q))
        (fun q => rk (ix2 ⟨q.val / 64, by omega⟩ ⟨q.val % 64, by omega⟩)) (fun q => val_main_v9 (F := Ideal) p s mu (ix3 g R q)) l := by
  unfold bonus headSum
  pointwise [val_main_v78, val_main_v73, val_main_v72, val_main_v71, val_main_v70, val_main_v69, val_main_v68, val_main_v67, val_main_v66, val_main_v65, val_main_v64, val_main_v63, val_main_cst_8]
  refine congrArg (· * val_main_v9 (F := Ideal) p s mu (ix3 g R l)) (Finset.sum_congr rfl fun q _ => congrArg (HMul.hMul (α := EReal) (β := EReal) (γ := EReal) _) ?_)
  exact congrArg₂ (fun a b => rk (ix2 a b)) (Fin.ext (by simp only []; omega)) (Fin.ext (by simp only []; omega))

end Cert.TimeRefIdeal.Ref

end
-- ==== Proof.Mix.Claim.lean ====
/-
  The recurrence's inputs: the kernel's eight result arrays and the reference's are the same functions of the arguments,
  where what enters a sum is finite.
-/
module

public import proofs.«01_k».proof.Defs
public import proofs.«01_k».proof.Proof.Mix.Results
public import proofs.«01_k».proof.Proof.Mix.Ref
public import proofs.«01_k».proof.Proof.Ffn.RoutedClaim
public import proofs.«01_k».proof.Proof.Gen.Time.Frame
public import proofs.«01_k».proof.Proof.Gen.Time
public import proofs.«01_k».proof.Proof.Gen.TimeIdeal
public import proofs.«01_k».proof.Proof.Gen.TimeRefIdeal
public import proofs.«01_k».proof.Proof.Gen.Pre_recurrent

@[expose] public section

set_option maxRecDepth 16384

noncomputable section

namespace Cert.Proof.Time

open Idealize.ShloMosaic Idealize.ShloMosaic.TcCoe Idealize.SL.Sem Cert.Ffn Cert.TimeIdeal.Fold Cert.TimeRefIdeal.Read

theorem frame_ref : Cert.quiescent_TimeRefIdeal := fun m ρ _ =>
  (θ_run Cert.TimeRefIdeal.defs _ _).mono (fun r h => ⟨fun c => (h c).2.2.2.2.2.2.2.2, sem_eq_zero_of_no_sems (by decide) r.2⟩)
    (Cert.TimeRefIdeal.Value.run (F := Ideal) m ρ)

variable (m : (ℓ : Loc Cert.TimeIdeal.nD Cert.TimeIdeal.τ Cert.TimeIdeal.sig) → Buf (Elt Ideal) ℓ) (c : Dev Cert.TimeIdeal.nD)

/-! ## The arguments -/

abbrev inputs : FVec Ideal Cert.TimeRefIdeal.S2x8192x1792 .f32 := m ((c.tc : Thread Cert.TimeIdeal.nD Cert.TimeIdeal.τ).loc Cert.TimeIdeal.main_arg0)
abbrev carried : FVec Ideal Cert.TimeRefIdeal.S2x1x1792 .f32 := m ((c.tc : Thread Cert.TimeIdeal.nD Cert.TimeIdeal.τ).loc Cert.TimeIdeal.main_arg1)
abbrev mixing : FVec Ideal Cert.TimeRefIdeal.S1792 .f32 := m ((c.tc : Thread Cert.TimeIdeal.nD Cert.TimeIdeal.τ).loc Cert.TimeIdeal.main_arg2)
abbrev decay0 : FVec Ideal Cert.TimeRefIdeal.S512 .f32 := m ((c.tc : Thread Cert.TimeIdeal.nD Cert.TimeIdeal.τ).loc Cert.TimeIdeal.main_arg3)
abbrev decayW : FVec Ideal Cert.TimeRefIdeal.S64x512 .f32 := m ((c.tc : Thread Cert.TimeIdeal.nD Cert.TimeIdeal.τ).loc Cert.TimeIdeal.main_arg4)
abbrev rate0 : FVec Ideal Cert.TimeRefIdeal.S512 .f32 := m ((c.tc : Thread Cert.TimeIdeal.nD Cert.TimeIdeal.τ).loc Cert.TimeIdeal.main_arg5)
abbrev rateW : FVec Ideal Cert.TimeRefIdeal.S64x512 .f32 := m ((c.tc : Thread Cert.TimeIdeal.nD Cert.TimeIdeal.τ).loc Cert.TimeIdeal.main_arg6)
abbrev gateW : FVec Ideal Cert.TimeRefIdeal.S128x512 .f32 := m ((c.tc : Thread Cert.TimeIdeal.nD Cert.TimeIdeal.τ).loc Cert.TimeIdeal.main_arg7)
abbrev unitW : FVec Ideal Cert.TimeRefIdeal.S512 .f32 := m ((c.tc : Thread Cert.TimeIdeal.nD Cert.TimeIdeal.τ).loc Cert.TimeIdeal.main_arg8)
abbrev keyW : FVec Ideal Cert.TimeRefIdeal.S512 .f32 := m ((c.tc : Thread Cert.TimeIdeal.nD Cert.TimeIdeal.τ).loc Cert.TimeIdeal.main_arg9)
abbrev bonusW : FVec Ideal Cert.TimeRefIdeal.S8x64 .f32 := m ((c.tc : Thread Cert.TimeIdeal.nD Cert.TimeIdeal.τ).loc Cert.TimeIdeal.main_arg10)

/-! ## The precondition, entry by entry -/

/-- A summed lane is one of the first 1024 or one of the 64 from 1600 on. -/
theorem summed_cases {P : Fin 1792 → Prop} (low : ∀ q : Fin 1024, P ⟨q.val, by omega⟩) (high : ∀ q : Fin 64, P ⟨1600 + q.val, by omega⟩) (j : Fin 1792) (hj : Summed j) :
    P j := by
  rcases hj with hj | hj
  · exact low ⟨j.val, hj⟩
  · have e : (⟨1600 + (j.val - 1600), by omega⟩ : Fin 1792) = j := Fin.ext (by simp only []; omega)
    exact e ▸ high ⟨j.val - 1600, by omega⟩

theorem finite (h : Cert.Pre_TimeIdeal m) : Recurrent m c := by
  obtain ⟨h1, h2, h3, h4, h5, h6, h7, h8, h9, h10, h11, h12⟩ := h c
  exact {
    p := fun g R => summed_cases (fun q => by
      refine Routed.fin_of_word (x := inputs m c (ix3 g R ⟨q.val, by omega⟩)) (Eq.trans ?_ (congrFun h1 (ix3 g R q)))
      pointwise [Cert.Pre_recurrent.fn, Cert.Pre_recurrent.fn_part1, Cert.Pre_recurrent.fn_part2]
      rfl) (fun q => by
      refine Routed.fin_of_word (x := inputs m c (ix3 g R ⟨1600 + q.val, by omega⟩)) (Eq.trans ?_ (congrFun h2 (ix3 g R q)))
      pointwise [Cert.Pre_recurrent.fn, Cert.Pre_recurrent.fn_part1, Cert.Pre_recurrent.fn_part2]
      rfl)
    s := fun g => summed_cases (fun q => by
      refine Routed.fin_of_word (x := carried m c (ix3 g 0 ⟨q.val, by omega⟩)) (Eq.trans ?_ (congrFun h3 (ix3 g 0 q)))
      pointwise [Cert.Pre_recurrent.fn, Cert.Pre_recurrent.fn_part1, Cert.Pre_recurrent.fn_part2]
      rfl) (fun q => by
      refine Routed.fin_of_word (x := carried m c (ix3 g 0 ⟨1600 + q.val, by omega⟩)) (Eq.trans ?_ (congrFun h4 (ix3 g 0 q)))
      pointwise [Cert.Pre_recurrent.fn, Cert.Pre_recurrent.fn_part1, Cert.Pre_recurrent.fn_part2]
      rfl)
    mu := summed_cases (fun q => by
      refine Routed.fin_of_word (x := mixing m c (ix1 ⟨q.val, by omega⟩)) (Eq.trans ?_ (congrFun h5 (ix1 q)))
      pointwise [Cert.Pre_recurrent.fn, Cert.Pre_recurrent.fn_part1, Cert.Pre_recurrent.fn_part2]
      rfl) (fun q => by
      refine Routed.fin_of_word (x := mixing m c (ix1 ⟨1600 + q.val, by omega⟩)) (Eq.trans ?_ (congrFun h6 (ix1 q)))
      pointwise [Cert.Pre_recurrent.fn, Cert.Pre_recurrent.fn_part1, Cert.Pre_recurrent.fn_part2]
      rfl)
    w2 := fun q l => Routed.fin_of_word (x := decayW m c (ix2 q l)) (congrFun h7 (ix2 q l))
    a2 := fun q l => Routed.fin_of_word (x := rateW m c (ix2 q l)) (congrFun h8 (ix2 q l))
    g2 := fun q l => Routed.fin_of_word (x := gateW m c (ix2 q l)) (congrFun h9 (ix2 q l))
    kk := fun l => Routed.fin_of_word (x := unitW m c (ix1 l)) (congrFun h10 (ix1 l))
    ka := fun l => Routed.fin_of_word (x := keyW m c (ix1 l)) (congrFun h11 (ix1 l))
    rk := fun l => Routed.fin_of_word (x := bonusW m c (ix2 ⟨l.val / 64, by omega⟩ ⟨l.val % 64, by omega⟩)) (congrFun h12 (ix2 ⟨l.val / 64, by omega⟩ ⟨l.val % 64, by omega⟩)) }

/-! ## The results -/

theorem row_same (g : Fin 2) (R : Fin 8192) : Cert.TimeRefIdeal.Ref.row (inputs m c) (carried m c) (mixing m c) g R = rowAt m c g R := by
  funext j
  rw [Cert.TimeRefIdeal.Ref.row_apply]
  rfl

/-- Arrays that agree entry by entry. -/
theorem same_of {A B : FVec Ideal Cert.TimeRefIdeal.S2x8192x512 .f32} (h : ∀ (g : Fin 2) (R : Fin 8192) (l : Fin 512), A (ix3 g R l) = B (ix3 g R l)) : A = B := by
  funext i
  idx_vars i
  exact h _ _ _

section entries

variable (g : Fin 2) (R : Fin 8192) (l : Fin 512)

theorem r_same : val_main_v7 (F := Ideal) (inputs m c) (carried m c) (mixing m c) (ix3 g R l) = rAt m c g R l := by
  rw [Cert.TimeRefIdeal.Ref.r_apply, row_same]
  rfl

theorem decay_same : val_main_v25 (F := Ideal) (inputs m c) (carried m c) (mixing m c) (decay0 m c) (decayW m c) (ix3 g R l) = decayAt m c g R l := by
  rw [Cert.TimeRefIdeal.Ref.decay_apply, row_same]
  rfl

theorem v_same : val_main_v9 (F := Ideal) (inputs m c) (carried m c) (mixing m c) (ix3 g R l) = vAt m c g R l := by
  rw [Cert.TimeRefIdeal.Ref.v_apply, row_same]
  rfl

theorem rate_same : val_main_v35 (F := Ideal) (inputs m c) (carried m c) (mixing m c) (rate0 m c) (rateW m c) (ix3 g R l) = rateAt m c g R l := by
  rw [Cert.TimeRefIdeal.Ref.rate_apply, row_same]
  rfl

theorem unit_same : val_main_v74 (F := Ideal) (inputs m c) (carried m c) (mixing m c) (unitW m c) (ix3 g R l) = unitAt m c g R l := by
  rw [Cert.TimeRefIdeal.Ref.unit_apply, row_same]
  rfl

theorem key_same : val_main_v62 (F := Ideal) (inputs m c) (carried m c) (mixing m c) (rate0 m c) (rateW m c) (keyW m c) (ix3 g R l) = keyed m c g R l := by
  rw [Cert.TimeRefIdeal.Ref.key_apply, row_same]
  rfl

theorem gate_same : val_main_v42 (F := Ideal) (inputs m c) (carried m c) (mixing m c) (gateW m c) (ix3 g R l) = gateAt m c g R l := by
  rw [Cert.TimeRefIdeal.Ref.gate_apply, row_same]
  rfl

theorem rated_same : val_main_v77 (F := Ideal) (inputs m c) (carried m c) (mixing m c) (rate0 m c) (rateW m c) (unitW m c) (ix3 g R l) = ratedAt m c g R l := by
  rw [Cert.TimeRefIdeal.Ref.rated_apply, unit_same, rate_same]
  rfl

theorem bonus_same : val_main_v78 (F := Ideal) (inputs m c) (carried m c) (mixing m c) (rate0 m c) (rateW m c) (keyW m c) (bonusW m c) (ix3 g R l) = bonusAt m c g R l := by
  rw [Cert.TimeRefIdeal.Ref.bonus_apply]
  simp only [r_same, key_same, v_same]
  rfl

end entries

set_option maxHeartbeats 4000000 in
/-- Where the arguments agree, the reference's results are the kernel's. -/
theorem algebraic : Cert.algebraic_TimeIdeal_TimeRefIdeal := by
  intro m ρ m' ρ' hpre hag
  refine ⟨fun c => (Cert.TimeIdeal.Gen.dats m 0 c).arrAt 8 Cert.TimeIdeal.cfg0.N,
    fun c => (Cert.TimeIdeal.Gen.dats m 0 c).arrAt 9 Cert.TimeIdeal.cfg0.N,
    fun c => (Cert.TimeIdeal.Gen.dats m 0 c).arrAt 10 Cert.TimeIdeal.cfg0.N,
    fun c => (Cert.TimeIdeal.Gen.dats m 0 c).arrAt 11 Cert.TimeIdeal.cfg0.N,
    fun c => (Cert.TimeIdeal.Gen.dats m 0 c).arrAt 12 Cert.TimeIdeal.cfg0.N,
    fun c => (Cert.TimeIdeal.Gen.dats m 0 c).arrAt 13 Cert.TimeIdeal.cfg0.N,
    fun c => (Cert.TimeIdeal.Gen.dats m 0 c).arrAt 14 Cert.TimeIdeal.cfg0.N,
    fun c => (Cert.TimeIdeal.Gen.dats m 0 c).arrAt 15 Cert.TimeIdeal.cfg0.N, Cert.TimeIdeal.Value.run_blocks (F := Ideal) m ρ, ?_⟩
  refine (θ_run Cert.TimeRefIdeal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2.1.trans ?_, (h c).2.2.2.2.2.2.2.2⟩)
    (Cert.TimeRefIdeal.Value.run (F := Ideal) m' ρ')
  all_goals obtain ⟨a0, a1, a2, a3, a4, a5, a6, a7, a8, a9, a10⟩ := hag c
  · rw [val_main_v7_eq]
    show val_main_v7 (F := Ideal) (m' ((c.tc : Thread Cert.TimeRefIdeal.nD Cert.TimeRefIdeal.τ).loc Cert.TimeRefIdeal.main_arg0)) (m' ((c.tc : Thread Cert.TimeRefIdeal.nD Cert.TimeRefIdeal.τ).loc Cert.TimeRefIdeal.main_arg1)) (m' ((c.tc : Thread Cert.TimeRefIdeal.nD Cert.TimeRefIdeal.τ).loc Cert.TimeRefIdeal.main_arg2)) = _
    rw [a0, a1, a2]
    exact same_of fun g R l => (r_same m c g R l).trans (res8_apply m c g R l).symm
  · rw [val_main_v25_eq]
    show val_main_v25 (F := Ideal) (m' ((c.tc : Thread Cert.TimeRefIdeal.nD Cert.TimeRefIdeal.τ).loc Cert.TimeRefIdeal.main_arg0)) (m' ((c.tc : Thread Cert.TimeRefIdeal.nD Cert.TimeRefIdeal.τ).loc Cert.TimeRefIdeal.main_arg1)) (m' ((c.tc : Thread Cert.TimeRefIdeal.nD Cert.TimeRefIdeal.τ).loc Cert.TimeRefIdeal.main_arg2)) (m' ((c.tc : Thread Cert.TimeRefIdeal.nD Cert.TimeRefIdeal.τ).loc Cert.TimeRefIdeal.main_arg3)) (m' ((c.tc : Thread Cert.TimeRefIdeal.nD Cert.TimeRefIdeal.τ).loc Cert.TimeRefIdeal.main_arg4)) = _
    rw [a0, a1, a2, a3, a4]
    exact same_of fun g R l => (decay_same m c g R l).trans (res9_apply m c g R l (finite m c hpre)).symm
  · rw [val_main_v62_eq]
    show val_main_v62 (F := Ideal) (m' ((c.tc : Thread Cert.TimeRefIdeal.nD Cert.TimeRefIdeal.τ).loc Cert.TimeRefIdeal.main_arg0)) (m' ((c.tc : Thread Cert.TimeRefIdeal.nD Cert.TimeRefIdeal.τ).loc Cert.TimeRefIdeal.main_arg1)) (m' ((c.tc : Thread Cert.TimeRefIdeal.nD Cert.TimeRefIdeal.τ).loc Cert.TimeRefIdeal.main_arg2)) (m' ((c.tc : Thread Cert.TimeRefIdeal.nD Cert.TimeRefIdeal.τ).loc Cert.TimeRefIdeal.main_arg5)) (m' ((c.tc : Thread Cert.TimeRefIdeal.nD Cert.TimeRefIdeal.τ).loc Cert.TimeRefIdeal.main_arg6)) (m' ((c.tc : Thread Cert.TimeRefIdeal.nD Cert.TimeRefIdeal.τ).loc Cert.TimeRefIdeal.main_arg9)) = _
    rw [a0, a1, a2, a5, a6, a9]
    exact same_of fun g R l => (key_same m c g R l).trans (res10_apply m c g R l (finite m c hpre)).symm
  · rw [val_main_v9_eq]
    show val_main_v9 (F := Ideal) (m' ((c.tc : Thread Cert.TimeRefIdeal.nD Cert.TimeRefIdeal.τ).loc Cert.TimeRefIdeal.main_arg0)) (m' ((c.tc : Thread Cert.TimeRefIdeal.nD Cert.TimeRefIdeal.τ).loc Cert.TimeRefIdeal.main_arg1)) (m' ((c.tc : Thread Cert.TimeRefIdeal.nD Cert.TimeRefIdeal.τ).loc Cert.TimeRefIdeal.main_arg2)) = _
    rw [a0, a1, a2]
    exact same_of fun g R l => (v_same m c g R l).trans (res11_apply m c g R l).symm
  · rw [val_main_v74_eq]
    show val_main_v74 (F := Ideal) (m' ((c.tc : Thread Cert.TimeRefIdeal.nD Cert.TimeRefIdeal.τ).loc Cert.TimeRefIdeal.main_arg0)) (m' ((c.tc : Thread Cert.TimeRefIdeal.nD Cert.TimeRefIdeal.τ).loc Cert.TimeRefIdeal.main_arg1)) (m' ((c.tc : Thread Cert.TimeRefIdeal.nD Cert.TimeRefIdeal.τ).loc Cert.TimeRefIdeal.main_arg2)) (m' ((c.tc : Thread Cert.TimeRefIdeal.nD Cert.TimeRefIdeal.τ).loc Cert.TimeRefIdeal.main_arg8)) = _
    rw [a0, a1, a2, a8]
    exact same_of fun g R l => (unit_same m c g R l).trans (res12_apply m c g R l (finite m c hpre)).symm
  · rw [val_main_v77_eq]
    show val_main_v77 (F := Ideal) (m' ((c.tc : Thread Cert.TimeRefIdeal.nD Cert.TimeRefIdeal.τ).loc Cert.TimeRefIdeal.main_arg0)) (m' ((c.tc : Thread Cert.TimeRefIdeal.nD Cert.TimeRefIdeal.τ).loc Cert.TimeRefIdeal.main_arg1)) (m' ((c.tc : Thread Cert.TimeRefIdeal.nD Cert.TimeRefIdeal.τ).loc Cert.TimeRefIdeal.main_arg2)) (m' ((c.tc : Thread Cert.TimeRefIdeal.nD Cert.TimeRefIdeal.τ).loc Cert.TimeRefIdeal.main_arg5)) (m' ((c.tc : Thread Cert.TimeRefIdeal.nD Cert.TimeRefIdeal.τ).loc Cert.TimeRefIdeal.main_arg6)) (m' ((c.tc : Thread Cert.TimeRefIdeal.nD Cert.TimeRefIdeal.τ).loc Cert.TimeRefIdeal.main_arg8)) = _
    rw [a0, a1, a2, a5, a6, a8]
    exact same_of fun g R l => (rated_same m c g R l).trans (res13_apply m c g R l (finite m c hpre)).symm
  · rw [val_main_v42_eq]
    show val_main_v42 (F := Ideal) (m' ((c.tc : Thread Cert.TimeRefIdeal.nD Cert.TimeRefIdeal.τ).loc Cert.TimeRefIdeal.main_arg0)) (m' ((c.tc : Thread Cert.TimeRefIdeal.nD Cert.TimeRefIdeal.τ).loc Cert.TimeRefIdeal.main_arg1)) (m' ((c.tc : Thread Cert.TimeRefIdeal.nD Cert.TimeRefIdeal.τ).loc Cert.TimeRefIdeal.main_arg2)) (m' ((c.tc : Thread Cert.TimeRefIdeal.nD Cert.TimeRefIdeal.τ).loc Cert.TimeRefIdeal.main_arg7)) = _
    rw [a0, a1, a2, a7]
    exact same_of fun g R l => (gate_same m c g R l).trans (res14_apply m c g R l (finite m c hpre)).symm
  · rw [val_main_v78_eq]
    show val_main_v78 (F := Ideal) (m' ((c.tc : Thread Cert.TimeRefIdeal.nD Cert.TimeRefIdeal.τ).loc Cert.TimeRefIdeal.main_arg0)) (m' ((c.tc : Thread Cert.TimeRefIdeal.nD Cert.TimeRefIdeal.τ).loc Cert.TimeRefIdeal.main_arg1)) (m' ((c.tc : Thread Cert.TimeRefIdeal.nD Cert.TimeRefIdeal.τ).loc Cert.TimeRefIdeal.main_arg2)) (m' ((c.tc : Thread Cert.TimeRefIdeal.nD Cert.TimeRefIdeal.τ).loc Cert.TimeRefIdeal.main_arg5)) (m' ((c.tc : Thread Cert.TimeRefIdeal.nD Cert.TimeRefIdeal.τ).loc Cert.TimeRefIdeal.main_arg6)) (m' ((c.tc : Thread Cert.TimeRefIdeal.nD Cert.TimeRefIdeal.τ).loc Cert.TimeRefIdeal.main_arg9)) (m' ((c.tc : Thread Cert.TimeRefIdeal.nD Cert.TimeRefIdeal.τ).loc Cert.TimeRefIdeal.main_arg10)) = _
    rw [a0, a1, a2, a5, a6, a9, a10]
    exact same_of fun g R l => (bonus_same m c g R l).trans (res15_apply m c g R l (finite m c hpre)).symm

end Cert.Proof.Time

end
-- ==== Proof.Turn.Take.lean ====
/-
  Whole columns of a matrix taken at index words, read at an entry.
-/
module

public import proofs.«01_k».proof.Proof.Mix.Laid

@[expose] public section

noncomputable section

namespace Cert.Turn

open Idealize.ShloMosaic hiding ix1 ix2
open Idealize.ShloMosaic.ValueIdx

/-- Where the index word of place `c` is the column number `b`, entry `(y, c)` of the columns taken is the matrix's entry `(y, b)`. -/
theorem taken {α : Type} {M N n : Nat} (d : GatherDims (Routing.shape2 M N) (Routing.shape2 n 1) (Routing.shape2 M n)) (hoff : d.offsetDims = [0])
    (hcoll : d.collapsedSliceDims = [1]) (hob : d.operandBatchingDims = []) (hsim : d.startIndexMap = [1]) (hivd : d.indexVectorDim = 1)
    (x : (Routing.shape2 M N).Idx → α) (idx : IVec (Routing.shape2 n 1) 32) (y : Fin M) (c : Fin n) (b : Fin N)
    (hb : idx (ix2 c (0 : Fin 1)) = BitVec.ofNat 32 b.val) (hN : N < 2 ^ 31) : Host.gather d x idx (ix2 y c) = x (ix2 y b) := by
  have none_batch : ∀ a, a ∉ d.operandBatchingDims := fun a => by rw [hob]; exact List.not_mem_nil
  have batch_axis : ∀ k ∈ d.batchDims, k = (1 : Fin 2) := fun k hk => by
    have hk' : k ∉ d.offsetDims := of_decide_eq_true (List.mem_filter.1 hk).2
    rw [hoff] at hk'
    have h0 : k.val ≠ 0 := fun e => hk' (List.mem_singleton.2 (Fin.ext e))
    have h2 : k.val < 2 := k.isLt
    exact Fin.ext (by show k.val = 1; omega)
  have offset_axis : ∀ k ∈ d.offsetDims, k = (0 : Fin 2) := fun k hk => by rw [hoff] at hk; exact List.mem_singleton.1 hk
  have at0 : ∀ X : Fin 2, X = 0 → (ix2 y c X).val = y.val := fun X h => by subst h; rfl
  have at1 : ∀ X : Fin 2, X = 1 → (ix2 y c X).val = c.val := fun X h => by subst h; rfl
  unfold Host.gather
  refine congrArg x (funext fun a => Fin.ext ?_)
  match a with
  | ⟨0, _⟩ =>
    have hk : (0 : Fin 2) ∈ d.sKept := (d.mem_sKept 0).2 ⟨fun h => Nat.zero_ne_one (congrArg Fin.val (List.mem_singleton.1 (hcoll ▸ h))), none_batch 0⟩
    have hm : (0 : Fin 2) ∉ d.startIndexMap := fun h => Nat.zero_ne_one (congrArg Fin.val (List.mem_singleton.1 (hsim ▸ h)))
    show d.start (ix2 y c) idx 0 + d.batchCoord (ix2 y c) 0 + d.offCoord (ix2 y c) 0 = y.val
    rw [d.batchCoord_eq_zero _ _ (none_batch 0), Nat.add_zero]
    unfold GatherDims.start GatherDims.offCoord
    rw [dif_neg hm, dif_pos hk, Nat.zero_add]
    exact at0 _ (offset_axis _ (List.getElem_mem _))
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (none_batch 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact at1 _ (batch_axis _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (N - 1) = b.val
    omega

end Cert.Turn

end
-- ==== Proof.Turn.Spec.lean ====
/-
  The attention's inputs in plain terms: rows normalised by their heads' mean squares and scaled, and the first lanes of
  every group turned by the position's angles.
-/
module

public import proofs.«01_k».proof.Proof.Proj.OutSpec

@[expose] public section

noncomputable section

namespace Cert.Turn

open Idealize.ShloMosaic Cert.Ffn

/-- A lane over the root of its head's mean square, scaled. -/
def normed (x : Fin 512 → EReal) (w : Fin 64 → EReal) (l : Fin 512) : EReal :=
  x l * Ideal.rsqrt (headMean (fun k => x k * x k) l + Ideal.ofBits .f32 0x358637BD#32) * w ⟨l.val % 64, by omega⟩

/-- The lane `h` further, and the lane `h` before, going round. -/
def after {N : Nat} (h : Nat) (l : Fin N) : Fin N := ⟨(l.val + h) % N, Nat.mod_lt _ l.pos⟩
def before {N : Nat} (h : Nat) (l : Fin N) : Fin N := ⟨(l.val + N - h) % N, Nat.mod_lt _ l.pos⟩

/-- The angle a lane turns by: its place in the group, the second half as the first. -/
def angleOf (group h : Nat) [NeZero h] (l : Nat) : Fin h := ⟨l % group % h, Nat.mod_lt _ (NeZero.pos h)⟩

/-- In every group of lanes before the limit the first `h` lanes and the next `h` are turned as pairs; the others stay. -/
def turned {N h : Nat} [NeZero h] (limit group : Nat) (x : Fin N → EReal) (co si : Fin h → EReal) (l : Fin N) : EReal :=
  if l.val < limit ∧ l.val % group < h then x l * co (angleOf group h l) - x (after h l) * si (angleOf group h l)
  else if l.val < limit ∧ l.val % group < 2 * h then x (before h l) * si (angleOf group h l) + x l * co (angleOf group h l)
  else x l

/-- The three factors of a lane: its own, that of the lane after, that of the lane before. -/
def own {h : Nat} [NeZero h] (limit group : Nat) (co : Fin h → EReal) (l : Nat) : EReal :=
  if l < limit ∧ l % group < 2 * h then co (angleOf group h l) else 1
def ahead {h : Nat} [NeZero h] (limit group : Nat) (si : Fin h → EReal) (l : Nat) : EReal :=
  if l < limit ∧ l % group < h then -si (angleOf group h l) else 0
def behind {h : Nat} [NeZero h] (limit group : Nat) (si : Fin h → EReal) (l : Nat) : EReal :=
  if l < limit ∧ l % group < 2 * h ∧ h ≤ l % group then si (angleOf group h l) else 0

/-- The sum of the three products is the turned lane. -/
theorem turned_sum {N h : Nat} [NeZero h] (limit group : Nat) (x : Fin N → EReal) (co si : Fin h → EReal) (l : Fin N) :
    x l * own limit group co l.val + x (after h l) * ahead limit group si l.val + x (before h l) * behind limit group si l.val = turned limit group x co si l := by
  unfold own ahead behind turned
  by_cases e : l.val < limit
  · by_cases e1 : l.val % group < h
    · rw [if_pos ⟨e, by omega⟩, if_pos ⟨e, e1⟩, if_neg (fun a => absurd a.2.2 (by omega)), if_pos ⟨e, e1⟩, mul_zero, add_zero, mul_neg, sub_eq_add_neg]
    · by_cases e2 : l.val % group < 2 * h
      · rw [if_pos ⟨e, e2⟩, if_neg (fun a => e1 a.2), if_pos ⟨e, e2, by omega⟩, if_neg (fun a => e1 a.2), if_pos ⟨e, e2⟩, mul_zero, add_zero, add_comm]
      · rw [if_neg (fun a => e2 a.2), if_neg (fun a => e1 a.2), if_neg (fun a => e2 a.2.1), if_neg (fun a => e1 a.2), if_neg (fun a => e2 a.2), mul_one, mul_zero, mul_zero, add_zero, add_zero]
  · rw [if_neg (fun a => e a.1), if_neg (fun a => e a.1), if_neg (fun a => e a.1), if_neg (fun a => e a.1), if_neg (fun a => e a.1), mul_one, mul_zero, mul_zero, add_zero, add_zero]

/-- A group whose first `h` lanes and the next `h` are turned as pairs and whose others stay, read at a lane of the whole row. -/
theorem turned_group {N h : Nat} [NeZero h] (limit group : Nat) (x : Fin N → EReal) (co si : Fin h → EReal) (l : Fin N) (hg : 2 * h ≤ group) (hl : l.val < limit)
    (A : Nat) (hN : A + group ≤ N) (F X : Fin group → EReal) (hX : ∀ j : Fin group, X j = x ⟨A + j.val, by have := j.isLt; omega⟩)
    (low : ∀ j : Fin h, F ⟨j.val, by have := j.isLt; omega⟩ = X ⟨j.val, by have := j.isLt; omega⟩ * co j - X ⟨h + j.val, by have := j.isLt; omega⟩ * si j)
    (mid : ∀ j : Fin h, F ⟨h + j.val, by have := j.isLt; omega⟩ = X ⟨j.val, by have := j.isLt; omega⟩ * si j + X ⟨h + j.val, by have := j.isLt; omega⟩ * co j)
    (high : ∀ j : Fin group, 2 * h ≤ j.val → F j = X j) (b : Fin group) (hb : b.val = l.val % group) (hab : A + b.val = l.val) : F b = turned limit group x co si l := by
  have hh := NeZero.pos h
  have hlN := l.isLt
  have hbg := b.isLt
  unfold turned
  rw [← hb]
  by_cases e1 : b.val < h
  · rw [if_pos ⟨hl, e1⟩]
    have ha : angleOf group h l.val = ⟨b.val, e1⟩ := Fin.ext (by show l.val % group % h = b.val; rw [← hb]; exact Nat.mod_eq_of_lt e1)
    have h1 : after h l = ⟨A + (h + b.val), by omega⟩ := Fin.ext (by show (l.val + h) % N = A + (h + b.val); rw [Nat.mod_eq_of_lt (by omega)]; omega)
    have h0 : l = ⟨A + b.val, by omega⟩ := Fin.ext hab.symm
    rw [ha, h1, ← hX ⟨h + b.val, by omega⟩]
    refine (low ⟨b.val, e1⟩).trans ?_
    rw [hX ⟨b.val, by omega⟩, ← h0]
  · rw [if_neg (fun a => e1 a.2)]
    by_cases e2 : b.val < 2 * h
    · rw [if_pos ⟨hl, e2⟩]
      have hm : b.val % h = b.val - h := by rw [Nat.mod_eq_sub_mod (by omega), Nat.mod_eq_of_lt (by omega)]
      have ha : angleOf group h l.val = ⟨b.val - h, by omega⟩ := Fin.ext (by show l.val % group % h = b.val - h; rw [← hb]; exact hm)
      have h1 : before h l = ⟨A + (b.val - h), by omega⟩ := Fin.ext (by
        show (l.val + N - h) % N = A + (b.val - h)
        rw [show l.val + N - h = l.val - h + N by omega, Nat.add_mod_right, Nat.mod_eq_of_lt (by omega)]; omega)
      have h0 : l = ⟨A + b.val, by omega⟩ := Fin.ext hab.symm
      have hb' : (⟨h + (b.val - h), by omega⟩ : Fin group) = b := Fin.ext (by show h + (b.val - h) = b.val; omega)
      have := mid ⟨b.val - h, by omega⟩
      rw [hb'] at this
      rw [ha, h1, ← hX ⟨b.val - h, by omega⟩, this, hX b, ← h0]
    · rw [if_neg (fun a => e2 a.2), high b (by omega), hX b]
      exact congrArg x (Fin.ext hab)

end Cert.Turn

end
-- ==== Proof.Turn.Lanes.lean ====
/-
  The tables of the rotation: the host code that builds them, as functions of nothing but their shapes.
-/
module

public import proofs.«01_k».proof.Proof.Gen.PrepIdeal.Value
public import Idealize.ShloMosaic.Lib.Pointwise
public import Idealize.ShloMosaic.Lib.Pipeline.Value
public import Idealize.ShloMosaic.Lib.StableHlo.Run
public import Idealize.ShloMosaic.Lib.StableHlo.RunRead
public import proofs.«01_k».proof.Proof.Turn.Take
public import proofs.«01_k».proof.Proof.Turn.Spec

@[expose] public section

set_option maxRecDepth 16384

noncomputable section

namespace Cert.PrepIdeal.Fold

open Cert.PrepIdeal Cert.PrepIdeal.Gen Idealize.ShloMosaic Idealize.ShloMosaic.TcCoe Idealize.SL.Sem Cert.Turn

section Words
variable {s : Shape} (h : S_.BroadcastsInDim s (![] : Fin 0 → Fin s.rank))

/-- One word at every place. -/
def spread {w : Nat} (a : IVec S_ w) : IVec s w := broadcastInDim s ![] h a

/-- The divisor, or one in the place of zero. -/
def divisor (d : IVec S_ 32) : IVec S_ 32 := select (cmpi .eq (id d) (constantI S_ 32 0#32)) (constantI S_ 32 1#32) (id d)

/-- The remainder with the sign of the dividend. -/
def rest (x : IVec s 32) (d : IVec S_ 32) : IVec s 32 := Host.remsi x (spread h (divisor d))

/-- The remainder with the sign of the divisor. -/
def remainder (x : IVec s 32) (d : IVec S_ 32) : IVec s 32 :=
  select (andi (cmpi .ne (cmpi .slt (rest h x d) (spread h (constantI S_ 32 0#32))) (spread h (cmpi .slt (divisor d) (constantI S_ 32 0#32))))
      (cmpi .ne (rest h x d) (spread h (constantI S_ 32 0#32))))
    (addi (rest h x d) (spread h (divisor d))) (rest h x d)

/-- A lane's place in its group. -/
def place (lane : IVec s 32) (group : BitVec 32) : IVec s 32 := remainder h lane (constantI S_ 32 group)

/-- The lanes that turn: those before the limit whose place is before the width. -/
def turning (lane : IVec s 32) (limit group width : BitVec 32) : IVec s 1 :=
  andi (cmpi .slt lane (spread h (constantI S_ 32 limit))) (cmpi .slt (place h lane group) (spread h (constantI S_ 32 width)))

/-- The column of the angles a lane reads. -/
def column (lane : IVec s 32) (group half : BitVec 32) : IVec s 32 :=
  let q := remainder h (place h lane group) (constantI S_ 32 half)
  select (cmpi .slt q (spread h (constantI S_ 32 0#32))) (addi q (spread h (constantI S_ 32 half))) q

/-- The turning lanes of the first half, and those of the second. -/
def lower (lane : IVec s 32) (limit group width half : BitVec 32) : IVec s 1 :=
  andi (turning h lane limit group width) (cmpi .slt (place h lane group) (spread h (constantI S_ 32 half)))
def upper (lane : IVec s 32) (limit group width half : BitVec 32) : IVec s 1 :=
  andi (turning h lane limit group width) (cmpi .sge (place h lane group) (spread h (constantI S_ 32 half)))
end Words

/-! ## The attention's table: eight angles, groups of 64 lanes -/

def lanes512 : IVec S512 32 := iotaInDim S512 32 0

def angles8 : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

def columns512 (a : FVec Ideal S8192x8 .f32) : FVec Ideal S8192x512 .f32 :=
  Host.gather gather_S8192x8_S512x1_S8192x512_0_1_n_n_1_1_81921 a
    (broadcastInDim S512x1 ![0] bcast_S512_S512x1_0 (column bcast_S_S512 lanes512 64#32 8#32))

def pick512 (k : IVec S512 1) (a : FVec Ideal S8192x512 .f32) (z : BitVec 32) : FVec Ideal S8192x512 .f32 :=
  select (broadcastInDim S8192x512 ![0, 1] bcast_S1x512_S8192x512_0_1 (broadcastInDim S1x512 ![1] bcast_S512_S1x512_1 k)) a
    (broadcastInDim S8192x512 ![] bcast_S_S8192x512 (id (constant S_ .f32 z)))

def choose512 (k : IVec S512 1) (a : FVec Ideal S8192x512 .f32) (z : BitVec 32) : FVec Ideal S1x8192x512 .f32 :=
  broadcastInDim S1x8192x512 ![1, 2] bcast_S8192x512_S1x8192x512_1_2 (pick512 k a z)

def stack512 (x y z : FVec Ideal S1x8192x512 .f32) : FVec Ideal S3x8192x512 .f32 :=
  concatenate S3x8192x512 0 [⟨S1x8192x512, x⟩, ⟨S1x8192x512, y⟩, ⟨S1x8192x512, z⟩] concatenates_S1x8192x512_S1x8192x512_S1x8192x512_S3x8192x512_d0

def table512 : FVec Ideal S3x8192x512 .f32 :=
  stack512 (choose512 (turning bcast_S_S512 lanes512 512#32 64#32 16#32) (columns512 (Host.cos angles8)) 0x3F800000#32)
    (choose512 (lower bcast_S_S512 lanes512 512#32 64#32 16#32 8#32) (Host.negf (columns512 (Host.sin angles8))) 0x00000000#32)
    (choose512 (upper bcast_S_S512 lanes512 512#32 64#32 16#32 8#32) (columns512 (Host.sin angles8)) 0x00000000#32)

/-! ## The indexer's table: four angles, groups of 32 lanes, 288 of 384 lanes -/

def lanes384 : IVec S384 32 := iotaInDim S384 32 0

def angles4 : FVec Ideal S8192x4 .f32 :=
  mulf (broadcastInDim S8192x4 ![0, 1] bcast_S8192x1_S8192x4_0_1 (broadcastInDim S8192x1 ![0] bcast_S8192_S8192x1_0 (sitofp .f32 (iotaInDim S8192 32 0))))
    (broadcastInDim S8192x4 ![0, 1] bcast_S1x4_S8192x4_0_1 (broadcastInDim S1x4 ![1] bcast_S4_S1x4_1
      (Host.powf (broadcastInDim S4 ![] bcast_S_S4 (constant S_ .f32 0x48F42400#32))
        (Host.divf (Host.negf (sitofp .f32 (iotaInDim S4 32 0))) (broadcastInDim S4 ![] bcast_S_S4 (constant S_ .f32 0x40800000#32))))))

def columns384 (a : FVec Ideal S8192x4 .f32) : FVec Ideal S8192x384 .f32 :=
  Host.gather gather_S8192x4_S384x1_S8192x384_0_1_n_n_1_1_81921 a
    (broadcastInDim S384x1 ![0] bcast_S384_S384x1_0 (column bcast_S_S384 lanes384 32#32 4#32))

def pick384 (k : IVec S384 1) (a : FVec Ideal S8192x384 .f32) (z : BitVec 32) : FVec Ideal S8192x384 .f32 :=
  select (broadcastInDim S8192x384 ![0, 1] bcast_S1x384_S8192x384_0_1 (broadcastInDim S1x384 ![1] bcast_S384_S1x384_1 k)) a
    (broadcastInDim S8192x384 ![] bcast_S_S8192x384 (id (constant S_ .f32 z)))

def choose384 (k : IVec S384 1) (a : FVec Ideal S8192x384 .f32) (z : BitVec 32) : FVec Ideal S1x8192x384 .f32 :=
  broadcastInDim S1x8192x384 ![1, 2] bcast_S8192x384_S1x8192x384_1_2 (pick384 k a z)

def stack384 (x y z : FVec Ideal S1x8192x384 .f32) : FVec Ideal S3x8192x384 .f32 :=
  concatenate S3x8192x384 0 [⟨S1x8192x384, x⟩, ⟨S1x8192x384, y⟩, ⟨S1x8192x384, z⟩] concatenates_S1x8192x384_S1x8192x384_S1x8192x384_S3x8192x384_d0

def table384 : FVec Ideal S3x8192x384 .f32 :=
  stack384 (choose384 (turning bcast_S_S384 lanes384 288#32 32#32 8#32) (columns384 (Host.cos angles4)) 0x3F800000#32)
    (choose384 (lower bcast_S_S384 lanes384 288#32 32#32 8#32 4#32) (Host.negf (columns384 (Host.sin angles4))) 0x00000000#32)
    (choose384 (upper bcast_S_S384 lanes384 288#32 32#32 8#32 4#32) (columns384 (Host.sin angles4)) 0x00000000#32)

/-! ## What the words say of a lane -/

theorem turning512 : ∀ l : Fin 512, turning bcast_S_S512 lanes512 512#32 64#32 16#32 (ix1 l) = BitVec.ofBool (decide (l.val < 512 ∧ l.val % 64 < 2 * 8)) := by
  decide +kernel

theorem lower512 : ∀ l : Fin 512, lower bcast_S_S512 lanes512 512#32 64#32 16#32 8#32 (ix1 l) = BitVec.ofBool (decide (l.val < 512 ∧ l.val % 64 < 8)) := by
  decide +kernel

theorem upper512 : ∀ l : Fin 512, upper bcast_S_S512 lanes512 512#32 64#32 16#32 8#32 (ix1 l)
    = BitVec.ofBool (decide (l.val < 512 ∧ l.val % 64 < 2 * 8 ∧ 8 ≤ l.val % 64)) := by
  decide +kernel

theorem column512 : ∀ l : Fin 512, column bcast_S_S512 lanes512 64#32 8#32 (ix1 l) = BitVec.ofNat 32 (l.val % 64 % 8) := by
  decide +kernel

theorem turning384 : ∀ l : Fin 384, turning bcast_S_S384 lanes384 288#32 32#32 8#32 (ix1 l) = BitVec.ofBool (decide (l.val < 288 ∧ l.val % 32 < 2 * 4)) := by
  decide +kernel

theorem lower384 : ∀ l : Fin 384, lower bcast_S_S384 lanes384 288#32 32#32 8#32 4#32 (ix1 l) = BitVec.ofBool (decide (l.val < 288 ∧ l.val % 32 < 4)) := by
  decide +kernel

theorem upper384 : ∀ l : Fin 384, upper bcast_S_S384 lanes384 288#32 32#32 8#32 4#32 (ix1 l)
    = BitVec.ofBool (decide (l.val < 288 ∧ l.val % 32 < 2 * 4 ∧ 4 ≤ l.val % 32)) := by
  decide +kernel

theorem column384 : ∀ l : Fin 384, column bcast_S_S384 lanes384 32#32 4#32 (ix1 l) = BitVec.ofNat 32 (l.val % 32 % 4) := by
  decide +kernel

/-! ## The tables at an entry -/

theorem chosen (P : Prop) [Decidable P] (a b : EReal) : Scalar.select (BitVec.ofBool (decide P)) a b = if P then a else b := by
  by_cases h : P
  · simp [h, Scalar.select]
  · simp [h, Scalar.select]

theorem bits_one : Ideal.ofBits .f32 0x3F800000#32 = 1 := by
  simp [Ideal.ofBits, Ideal.ieee, -EReal.coe_mul]; norm_num

theorem bits_zero : Ideal.ofBits .f32 0x00000000#32 = 0 := by
  simp [Ideal.ofBits, Ideal.ieee, -EReal.coe_mul]

theorem columns512_apply (a : FVec Ideal S8192x8 .f32) (R : Fin 8192) (l : Fin 512) : columns512 a (ix2 R l) = a (ix2 R (angleOf 64 8 l.val)) := by
  unfold columns512
  refine taken _ rfl rfl rfl rfl rfl a _ R l (angleOf 64 8 l.val) ?_ (by norm_num)
  refine Eq.trans ?_ (column512 l)
  pointwise []

theorem choose512_apply (k : IVec S512 1) (a : FVec Ideal S8192x512 .f32) (z : BitVec 32) (R : Fin 8192) (l : Fin 512) :
    choose512 k a z (ix3 0 R l) = Scalar.select (k (ix1 l)) (a (ix2 R l)) (Ideal.ofBits .f32 z) := by
  pointwise [choose512, pick512]
  rfl

theorem table512_own (R : Fin 8192) (l : Fin 512) : table512 (ix3 0 R l) = own 512 64 (fun j : Fin 8 => Host.cos angles8 (ix2 R j)) l.val := by
  have e : table512 (ix3 0 R l) = choose512 (turning bcast_S_S512 lanes512 512#32 64#32 16#32) (columns512 (Host.cos angles8)) 0x3F800000#32 (ix3 0 R l) := by
    pointwise [table512, stack512]
  rw [e, choose512_apply, turning512, columns512_apply, chosen, bits_one]
  rfl

theorem table512_ahead (R : Fin 8192) (l : Fin 512) : table512 (ix3 1 R l) = ahead 512 64 (fun j : Fin 8 => Host.sin angles8 (ix2 R j)) l.val := by
  have e : table512 (ix3 1 R l) = choose512 (lower bcast_S_S512 lanes512 512#32 64#32 16#32 8#32) (Host.negf (columns512 (Host.sin angles8))) 0x00000000#32 (ix3 0 R l) := by
    pointwise [table512, stack512]
  have n : Host.negf (columns512 (Host.sin angles8)) (ix2 R l) = -columns512 (Host.sin angles8) (ix2 R l) := rfl
  rw [e, choose512_apply, lower512, n, columns512_apply, chosen, bits_zero]
  rfl

theorem table512_behind (R : Fin 8192) (l : Fin 512) : table512 (ix3 2 R l) = behind 512 64 (fun j : Fin 8 => Host.sin angles8 (ix2 R j)) l.val := by
  have e : table512 (ix3 2 R l) = choose512 (upper bcast_S_S512 lanes512 512#32 64#32 16#32 8#32) (columns512 (Host.sin angles8)) 0x00000000#32 (ix3 0 R l) := by
    pointwise [table512, stack512]
  rw [e, choose512_apply, upper512, columns512_apply, chosen, bits_zero]
  rfl

theorem columns384_apply (a : FVec Ideal S8192x4 .f32) (R : Fin 8192) (l : Fin 384) : columns384 a (ix2 R l) = a (ix2 R (angleOf 32 4 l.val)) := by
  unfold columns384
  refine taken _ rfl rfl rfl rfl rfl a _ R l (angleOf 32 4 l.val) ?_ (by norm_num)
  refine Eq.trans ?_ (column384 l)
  pointwise []

theorem choose384_apply (k : IVec S384 1) (a : FVec Ideal S8192x384 .f32) (z : BitVec 32) (R : Fin 8192) (l : Fin 384) :
    choose384 k a z (ix3 0 R l) = Scalar.select (k (ix1 l)) (a (ix2 R l)) (Ideal.ofBits .f32 z) := by
  pointwise [choose384, pick384]
  rfl

theorem table384_own (R : Fin 8192) (l : Fin 384) : table384 (ix3 0 R l) = own 288 32 (fun j : Fin 4 => Host.cos angles4 (ix2 R j)) l.val := by
  have e : table384 (ix3 0 R l) = choose384 (turning bcast_S_S384 lanes384 288#32 32#32 8#32) (columns384 (Host.cos angles4)) 0x3F800000#32 (ix3 0 R l) := by
    pointwise [table384, stack384]
  rw [e, choose384_apply, turning384, columns384_apply, chosen, bits_one]
  rfl

theorem table384_ahead (R : Fin 8192) (l : Fin 384) : table384 (ix3 1 R l) = ahead 288 32 (fun j : Fin 4 => Host.sin angles4 (ix2 R j)) l.val := by
  have e : table384 (ix3 1 R l) = choose384 (lower bcast_S_S384 lanes384 288#32 32#32 8#32 4#32) (Host.negf (columns384 (Host.sin angles4))) 0x00000000#32 (ix3 0 R l) := by
    pointwise [table384, stack384]
  have n : Host.negf (columns384 (Host.sin angles4)) (ix2 R l) = -columns384 (Host.sin angles4) (ix2 R l) := rfl
  rw [e, choose384_apply, lower384, n, columns384_apply, chosen, bits_zero]
  rfl

theorem table384_behind (R : Fin 8192) (l : Fin 384) : table384 (ix3 2 R l) = behind 288 32 (fun j : Fin 4 => Host.sin angles4 (ix2 R j)) l.val := by
  have e : table384 (ix3 2 R l) = choose384 (upper bcast_S_S384 lanes384 288#32 32#32 8#32 4#32) (columns384 (Host.sin angles4)) 0x00000000#32 (ix3 0 R l) := by
    pointwise [table384, stack384]
  rw [e, choose384_apply, upper384, columns384_apply, chosen, bits_zero]
  rfl

end Cert.PrepIdeal.Fold

end
-- ==== Proof.Turn.Table.lean ====
/-
  The tables of the rotation and the scales, as the kernel's region finds them: the host's operations read in five steps.
-/
module

public import proofs.«01_k».proof.Proof.Turn.Lanes

@[expose] public section

set_option maxRecDepth 16384

noncomputable section

namespace Cert.PrepIdeal.Fold

open Cert.PrepIdeal Cert.PrepIdeal.Gen Idealize.ShloMosaic Idealize.ShloMosaic.TcCoe Idealize.SL.Sem

variable (m : (ℓ : Loc nD τ sig) → Buf (Elt Ideal) ℓ) (c : Dev nD)

/-- The contents after the scales, the first angles and the lanes' places among 64. -/
def step1 : Valuation τ sig (Elt Ideal) := StableHlo.after (hostOps0 ++ hostOps0_1) (fun b => m (c, b))

/-- The contents after the three parts of the first table. -/
def step2 : Valuation τ sig (Elt Ideal) :=
  StableHlo.after (hostOps0_2 ++ (hostOps0_3 ++ (hostOps0_4 ++ (hostOps0_5 ++ (hostOps0_6 ++ (hostOps0_7 ++ (hostOps0_8 ++ (hostOps0_9 ++ (hostOps0_10 ++ hostOps0_11)))))))))
    (step1 m c)

/-- The contents after the first table, the second angles and the lanes' places among 32. -/
def step3 : Valuation τ sig (Elt Ideal) := StableHlo.after (hostOps0_12 ++ hostOps0_13) (step2 m c)

/-- The contents after the three parts of the second table. -/
def step4 : Valuation τ sig (Elt Ideal) :=
  StableHlo.after (hostOps0_14 ++ (hostOps0_15 ++ (hostOps0_16 ++ (hostOps0_17 ++ (hostOps0_18 ++ (hostOps0_19 ++ (hostOps0_20 ++ (hostOps0_21 ++ (hostOps0_22 ++ hostOps0_23)))))))))
    (step3 m c)

theorem after_both (l k : List (HloOp τ sig (Elt Ideal))) (W : Valuation τ sig (Elt Ideal)) :
    StableHlo.after (l ++ k) W = StableHlo.after k (StableHlo.after l W) := by
  induction l generalizing W with
  | nil => rfl
  | cons op l ih => exact ih _

theorem V_steps (b : Ref sig .tc) : V m c b = StableHlo.after hostOps0_24 (step4 m c) b := by
  unfold V step4 step3 step2 step1
  simp only [List.flatten_cons, List.flatten_nil, List.append_nil, after_both]

/-! ## Step 1 -/

def row512 (a : FVec Ideal S64 .f32) : FVec Ideal S1x512 .f32 :=
  broadcastInDim S1x512 ![1] bcast_S512_S1x512_1
    (shapeCast S512 (broadcastInDim S8x64 ![0, 1] bcast_S1x64_S8x64_0_1 (shapeCast S1x64 a shapeCasts_S64_S1x64)) shapeCasts_S8x64_S512)

/-- The two scales, each repeated for every head, one over the other. -/
def scales (a b : FVec Ideal S64 .f32) : FVec Ideal S2x512 .f32 :=
  concatenate S2x512 0 [⟨S1x512, row512 a⟩, ⟨S1x512, row512 b⟩] concatenates_S1x512_S1x512_S2x512_d0

theorem step1_v8 : step1 m c main_v8 = scales (m ((c : Thread nD τ).loc main_arg2)) (m ((c : Thread nD τ).loc main_arg3)) := by
  unfold step1
  after_reads_simp
  rfl

theorem step1_v21 : step1 m c main_v21 = angles8 := by
  unfold step1
  after_reads_simp
  rfl

theorem step1_v22 : step1 m c main_v22 = lanes512 := by
  unfold step1
  after_reads_simp
  rfl

theorem step1_v23 : step1 m c main_v23 = place bcast_S_S512 lanes512 64#32 := by
  unfold step1
  after_reads_simp
  rfl

/-! ## Step 2 -/

theorem step2_v39 : step2 m c main_v39 = pick512 (turning bcast_S_S512 lanes512 512#32 64#32 16#32) (columns512 (Host.cos angles8)) 0x3F800000#32 := by
  unfold step2
  after_reads_simp
  rw [step1_v21, step1_v22, step1_v23]
  rfl

theorem step2_v54 : step2 m c main_v54 = pick512 (lower bcast_S_S512 lanes512 512#32 64#32 16#32 8#32) (Host.negf (columns512 (Host.sin angles8))) 0x00000000#32 := by
  unfold step2
  after_reads_simp
  rw [step1_v21, step1_v22, step1_v23]
  rfl

theorem step2_v59 : step2 m c main_v59 = pick512 (upper bcast_S_S512 lanes512 512#32 64#32 16#32 8#32) (columns512 (Host.sin angles8)) 0x00000000#32 := by
  unfold step2
  after_reads_simp
  rw [step1_v21, step1_v22, step1_v23]
  rfl

theorem step2_v8 : step2 m c main_v8 = scales (m ((c : Thread nD τ).loc main_arg2)) (m ((c : Thread nD τ).loc main_arg3)) := by
  unfold step2
  after_reads_simp
  exact step1_v8 m c

/-! ## Step 3 -/

theorem step3_v63 : step3 m c main_v63 = table512 := by
  unfold step3
  have h0 : StableHlo.upto (hostOps0_12 ++ hostOps0_13) (step2 m c) 3 (Proc.devRef .tc main_v60) = broadcastInDim S1x8192x512 ![1, 2] bcast_S8192x512_S1x8192x512_1_2 (step2 m c main_v39) := by
    after_reads_simp
  rw [step2_v39] at h0
  have h1 : StableHlo.upto (hostOps0_12 ++ hostOps0_13) (step2 m c) 3 (Proc.devRef .tc main_v61) = broadcastInDim S1x8192x512 ![1, 2] bcast_S8192x512_S1x8192x512_1_2 (step2 m c main_v54) := by
    after_reads_simp
  rw [step2_v54] at h1
  have h2 : StableHlo.upto (hostOps0_12 ++ hostOps0_13) (step2 m c) 3 (Proc.devRef .tc main_v62) = broadcastInDim S1x8192x512 ![1, 2] bcast_S8192x512_S1x8192x512_1_2 (step2 m c main_v59) := by
    after_reads_simp
  rw [step2_v59] at h2
  after_reads_simp
  have e := congr (congr (congrArg stack512 h0) h1) h2
  exact e

theorem step3_v75 : step3 m c main_v75 = angles4 := by
  unfold step3
  after_reads_simp
  rfl

theorem step3_v76 : step3 m c main_v76 = lanes384 := by
  unfold step3
  after_reads_simp
  rfl

theorem step3_v77 : step3 m c main_v77 = place bcast_S_S384 lanes384 32#32 := by
  unfold step3
  after_reads_simp
  rfl

theorem step3_v8 : step3 m c main_v8 = scales (m ((c : Thread nD τ).loc main_arg2)) (m ((c : Thread nD τ).loc main_arg3)) := by
  unfold step3
  after_reads_simp
  exact step2_v8 m c

/-! ## Step 4 -/

theorem step4_v93 : step4 m c main_v93 = pick384 (turning bcast_S_S384 lanes384 288#32 32#32 8#32) (columns384 (Host.cos angles4)) 0x3F800000#32 := by
  unfold step4
  after_reads_simp
  rw [step3_v75, step3_v76, step3_v77]
  rfl

theorem step4_v108 : step4 m c main_v108 = pick384 (lower bcast_S_S384 lanes384 288#32 32#32 8#32 4#32) (Host.negf (columns384 (Host.sin angles4))) 0x00000000#32 := by
  unfold step4
  after_reads_simp
  rw [step3_v75, step3_v76, step3_v77]
  rfl

theorem step4_v113 : step4 m c main_v113 = pick384 (upper bcast_S_S384 lanes384 288#32 32#32 8#32 4#32) (columns384 (Host.sin angles4)) 0x00000000#32 := by
  unfold step4
  after_reads_simp
  rw [step3_v75, step3_v76, step3_v77]
  rfl

theorem step4_v8 : step4 m c main_v8 = scales (m ((c : Thread nD τ).loc main_arg2)) (m ((c : Thread nD τ).loc main_arg3)) := by
  unfold step4
  after_reads_simp
  exact step3_v8 m c

theorem step4_v63 : step4 m c main_v63 = table512 := by
  unfold step4
  after_reads_simp
  exact step3_v63 m c

/-! ## What the region finds -/

theorem V_v117 : V m c main_v117 = table384 := by
  rw [V_steps]
  have h0 : StableHlo.upto (hostOps0_24) (step4 m c) 3 (Proc.devRef .tc main_v114) = broadcastInDim S1x8192x384 ![1, 2] bcast_S8192x384_S1x8192x384_1_2 (step4 m c main_v93) := by
    after_reads_simp
  rw [step4_v93] at h0
  have h1 : StableHlo.upto (hostOps0_24) (step4 m c) 3 (Proc.devRef .tc main_v115) = broadcastInDim S1x8192x384 ![1, 2] bcast_S8192x384_S1x8192x384_1_2 (step4 m c main_v108) := by
    after_reads_simp
  rw [step4_v108] at h1
  have h2 : StableHlo.upto (hostOps0_24) (step4 m c) 3 (Proc.devRef .tc main_v116) = broadcastInDim S1x8192x384 ![1, 2] bcast_S8192x384_S1x8192x384_1_2 (step4 m c main_v113) := by
    after_reads_simp
  rw [step4_v113] at h2
  after_reads_simp
  have e := congr (congr (congrArg stack384 h0) h1) h2
  exact e

theorem V_v63 : V m c main_v63 = table512 := by
  rw [V_steps]
  after_reads_simp
  exact step4_v63 m c

theorem V_v8 : V m c main_v8 = scales (m ((c : Thread nD τ).loc main_arg2)) (m ((c : Thread nD τ).loc main_arg3)) := by
  rw [V_steps]
  after_reads_simp
  exact step4_v8 m c

end Cert.PrepIdeal.Fold

end
-- ==== Proof.Turn.Point.lean ====
/-
  The attention's inputs: what a grid point stores, over the extended reals.
-/
module

public import proofs.«01_k».proof.Proof.Turn.Lanes
public import proofs.«01_k».proof.Proof.Proj.OutValue

@[expose] public section

set_option maxRecDepth 16384

noncomputable section

namespace Cert.PrepIdeal.Fold

open Cert.PrepIdeal Cert.PrepIdeal.Gen Idealize.ShloMosaic Idealize.ShloMosaic.TcCoe Idealize.SL.Sem Cert.Ffn Cert.Turn
open Cert.ProjOutIdeal.Fold (quot quot_eq same_head)

theorem weight_apply (k l : Fin 512) : k0_pay10 (F := Ideal) k0_pay5 k0_pay6 k0_pay7 k0_pay8 k0_pay9 (ix2 k l) = headWeight k l := by
  have h : k0_pay10 (F := Ideal) k0_pay5 k0_pay6 k0_pay7 k0_pay8 k0_pay9 (ix2 k l)
      = Scalar.select (IntOp.cmpi .eq (quot (BitVec.ofNat 32 k.val)) (quot (BitVec.ofNat 32 l.val))) (Ideal.ofBits .f32 0x3C800000#32) 0 := by
    unfold quot
    pointwise [k0_pay10, k0_pay5, k0_pay6, k0_pay7, k0_pay8, k0_pay9]
  rw [h, quot_eq, quot_eq, same_head ⟨k.val / 64, by omega⟩ ⟨l.val / 64, by omega⟩]
  unfold headWeight
  by_cases e : k.val / 64 = l.val / 64
  · simp [e, Scalar.select]
  · simp [e, Scalar.select]

/-- A block's rows, normalised and scaled. -/
def normB (x : Vec Ideal S1x256x512 .f32) (w : Vec Ideal S1x512 .f32) : FVec Ideal S256x512 .f32 := k0_pay11 k0_pay5 k0_pay6 k0_pay7 k0_pay8 k0_pay9 x w

theorem normB_apply (x : Vec Ideal S1x256x512 .f32) (w : Vec Ideal S1x512 .f32) (r : Fin 256) (hx : ∀ k, Fin' (x (ix3 0 r k))) (l : Fin 512) :
    normB x w (ix2 r l) = x (ix3 0 r l) * Ideal.rsqrt (headMean (fun k => x (ix3 0 r k) * x (ix3 0 r k)) l + Ideal.ofBits .f32 0x358637BD#32) * w (ix2 0 l) := by
  rw [← headMean_split _ (fun k => (hx k).mul (hx k)) l]
  simp only [← weight_apply]
  pointwise [normB, k0_pay11]

/-- The second part's rows go through the same steps. -/
theorem second_eq (x : Vec Ideal S1x256x512 .f32) (w : Vec Ideal S1x512 .f32) (a b c : Vec Ideal S1x256x512 .f32) :
    k0_pay1 (k0_pay17 (k0_pay12 x) (k0_pay13 w) (k0_pay14 k0_pay5 k0_pay6 k0_pay7 k0_pay8 k0_pay9 x) (k0_pay15 (F := Ideal)) a b c) = k0_pay16 (normB x w) a b c := rfl

theorem turn512 (v : FVec Ideal S256x512 .f32) (a b c : Vec Ideal S1x256x512 .f32) (r : Fin 256) (l : Fin 512) :
    k0_pay16 v a b c (ix3 0 r l)
      = v (ix2 r l) * a (ix3 0 r l) + v (ix2 r (after 8 l)) * b (ix3 0 r l) + v (ix2 r (before 8 l)) * c (ix3 0 r l) := by
  have e : after 8 l = ⟨(l.val + 512 - 504) % 512, by omega⟩ := Fin.ext (by show (l.val + 8) % 512 = (l.val + 512 - 504) % 512; omega)
  rw [e]
  unfold before
  pointwise [k0_pay16]

theorem turn384 (x a b c : Vec Ideal S1x256x384 .f32) (r : Fin 256) (l : Fin 384) :
    k0_pay2 x a b c (ix2 r l)
      = x (ix3 0 r l) * a (ix3 0 r l) + x (ix3 0 r (after 4 l)) * b (ix3 0 r l) + x (ix3 0 r (before 4 l)) * c (ix3 0 r l) := by
  have e : after 4 l = ⟨(l.val + 384 - 380) % 384, by omega⟩ := Fin.ext (by show (l.val + 4) % 384 = (l.val + 384 - 380) % 384; omega)
  rw [e]
  unfold before
  pointwise [k0_pay2]

theorem low_apply (x a b c : Vec Ideal S1x256x384 .f32) (r : Fin 256) (l : Fin 256) : k0_pay3 x a b c (ix3 0 r l) = k0_pay2 x a b c (ix2 r ⟨l.val, by omega⟩) := by
  pointwise [k0_pay3]

theorem high_apply (x a b c : Vec Ideal S1x256x384 .f32) (r : Fin 256) (l : Fin 128) : k0_pay4 x a b c (ix3 0 r l) = k0_pay2 x a b c (ix2 r ⟨256 + l.val, by omega⟩) := by
  pointwise [k0_pay4]

end Cert.PrepIdeal.Fold

end
-- ==== Proof.Turn.Value.lean ====
/-
  The attention's inputs: the four result arrays over the extended reals, where what is normalised is finite.
-/
module

public import proofs.«01_k».proof.Proof.Gen.PrepIdeal.Value
public import proofs.«01_k».proof.Proof.Turn.Table
public import proofs.«01_k».proof.Proof.Turn.Point
public import Idealize.ShloMosaic.Lib.Pointwise
public import Idealize.ShloMosaic.Lib.Pipeline.Value
public import Idealize.ShloMosaic.Lib.StableHlo.Run

@[expose] public section

set_option maxRecDepth 16384

noncomputable section

namespace Cert.PrepIdeal.Fold

open Cert.PrepIdeal Cert.PrepIdeal.Gen Idealize.ShloMosaic Idealize.ShloMosaic.TcCoe Idealize.SL.Sem Cert.Ffn Cert.Turn

variable (m : (ℓ : Loc nD τ sig) → Buf (Elt Ideal) ℓ) (c : Dev nD)

/-! ## The arguments, and what the results hold -/

abbrev projected : FVec Ideal S2x8192x1536 .f32 := m ((c : Thread nD τ).loc main_arg0)
abbrev indexed : FVec Ideal S2x8192x384 .f32 := m ((c : Thread nD τ).loc main_arg1)
abbrev queryW : FVec Ideal S64 .f32 := m ((c : Thread nD τ).loc main_arg2)
abbrev keyW : FVec Ideal S64 .f32 := m ((c : Thread nD τ).loc main_arg3)

/-- The cosines and sines a position turns by. -/
def cosA (R : Fin 8192) (j : Fin 8) : EReal := Host.cos angles8 (ix2 R j)
def sinA (R : Fin 8192) (j : Fin 8) : EReal := Host.sin angles8 (ix2 R j)
def cosB (R : Fin 8192) (j : Fin 4) : EReal := Host.cos angles4 (ix2 R j)
def sinB (R : Fin 8192) (j : Fin 4) : EReal := Host.sin angles4 (ix2 R j)

def queryAt (g : Fin 2) (R : Fin 8192) (l : Fin 512) : EReal :=
  turned 512 64 (normed (fun k => projected m c (ix3 g R ⟨k.val, by omega⟩)) (fun j => queryW m c (ix1 j))) (cosA R) (sinA R) l
def keyAt (g : Fin 2) (R : Fin 8192) (l : Fin 512) : EReal :=
  turned 512 64 (normed (fun k => projected m c (ix3 g R ⟨512 + k.val, by omega⟩)) (fun j => keyW m c (ix1 j))) (cosA R) (sinA R) l
def indexAt (g : Fin 2) (R : Fin 8192) (l : Fin 384) : EReal := turned 288 32 (fun k => indexed m c (ix3 g R k)) (cosB R) (sinB R) l

/-- What is normalised is finite. -/
def Projected : Prop := ∀ (g : Fin 2) (R : Fin 8192) (l : Fin 1024), Fin' (projected m c (ix3 g R ⟨l.val, by omega⟩))

/-! ## The blocks of a grid point -/

theorem at0 : ∀ t : Fin grid0.N, win0_0.index t = ![t.val / 32, t.val % 32, 0] := by decide +kernel
theorem at1 : ∀ t : Fin grid0.N, win0_1.index t = ![t.val / 32, t.val % 32, 0] := by decide +kernel
theorem at2 : ∀ t : Fin grid0.N, win0_2.index t = ![0, 0] := by decide +kernel
theorem at3 : ∀ t : Fin grid0.N, win0_3.index t = ![0, t.val % 32, 0] := by decide +kernel
theorem at4 : ∀ t : Fin grid0.N, win0_4.index t = ![0, t.val % 32, 0] := by decide +kernel
theorem at5 : ∀ t : Fin grid0.N, win0_5.index t = ![t.val / 32, t.val % 32, 0] := by decide +kernel
theorem at6 : ∀ t : Fin grid0.N, win0_6.index t = ![t.val / 32, t.val % 32, 0] := by decide +kernel
theorem at7 : ∀ t : Fin grid0.N, win0_7.index t = ![t.val / 32, t.val % 32, 0] := by decide +kernel
theorem at8 : ∀ t : Fin grid0.N, win0_8.index t = ![t.val / 32, t.val % 32, 0] := by decide +kernel
theorem flush5 : ∀ t : Fin grid0.N, win0_5.flush t = true := by decide +kernel
theorem flush6 : ∀ t : Fin grid0.N, win0_6.flush t = true := by decide +kernel
theorem flush7 : ∀ t : Fin grid0.N, win0_7.flush t = true := by decide +kernel
theorem flush8 : ∀ t : Fin grid0.N, win0_8.flush t = true := by decide +kernel

theorem lt64 (t : Fin grid0.N) : t.val < 64 := lt_of_lt_of_eq t.isLt (by decide)

/-- A point's batch entry, and its rows. -/
def batchOf (t : Fin grid0.N) : Fin 2 := ⟨t.val / 32, by have := lt64 t; omega⟩
def rowOf (t : Fin grid0.N) (r : Fin 256) : Fin 8192 := ⟨256 * (t.val % 32) + r.val, by omega⟩

/-- The array coordinates of a row block's entry. -/
theorem coords_of {t : Fin grid0.N} {b : Nat} {i : Fin 3 → Nat} (e : i = ![b, t.val % 32, 0]) (h s r w l : Nat) :
    i 0 * h + 1 * s = b * h + s ∧ i 1 * 256 + 1 * r = 256 * (t.val % 32) + r ∧ i 2 * w + 1 * l = l := by
  subst e
  refine ⟨?_, ?_, ?_⟩
  · show b * h + 1 * s = _; omega
  · show t.val % 32 * 256 + 1 * r = _; omega
  · show 0 * w + 1 * l = l; omega

variable (t : Fin grid0.N) (r : Fin 256)

theorem rows_apply (k : Fin 1536) : iblk m c 0 t (ix3 0 r k) = projected m c (ix3 (batchOf t) (rowOf t r) k) := by
  obtain ⟨h0, h1, h2⟩ := coords_of (at0 t) 1 0 r.val 1536 k.val
  unfold iblk
  rw [View.read_apply]
  show V m c main_arg0 _ = _
  rw [V_main_arg0 m c]
  exact congrArg _ (funext fun a => Fin.ext (match a with | ⟨0, _⟩ => h0.trans (by show _ = t.val / 32; omega) | ⟨1, _⟩ => h1 | ⟨2, _⟩ => h2))

theorem index_apply (k : Fin 384) : iblk m c 1 t (ix3 0 r k) = indexed m c (ix3 (batchOf t) (rowOf t r) k) := by
  obtain ⟨h0, h1, h2⟩ := coords_of (at1 t) 1 0 r.val 384 k.val
  unfold iblk
  rw [View.read_apply]
  show V m c main_arg1 _ = _
  rw [V_main_arg1 m c]
  exact congrArg _ (funext fun a => Fin.ext (match a with | ⟨0, _⟩ => h0.trans (by show _ = t.val / 32; omega) | ⟨1, _⟩ => h1 | ⟨2, _⟩ => h2))

theorem scales_apply (s : Fin 2) (l : Fin 512) : iblk m c 2 t (ix2 s l) = scales (queryW m c) (keyW m c) (ix2 s l) := by
  have e := at2 t
  unfold iblk
  rw [View.read_apply]
  show V m c main_v8 _ = _
  rw [V_v8]
  refine congrArg _ (funext fun a => Fin.ext ?_)
  match a with
  | ⟨0, _⟩ => show win0_2.index t 0 * 2 + 1 * s.val = s.val; rw [e]; show 0 * 2 + 1 * s.val = s.val; omega
  | ⟨1, _⟩ => show win0_2.index t 1 * 512 + 1 * l.val = l.val; rw [e]; show 0 * 512 + 1 * l.val = l.val; omega

theorem table512_apply (s : Fin 3) (l : Fin 512) : iblk m c 3 t (ix3 s r l) = table512 (ix3 s (rowOf t r) l) := by
  obtain ⟨h0, h1, h2⟩ := coords_of (at3 t) 3 s.val r.val 512 l.val
  unfold iblk
  rw [View.read_apply]
  show V m c main_v63 _ = _
  rw [V_v63]
  exact congrArg _ (funext fun a => Fin.ext (match a with | ⟨0, _⟩ => h0.trans (by show _ = s.val; omega) | ⟨1, _⟩ => h1 | ⟨2, _⟩ => h2))

theorem table384_apply (s : Fin 3) (l : Fin 384) : iblk m c 4 t (ix3 s r l) = table384 (ix3 s (rowOf t r) l) := by
  obtain ⟨h0, h1, h2⟩ := coords_of (at4 t) 3 s.val r.val 384 l.val
  unfold iblk
  rw [View.read_apply]
  show V m c main_v117 _ = _
  rw [V_v117]
  exact congrArg _ (funext fun a => Fin.ext (match a with | ⟨0, _⟩ => h0.trans (by show _ = s.val; omega) | ⟨1, _⟩ => h1 | ⟨2, _⟩ => h2))

/-! ## The scales -/

theorem row512_apply (a : FVec Ideal S64 .f32) (l : Fin 512) : row512 a (ix2 0 l) = a (ix1 ⟨l.val % 64, by omega⟩) := by
  pointwise [row512]

theorem scales_zero (a b : FVec Ideal S64 .f32) (l : Fin 512) : scales a b (ix2 0 l) = a (ix1 ⟨l.val % 64, by omega⟩) := by
  rw [← row512_apply a l]
  pointwise [scales]

theorem scales_one (a b : FVec Ideal S64 .f32) (l : Fin 512) : scales a b (ix2 1 l) = b (ix1 ⟨l.val % 64, by omega⟩) := by
  rw [← row512_apply b l]
  pointwise [scales]

/-! ## The loads -/

theorem ld_query (x : Vec Ideal S1x256x1536 .f32) (r : Fin 256) (l : Fin 512) : View.ld x r0_0 (ix3 0 r l) = x (ix3 0 r ⟨l.val, by omega⟩) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_key (x : Vec Ideal S1x256x1536 .f32) (r : Fin 256) (l : Fin 512) : View.ld x r0_2 (ix3 0 r l) = x (ix3 0 r ⟨512 + l.val, by omega⟩) := by
  refine congrArg x (funext fun a => Fin.ext ?_)
  match a with
  | ⟨0, _⟩ => rfl
  | ⟨1, _⟩ => show 0 + 1 * r.val = r.val; omega
  | ⟨2, _⟩ => show 512 + 1 * l.val = 512 + l.val; omega

theorem ld_table512_0 (x : Vec Ideal S3x256x512 .f32) (r : Fin 256) (l : Fin 512) : View.ld x r0_4 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_table512_1 (x : Vec Ideal S3x256x512 .f32) (r : Fin 256) (l : Fin 512) : View.ld x r0_5 (ix3 0 r l) = x (ix3 1 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_table512_2 (x : Vec Ideal S3x256x512 .f32) (r : Fin 256) (l : Fin 512) : View.ld x r0_6 (ix3 0 r l) = x (ix3 2 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_table384_0 (x : Vec Ideal S3x256x384 .f32) (r : Fin 256) (l : Fin 384) : View.ld x r0_9 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_table384_1 (x : Vec Ideal S3x256x384 .f32) (r : Fin 256) (l : Fin 384) : View.ld x r0_10 (ix3 0 r l) = x (ix3 1 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_table384_2 (x : Vec Ideal S3x256x384 .f32) (r : Fin 256) (l : Fin 384) : View.ld x r0_11 (ix3 0 r l) = x (ix3 2 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_index (x : Vec Ideal S1x256x384 .f32) (r : Fin 256) (l : Fin 384) : View.ld x r0_8 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_scale_0 (x : Vec Ideal S2x512 .f32) (l : Fin 512) : View.ld x r0_1 (ix2 0 l) = x (ix2 0 l) := by
  refine congrArg x (funext fun a => Fin.ext ?_)
  match a with
  | ⟨0, _⟩ => rfl
  | ⟨1, _⟩ => show 0 + 1 * l.val = l.val; omega

theorem ld_scale_1 (x : Vec Ideal S2x512 .f32) (l : Fin 512) : View.ld x r0_3 (ix2 0 l) = x (ix2 1 l) := by
  refine congrArg x (funext fun a => Fin.ext ?_)
  match a with
  | ⟨0, _⟩ => rfl
  | ⟨1, _⟩ => show 0 + 1 * l.val = l.val; omega

/-! ## What a point stores -/

/-- A row of lanes normalised and scaled, then turned by the loaded factors. -/
theorem turned_normed (x : Vec Ideal S1x256x512 .f32) (w : Vec Ideal S1x512 .f32) (y : Fin 512 → EReal) (v : Fin 64 → EReal) (hx : ∀ k, x (ix3 0 r k) = y k)
    (hy : ∀ k, Fin' (y k)) (hw : ∀ l : Fin 512, w (ix2 0 l) = v ⟨l.val % 64, by omega⟩) (l : Fin 512) :
    k0_pay16 (normB x w) (View.ld (iblk m c 3 t) r0_4) (View.ld (iblk m c 3 t) r0_5) (View.ld (iblk m c 3 t) r0_6) (ix3 0 r l)
      = turned 512 64 (normed y v) (cosA (rowOf t r)) (sinA (rowOf t r)) l := by
  have hn : ∀ k, normB x w (ix2 r k) = normed y v k := fun k => by
    rw [normB_apply x w r (fun k => (hx k).symm ▸ hy k), hx, hw]
    simp only [hx]
    rfl
  rw [turn512, hn, hn, hn, ld_table512_0, ld_table512_1, ld_table512_2, table512_apply, table512_apply, table512_apply, table512_own, table512_ahead, table512_behind]
  exact turned_sum 512 64 (normed y v) (cosA (rowOf t r)) (sinA (rowOf t r)) l

theorem query_at (H : Projected m c) (l : Fin 512) :
    out0_5 (iblk m c 0 t) (iblk m c 1 t) (iblk m c 2 t) (iblk m c 3 t) (iblk m c 4 t) (ix3 0 r l) = queryAt m c (batchOf t) (rowOf t r) l := by
  unfold out0_5
  refine (congrFun (View.canon_unit_zero Cert.ProjOutIdeal.Fold.hz3 _ _) _).trans ?_
  exact turned_normed m c t r (View.ld (iblk m c 0 t) r0_0) (View.ld (iblk m c 2 t) r0_1) _ (fun j => queryW m c (ix1 j))
    (fun k => (ld_query _ r k).trans (rows_apply m c t r _)) (fun k => H _ _ ⟨k.val, by omega⟩)
    (fun l => (ld_scale_0 _ l).trans ((scales_apply m c t 0 l).trans (scales_zero _ _ l))) l

theorem key_at (H : Projected m c) (l : Fin 512) :
    out0_6 (iblk m c 0 t) (iblk m c 1 t) (iblk m c 2 t) (iblk m c 3 t) (iblk m c 4 t) (ix3 0 r l) = keyAt m c (batchOf t) (rowOf t r) l := by
  unfold out0_6
  refine (congrFun (View.canon_unit_zero Cert.ProjOutIdeal.Fold.hz3 _ _) _).trans ((congrFun (second_eq _ _ _ _ _) _).trans ?_)
  exact turned_normed m c t r (View.ld (iblk m c 0 t) r0_2) (View.ld (iblk m c 2 t) r0_3) _ (fun j => keyW m c (ix1 j))
    (fun k => (ld_key _ r k).trans (rows_apply m c t r _)) (fun k => H _ _ ⟨512 + k.val, by omega⟩)
    (fun l => (ld_scale_1 _ l).trans ((scales_apply m c t 1 l).trans (scales_one _ _ l))) l

theorem index_turned (l : Fin 384) :
    k0_pay2 (View.ld (iblk m c 1 t) r0_8) (View.ld (iblk m c 4 t) r0_9) (View.ld (iblk m c 4 t) r0_10) (View.ld (iblk m c 4 t) r0_11) (ix2 r l)
      = indexAt m c (batchOf t) (rowOf t r) l := by
  rw [turn384, ld_index, ld_index, ld_index, index_apply, index_apply, index_apply, ld_table384_0, ld_table384_1, ld_table384_2, table384_apply, table384_apply,
    table384_apply, table384_own, table384_ahead, table384_behind]
  exact turned_sum 288 32 (fun k => indexed m c (ix3 (batchOf t) (rowOf t r) k)) (cosB (rowOf t r)) (sinB (rowOf t r)) l

theorem low_at (l : Fin 256) :
    out0_7 (iblk m c 0 t) (iblk m c 1 t) (iblk m c 2 t) (iblk m c 3 t) (iblk m c 4 t) (ix3 0 r l) = indexAt m c (batchOf t) (rowOf t r) ⟨l.val, by omega⟩ := by
  unfold out0_7
  exact (congrFun (View.canon_unit_zero Cert.ProjOutIdeal.Fold.hz3 _ _) _).trans ((low_apply _ _ _ _ r l).trans (index_turned m c t r _))

theorem high_at (l : Fin 128) :
    out0_8 (iblk m c 0 t) (iblk m c 1 t) (iblk m c 2 t) (iblk m c 3 t) (iblk m c 4 t) (ix3 0 r l) = indexAt m c (batchOf t) (rowOf t r) ⟨256 + l.val, by omega⟩ := by
  unfold out0_8
  exact (congrFun (View.canon_unit_zero Cert.ProjOutIdeal.Fold.hz3 _ _) _).trans ((high_apply _ _ _ _ r l).trans (index_turned m c t r _))

/-! ## The result arrays -/

/-- The point of a row, and a row's place in its block. -/
def pointOf (g : Fin 2) (R : Fin 8192) : Fin grid0.N := ⟨32 * g.val + R.val / 256, lt_of_lt_of_eq (by omega : _ < 64) (by decide)⟩
def inBlock (R : Fin 8192) : Fin 256 := ⟨R.val % 256, by omega⟩

theorem batchOf_point (g : Fin 2) (R : Fin 8192) : batchOf (pointOf g R) = g := Fin.ext (by show (32 * g.val + R.val / 256) / 32 = _; omega)
theorem rowOf_point (g : Fin 2) (R : Fin 8192) : rowOf (pointOf g R) (inBlock R) = R :=
  Fin.ext (by show 256 * ((32 * g.val + R.val / 256) % 32) + R.val % 256 = _; omega)

/-- An array whose blocks of rows hold a row's values, read at one entry. -/
theorem whole {w : Nat} {A : (⟨3, ![2, 8192, w]⟩ : Shape).Idx → EReal} {G : Fin 2 → Fin 8192 → Fin w → EReal} {W : Fin grid0.N → Fin 3 → Nat}
    {e : Fin grid0.N → (⟨3, ![1, 256, w]⟩ : Shape).Idx → (⟨3, ![2, 8192, w]⟩ : Shape).Idx} (hW : ∀ t, W t = ![t.val / 32, t.val % 32, 0])
    (he : ∀ t j a, (e t j a).val = W t a * (⟨3, ![1, 256, w]⟩ : Shape).size a + 1 * (j a).val)
    (h : ∀ (t : Fin grid0.N) (r : Fin 256) (l : Fin w), A (e t (ix3 0 r l)) = G (batchOf t) (rowOf t r) l) (g : Fin 2) (R : Fin 8192) (l : Fin w) :
    A (ix3 g R l) = G g R l := by
  have h' := h (pointOf g R) (inBlock R) l
  rw [batchOf_point, rowOf_point] at h'
  refine (congrArg A (funext fun a => Fin.ext ?_)).trans h'
  rw [he, hW]
  match a with
  | ⟨0, _⟩ => show g.val = (32 * g.val + R.val / 256) / 32 * 1 + 1 * 0; omega
  | ⟨1, _⟩ => show R.val = (32 * g.val + R.val / 256) % 32 * 256 + 1 * (R.val % 256); omega
  | ⟨2, _⟩ => show l.val = 0 * w + 1 * l.val; omega

variable (g : Fin 2) (R : Fin 8192)

theorem res5_apply (H : Projected m c) (l : Fin 512) : (dats m 0 c).arrAt 5 cfg0.N (ix3 g R l) = queryAt m c g R l :=
  whole (G := queryAt m c) (e := fun t j => ((cfg0.win 5).blk t).view.emb j) at5 (fun _ _ _ => rfl)
    (fun t r l => (congrFun ((Value.blocks5 m c t (flush5 t)).trans (Value.flushed5 m c t)) (ix3 0 r l)).trans (query_at m c t r H l)) g R l

theorem res6_apply (H : Projected m c) (l : Fin 512) : (dats m 0 c).arrAt 6 cfg0.N (ix3 g R l) = keyAt m c g R l :=
  whole (G := keyAt m c) (e := fun t j => ((cfg0.win 6).blk t).view.emb j) at6 (fun _ _ _ => rfl)
    (fun t r l => (congrFun ((Value.blocks6 m c t (flush6 t)).trans (Value.flushed6 m c t)) (ix3 0 r l)).trans (key_at m c t r H l)) g R l

theorem res7_apply (l : Fin 256) : (dats m 0 c).arrAt 7 cfg0.N (ix3 g R l) = indexAt m c g R ⟨l.val, by omega⟩ :=
  whole (G := fun g R l => indexAt m c g R ⟨l.val, by omega⟩) (e := fun t j => ((cfg0.win 7).blk t).view.emb j) at7 (fun _ _ _ => rfl)
    (fun t r l => (congrFun ((Value.blocks7 m c t (flush7 t)).trans (Value.flushed7 m c t)) (ix3 0 r l)).trans (low_at m c t r l)) g R l

theorem res8_apply (l : Fin 128) : (dats m 0 c).arrAt 8 cfg0.N (ix3 g R l) = indexAt m c g R ⟨256 + l.val, by omega⟩ :=
  whole (G := fun g R l => indexAt m c g R ⟨256 + l.val, by omega⟩) (e := fun t j => ((cfg0.win 8).blk t).view.emb j) at8 (fun _ _ _ => rfl)
    (fun t r l => (congrFun ((Value.blocks8 m c t (flush8 t)).trans (Value.flushed8 m c t)) (ix3 0 r l)).trans (high_at m c t r l)) g R l

end Cert.PrepIdeal.Fold

end
-- ==== Proof.Turn.Ref.lean ====
/-
  The attention's inputs as the reference computes them, over the extended reals.
-/
module

public import proofs.«01_k».proof.Proof.Gen.PrepRefIdeal.Run
public import proofs.«01_k».proof.Proof.Gen.PrepRefIdeal.Read
public import proofs.«01_k».proof.Proof.Turn.Spec
public import Idealize.ShloMosaic.Lib.Pointwise

@[expose] public section

set_option maxRecDepth 16384

noncomputable section

namespace Cert.PrepRefIdeal.Ref

open Cert.PrepRefIdeal Cert.PrepRefIdeal.Gen Idealize.ShloMosaic Idealize.ShloMosaic.TcCoe Idealize.SL.Sem Cert.Ffn Cert.Turn
open Cert.PrepRefIdeal.Read

variable (p : FVec Ideal S2x8192x1536 .f32) (i : FVec Ideal S2x8192x384 .f32) (qw kw : FVec Ideal S64 .f32) (g : Fin 2) (R : Fin 8192)

/-- The cosines and sines of a row's angles. -/
def cos8 (R : Fin 8192) (j : Fin 8) : EReal := val_main_v30 (F := Ideal) (ix2 R j)
def sin8 (R : Fin 8192) (j : Fin 8) : EReal := val_main_v32 (F := Ideal) (ix2 R j)
def cos4 (R : Fin 8192) (j : Fin 4) : EReal := val_main_v105 (F := Ideal) (ix2 R j)
def sin4 (R : Fin 8192) (j : Fin 4) : EReal := val_main_v107 (F := Ideal) (ix2 R j)

theorem q_normed (h : Fin 8) (j : Fin 64) : val_main_v17 (F := Ideal) p qw (ix4 g R h j)
    = normed (fun k => p (ix3 g R ⟨k.val, by omega⟩)) (fun j => qw (ix1 j)) ⟨h.val * 64 + j.val, by omega⟩ := by
  have hd : (h.val * 64 + j.val) / 64 = h.val := by omega
  have hm : (⟨(h.val * 64 + j.val) % 64, by omega⟩ : Fin 64) = j := Fin.ext (by show (h.val * 64 + j.val) % 64 = j.val; omega)
  unfold normed headMean
  simp only [hd, hm]
  pointwise [val_main_v17, val_main_v16, val_main_v15, val_main_v14, val_main_v13, val_main_v12, val_main_v11, val_main_v10, val_main_v9, val_main_v8, val_main_v7, val_main_v6, val_main_v5, val_main_v2, val_main_v1, val_main_cst, val_main_cst_0, val_main_cst_1]

theorem q_low (h : Fin 8) (j : Fin 8) : val_main_v47 (F := Ideal) p qw (ix4 g R h ⟨j.val, by omega⟩)
    = val_main_v17 (F := Ideal) p qw (ix4 g R h ⟨j.val, by omega⟩) * cos8 R j - val_main_v17 (F := Ideal) p qw (ix4 g R h ⟨8 + j.val, by omega⟩) * sin8 R j := by
  have e : val_main_v47 (F := Ideal) p qw (ix4 g R h ⟨j.val, by omega⟩) = val_main_v40 (F := Ideal) p qw (ix4 g R h j) := by pointwise [val_main_v47]
  rw [e]
  pointwise [val_main_v40, val_main_v39, val_main_v38, val_main_v37, val_main_v36, val_main_v35, val_main_v34, val_main_v33, val_main_v31]
  try rfl

theorem q_mid (h : Fin 8) (j : Fin 8) : val_main_v47 (F := Ideal) p qw (ix4 g R h ⟨8 + j.val, by omega⟩)
    = val_main_v17 (F := Ideal) p qw (ix4 g R h ⟨j.val, by omega⟩) * sin8 R j + val_main_v17 (F := Ideal) p qw (ix4 g R h ⟨8 + j.val, by omega⟩) * cos8 R j := by
  have e : val_main_v47 (F := Ideal) p qw (ix4 g R h ⟨8 + j.val, by omega⟩) = val_main_v45 (F := Ideal) p qw (ix4 g R h j) := by pointwise [val_main_v47]
  rw [e]
  pointwise [val_main_v45, val_main_v44, val_main_v43, val_main_v42, val_main_v41, val_main_v35, val_main_v34, val_main_v33, val_main_v31]
  try rfl

theorem q_high (h : Fin 8) (j : Fin 64) (hj : 2 * 8 ≤ j.val) : val_main_v47 (F := Ideal) p qw (ix4 g R h j) = val_main_v17 (F := Ideal) p qw (ix4 g R h j) := by
  obtain ⟨q, hq⟩ : ∃ q : Fin 48, j = ⟨2 * 8 + q.val, by omega⟩ := ⟨⟨j.val - 2 * 8, by omega⟩, Fin.ext (by show j.val = 2 * 8 + (j.val - 2 * 8); omega)⟩
  rw [hq]
  pointwise [val_main_v47, val_main_v46]
  rw [dif_neg (by omega), dif_neg (by omega)]
  exact congrArg (fun z => val_main_v17 (F := Ideal) p qw (ix4 g R h z)) (Fin.ext (by simp only []; omega))

theorem q_apply (l : Fin 512) : val_main_v156 (F := Ideal) p qw (ix3 g R l)
    = turned 512 64 (normed (fun k => p (ix3 g R ⟨k.val, by omega⟩)) (fun j => qw (ix1 j))) (cos8 R) (sin8 R) l := by
  have e : val_main_v156 (F := Ideal) p qw (ix3 g R l) = val_main_v47 (F := Ideal) p qw (ix4 g R ⟨l.val / 64, by omega⟩ ⟨l.val % 64, by omega⟩) := by pointwise [val_main_v156]
  rw [e]
  exact turned_group 512 64 _ (cos8 R) (sin8 R) l (by decide) l.isLt (l.val / 64 * 64) (by omega) (fun b => val_main_v47 (F := Ideal) p qw (ix4 g R ⟨l.val / 64, by omega⟩ b))
    (fun b => val_main_v17 (F := Ideal) p qw (ix4 g R ⟨l.val / 64, by omega⟩ b)) (fun j => q_normed p qw g R _ j) (q_low p qw g R _) (q_mid p qw g R _) (q_high p qw g R _)
    ⟨l.val % 64, by omega⟩ rfl (by show l.val / 64 * 64 + l.val % 64 = l.val; omega)

theorem k_normed (h : Fin 8) (j : Fin 64) : val_main_v60 (F := Ideal) p kw (ix4 g R h j)
    = normed (fun k => p (ix3 g R ⟨512 + k.val, by omega⟩)) (fun j => kw (ix1 j)) ⟨h.val * 64 + j.val, by omega⟩ := by
  have hd : (h.val * 64 + j.val) / 64 = h.val := by omega
  have hm : (⟨(h.val * 64 + j.val) % 64, by omega⟩ : Fin 64) = j := Fin.ext (by show (h.val * 64 + j.val) % 64 = j.val; omega)
  unfold normed headMean
  simp only [hd, hm]
  pointwise [val_main_v60, val_main_v59, val_main_v58, val_main_v57, val_main_v56, val_main_v55, val_main_v54, val_main_v53, val_main_v52, val_main_v51, val_main_v50, val_main_v49, val_main_v48, val_main_v4, val_main_v3, val_main_cst_4, val_main_cst_5, val_main_cst_6]

theorem k_low (h : Fin 8) (j : Fin 8) : val_main_v90 (F := Ideal) p kw (ix4 g R h ⟨j.val, by omega⟩)
    = val_main_v60 (F := Ideal) p kw (ix4 g R h ⟨j.val, by omega⟩) * cos8 R j - val_main_v60 (F := Ideal) p kw (ix4 g R h ⟨8 + j.val, by omega⟩) * sin8 R j := by
  have e : val_main_v90 (F := Ideal) p kw (ix4 g R h ⟨j.val, by omega⟩) = val_main_v83 (F := Ideal) p kw (ix4 g R h j) := by pointwise [val_main_v90]
  rw [e]
  pointwise [val_main_v83, val_main_v82, val_main_v81, val_main_v80, val_main_v79, val_main_v78, val_main_v77, val_main_v76, val_main_v74]
  try rfl

theorem k_mid (h : Fin 8) (j : Fin 8) : val_main_v90 (F := Ideal) p kw (ix4 g R h ⟨8 + j.val, by omega⟩)
    = val_main_v60 (F := Ideal) p kw (ix4 g R h ⟨j.val, by omega⟩) * sin8 R j + val_main_v60 (F := Ideal) p kw (ix4 g R h ⟨8 + j.val, by omega⟩) * cos8 R j := by
  have e : val_main_v90 (F := Ideal) p kw (ix4 g R h ⟨8 + j.val, by omega⟩) = val_main_v88 (F := Ideal) p kw (ix4 g R h j) := by pointwise [val_main_v90]
  rw [e]
  pointwise [val_main_v88, val_main_v87, val_main_v86, val_main_v85, val_main_v84, val_main_v78, val_main_v77, val_main_v76, val_main_v74]
  try rfl

theorem k_high (h : Fin 8) (j : Fin 64) (hj : 2 * 8 ≤ j.val) : val_main_v90 (F := Ideal) p kw (ix4 g R h j) = val_main_v60 (F := Ideal) p kw (ix4 g R h j) := by
  obtain ⟨q, hq⟩ : ∃ q : Fin 48, j = ⟨2 * 8 + q.val, by omega⟩ := ⟨⟨j.val - 2 * 8, by omega⟩, Fin.ext (by show j.val = 2 * 8 + (j.val - 2 * 8); omega)⟩
  rw [hq]
  pointwise [val_main_v90, val_main_v89]
  rw [dif_neg (by omega), dif_neg (by omega)]
  exact congrArg (fun z => val_main_v60 (F := Ideal) p kw (ix4 g R h z)) (Fin.ext (by simp only []; omega))

theorem k_apply (l : Fin 512) : val_main_v157 (F := Ideal) p kw (ix3 g R l)
    = turned 512 64 (normed (fun k => p (ix3 g R ⟨512 + k.val, by omega⟩)) (fun j => kw (ix1 j))) (cos8 R) (sin8 R) l := by
  have e : val_main_v157 (F := Ideal) p kw (ix3 g R l) = val_main_v90 (F := Ideal) p kw (ix4 g R ⟨l.val / 64, by omega⟩ ⟨l.val % 64, by omega⟩) := by pointwise [val_main_v157]
  rw [e]
  exact turned_group 512 64 _ (cos8 R) (sin8 R) l (by decide) l.isLt (l.val / 64 * 64) (by omega) (fun b => val_main_v90 (F := Ideal) p kw (ix4 g R ⟨l.val / 64, by omega⟩ b))
    (fun b => val_main_v60 (F := Ideal) p kw (ix4 g R ⟨l.val / 64, by omega⟩ b)) (fun j => k_normed p kw g R _ j) (k_low p kw g R _) (k_mid p kw g R _) (k_high p kw g R _)
    ⟨l.val % 64, by omega⟩ rfl (by show l.val / 64 * 64 + l.val % 64 = l.val; omega)

theorem qi_low (h : Fin 8) (j : Fin 4) : val_main_v122 (F := Ideal) i (ix4 g R h ⟨j.val, by omega⟩)
    = val_main_v92 (F := Ideal) i (ix4 g R h ⟨j.val, by omega⟩) * cos4 R j - val_main_v92 (F := Ideal) i (ix4 g R h ⟨4 + j.val, by omega⟩) * sin4 R j := by
  have e : val_main_v122 (F := Ideal) i (ix4 g R h ⟨j.val, by omega⟩) = val_main_v115 (F := Ideal) i (ix4 g R h j) := by pointwise [val_main_v122]
  rw [e]
  pointwise [val_main_v115, val_main_v114, val_main_v113, val_main_v112, val_main_v111, val_main_v110, val_main_v109, val_main_v108, val_main_v106]
  try rfl

theorem qi_mid (h : Fin 8) (j : Fin 4) : val_main_v122 (F := Ideal) i (ix4 g R h ⟨4 + j.val, by omega⟩)
    = val_main_v92 (F := Ideal) i (ix4 g R h ⟨j.val, by omega⟩) * sin4 R j + val_main_v92 (F := Ideal) i (ix4 g R h ⟨4 + j.val, by omega⟩) * cos4 R j := by
  have e : val_main_v122 (F := Ideal) i (ix4 g R h ⟨4 + j.val, by omega⟩) = val_main_v120 (F := Ideal) i (ix4 g R h j) := by pointwise [val_main_v122]
  rw [e]
  pointwise [val_main_v120, val_main_v119, val_main_v118, val_main_v117, val_main_v116, val_main_v110, val_main_v109, val_main_v108, val_main_v106]
  try rfl

theorem qi_high (h : Fin 8) (j : Fin 32) (hj : 2 * 4 ≤ j.val) : val_main_v122 (F := Ideal) i (ix4 g R h j) = val_main_v92 (F := Ideal) i (ix4 g R h j) := by
  obtain ⟨q, hq⟩ : ∃ q : Fin 24, j = ⟨2 * 4 + q.val, by omega⟩ := ⟨⟨j.val - 2 * 4, by omega⟩, Fin.ext (by show j.val = 2 * 4 + (j.val - 2 * 4); omega)⟩
  rw [hq]
  pointwise [val_main_v122, val_main_v121]
  rw [dif_neg (by omega), dif_neg (by omega)]
  exact congrArg (fun z => val_main_v92 (F := Ideal) i (ix4 g R h z)) (Fin.ext (by simp only []; omega))

theorem qi_apply (l : Fin 256) : val_main_v158 (F := Ideal) i (ix3 g R l) = turned 288 32 (fun k : Fin 384 => i (ix3 g R k)) (cos4 R) (sin4 R) ⟨l.val, by omega⟩ := by
  have e : val_main_v158 (F := Ideal) i (ix3 g R l) = val_main_v122 (F := Ideal) i (ix4 g R ⟨l.val / 32, by omega⟩ ⟨l.val % 32, by omega⟩) := by pointwise [val_main_v158]
  rw [e]
  refine turned_group 288 32 _ (cos4 R) (sin4 R) ⟨l.val, by omega⟩ (by decide) (by show l.val < 288; omega) (l.val / 32 * 32) (by omega)
    (fun b => val_main_v122 (F := Ideal) i (ix4 g R ⟨l.val / 32, by omega⟩ b)) (fun b => val_main_v92 (F := Ideal) i (ix4 g R ⟨l.val / 32, by omega⟩ b)) (fun j => ?_)
    (qi_low i g R _) (qi_mid i g R _) (qi_high i g R _) ⟨l.val % 32, by omega⟩ rfl (by show l.val / 32 * 32 + l.val % 32 = l.val; omega)
  pointwise [val_main_v92, val_main_v91]

theorem ki_low (j : Fin 4) : val_main_v154 (F := Ideal) i (ix4 g R 0 ⟨j.val, by omega⟩)
    = val_main_v124 (F := Ideal) i (ix4 g R 0 ⟨j.val, by omega⟩) * cos4 R j - val_main_v124 (F := Ideal) i (ix4 g R 0 ⟨4 + j.val, by omega⟩) * sin4 R j := by
  have e : val_main_v154 (F := Ideal) i (ix4 g R 0 ⟨j.val, by omega⟩) = val_main_v147 (F := Ideal) i (ix4 g R 0 j) := by pointwise [val_main_v154]
  rw [e]
  pointwise [val_main_v147, val_main_v146, val_main_v145, val_main_v144, val_main_v143, val_main_v142, val_main_v141, val_main_v140, val_main_v138]
  try rfl

theorem ki_mid (j : Fin 4) : val_main_v154 (F := Ideal) i (ix4 g R 0 ⟨4 + j.val, by omega⟩)
    = val_main_v124 (F := Ideal) i (ix4 g R 0 ⟨j.val, by omega⟩) * sin4 R j + val_main_v124 (F := Ideal) i (ix4 g R 0 ⟨4 + j.val, by omega⟩) * cos4 R j := by
  have e : val_main_v154 (F := Ideal) i (ix4 g R 0 ⟨4 + j.val, by omega⟩) = val_main_v152 (F := Ideal) i (ix4 g R 0 j) := by pointwise [val_main_v154]
  rw [e]
  pointwise [val_main_v152, val_main_v151, val_main_v150, val_main_v149, val_main_v148, val_main_v142, val_main_v141, val_main_v140, val_main_v138]
  try rfl

theorem ki_high (j : Fin 32) (hj : 2 * 4 ≤ j.val) : val_main_v154 (F := Ideal) i (ix4 g R 0 j) = val_main_v124 (F := Ideal) i (ix4 g R 0 j) := by
  obtain ⟨q, hq⟩ : ∃ q : Fin 24, j = ⟨2 * 4 + q.val, by omega⟩ := ⟨⟨j.val - 2 * 4, by omega⟩, Fin.ext (by show j.val = 2 * 4 + (j.val - 2 * 4); omega)⟩
  rw [hq]
  pointwise [val_main_v154, val_main_v153]
  rw [dif_neg (by omega), dif_neg (by omega)]
  exact congrArg (fun z => val_main_v124 (F := Ideal) i (ix4 g R 0 z)) (Fin.ext (by simp only []; omega))

theorem ki_first (l : Fin 32) : val_main_v160 (F := Ideal) i (ix3 g R ⟨l.val, by omega⟩) = turned 288 32 (fun k : Fin 384 => i (ix3 g R k)) (cos4 R) (sin4 R) ⟨256 + l.val, by omega⟩ := by
  have e : val_main_v160 (F := Ideal) i (ix3 g R ⟨l.val, by omega⟩) = val_main_v154 (F := Ideal) i (ix4 g R 0 l) := by pointwise [val_main_v160, val_main_v155]
  rw [e]
  refine turned_group 288 32 _ (cos4 R) (sin4 R) ⟨256 + l.val, by omega⟩ (by decide) (by show 256 + l.val < 288; omega) 256 (by decide)
    (fun b => val_main_v154 (F := Ideal) i (ix4 g R 0 b)) (fun b => val_main_v124 (F := Ideal) i (ix4 g R 0 b)) (fun j => ?_)
    (ki_low i g R) (ki_mid i g R) (ki_high i g R) l (by show l.val = (256 + l.val) % 32; omega) rfl
  pointwise [val_main_v124, val_main_v123]

theorem ki_rest (l : Fin 96) : val_main_v160 (F := Ideal) i (ix3 g R ⟨32 + l.val, by omega⟩) = turned 288 32 (fun k : Fin 384 => i (ix3 g R k)) (cos4 R) (sin4 R) ⟨288 + l.val, by omega⟩ := by
  have hn : ¬288 + l.val < 288 := by omega
  unfold turned
  rw [if_neg (fun a => hn a.1), if_neg (fun a => hn a.1)]
  pointwise [val_main_v160, val_main_v159]

theorem ki_apply (l : Fin 128) : val_main_v160 (F := Ideal) i (ix3 g R l) = turned 288 32 (fun k : Fin 384 => i (ix3 g R k)) (cos4 R) (sin4 R) ⟨256 + l.val, by omega⟩ := by
  by_cases e : l.val < 32
  · exact ki_first i g R ⟨l.val, e⟩
  · have e1 : (⟨32 + (l.val - 32), by omega⟩ : Fin 128) = l := Fin.ext (by show 32 + (l.val - 32) = l.val; omega)
    have e2 : (⟨288 + (l.val - 32), by omega⟩ : Fin 384) = ⟨256 + l.val, by omega⟩ := Fin.ext (by show 288 + (l.val - 32) = 256 + l.val; omega)
    exact ((congrArg (fun z => val_main_v160 (F := Ideal) i (ix3 g R z)) e1).symm.trans (ki_rest i g R ⟨l.val - 32, by omega⟩)).trans
      (congrArg (turned 288 32 (fun k : Fin 384 => i (ix3 g R k)) (cos4 R) (sin4 R)) e2)

end Cert.PrepRefIdeal.Ref

end
-- ==== Proof.Turn.Claim.lean ====
/-
  The attention's inputs: the kernel's four result arrays and the reference's are the same functions of the arguments,
  where what is normalised is finite.
-/
module

public import proofs.«01_k».proof.Defs
public import proofs.«01_k».proof.Proof.Turn.Value
public import proofs.«01_k».proof.Proof.Turn.Ref
public import proofs.«01_k».proof.Proof.Ffn.RoutedClaim
public import proofs.«01_k».proof.Proof.Gen.Prep.Frame
public import proofs.«01_k».proof.Proof.Gen.Prep
public import proofs.«01_k».proof.Proof.Gen.PrepIdeal
public import proofs.«01_k».proof.Proof.Gen.PrepRefIdeal
public import proofs.«01_k».proof.Proof.Gen.Pre_projected

@[expose] public section

set_option maxRecDepth 16384

noncomputable section

namespace Cert.Proof.Prep

open Idealize.ShloMosaic Idealize.ShloMosaic.TcCoe Idealize.SL.Sem Cert.Ffn Cert.PrepIdeal.Fold Cert.PrepRefIdeal.Read Cert.PrepRefIdeal.Ref

theorem frame_ref : Cert.quiescent_PrepRefIdeal := fun m ρ _ =>
  (θ_run Cert.PrepRefIdeal.defs _ _).mono (fun r h => ⟨fun c => (h c).2.2.2.2, sem_eq_zero_of_no_sems (by decide) r.2⟩)
    (Cert.PrepRefIdeal.Value.run (F := Ideal) m ρ)

variable (m : (ℓ : Loc Cert.PrepIdeal.nD Cert.PrepIdeal.τ Cert.PrepIdeal.sig) → Buf (Elt Ideal) ℓ) (c : Dev Cert.PrepIdeal.nD)

/-! ## The precondition, entry by entry -/

theorem finite (h : Cert.Pre_PrepIdeal m) : Projected m c := fun g R l => by
  refine Routed.fin_of_word (x := projected m c (ix3 g R ⟨l.val, by omega⟩)) (Eq.trans ?_ (congrFun (h c) (ix3 g R l)))
  pointwise [Cert.Pre_projected.fn]
  rfl

/-! ## The angles -/

theorem cosA_same (R : Fin 8192) : cos8 R = cosA R := rfl
theorem sinA_same (R : Fin 8192) : sin8 R = sinA R := rfl
theorem cosB_same (R : Fin 8192) : cos4 R = cosB R := rfl
theorem sinB_same (R : Fin 8192) : sin4 R = sinB R := rfl

/-! ## The results -/

/-- Arrays that agree entry by entry. -/
theorem same_of {w : Nat} {A B : FVec Ideal ⟨3, ![2, 8192, w]⟩ .f32} (h : ∀ (g : Fin 2) (R : Fin 8192) (l : Fin w), A (ix3 g R l) = B (ix3 g R l)) : A = B := by
  funext i
  have e : i = ix3 (i 0) (i 1) (i 2) := funext fun a => match a with | ⟨0, _⟩ => rfl | ⟨1, _⟩ => rfl | ⟨2, _⟩ => rfl
  rw [e]
  exact h _ _ _

section entries

variable (g : Fin 2) (R : Fin 8192)

theorem query_same (l : Fin 512) : val_main_v156 (F := Ideal) (projected m c) (queryW m c) (ix3 g R l) = queryAt m c g R l := by
  rw [q_apply, cosA_same, sinA_same]
  rfl

theorem key_same (l : Fin 512) : val_main_v157 (F := Ideal) (projected m c) (keyW m c) (ix3 g R l) = keyAt m c g R l := by
  rw [k_apply, cosA_same, sinA_same]
  rfl

theorem low_same (l : Fin 256) : val_main_v158 (F := Ideal) (indexed m c) (ix3 g R l) = indexAt m c g R ⟨l.val, by omega⟩ := by
  rw [qi_apply, cosB_same, sinB_same]
  rfl

theorem high_same (l : Fin 128) : val_main_v160 (F := Ideal) (indexed m c) (ix3 g R l) = indexAt m c g R ⟨256 + l.val, by omega⟩ := by
  rw [ki_apply, cosB_same, sinB_same]
  rfl

end entries

set_option maxHeartbeats 4000000 in
/-- Where the arguments agree, the reference's results are the kernel's. -/
theorem algebraic : Cert.algebraic_PrepIdeal_PrepRefIdeal := by
  intro m ρ m' ρ' hpre hag
  refine ⟨fun c => (Cert.PrepIdeal.Gen.dats m 0 c).arrAt 5 Cert.PrepIdeal.cfg0.N,
    fun c => (Cert.PrepIdeal.Gen.dats m 0 c).arrAt 6 Cert.PrepIdeal.cfg0.N,
    fun c => (Cert.PrepIdeal.Gen.dats m 0 c).arrAt 7 Cert.PrepIdeal.cfg0.N,
    fun c => (Cert.PrepIdeal.Gen.dats m 0 c).arrAt 8 Cert.PrepIdeal.cfg0.N, Cert.PrepIdeal.Value.run_blocks (F := Ideal) m ρ, ?_⟩
  refine (θ_run Cert.PrepRefIdeal.defs _ _).mono (fun _ h c => ⟨(h c).1.trans ?_, (h c).2.1.trans ?_, (h c).2.2.1.trans ?_, (h c).2.2.2.1.trans ?_, (h c).2.2.2.2⟩)
    (Cert.PrepRefIdeal.Value.run (F := Ideal) m' ρ')
  all_goals obtain ⟨a0, a1, a2, a3⟩ := hag c
  · rw [val_main_v156_eq]
    show val_main_v156 (F := Ideal) (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg2)) = _
    rw [a0, a2]
    exact same_of fun g R l => (query_same m c g R l).trans (res5_apply m c g R (finite m c hpre) l).symm
  · rw [val_main_v157_eq]
    show val_main_v157 (F := Ideal) (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg3)) = _
    rw [a0, a3]
    exact same_of fun g R l => (key_same m c g R l).trans (res6_apply m c g R (finite m c hpre) l).symm
  · rw [val_main_v158_eq]
    show val_main_v158 (F := Ideal) (m' ((c.tc : Thread Cert.PrepRefIdeal.nD Cert.PrepRefIdeal.τ).loc Cert.PrepRefIdeal.main_arg1)) = _
    rw [a1]
    exact same_of fun g R l => (low_same m c g R l).trans (res7_apply m c g R l).symm
  · rw [val_main_v160_eq]
    show val_main_v160 (F := Ideal) (m' ((c.tc : Thread Cert.PrepRefIdeal.nD Cert.PrepRefIdeal.τ).loc Cert.PrepRefIdeal.main_arg1)) = _
    rw [a1]
    exact same_of fun g R l => (high_same m c g R l).trans (res8_apply m c g R l).symm

end Cert.Proof.Prep

end
-- ==== Proof.lean ====
/-
  The claims of the feed-forward, projection and modulation calls and of the calls for the recurrence's and the
  attention's inputs.
-/
module

public import proofs.«01_k».proof.Defs
public import proofs.«01_k».proof.Proof.Ffn.DenseClaim
public import proofs.«01_k».proof.Proof.Ffn.RoutedClaim
public import proofs.«01_k».proof.Proof.Proj.InClaim
public import proofs.«01_k».proof.Proof.Proj.AdaClaim
public import proofs.«01_k».proof.Proof.Proj.OutClaim
public import proofs.«01_k».proof.Proof.Mix.Claim
public import proofs.«01_k».proof.Proof.Turn.Claim
public import Idealize.ShloMosaic.Adequacy
public import Idealize.ShloMosaic.Init
public import Idealize.ShloMosaic.Lib.Quiescent

@[expose] public section

noncomputable section

namespace Cert.Proof

open Idealize.ShloMosaic Idealize.SL.Sem

theorem claim : Cert.Claim := ⟨Cert.Dense.Gen.facts,
  Cert.DenseIdeal.Gen.facts,
  Cert.DenseRefIdeal.Gen.facts,
  Cert.Routed.Gen.facts,
  Cert.RoutedIdeal.Gen.facts,
  Cert.RoutedRefIdeal.Gen.facts,
  Cert.ProjIn.Gen.facts,
  Cert.ProjInIdeal.Gen.facts,
  Cert.ProjInRefIdeal.Gen.facts,
  Cert.Ada.Gen.facts,
  Cert.AdaIdeal.Gen.facts,
  Cert.AdaRefIdeal.Gen.facts,
  Cert.ProjOut.Gen.facts,
  Cert.ProjOutIdeal.Gen.facts,
  Cert.ProjOutRefIdeal.Gen.facts,
  Cert.Time.Gen.facts,
  Cert.TimeIdeal.Gen.facts,
  Cert.TimeRefIdeal.Gen.facts,
  Cert.Prep.Gen.facts,
  Cert.PrepIdeal.Gen.facts,
  Cert.PrepRefIdeal.Gen.facts,
  Cert.Pre_routable.Gen.facts,
  Cert.Pre_conditioned.Gen.facts,
  Cert.Pre_scanned.Gen.facts,
  Cert.Pre_recurrent.Gen.facts,
  Cert.Pre_projected.Gen.facts,
  Dense.frame_kernel,
  Dense.frame_ideal,
  Dense.frame_ref,
  fun m ρ _ => Cert.Routed.Gen.frame m ρ,
  fun m ρ _ => Cert.Routed.Gen.frame m ρ,
  fun m ρ _ => Cert.RoutedIdeal.Gen.frame m ρ,
  fun m ρ _ => Cert.RoutedIdeal.Gen.frame m ρ,
  Routed.frame_ref,
  fun m ρ _ => Cert.ProjIn.Gen.frame m ρ,
  fun m ρ _ => Cert.ProjInIdeal.Gen.frame m ρ,
  ProjIn.frame_ref,
  fun m ρ _ => Cert.Ada.Gen.frame m ρ,
  fun m ρ _ => Cert.Ada.Gen.frame m ρ,
  fun m ρ _ => Cert.AdaIdeal.Gen.frame m ρ,
  fun m ρ _ => Cert.AdaIdeal.Gen.frame m ρ,
  Ada.frame_ref,
  fun m ρ _ => Cert.ProjOut.Gen.frame m ρ,
  fun m ρ _ => Cert.ProjOut.Gen.frame m ρ,
  fun m ρ _ => Cert.ProjOutIdeal.Gen.frame m ρ,
  fun m ρ _ => Cert.ProjOutIdeal.Gen.frame m ρ,
  ProjOut.frame_ref,
  fun m ρ _ => Cert.Time.Gen.frame m ρ,
  fun m ρ _ => Cert.Time.Gen.frame m ρ,
  fun m ρ _ => Cert.TimeIdeal.Gen.frame m ρ,
  fun m ρ _ => Cert.TimeIdeal.Gen.frame m ρ,
  Time.frame_ref,
  fun m ρ _ => Cert.Prep.Gen.frame m ρ,
  fun m ρ _ => Cert.Prep.Gen.frame m ρ,
  fun m ρ _ => Cert.PrepIdeal.Gen.frame m ρ,
  fun m ρ _ => Cert.PrepIdeal.Gen.frame m ρ,
  Prep.frame_ref,
  (trivial : preserves_Dense_DenseIdeal),
  Dense.algebraic,
  (trivial : preserves_Routed_RoutedIdeal),
  Routed.algebraic,
  (trivial : preserves_ProjIn_ProjInIdeal),
  ProjIn.algebraic,
  (trivial : preserves_Ada_AdaIdeal),
  Ada.algebraic,
  (trivial : preserves_ProjOut_ProjOutIdeal),
  ProjOut.algebraic,
  (trivial : preserves_Time_TimeIdeal),
  Time.algebraic,
  (trivial : preserves_Prep_PrepIdeal),
  Prep.algebraic⟩

end Cert.Proof

end
